-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def Pre_UpdateWide (m : (ℓ : Loc Cert.UpdateWide.nD Cert.UpdateWide.τ Cert.UpdateWide.sig) → Buf (Elt Bits) ℓ) : Prop :=
  True

def Pre_UpdateWideIdeal (m : (ℓ : Loc Cert.UpdateWideIdeal.nD Cert.UpdateWideIdeal.τ Cert.UpdateWideIdeal.sig) → Buf (Elt Ideal) ℓ) : Prop :=
  True

def Pre_UpdateWideReferenceIdeal (m : (ℓ : Loc Cert.UpdateWideReferenceIdeal.nD Cert.UpdateWideReferenceIdeal.τ Cert.UpdateWideReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextReferenceIdeal (m : (ℓ : Loc Cert.ContextReferenceIdeal.nD Cert.ContextReferenceIdeal.τ Cert.ContextReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7)
      ∧ r.2.mem ((c.tc : Thread Cert.Update.nD Cert.Update.τ).loc Cert.Update.main_arg8) = m ((c.tc : Thread Cert.Update.nD Cert.Update.τ).loc Cert.Update.main_arg8)
      ∧ r.2.mem ((c.tc : Thread Cert.Update.nD Cert.Update.τ).loc Cert.Update.main_arg9) = m ((c.tc : Thread Cert.Update.nD Cert.Update.τ).loc Cert.Update.main_arg9)
      ∧ r.2.mem ((c.tc : Thread Cert.Update.nD Cert.Update.τ).loc Cert.Update.main_arg10) = m ((c.tc : Thread Cert.Update.nD Cert.Update.τ).loc Cert.Update.main_arg10)
      ∧ r.2.mem ((c.tc : Thread Cert.Update.nD Cert.Update.τ).loc Cert.Update.main_arg11) = m ((c.tc : Thread Cert.Update.nD Cert.Update.τ).loc Cert.Update.main_arg11)
      ∧ r.2.mem ((c.tc : Thread Cert.Update.nD Cert.Update.τ).loc Cert.Update.main_arg12) = m ((c.tc : Thread Cert.Update.nD Cert.Update.τ).loc Cert.Update.main_arg12))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
      ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
      ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
      ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3)
      ∧ r.2.mem ((c.tc : Thread Cert.UpdateReferenceIdeal.nD Cert.UpdateReferenceIdeal.τ).loc Cert.UpdateReferenceIdeal.main_arg4) = m ((c.tc : Thread Cert.UpdateReferenceIdeal.nD Cert.UpdateReferenceIdeal.τ).loc Cert.UpdateReferenceIdeal.main_arg4)
      ∧ r.2.mem ((c.tc : Thread Cert.UpdateReferenceIdeal.nD Cert.UpdateReferenceIdeal.τ).loc Cert.UpdateReferenceIdeal.main_arg5) = m ((c.tc : Thread Cert.UpdateReferenceIdeal.nD Cert.UpdateReferenceIdeal.τ).loc Cert.UpdateReferenceIdeal.main_arg5)
      ∧ r.2.mem ((c.tc : Thread Cert.UpdateReferenceIdeal.nD Cert.UpdateReferenceIdeal.τ).loc Cert.UpdateReferenceIdeal.main_arg6) = m ((c.tc : Thread Cert.UpdateReferenceIdeal.nD Cert.UpdateReferenceIdeal.τ).loc Cert.UpdateReferenceIdeal.main_arg6)
      ∧ r.2.mem ((c.tc : Thread Cert.UpdateReferenceIdeal.nD Cert.UpdateReferenceIdeal.τ).loc Cert.UpdateReferenceIdeal.main_arg7) = m ((c.tc : Thread Cert.UpdateReferenceIdeal.nD Cert.UpdateReferenceIdeal.τ).loc Cert.UpdateReferenceIdeal.main_arg7)
      ∧ r.2.mem ((c.tc : Thread Cert.UpdateReferenceIdeal.nD Cert.UpdateReferenceIdeal.τ).loc Cert.UpdateReferenceIdeal.main_arg8) = m ((c.tc : Thread Cert.UpdateReferenceIdeal.nD Cert.UpdateReferenceIdeal.τ).loc Cert.UpdateReferenceIdeal.main_arg8)
      ∧ r.2.mem ((c.tc : Thread Cert.UpdateReferenceIdeal.nD Cert.UpdateReferenceIdeal.τ).loc Cert.UpdateReferenceIdeal.main_arg9) = m ((c.tc : Thread Cert.UpdateReferenceIdeal.nD Cert.UpdateReferenceIdeal.τ).loc Cert.UpdateReferenceIdeal.main_arg9)
      ∧ r.2.mem ((c.tc : Thread Cert.UpdateReferenceIdeal.nD Cert.UpdateReferenceIdeal.τ).loc Cert.UpdateReferenceIdeal.main_arg10) = m ((c.tc : Thread Cert.UpdateReferenceIdeal.nD Cert.UpdateReferenceIdeal.τ).loc Cert.UpdateReferenceIdeal.main_arg10)
      ∧ r.2.mem ((c.tc : Thread Cert.UpdateReferenceIdeal.nD Cert.UpdateReferenceIdeal.τ).loc Cert.UpdateReferenceIdeal.main_arg11) = m ((c.tc : Thread Cert.UpdateReferenceIdeal.nD Cert.UpdateReferenceIdeal.τ).loc Cert.UpdateReferenceIdeal.main_arg11)
      ∧ r.2.mem ((c.tc : Thread Cert.UpdateReferenceIdeal.nD Cert.UpdateReferenceIdeal.τ).loc Cert.UpdateReferenceIdeal.main_arg12) = m ((c.tc : Thread Cert.UpdateReferenceIdeal.nD Cert.UpdateReferenceIdeal.τ).loc Cert.UpdateReferenceIdeal.main_arg12))
      ∧ r.2.sem = fun _ => 0)

def quiescent_UpdateWide [hUpdateWide : Cert.UpdateWide.Facts] : Prop :=
  ∀ (m : (ℓ : Loc Cert.UpdateWide.nD Cert.UpdateWide.τ Cert.UpdateWide.sig) → Buf (Elt Bits) ℓ) (g : Dev Cert.UpdateWide.nD → PrngReg), Pre_UpdateWide m →
    θ_run (Cert.UpdateWide.defs (F := Bits)) (onTc (τ := Cert.UpdateWide.τ) (Cert.UpdateWide.main (F := Bits))) ⟨m, fun _ => 0, g⟩ (fun r => (∀ c : Dev Cert.UpdateWide.nD,
      r.2.mem ((c.tc : Thread Cert.UpdateWide.nD Cert.UpdateWide.τ).loc Cert.UpdateWide.main_arg0) = m ((c.tc : Thread Cert.UpdateWide.nD Cert.UpdateWide.τ).loc Cert.UpdateWide.main_arg0)
      ∧ r.2.mem ((c.tc : Thread Cert.UpdateWide.nD Cert.UpdateWide.τ).loc Cert.UpdateWide.main_arg1) = m ((c.tc : Thread Cert.UpdateWide.nD Cert.UpdateWide.τ).loc Cert.UpdateWide.main_arg1)
      ∧ r.2.mem ((c.tc : Thread Cert.UpdateWide.nD Cert.UpdateWide.τ).loc Cert.UpdateWide.main_arg2) = m ((c.tc : Thread Cert.UpdateWide.nD Cert.UpdateWide.τ).loc Cert.UpdateWide.main_arg2)
      ∧ r.2.mem ((c.tc : Thread Cert.UpdateWide.nD Cert.UpdateWide.τ).loc Cert.UpdateWide.main_arg3) = m ((c.tc : Thread Cert.UpdateWide.nD Cert.UpdateWide.τ).loc Cert.UpdateWide.main_arg3)
      ∧ r.2.mem ((c.tc : Thread Cert.UpdateWide.nD Cert.UpdateWide.τ).loc Cert.UpdateWide.main_arg4) = m ((c.tc : Thread Cert.UpdateWide.nD Cert.UpdateWide.τ).loc Cert.UpdateWide.main_arg4)
      ∧ r.2.mem ((c.tc : Thread Cert.UpdateWide.nD Cert.UpdateWide.τ).loc Cert.UpdateWide.main_arg5) = m ((c.tc : Thread Cert.UpdateWide.nD Cert.UpdateWide.τ).loc Cert.UpdateWide.main_arg5)
      ∧ r.2.mem ((c.tc : Thread Cert.UpdateWide.nD Cert.UpdateWide.τ).loc Cert.UpdateWide.main_arg6) = m ((c.tc : Thread Cert.UpdateWide.nD Cert.UpdateWide.τ).loc Cert.UpdateWide.main_arg6)
      ∧ r.2.mem ((c.tc : Thread Cert.UpdateWide.nD Cert.UpdateWide.τ).loc Cert.UpdateWide.main_arg7) = m ((c.tc : Thread Cert.UpdateWide.nD Cert.UpdateWide.τ).loc Cert.UpdateWide.main_arg7)
      ∧ r.2.mem ((c.tc : Thread Cert.UpdateWide.nD Cert.UpdateWide.τ).loc Cert.UpdateWide.main_arg8) = m ((c.tc : Thread Cert.UpdateWide.nD Cert.UpdateWide.τ).loc Cert.UpdateWide.main_arg8)
      ∧ r.2.mem ((c.tc : Thread Cert.UpdateWide.nD Cert.UpdateWide.τ).loc Cert.UpdateWide.main_arg9) = m ((c.tc : Thread Cert.UpdateWide.nD Cert.UpdateWide.τ).loc Cert.UpdateWide.main_arg9)
      ∧ r.2.mem ((c.tc : Thread Cert.UpdateWide.nD Cert.UpdateWide.τ).loc Cert.UpdateWide.main_arg10) = m ((c.tc : Thread Cert.UpdateWide.nD Cert.UpdateWide.τ).loc Cert.UpdateWide.main_arg10)
      ∧ r.2.mem ((c.tc : Thread Cert.UpdateWide.nD Cert.UpdateWide.τ).loc Cert.UpdateWide.main_arg11) = m ((c.tc : Thread Cert.UpdateWide.nD Cert.UpdateWide.τ).loc Cert.UpdateWide.main_arg11)
      ∧ r.2.mem ((c.tc : Thread Cert.UpdateWide.nD Cert.UpdateWide.τ).loc Cert.UpdateWide.main_arg12) = m ((c.tc : Thread Cert.UpdateWide.nD Cert.UpdateWide.τ).loc Cert.UpdateWide.main_arg12))
      ∧ r.2.sem = fun _ => 0)

def quiescent_UpdateWideIdeal [hUpdateWideIdeal : Cert.UpdateWideIdeal.Facts] : Prop :=
  ∀ (m : (ℓ : Loc Cert.UpdateWideIdeal.nD Cert.UpdateWideIdeal.τ Cert.UpdateWideIdeal.sig) → Buf (Elt Ideal) ℓ) (g : Dev Cert.UpdateWideIdeal.nD → PrngReg), Pre_UpdateWideIdeal m →
    θ_run (Cert.UpdateWideIdeal.defs (F := Ideal)) (onTc (τ := Cert.UpdateWideIdeal.τ) (Cert.UpdateWideIdeal.main (F := Ideal))) ⟨m, fun _ => 0, g⟩ (fun r => (∀ c : Dev Cert.UpdateWideIdeal.nD,
      r.2.mem ((c.tc : Thread Cert.UpdateWideIdeal.nD Cert.UpdateWideIdeal.τ).loc Cert.UpdateWideIdeal.main_arg0) = m ((c.tc : Thread Cert.UpdateWideIdeal.nD Cert.UpdateWideIdeal.τ).loc Cert.UpdateWideIdeal.main_arg0)
      ∧ r.2.mem ((c.tc : Thread Cert.UpdateWideIdeal.nD Cert.UpdateWideIdeal.τ).loc Cert.UpdateWideIdeal.main_arg1) = m ((c.tc : Thread Cert.UpdateWideIdeal.nD Cert.UpdateWideIdeal.τ).loc Cert.UpdateWideIdeal.main_arg1)
      ∧ r.2.mem ((c.tc : Thread Cert.UpdateWideIdeal.nD Cert.UpdateWideIdeal.τ).loc Cert.UpdateWideIdeal.main_arg2) = m ((c.tc : Thread Cert.UpdateWideIdeal.nD Cert.UpdateWideIdeal.τ).loc Cert.UpdateWideIdeal.main_arg2)
      ∧ r.2.mem ((c.tc : Thread Cert.UpdateWideIdeal.nD Cert.UpdateWideIdeal.τ).loc Cert.UpdateWideIdeal.main_arg3) = m ((c.tc : Thread Cert.UpdateWideIdeal.nD Cert.UpdateWideIdeal.τ).loc Cert.UpdateWideIdeal.main_arg3)
      ∧ r.2.mem ((c.tc : Thread Cert.UpdateWideIdeal.nD Cert.UpdateWideIdeal.τ).loc Cert.UpdateWideIdeal.main_arg4) = m ((c.tc : Thread Cert.UpdateWideIdeal.nD Cert.UpdateWideIdeal.τ).loc Cert.UpdateWideIdeal.main_arg4)
      ∧ r.2.mem ((c.tc : Thread Cert.UpdateWideIdeal.nD Cert.UpdateWideIdeal.τ).loc Cert.UpdateWideIdeal.main_arg5) = m ((c.tc : Thread Cert.UpdateWideIdeal.nD Cert.UpdateWideIdeal.τ).loc Cert.UpdateWideIdeal.main_arg5)
      ∧ r.2.mem ((c.tc : Thread Cert.UpdateWideIdeal.nD Cert.UpdateWideIdeal.τ).loc Cert.UpdateWideIdeal.main_arg6) = m ((c.tc : Thread Cert.UpdateWideIdeal.nD Cert.UpdateWideIdeal.τ).loc Cert.UpdateWideIdeal.main_arg6)
      ∧ r.2.mem ((c.tc : Thread Cert.UpdateWideIdeal.nD Cert.UpdateWideIdeal.τ).loc Cert.UpdateWideIdeal.main_arg7) = m ((c.tc : Thread Cert.UpdateWideIdeal.nD Cert.UpdateWideIdeal.τ).loc Cert.UpdateWideIdeal.main_arg7)
      ∧ r.2.mem ((c.tc : Thread Cert.UpdateWideIdeal.nD Cert.UpdateWideIdeal.τ).loc Cert.UpdateWideIdeal.main_arg8) = m ((c.tc : Thread Cert.UpdateWideIdeal.nD Cert.UpdateWideIdeal.τ).loc Cert.UpdateWideIdeal.main_arg8)
      ∧ r.2.mem ((c.tc : Thread Cert.UpdateWideIdeal.nD Cert.UpdateWideIdeal.τ).loc Cert.UpdateWideIdeal.main_arg9) = m ((c.tc : Thread Cert.UpdateWideIdeal.nD Cert.UpdateWideIdeal.τ).loc Cert.UpdateWideIdeal.main_arg9)
      ∧ r.2.mem ((c.tc : Thread Cert.UpdateWideIdeal.nD Cert.UpdateWideIdeal.τ).loc Cert.UpdateWideIdeal.main_arg10) = m ((c.tc : Thread Cert.UpdateWideIdeal.nD Cert.UpdateWideIdeal.τ).loc Cert.UpdateWideIdeal.main_arg10)
      ∧ r.2.mem ((c.tc : Thread Cert.UpdateWideIdeal.nD Cert.UpdateWideIdeal.τ).loc Cert.UpdateWideIdeal.main_arg11) = m ((c.tc : Thread Cert.UpdateWideIdeal.nD Cert.UpdateWideIdeal.τ).loc Cert.UpdateWideIdeal.main_arg11)
      ∧ r.2.mem ((c.tc : Thread Cert.UpdateWideIdeal.nD Cert.UpdateWideIdeal.τ).loc Cert.UpdateWideIdeal.main_arg12) = m ((c.tc : Thread Cert.UpdateWideIdeal.nD Cert.UpdateWideIdeal.τ).loc Cert.UpdateWideIdeal.main_arg12))
      ∧ r.2.sem = fun _ => 0)

def quiescent_UpdateWideReferenceIdeal [hUpdateWideReferenceIdeal : Cert.UpdateWideReferenceIdeal.Facts] : Prop :=
  ∀ (m : (ℓ : Loc Cert.UpdateWideReferenceIdeal.nD Cert.UpdateWideReferenceIdeal.τ Cert.UpdateWideReferenceIdeal.sig) → Buf (Elt Ideal) ℓ) (g : Dev Cert.UpdateWideReferenceIdeal.nD → PrngReg), Pre_UpdateWideReferenceIdeal m →
    θ_run (Cert.UpdateWideReferenceIdeal.defs (F := Ideal)) (onTc (τ := Cert.UpdateWideReferenceIdeal.τ) (Cert.UpdateWideReferenceIdeal.main (F := Ideal))) ⟨m, fun _ => 0, g⟩ (fun r => (∀ c : Dev Cert.UpdateWideReferenceIdeal.nD,
      r.2.mem ((c.tc : Thread Cert.UpdateWideReferenceIdeal.nD Cert.UpdateWideReferenceIdeal.τ).loc Cert.UpdateWideReferenceIdeal.main_arg0) = m ((c.tc : Thread Cert.UpdateWideReferenceIdeal.nD Cert.UpdateWideReferenceIdeal.τ).loc Cert.UpdateWideReferenceIdeal.main_arg0)
      ∧ r.2.mem ((c.tc : Thread Cert.UpdateWideReferenceIdeal.nD Cert.UpdateWideReferenceIdeal.τ).loc Cert.UpdateWideReferenceIdeal.main_arg1) = m ((c.tc : Thread Cert.UpdateWideReferenceIdeal.nD Cert.UpdateWideReferenceIdeal.τ).loc Cert.UpdateWideReferenceIdeal.main_arg1)
      ∧ r.2.mem ((c.tc : Thread Cert.UpdateWideReferenceIdeal.nD Cert.UpdateWideReferenceIdeal.τ).loc Cert.UpdateWideReferenceIdeal.main_arg2) = m ((c.tc : Thread Cert.UpdateWideReferenceIdeal.nD Cert.UpdateWideReferenceIdeal.τ).loc Cert.UpdateWideReferenceIdeal.main_arg2)
      ∧ r.2.mem ((c.tc : Thread Cert.UpdateWideReferenceIdeal.nD Cert.UpdateWideReferenceIdeal.τ).loc Cert.UpdateWideReferenceIdeal.main_arg3) = m ((c.tc : Thread Cert.UpdateWideReferenceIdeal.nD Cert.UpdateWideReferenceIdeal.τ).loc Cert.UpdateWideReferenceIdeal.main_arg3)
      ∧ r.2.mem ((c.tc : Thread Cert.UpdateWideReferenceIdeal.nD Cert.UpdateWideReferenceIdeal.τ).loc Cert.UpdateWideReferenceIdeal.main_arg4) = m ((c.tc : Thread Cert.UpdateWideReferenceIdeal.nD Cert.UpdateWideReferenceIdeal.τ).loc Cert.UpdateWideReferenceIdeal.main_arg4)
      ∧ r.2.mem ((c.tc : Thread Cert.UpdateWideReferenceIdeal.nD Cert.UpdateWideReferenceIdeal.τ).loc Cert.UpdateWideReferenceIdeal.main_arg5) = m ((c.tc : Thread Cert.UpdateWideReferenceIdeal.nD Cert.UpdateWideReferenceIdeal.τ).loc Cert.UpdateWideReferenceIdeal.main_arg5)
      ∧ r.2.mem ((c.tc : Thread Cert.UpdateWideReferenceIdeal.nD Cert.UpdateWideReferenceIdeal.τ).loc Cert.UpdateWideReferenceIdeal.main_arg6) = m ((c.tc : Thread Cert.UpdateWideReferenceIdeal.nD Cert.UpdateWideReferenceIdeal.τ).loc Cert.UpdateWideReferenceIdeal.main_arg6)
      ∧ r.2.mem ((c.tc : Thread Cert.UpdateWideReferenceIdeal.nD Cert.UpdateWideReferenceIdeal.τ).loc Cert.UpdateWideReferenceIdeal.main_arg7) = m ((c.tc : Thread Cert.UpdateWideReferenceIdeal.nD Cert.UpdateWideReferenceIdeal.τ).loc Cert.UpdateWideReferenceIdeal.main_arg7)
      ∧ r.2.mem ((c.tc : Thread Cert.UpdateWideReferenceIdeal.nD Cert.UpdateWideReferenceIdeal.τ).loc Cert.UpdateWideReferenceIdeal.main_arg8) = m ((c.tc : Thread Cert.UpdateWideReferenceIdeal.nD Cert.UpdateWideReferenceIdeal.τ).loc Cert.UpdateWideReferenceIdeal.main_arg8)
      ∧ r.2.mem ((c.tc : Thread Cert.UpdateWideReferenceIdeal.nD Cert.UpdateWideReferenceIdeal.τ).loc Cert.UpdateWideReferenceIdeal.main_arg9) = m ((c.tc : Thread Cert.UpdateWideReferenceIdeal.nD Cert.UpdateWideReferenceIdeal.τ).loc Cert.UpdateWideReferenceIdeal.main_arg9)
      ∧ r.2.mem ((c.tc : Thread Cert.UpdateWideReferenceIdeal.nD Cert.UpdateWideReferenceIdeal.τ).loc Cert.UpdateWideReferenceIdeal.main_arg10) = m ((c.tc : Thread Cert.UpdateWideReferenceIdeal.nD Cert.UpdateWideReferenceIdeal.τ).loc Cert.UpdateWideReferenceIdeal.main_arg10)
      ∧ r.2.mem ((c.tc : Thread Cert.UpdateWideReferenceIdeal.nD Cert.UpdateWideReferenceIdeal.τ).loc Cert.UpdateWideReferenceIdeal.main_arg11) = m ((c.tc : Thread Cert.UpdateWideReferenceIdeal.nD Cert.UpdateWideReferenceIdeal.τ).loc Cert.UpdateWideReferenceIdeal.main_arg11)
      ∧ r.2.mem ((c.tc : Thread Cert.UpdateWideReferenceIdeal.nD Cert.UpdateWideReferenceIdeal.τ).loc Cert.UpdateWideReferenceIdeal.main_arg12) = m ((c.tc : Thread Cert.UpdateWideReferenceIdeal.nD Cert.UpdateWideReferenceIdeal.τ).loc Cert.UpdateWideReferenceIdeal.main_arg12))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v70) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v49_0)) (v1 : (c : Dev Cert.ProjectIdeal.nD) → Buf (Elt Ideal) ((c.tc : Thread Cert.ProjectIdeal.nD Cert.ProjectIdeal.τ).loc Cert.ProjectIdeal.main_v49_1)) (v2 : (c : Dev Cert.ProjectIdeal.nD) → Buf (Elt Ideal) ((c.tc : Thread Cert.ProjectIdeal.nD Cert.ProjectIdeal.τ).loc Cert.ProjectIdeal.main_v49_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v49_0) = v0 c
          ∧ r.2.mem ((c.tc : Thread Cert.ProjectIdeal.nD Cert.ProjectIdeal.τ).loc Cert.ProjectIdeal.main_v49_1) = v1 c
          ∧ r.2.mem ((c.tc : Thread Cert.ProjectIdeal.nD Cert.ProjectIdeal.τ).loc Cert.ProjectIdeal.main_v49_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v76) = v0 c
          ∧ r.2.mem ((c.tc : Thread Cert.ProjectReferenceIdeal.nD Cert.ProjectReferenceIdeal.τ).loc Cert.ProjectReferenceIdeal.main_v79) = v1 c
          ∧ r.2.mem ((c.tc : Thread Cert.ProjectReferenceIdeal.nD Cert.ProjectReferenceIdeal.τ).loc Cert.ProjectReferenceIdeal.main_v81) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)
      ∧ m' ((c.tc : Thread Cert.GatesReferenceIdeal.nD Cert.GatesReferenceIdeal.τ).loc Cert.GatesReferenceIdeal.main_arg5) = m ((c.tc : Thread Cert.GatesIdeal.nD Cert.GatesIdeal.τ).loc Cert.GatesIdeal.main_arg5)
      ∧ m' ((c.tc : Thread Cert.GatesReferenceIdeal.nD Cert.GatesReferenceIdeal.τ).loc Cert.GatesReferenceIdeal.main_arg6) = m ((c.tc : Thread Cert.GatesIdeal.nD Cert.GatesIdeal.τ).loc Cert.GatesIdeal.main_arg6)) →
    ∃ (v0 : (c : Dev Cert.GatesIdeal.nD) → Buf (Elt Ideal) ((c.tc : Thread Cert.GatesIdeal.nD Cert.GatesIdeal.τ).loc Cert.GatesIdeal.main_v3_0)) (v1 : (c : Dev Cert.GatesIdeal.nD) → Buf (Elt Ideal) ((c.tc : Thread Cert.GatesIdeal.nD Cert.GatesIdeal.τ).loc Cert.GatesIdeal.main_v3_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3_0) = v0 c
          ∧ r.2.mem ((c.tc : Thread Cert.GatesIdeal.nD Cert.GatesIdeal.τ).loc Cert.GatesIdeal.main_v3_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v37) = v0 c
          ∧ r.2.mem ((c.tc : Thread Cert.GatesReferenceIdeal.nD Cert.GatesReferenceIdeal.τ).loc Cert.GatesReferenceIdeal.main_v34) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5)
          ∧ r.2.mem ((c.tc : Thread Cert.GatesReferenceIdeal.nD Cert.GatesReferenceIdeal.τ).loc Cert.GatesReferenceIdeal.main_arg6) = m' ((c.tc : Thread Cert.GatesReferenceIdeal.nD Cert.GatesReferenceIdeal.τ).loc Cert.GatesReferenceIdeal.main_arg6))

def preserves_Update_UpdateIdeal : Prop :=
  True

def algebraic_UpdateIdeal_UpdateReferenceIdeal [hUpdateIdeal : Cert.UpdateIdeal.Facts] [hUpdateReferenceIdeal : Cert.UpdateReferenceIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateIdeal m →
    (∀ c : Dev Cert.UpdateIdeal.nD,
      m' ((c.tc : Thread Cert.UpdateReferenceIdeal.nD Cert.UpdateReferenceIdeal.τ).loc Cert.UpdateReferenceIdeal.main_arg0) = m ((c.tc : Thread Cert.UpdateIdeal.nD Cert.UpdateIdeal.τ).loc Cert.UpdateIdeal.main_arg0)
      ∧ m' ((c.tc : Thread Cert.UpdateReferenceIdeal.nD Cert.UpdateReferenceIdeal.τ).loc Cert.UpdateReferenceIdeal.main_arg1) = m ((c.tc : Thread Cert.UpdateIdeal.nD Cert.UpdateIdeal.τ).loc Cert.UpdateIdeal.main_arg1)
      ∧ m' ((c.tc : Thread Cert.UpdateReferenceIdeal.nD Cert.UpdateReferenceIdeal.τ).loc Cert.UpdateReferenceIdeal.main_arg2) = m ((c.tc : Thread Cert.UpdateIdeal.nD Cert.UpdateIdeal.τ).loc Cert.UpdateIdeal.main_arg2)
      ∧ m' ((c.tc : Thread Cert.UpdateReferenceIdeal.nD Cert.UpdateReferenceIdeal.τ).loc Cert.UpdateReferenceIdeal.main_arg3) = m ((c.tc : Thread Cert.UpdateIdeal.nD Cert.UpdateIdeal.τ).loc Cert.UpdateIdeal.main_arg3)
      ∧ m' ((c.tc : Thread Cert.UpdateReferenceIdeal.nD Cert.UpdateReferenceIdeal.τ).loc Cert.UpdateReferenceIdeal.main_arg4) = m ((c.tc : Thread Cert.UpdateIdeal.nD Cert.UpdateIdeal.τ).loc Cert.UpdateIdeal.main_arg4)
      ∧ m' ((c.tc : Thread Cert.UpdateReferenceIdeal.nD Cert.UpdateReferenceIdeal.τ).loc Cert.UpdateReferenceIdeal.main_arg5) = m ((c.tc : Thread Cert.UpdateIdeal.nD Cert.UpdateIdeal.τ).loc Cert.UpdateIdeal.main_arg5)
      ∧ m' ((c.tc : Thread Cert.UpdateReferenceIdeal.nD Cert.UpdateReferenceIdeal.τ).loc Cert.UpdateReferenceIdeal.main_arg6) = m ((c.tc : Thread Cert.UpdateIdeal.nD Cert.UpdateIdeal.τ).loc Cert.UpdateIdeal.main_arg6)
      ∧ m' ((c.tc : Thread Cert.UpdateReferenceIdeal.nD Cert.UpdateReferenceIdeal.τ).loc Cert.UpdateReferenceIdeal.main_arg7) = m ((c.tc : Thread Cert.UpdateIdeal.nD Cert.UpdateIdeal.τ).loc Cert.UpdateIdeal.main_arg7)
      ∧ m' ((c.tc : Thread Cert.UpdateReferenceIdeal.nD Cert.UpdateReferenceIdeal.τ).loc Cert.UpdateReferenceIdeal.main_arg8) = m ((c.tc : Thread Cert.UpdateIdeal.nD Cert.UpdateIdeal.τ).loc Cert.UpdateIdeal.main_arg8)
      ∧ m' ((c.tc : Thread Cert.UpdateReferenceIdeal.nD Cert.UpdateReferenceIdeal.τ).loc Cert.UpdateReferenceIdeal.main_arg9) = m ((c.tc : Thread Cert.UpdateIdeal.nD Cert.UpdateIdeal.τ).loc Cert.UpdateIdeal.main_arg9)
      ∧ m' ((c.tc : Thread Cert.UpdateReferenceIdeal.nD Cert.UpdateReferenceIdeal.τ).loc Cert.UpdateReferenceIdeal.main_arg10) = m ((c.tc : Thread Cert.UpdateIdeal.nD Cert.UpdateIdeal.τ).loc Cert.UpdateIdeal.main_arg10)
      ∧ m' ((c.tc : Thread Cert.UpdateReferenceIdeal.nD Cert.UpdateReferenceIdeal.τ).loc Cert.UpdateReferenceIdeal.main_arg11) = m ((c.tc : Thread Cert.UpdateIdeal.nD Cert.UpdateIdeal.τ).loc Cert.UpdateIdeal.main_arg11)
      ∧ m' ((c.tc : Thread Cert.UpdateReferenceIdeal.nD Cert.UpdateReferenceIdeal.τ).loc Cert.UpdateReferenceIdeal.main_arg12) = m ((c.tc : Thread Cert.UpdateIdeal.nD Cert.UpdateIdeal.τ).loc Cert.UpdateIdeal.main_arg12)) →
    ∃ (v0 : (c : Dev Cert.UpdateIdeal.nD) → Buf (Elt Ideal) ((c.tc : Thread Cert.UpdateIdeal.nD Cert.UpdateIdeal.τ).loc Cert.UpdateIdeal.main_v1_0)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v1_0) = v0 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
          ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
          ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
          ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
          ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
          ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_v38) = v0 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3)
          ∧ r.2.mem ((c.tc : Thread Cert.UpdateReferenceIdeal.nD Cert.UpdateReferenceIdeal.τ).loc Cert.UpdateReferenceIdeal.main_arg4) = m' ((c.tc : Thread Cert.UpdateReferenceIdeal.nD Cert.UpdateReferenceIdeal.τ).loc Cert.UpdateReferenceIdeal.main_arg4)
          ∧ r.2.mem ((c.tc : Thread Cert.UpdateReferenceIdeal.nD Cert.UpdateReferenceIdeal.τ).loc Cert.UpdateReferenceIdeal.main_arg5) = m' ((c.tc : Thread Cert.UpdateReferenceIdeal.nD Cert.UpdateReferenceIdeal.τ).loc Cert.UpdateReferenceIdeal.main_arg5)
          ∧ r.2.mem ((c.tc : Thread Cert.UpdateReferenceIdeal.nD Cert.UpdateReferenceIdeal.τ).loc Cert.UpdateReferenceIdeal.main_arg6) = m' ((c.tc : Thread Cert.UpdateReferenceIdeal.nD Cert.UpdateReferenceIdeal.τ).loc Cert.UpdateReferenceIdeal.main_arg6)
          ∧ r.2.mem ((c.tc : Thread Cert.UpdateReferenceIdeal.nD Cert.UpdateReferenceIdeal.τ).loc Cert.UpdateReferenceIdeal.main_arg7) = m' ((c.tc : Thread Cert.UpdateReferenceIdeal.nD Cert.UpdateReferenceIdeal.τ).loc Cert.UpdateReferenceIdeal.main_arg7)
          ∧ r.2.mem ((c.tc : Thread Cert.UpdateReferenceIdeal.nD Cert.UpdateReferenceIdeal.τ).loc Cert.UpdateReferenceIdeal.main_arg8) = m' ((c.tc : Thread Cert.UpdateReferenceIdeal.nD Cert.UpdateReferenceIdeal.τ).loc Cert.UpdateReferenceIdeal.main_arg8)
          ∧ r.2.mem ((c.tc : Thread Cert.UpdateReferenceIdeal.nD Cert.UpdateReferenceIdeal.τ).loc Cert.UpdateReferenceIdeal.main_arg9) = m' ((c.tc : Thread Cert.UpdateReferenceIdeal.nD Cert.UpdateReferenceIdeal.τ).loc Cert.UpdateReferenceIdeal.main_arg9)
          ∧ r.2.mem ((c.tc : Thread Cert.UpdateReferenceIdeal.nD Cert.UpdateReferenceIdeal.τ).loc Cert.UpdateReferenceIdeal.main_arg10) = m' ((c.tc : Thread Cert.UpdateReferenceIdeal.nD Cert.UpdateReferenceIdeal.τ).loc Cert.UpdateReferenceIdeal.main_arg10)
          ∧ r.2.mem ((c.tc : Thread Cert.UpdateReferenceIdeal.nD Cert.UpdateReferenceIdeal.τ).loc Cert.UpdateReferenceIdeal.main_arg11) = m' ((c.tc : Thread Cert.UpdateReferenceIdeal.nD Cert.UpdateReferenceIdeal.τ).loc Cert.UpdateReferenceIdeal.main_arg11)
          ∧ r.2.mem ((c.tc : Thread Cert.UpdateReferenceIdeal.nD Cert.UpdateReferenceIdeal.τ).loc Cert.UpdateReferenceIdeal.main_arg12) = m' ((c.tc : Thread Cert.UpdateReferenceIdeal.nD Cert.UpdateReferenceIdeal.τ).loc Cert.UpdateReferenceIdeal.main_arg12))

def preserves_UpdateWide_UpdateWideIdeal : Prop :=
  True

def algebraic_UpdateWideIdeal_UpdateWideReferenceIdeal [hUpdateWideIdeal : Cert.UpdateWideIdeal.Facts] [hUpdateWideReferenceIdeal : Cert.UpdateWideReferenceIdeal.Facts] : Prop :=
  ∀ (m : (ℓ : Loc Cert.UpdateWideIdeal.nD Cert.UpdateWideIdeal.τ Cert.UpdateWideIdeal.sig) → Buf (Elt Ideal) ℓ) (g : Dev Cert.UpdateWideIdeal.nD → PrngReg)
    (m' : (ℓ : Loc Cert.UpdateWideReferenceIdeal.nD Cert.UpdateWideReferenceIdeal.τ Cert.UpdateWideReferenceIdeal.sig) → Buf (Elt Ideal) ℓ) (g' : Dev Cert.UpdateWideReferenceIdeal.nD → PrngReg), Pre_UpdateWideIdeal m →
    (∀ c : Dev Cert.UpdateWideIdeal.nD,
      m' ((c.tc : Thread Cert.UpdateWideReferenceIdeal.nD Cert.UpdateWideReferenceIdeal.τ).loc Cert.UpdateWideReferenceIdeal.main_arg0) = m ((c.tc : Thread Cert.UpdateWideIdeal.nD Cert.UpdateWideIdeal.τ).loc Cert.UpdateWideIdeal.main_arg0)
      ∧ m' ((c.tc : Thread Cert.UpdateWideReferenceIdeal.nD Cert.UpdateWideReferenceIdeal.τ).loc Cert.UpdateWideReferenceIdeal.main_arg1) = m ((c.tc : Thread Cert.UpdateWideIdeal.nD Cert.UpdateWideIdeal.τ).loc Cert.UpdateWideIdeal.main_arg1)
      ∧ m' ((c.tc : Thread Cert.UpdateWideReferenceIdeal.nD Cert.UpdateWideReferenceIdeal.τ).loc Cert.UpdateWideReferenceIdeal.main_arg2) = m ((c.tc : Thread Cert.UpdateWideIdeal.nD Cert.UpdateWideIdeal.τ).loc Cert.UpdateWideIdeal.main_arg2)
      ∧ m' ((c.tc : Thread Cert.UpdateWideReferenceIdeal.nD Cert.UpdateWideReferenceIdeal.τ).loc Cert.UpdateWideReferenceIdeal.main_arg3) = m ((c.tc : Thread Cert.UpdateWideIdeal.nD Cert.UpdateWideIdeal.τ).loc Cert.UpdateWideIdeal.main_arg3)
      ∧ m' ((c.tc : Thread Cert.UpdateWideReferenceIdeal.nD Cert.UpdateWideReferenceIdeal.τ).loc Cert.UpdateWideReferenceIdeal.main_arg4) = m ((c.tc : Thread Cert.UpdateWideIdeal.nD Cert.UpdateWideIdeal.τ).loc Cert.UpdateWideIdeal.main_arg4)
      ∧ m' ((c.tc : Thread Cert.UpdateWideReferenceIdeal.nD Cert.UpdateWideReferenceIdeal.τ).loc Cert.UpdateWideReferenceIdeal.main_arg5) = m ((c.tc : Thread Cert.UpdateWideIdeal.nD Cert.UpdateWideIdeal.τ).loc Cert.UpdateWideIdeal.main_arg5)
      ∧ m' ((c.tc : Thread Cert.UpdateWideReferenceIdeal.nD Cert.UpdateWideReferenceIdeal.τ).loc Cert.UpdateWideReferenceIdeal.main_arg6) = m ((c.tc : Thread Cert.UpdateWideIdeal.nD Cert.UpdateWideIdeal.τ).loc Cert.UpdateWideIdeal.main_arg6)
      ∧ m' ((c.tc : Thread Cert.UpdateWideReferenceIdeal.nD Cert.UpdateWideReferenceIdeal.τ).loc Cert.UpdateWideReferenceIdeal.main_arg7) = m ((c.tc : Thread Cert.UpdateWideIdeal.nD Cert.UpdateWideIdeal.τ).loc Cert.UpdateWideIdeal.main_arg7)
      ∧ m' ((c.tc : Thread Cert.UpdateWideReferenceIdeal.nD Cert.UpdateWideReferenceIdeal.τ).loc Cert.UpdateWideReferenceIdeal.main_arg8) = m ((c.tc : Thread Cert.UpdateWideIdeal.nD Cert.UpdateWideIdeal.τ).loc Cert.UpdateWideIdeal.main_arg8)
      ∧ m' ((c.tc : Thread Cert.UpdateWideReferenceIdeal.nD Cert.UpdateWideReferenceIdeal.τ).loc Cert.UpdateWideReferenceIdeal.main_arg9) = m ((c.tc : Thread Cert.UpdateWideIdeal.nD Cert.UpdateWideIdeal.τ).loc Cert.UpdateWideIdeal.main_arg9)
      ∧ m' ((c.tc : Thread Cert.UpdateWideReferenceIdeal.nD Cert.UpdateWideReferenceIdeal.τ).loc Cert.UpdateWideReferenceIdeal.main_arg10) = m ((c.tc : Thread Cert.UpdateWideIdeal.nD Cert.UpdateWideIdeal.τ).loc Cert.UpdateWideIdeal.main_arg10)
      ∧ m' ((c.tc : Thread Cert.UpdateWideReferenceIdeal.nD Cert.UpdateWideReferenceIdeal.τ).loc Cert.UpdateWideReferenceIdeal.main_arg11) = m ((c.tc : Thread Cert.UpdateWideIdeal.nD Cert.UpdateWideIdeal.τ).loc Cert.UpdateWideIdeal.main_arg11)
      ∧ m' ((c.tc : Thread Cert.UpdateWideReferenceIdeal.nD Cert.UpdateWideReferenceIdeal.τ).loc Cert.UpdateWideReferenceIdeal.main_arg12) = m ((c.tc : Thread Cert.UpdateWideIdeal.nD Cert.UpdateWideIdeal.τ).loc Cert.UpdateWideIdeal.main_arg12)) →
    ∃ (v0 : (c : Dev Cert.UpdateWideIdeal.nD) → Buf (Elt Ideal) ((c.tc : Thread Cert.UpdateWideIdeal.nD Cert.UpdateWideIdeal.τ).loc Cert.UpdateWideIdeal.main_v1_0)),
      θ_run (Cert.UpdateWideIdeal.defs (F := Ideal)) (onTc (τ := Cert.UpdateWideIdeal.τ) (Cert.UpdateWideIdeal.main (F := Ideal))) ⟨m, fun _ => 0, g⟩ (fun r => ∀ c : Dev Cert.UpdateWideIdeal.nD,
          r.2.mem ((c.tc : Thread Cert.UpdateWideIdeal.nD Cert.UpdateWideIdeal.τ).loc Cert.UpdateWideIdeal.main_v1_0) = v0 c
          ∧ r.2.mem ((c.tc : Thread Cert.UpdateWideIdeal.nD Cert.UpdateWideIdeal.τ).loc Cert.UpdateWideIdeal.main_arg0) = m ((c.tc : Thread Cert.UpdateWideIdeal.nD Cert.UpdateWideIdeal.τ).loc Cert.UpdateWideIdeal.main_arg0)
          ∧ r.2.mem ((c.tc : Thread Cert.UpdateWideIdeal.nD Cert.UpdateWideIdeal.τ).loc Cert.UpdateWideIdeal.main_arg1) = m ((c.tc : Thread Cert.UpdateWideIdeal.nD Cert.UpdateWideIdeal.τ).loc Cert.UpdateWideIdeal.main_arg1)
          ∧ r.2.mem ((c.tc : Thread Cert.UpdateWideIdeal.nD Cert.UpdateWideIdeal.τ).loc Cert.UpdateWideIdeal.main_arg2) = m ((c.tc : Thread Cert.UpdateWideIdeal.nD Cert.UpdateWideIdeal.τ).loc Cert.UpdateWideIdeal.main_arg2)
          ∧ r.2.mem ((c.tc : Thread Cert.UpdateWideIdeal.nD Cert.UpdateWideIdeal.τ).loc Cert.UpdateWideIdeal.main_arg3) = m ((c.tc : Thread Cert.UpdateWideIdeal.nD Cert.UpdateWideIdeal.τ).loc Cert.UpdateWideIdeal.main_arg3)
          ∧ r.2.mem ((c.tc : Thread Cert.UpdateWideIdeal.nD Cert.UpdateWideIdeal.τ).loc Cert.UpdateWideIdeal.main_arg4) = m ((c.tc : Thread Cert.UpdateWideIdeal.nD Cert.UpdateWideIdeal.τ).loc Cert.UpdateWideIdeal.main_arg4)
          ∧ r.2.mem ((c.tc : Thread Cert.UpdateWideIdeal.nD Cert.UpdateWideIdeal.τ).loc Cert.UpdateWideIdeal.main_arg5) = m ((c.tc : Thread Cert.UpdateWideIdeal.nD Cert.UpdateWideIdeal.τ).loc Cert.UpdateWideIdeal.main_arg5)
          ∧ r.2.mem ((c.tc : Thread Cert.UpdateWideIdeal.nD Cert.UpdateWideIdeal.τ).loc Cert.UpdateWideIdeal.main_arg6) = m ((c.tc : Thread Cert.UpdateWideIdeal.nD Cert.UpdateWideIdeal.τ).loc Cert.UpdateWideIdeal.main_arg6)
          ∧ r.2.mem ((c.tc : Thread Cert.UpdateWideIdeal.nD Cert.UpdateWideIdeal.τ).loc Cert.UpdateWideIdeal.main_arg7) = m ((c.tc : Thread Cert.UpdateWideIdeal.nD Cert.UpdateWideIdeal.τ).loc Cert.UpdateWideIdeal.main_arg7)
          ∧ r.2.mem ((c.tc : Thread Cert.UpdateWideIdeal.nD Cert.UpdateWideIdeal.τ).loc Cert.UpdateWideIdeal.main_arg8) = m ((c.tc : Thread Cert.UpdateWideIdeal.nD Cert.UpdateWideIdeal.τ).loc Cert.UpdateWideIdeal.main_arg8)
          ∧ r.2.mem ((c.tc : Thread Cert.UpdateWideIdeal.nD Cert.UpdateWideIdeal.τ).loc Cert.UpdateWideIdeal.main_arg9) = m ((c.tc : Thread Cert.UpdateWideIdeal.nD Cert.UpdateWideIdeal.τ).loc Cert.UpdateWideIdeal.main_arg9)
          ∧ r.2.mem ((c.tc : Thread Cert.UpdateWideIdeal.nD Cert.UpdateWideIdeal.τ).loc Cert.UpdateWideIdeal.main_arg10) = m ((c.tc : Thread Cert.UpdateWideIdeal.nD Cert.UpdateWideIdeal.τ).loc Cert.UpdateWideIdeal.main_arg10)
          ∧ r.2.mem ((c.tc : Thread Cert.UpdateWideIdeal.nD Cert.UpdateWideIdeal.τ).loc Cert.UpdateWideIdeal.main_arg11) = m ((c.tc : Thread Cert.UpdateWideIdeal.nD Cert.UpdateWideIdeal.τ).loc Cert.UpdateWideIdeal.main_arg11)
          ∧ r.2.mem ((c.tc : Thread Cert.UpdateWideIdeal.nD Cert.UpdateWideIdeal.τ).loc Cert.UpdateWideIdeal.main_arg12) = m ((c.tc : Thread Cert.UpdateWideIdeal.nD Cert.UpdateWideIdeal.τ).loc Cert.UpdateWideIdeal.main_arg12))
      ∧ θ_run (Cert.UpdateWideReferenceIdeal.defs (F := Ideal)) (onTc (τ := Cert.UpdateWideReferenceIdeal.τ) (Cert.UpdateWideReferenceIdeal.main (F := Ideal))) ⟨m', fun _ => 0, g'⟩ (fun r => ∀ c : Dev Cert.UpdateWideReferenceIdeal.nD,
          r.2.mem ((c.tc : Thread Cert.UpdateWideReferenceIdeal.nD Cert.UpdateWideReferenceIdeal.τ).loc Cert.UpdateWideReferenceIdeal.main_v37) = v0 c
          ∧ r.2.mem ((c.tc : Thread Cert.UpdateWideReferenceIdeal.nD Cert.UpdateWideReferenceIdeal.τ).loc Cert.UpdateWideReferenceIdeal.main_arg0) = m' ((c.tc : Thread Cert.UpdateWideReferenceIdeal.nD Cert.UpdateWideReferenceIdeal.τ).loc Cert.UpdateWideReferenceIdeal.main_arg0)
          ∧ r.2.mem ((c.tc : Thread Cert.UpdateWideReferenceIdeal.nD Cert.UpdateWideReferenceIdeal.τ).loc Cert.UpdateWideReferenceIdeal.main_arg1) = m' ((c.tc : Thread Cert.UpdateWideReferenceIdeal.nD Cert.UpdateWideReferenceIdeal.τ).loc Cert.UpdateWideReferenceIdeal.main_arg1)
          ∧ r.2.mem ((c.tc : Thread Cert.UpdateWideReferenceIdeal.nD Cert.UpdateWideReferenceIdeal.τ).loc Cert.UpdateWideReferenceIdeal.main_arg2) = m' ((c.tc : Thread Cert.UpdateWideReferenceIdeal.nD Cert.UpdateWideReferenceIdeal.τ).loc Cert.UpdateWideReferenceIdeal.main_arg2)
          ∧ r.2.mem ((c.tc : Thread Cert.UpdateWideReferenceIdeal.nD Cert.UpdateWideReferenceIdeal.τ).loc Cert.UpdateWideReferenceIdeal.main_arg3) = m' ((c.tc : Thread Cert.UpdateWideReferenceIdeal.nD Cert.UpdateWideReferenceIdeal.τ).loc Cert.UpdateWideReferenceIdeal.main_arg3)
          ∧ r.2.mem ((c.tc : Thread Cert.UpdateWideReferenceIdeal.nD Cert.UpdateWideReferenceIdeal.τ).loc Cert.UpdateWideReferenceIdeal.main_arg4) = m' ((c.tc : Thread Cert.UpdateWideReferenceIdeal.nD Cert.UpdateWideReferenceIdeal.τ).loc Cert.UpdateWideReferenceIdeal.main_arg4)
          ∧ r.2.mem ((c.tc : Thread Cert.UpdateWideReferenceIdeal.nD Cert.UpdateWideReferenceIdeal.τ).loc Cert.UpdateWideReferenceIdeal.main_arg5) = m' ((c.tc : Thread Cert.UpdateWideReferenceIdeal.nD Cert.UpdateWideReferenceIdeal.τ).loc Cert.UpdateWideReferenceIdeal.main_arg5)
          ∧ r.2.mem ((c.tc : Thread Cert.UpdateWideReferenceIdeal.nD Cert.UpdateWideReferenceIdeal.τ).loc Cert.UpdateWideReferenceIdeal.main_arg6) = m' ((c.tc : Thread Cert.UpdateWideReferenceIdeal.nD Cert.UpdateWideReferenceIdeal.τ).loc Cert.UpdateWideReferenceIdeal.main_arg6)
          ∧ r.2.mem ((c.tc : Thread Cert.UpdateWideReferenceIdeal.nD Cert.UpdateWideReferenceIdeal.τ).loc Cert.UpdateWideReferenceIdeal.main_arg7) = m' ((c.tc : Thread Cert.UpdateWideReferenceIdeal.nD Cert.UpdateWideReferenceIdeal.τ).loc Cert.UpdateWideReferenceIdeal.main_arg7)
          ∧ r.2.mem ((c.tc : Thread Cert.UpdateWideReferenceIdeal.nD Cert.UpdateWideReferenceIdeal.τ).loc Cert.UpdateWideReferenceIdeal.main_arg8) = m' ((c.tc : Thread Cert.UpdateWideReferenceIdeal.nD Cert.UpdateWideReferenceIdeal.τ).loc Cert.UpdateWideReferenceIdeal.main_arg8)
          ∧ r.2.mem ((c.tc : Thread Cert.UpdateWideReferenceIdeal.nD Cert.UpdateWideReferenceIdeal.τ).loc Cert.UpdateWideReferenceIdeal.main_arg9) = m' ((c.tc : Thread Cert.UpdateWideReferenceIdeal.nD Cert.UpdateWideReferenceIdeal.τ).loc Cert.UpdateWideReferenceIdeal.main_arg9)
          ∧ r.2.mem ((c.tc : Thread Cert.UpdateWideReferenceIdeal.nD Cert.UpdateWideReferenceIdeal.τ).loc Cert.UpdateWideReferenceIdeal.main_arg10) = m' ((c.tc : Thread Cert.UpdateWideReferenceIdeal.nD Cert.UpdateWideReferenceIdeal.τ).loc Cert.UpdateWideReferenceIdeal.main_arg10)
          ∧ r.2.mem ((c.tc : Thread Cert.UpdateWideReferenceIdeal.nD Cert.UpdateWideReferenceIdeal.τ).loc Cert.UpdateWideReferenceIdeal.main_arg11) = m' ((c.tc : Thread Cert.UpdateWideReferenceIdeal.nD Cert.UpdateWideReferenceIdeal.τ).loc Cert.UpdateWideReferenceIdeal.main_arg11)
          ∧ r.2.mem ((c.tc : Thread Cert.UpdateWideReferenceIdeal.nD Cert.UpdateWideReferenceIdeal.τ).loc Cert.UpdateWideReferenceIdeal.main_arg12) = m' ((c.tc : Thread Cert.UpdateWideReferenceIdeal.nD Cert.UpdateWideReferenceIdeal.τ).loc Cert.UpdateWideReferenceIdeal.main_arg12))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v32) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Context_ContextIdeal : Prop :=
  True

def algebraic_ContextIdeal_ContextReferenceIdeal [hContextIdeal : Cert.ContextIdeal.Facts] [hContextReferenceIdeal : Cert.ContextReferenceIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)
      ∧ m' ((c.tc : Thread Cert.ContextReferenceIdeal.nD Cert.ContextReferenceIdeal.τ).loc Cert.ContextReferenceIdeal.main_arg3) = m ((c.tc : Thread Cert.ContextIdeal.nD Cert.ContextIdeal.τ).loc Cert.ContextIdeal.main_arg3)) →
    ∃ (v0 : (c : Dev Cert.ContextIdeal.nD) → Buf (Elt Ideal) ((c.tc : Thread Cert.ContextIdeal.nD Cert.ContextIdeal.τ).loc Cert.ContextIdeal.main_v1_0)) (v1 : (c : Dev Cert.ContextIdeal.nD) → Buf (Elt Ideal) ((c.tc : Thread Cert.ContextIdeal.nD Cert.ContextIdeal.τ).loc Cert.ContextIdeal.main_v1_1)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v1_0) = v0 c
          ∧ r.2.mem ((c.tc : Thread Cert.ContextIdeal.nD Cert.ContextIdeal.τ).loc Cert.ContextIdeal.main_v1_1) = v1 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v15) = v0 c
          ∧ r.2.mem ((c.tc : Thread Cert.ContextReferenceIdeal.nD Cert.ContextReferenceIdeal.τ).loc Cert.ContextReferenceIdeal.main_v17) = v1 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2)
          ∧ r.2.mem ((c.tc : Thread Cert.ContextReferenceIdeal.nD Cert.ContextReferenceIdeal.τ).loc Cert.ContextReferenceIdeal.main_arg3) = m' ((c.tc : Thread Cert.ContextReferenceIdeal.nD Cert.ContextReferenceIdeal.τ).loc Cert.ContextReferenceIdeal.main_arg3))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v141) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProject : Cert.Project.Facts) (hProjectIdeal : Cert.ProjectIdeal.Facts) (hProjectReferenceIdeal : Cert.ProjectReferenceIdeal.Facts) (hGates : Cert.Gates.Facts) (hGatesIdeal : Cert.GatesIdeal.Facts) (hGatesReferenceIdeal : Cert.GatesReferenceIdeal.Facts) (hUpdate : Cert.Update.Facts) (hUpdateIdeal : Cert.UpdateIdeal.Facts) (hUpdateReferenceIdeal : Cert.UpdateReferenceIdeal.Facts) (hUpdateWide : Cert.UpdateWide.Facts) (hUpdateWideIdeal : Cert.UpdateWideIdeal.Facts) (hUpdateWideReferenceIdeal : Cert.UpdateWideReferenceIdeal.Facts) (hCombine : Cert.Combine.Facts) (hCombineIdeal : Cert.CombineIdeal.Facts) (hCombineReferenceIdeal : Cert.CombineReferenceIdeal.Facts) (hModulation : Cert.Modulation.Facts) (hModulationIdeal : Cert.ModulationIdeal.Facts) (hModulationReferenceIdeal : Cert.ModulationReferenceIdeal.Facts) (hContext : Cert.Context.Facts) (hContextIdeal : Cert.ContextIdeal.Facts) (hContextReferenceIdeal : Cert.ContextReferenceIdeal.Facts) (hPool : Cert.Pool.Facts) (hPoolIdeal : Cert.PoolIdeal.Facts) (hPoolReferenceIdeal : Cert.PoolReferenceIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Project (hProject := hProject)
    ∧ quiescent_ProjectIdeal (hProjectIdeal := hProjectIdeal)
    ∧ quiescent_ProjectReferenceIdeal (hProjectReferenceIdeal := hProjectReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Update (hUpdate := hUpdate)
    ∧ quiescent_UpdateIdeal (hUpdateIdeal := hUpdateIdeal)
    ∧ quiescent_UpdateReferenceIdeal (hUpdateReferenceIdeal := hUpdateReferenceIdeal)
    ∧ quiescent_UpdateWide (hUpdateWide := hUpdateWide)
    ∧ quiescent_UpdateWideIdeal (hUpdateWideIdeal := hUpdateWideIdeal)
    ∧ quiescent_UpdateWideReferenceIdeal (hUpdateWideReferenceIdeal := hUpdateWideReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Context (hContext := hContext)
    ∧ quiescent_ContextIdeal (hContextIdeal := hContextIdeal)
    ∧ quiescent_ContextReferenceIdeal (hContextReferenceIdeal := hContextReferenceIdeal)
    ∧ quiescent_Pool (hPool := hPool)
    ∧ quiescent_PoolIdeal (hPoolIdeal := hPoolIdeal)
    ∧ quiescent_PoolReferenceIdeal (hPoolReferenceIdeal := hPoolReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_Project_ProjectIdeal
    ∧ algebraic_ProjectIdeal_ProjectReferenceIdeal (hProjectIdeal := hProjectIdeal) (hProjectReferenceIdeal := hProjectReferenceIdeal)
    ∧ preserves_Gates_GatesIdeal
    ∧ algebraic_GatesIdeal_GatesReferenceIdeal (hGatesIdeal := hGatesIdeal) (hGatesReferenceIdeal := hGatesReferenceIdeal)
    ∧ preserves_Update_UpdateIdeal
    ∧ algebraic_UpdateIdeal_UpdateReferenceIdeal (hUpdateIdeal := hUpdateIdeal) (hUpdateReferenceIdeal := hUpdateReferenceIdeal)
    ∧ preserves_UpdateWide_UpdateWideIdeal
    ∧ algebraic_UpdateWideIdeal_UpdateWideReferenceIdeal (hUpdateWideIdeal := hUpdateWideIdeal) (hUpdateWideReferenceIdeal := hUpdateWideReferenceIdeal)
    ∧ preserves_Combine_CombineIdeal
    ∧ algebraic_CombineIdeal_CombineReferenceIdeal (hCombineIdeal := hCombineIdeal) (hCombineReferenceIdeal := hCombineReferenceIdeal)
    ∧ preserves_Modulation_ModulationIdeal
    ∧ algebraic_ModulationIdeal_ModulationReferenceIdeal (hModulationIdeal := hModulationIdeal) (hModulationReferenceIdeal := hModulationReferenceIdeal)
    ∧ preserves_Context_ContextIdeal
    ∧ algebraic_ContextIdeal_ContextReferenceIdeal (hContextIdeal := hContextIdeal) (hContextReferenceIdeal := hContextReferenceIdeal)
    ∧ preserves_Pool_PoolIdeal
    ∧ algebraic_PoolIdeal_PoolReferenceIdeal (hPoolIdeal := hPoolIdeal) (hPoolReferenceIdeal := hPoolReferenceIdeal)
-- ==== Pre_finite.lean ====
abbrev S4x8192x1024 : Shape := ⟨3, ![4, 8192, 1024]⟩
abbrev S4x1024x8192 : Shape := ⟨3, ![4, 1024, 8192]⟩
abbrev S4x1024x256 : Shape := ⟨3, ![4, 1024, 256]⟩
abbrev S4x256x1024 : Shape := ⟨3, ![4, 256, 1024]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x1024x8192 : S_.BroadcastsInDim S4x1024x8192 (![] : Fin 0 → Fin S4x1024x8192.rank)
  reducesTo_S4x1024x8192_S_d0_1_2 : S4x1024x8192.ReducesTo [0, 1, 2] S_
  bcast_S_S4x1024x256 : S_.BroadcastsInDim S4x1024x256 (![] : Fin 0 → Fin S4x1024x256.rank)
  reducesTo_S4x1024x256_S_d0_1_2 : S4x1024x256.ReducesTo [0, 1, 2] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x256x1024 .bf16) (main_arg5 : FVec F S4x64 .f32) (main_v16 : IVec S_ 1) (main_v17 : FVec F S4x1024x256 .f32) : IVec S_ 1 :=
  let main_v18 : FVec F S4x1024x256 .f32 := Host.absf main_v17
  let main_cst_4 : FVec F S_ .f32 := constant S_ .f32 0x7F800000#32
  let main_v19 : FVec F S4x1024x256 .f32 := broadcastInDim S4x1024x256 ![] bcast_S_S4x1024x256 main_cst_4
  let main_v20 : IVec S4x1024x256 1 := cmpf .olt main_v18 main_v19
  let main_c_5 : IVec S_ 1 := constantI S_ 1 1#1
  let main_v21 : IVec S_ 1 := (fun x v => Host.reduce IntOp.andi x v reducesTo_S4x1024x256_S_d0_1_2 h_S_) main_v20 main_c_5
  let main_v22 : IVec S_ 1 := andi main_v16 main_v21
  let main_v23 : FVec F S4x256x1024 .f32 := (extf .f32 · bitsLt_bf16_f32) main_arg4
  let main_v24 : FVec F S4x256x1024 .f32 := Host.absf main_v23
  let main_cst_6 : FVec F S_ .f32 := constant S_ .f32 0x7F800000#32
  let main_v25 : FVec F S4x256x1024 .f32 := broadcastInDim S4x256x1024 ![] bcast_S_S4x256x1024 main_cst_6
  let main_v26 : IVec S4x256x1024 1 := cmpf .olt main_v24 main_v25
  let main_c_7 : IVec S_ 1 := constantI S_ 1 1#1
  let main_v27 : IVec S_ 1 := (fun x v => Host.reduce IntOp.andi x v reducesTo_S4x256x1024_S_d0_1_2 h_S_) main_v26 main_c_7
  let main_v28 : IVec S_ 1 := andi main_v22 main_v27
  let main_v29 : FVec F S4x64 .f32 := Host.absf main_arg5
  let main_cst_8 : FVec F S_ .f32 := constant S_ .f32 0x7F800000#32
  let main_v30 : FVec F S4x64 .f32 := broadcastInDim S4x64 ![] bcast_S_S4x64 main_cst_8
  let main_v31 : IVec S4x64 1 := cmpf .olt main_v29 main_v30
  let main_c_9 : IVec S_ 1 := constantI S_ 1 1#1
  let main_v32 : IVec S_ 1 := (fun x v => Host.reduce IntOp.andi x v reducesTo_S4x64_S_d0_1 h_S_) main_v31 main_c_9
  let main_v33 : IVec S_ 1 := andi main_v28 main_v32
  main_v33

def fn {F : FTy → Type} [FloatOps F] (main_arg0 : FVec F S4x8192x1024 .bf16) (main_arg1 : FVec F S4x1024x8192 .bf16) (main_arg2 : FVec F S4x8192x1024 .bf16) (main_arg3 : FVec F S4x1024x256 .bf16) (main_arg4 : FVec F S4x256x1024 .bf16) (main_arg5 : FVec F S4x64 .f32) (main_arg6 : FVec F S128 .f32) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x1024x8192 .f32 := (extf .f32 · bitsLt_bf16_f32) main_arg1
  let main_v6 : FVec F S4x1024x8192 .f32 := Host.absf main_v5
  let main_cst_0 : FVec F S_ .f32 := constant S_ .f32 0x7F800000#32
  let main_v7 : FVec F S4x1024x8192 .f32 := broadcastInDim S4x1024x8192 ![] bcast_S_S4x1024x8192 main_cst_0
  let main_v8 : IVec S4x1024x8192 1 := cmpf .olt main_v6 main_v7
  let main_c_1 : IVec S_ 1 := constantI S_ 1 1#1
  let main_v9 : IVec S_ 1 := (fun x v => Host.reduce IntOp.andi x v reducesTo_S4x1024x8192_S_d0_1_2 h_S_) main_v8 main_c_1
  let main_v10 : IVec S_ 1 := andi main_v4 main_v9
  let main_v11 : FVec F S4x8192x1024 .f32 := (extf .f32 · bitsLt_bf16_f32) main_arg2
  let main_v12 : FVec F S4x8192x1024 .f32 := Host.absf main_v11
  let main_cst_2 : FVec F S_ .f32 := constant S_ .f32 0x7F800000#32
  let main_v13 : FVec F S4x8192x1024 .f32 := broadcastInDim S4x8192x1024 ![] bcast_S_S4x8192x1024 main_cst_2
  let main_v14 : IVec S4x8192x1024 1 := cmpf .olt main_v12 main_v13
  let main_c_3 : IVec S_ 1 := constantI S_ 1 1#1
  let main_v15 : IVec S_ 1 := (fun x v => Host.reduce IntOp.andi x v reducesTo_S4x8192x1024_S_d0_1_2 h_S_) main_v14 main_c_3
  let main_v16 : IVec S_ 1 := andi main_v10 main_v15
  let main_v17 : FVec F S4x1024x256 .f32 := (extf .f32 · bitsLt_bf16_f32) main_arg3
  fn_part1 (F := F) main_arg4 main_arg5 main_v16 main_v17
-- ==== Pre_routed.lean ====
abbrev S152 : Shape := ⟨1, ![152]⟩
abbrev S1 : Shape := ⟨1, ![1]⟩
abbrev S38912x1152 : Shape := ⟨2, ![38912, 1152]⟩
abbrev S16x1024x1024 : Shape := ⟨3, ![16, 1024, 1024]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel
  shapeCasts_S1_S_ : S1.ShapeCasts S_

variable [Facts]

def fn {F : FTy → Type} [FloatOps F] (main_arg0 : IVec S152 32) (main_arg1 : IVec S152 32) (main_arg2 : IVec S1 32) (main_arg3 : FVec F S38912x1152 .f32) (main_arg4 : FVec F S16x1024x1024 .bf16) (main_arg5 : FVec F S16x1024x1024 .bf16) (main_arg6 : FVec F S16x1024x1024 .bf16) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 1 := constantI S_ 1 1#1
  let main_v5 : IVec S_ 1 := (fun x v => Host.reduce IntOp.andi x v reducesTo_S152_S_d0 h_S_) main_v4 main_c_1
  let main_c_2 : IVec S_ 32 := constantI S_ 32 0#32
  let main_v6 : IVec S152 32 := broadcastInDim S152 ![] bcast_S_S152 main_c_2
  let main_v7 : IVec S152 1 := cmpi .sge main_arg1 main_v6
  let main_c_3 : IVec S_ 32 := constantI S_ 32 16#32
  let main_v8 : IVec S152 32 := broadcastInDim S152 ![] bcast_S_S152 main_c_3
  let main_v9 : IVec S152 1 := cmpi .slt main_arg1 main_v8
  let main_v10 : IVec S152 1 := andi main_v7 main_v9
  let main_c_4 : IVec S_ 1 := constantI S_ 1 1#1
  let main_v11 : IVec S_ 1 := (fun x v => Host.reduce IntOp.andi x v reducesTo_S152_S_d0 h_S_) main_v10 main_c_4
  let main_v12 : IVec S_ 1 := andi main_v5 main_v11
  let main_v13 : IVec S_ 32 := shapeCast S_ main_arg2 shapeCasts_S1_S_
  let main_c_5 : IVec S_ 32 := constantI S_ 32 1#32
  let main_v14 : IVec S_ 1 := cmpi .sge main_v13 main_c_5
  let main_v15 : IVec S_ 1 := andi main_v12 main_v14
  main_v15
-- ==== Kernel.lean ====
abbrev S4x8192x1024 : Shape := ⟨3, ![4, 8192, 1024]⟩
abbrev S4x1024x8192 : Shape := ⟨3, ![4, 1024, 8192]⟩
abbrev S4x1024x256 : Shape := ⟨3, ![4, 1024, 256]⟩
abbrev S4x256x1024 : Shape := ⟨3, ![4, 256, 1024]⟩
abbrev S4x64 : Shape := ⟨2, ![4, 64]⟩
abbrev S128 : Shape := ⟨1, ![128]⟩
abbrev S1x128 : Shape := ⟨2, ![1, 128]⟩
abbrev S1x256x128 : Shape := ⟨3, ![1, 256, 128]⟩
abbrev S1x128x8192 : Shape := ⟨3, ![1, 128, 8192]⟩
abbrev S1x8192x128 : Shape := ⟨3, ![1, 8192, 128]⟩
abbrev S1x128x256 : Shape := ⟨3, ![1, 128, 256]⟩
abbrev S512x128 : Shape := ⟨2, ![512, 128]⟩
abbrev S512x256 : Shape := ⟨2, ![512, 256]⟩
abbrev S2x512x512 : Shape := ⟨3, ![2, 512, 512]⟩
abbrev S2x512x128 : Shape := ⟨3, ![2, 512, 128]⟩
abbrev S256x128 : Shape := ⟨2, ![256, 128]⟩
abbrev S1x128x512 : Shape := ⟨3, ![1, 128, 512]⟩
abbrev S128x512 : Shape := ⟨2, ![128, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x512x128 : Shape := ⟨3, ![1, 512, 128]⟩
abbrev S128x256 : Shape := ⟨2, ![128, 256]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 9
  | .vmem => 19
  | .smem => 0
  | _ => 0

abbrev bufTy : (tb : Table) → Fin (tcTables nBuf tb) → BufTy
  | .hbm, ⟨0, _⟩ => ⟨S4x8192x1024, .bf16⟩
  | .hbm, ⟨1, _⟩ => ⟨S4x1024x8192, .bf16⟩
  | .hbm, ⟨2, _⟩ => ⟨S4x8192x1024, .bf16⟩
  | .hbm, ⟨3, _⟩ => ⟨S4x1024x256, .bf16⟩
  | .hbm, ⟨4, _⟩ => ⟨S4x256x1024, .bf16⟩
  | .hbm, ⟨5, _⟩ => ⟨S4x64, .f32⟩
  | .hbm, ⟨6, _⟩ => ⟨S128, .f32⟩
  | .hbm, ⟨7, _⟩ => ⟨S1x128, .f32⟩
  | .hbm, ⟨8, _⟩ => ⟨S4x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x128x8192, .bf16⟩
  | .local _ .vmem, ⟨3, _⟩ => ⟨S1x128x8192, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x256, .bf16⟩
  | .local _ .vmem, ⟨7, _⟩ => ⟨S1x128x256, .bf16⟩
  | .local _ .vmem, ⟨8, _⟩ => ⟨S1x256x128, .bf16⟩
  | .local _ .vmem, ⟨9, _⟩ => ⟨S1x256x128, .bf16⟩
  | .local _ .vmem, ⟨10, _⟩ => ⟨S4x64, .f32⟩
  | .local _ .vmem, ⟨11, _⟩ => ⟨S1x128, .f32⟩
  | .local _ .vmem, ⟨12, _⟩ => ⟨S1x256x128, .bf16⟩
  | .local _ .vmem, ⟨13, _⟩ => ⟨S1x256x128, .bf16⟩
  | .local _ .vmem, ⟨14, _⟩ => ⟨S512x128, .f32⟩
  | .local _ .vmem, ⟨15, _⟩ => ⟨S512x256, .f32⟩
  | .local _ .vmem, ⟨16, _⟩ => ⟨S2x512x512, .f32⟩
  | .local _ .vmem, ⟨17, _⟩ => ⟨S2x512x512, .bf16⟩
  | .local _ .vmem, ⟨18, _⟩ => ⟨S2x512x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x8192x1024 : Shape := ⟨3, ![4, 8192, 1024]⟩
abbrev S4x1024x8192 : Shape := ⟨3, ![4, 1024, 8192]⟩
abbrev S4x1024x256 : Shape := ⟨3, ![4, 1024, 256]⟩
abbrev S4x256x1024 : Shape := ⟨3, ![4, 256, 1024]⟩
abbrev S4x64 : Shape := ⟨2, ![4, 64]⟩
abbrev S128 : Shape := ⟨1, ![128]⟩
abbrev S4x8192x8x2x64 : Shape := ⟨5, ![4, 8192, 8, 2, 64]⟩
abbrev S4x256x8x2x64 : Shape := ⟨5, ![4, 256, 8, 2, 64]⟩
abbrev S4x8448x8x2x64 : Shape := ⟨5, ![4, 8448, 8, 2, 64]⟩
abbrev S4x8192x8x128 : Shape := ⟨4, ![4, 8192, 8, 128]⟩
abbrev S4x256x8x128 : Shape := ⟨4, ![4, 256, 8, 128]⟩
abbrev S4x8448x8x128 : Shape := ⟨4, ![4, 8448, 8, 128]⟩
abbrev S1x64 : Shape := ⟨2, ![1, 64]⟩
abbrev S64 : Shape := ⟨1, ![64]⟩
abbrev S_ : Shape := ⟨0, ![]⟩
abbrev S2x4x8x8192x8448 : Shape := ⟨5, ![2, 4, 8, 8192, 8448]⟩
abbrev S2x4x8x8192 : Shape := ⟨4, ![2, 4, 8, 8192]⟩
abbrev S2x4x8x8192x1 : Shape := ⟨5, ![2, 4, 8, 8192, 1]⟩
abbrev S1x4x8x8192x8448 : Shape := ⟨5, ![1, 4, 8, 8192, 8448]⟩
abbrev S4x8x8192x8448 : Shape := ⟨4, ![4, 8, 8192, 8448]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x1024x8192, .bf16⟩
  | .hbm, ⟨2, _⟩ => ⟨S4x8192x1024, .bf16⟩
  | .hbm, ⟨3, _⟩ => ⟨S4x1024x256, .bf16⟩
  | .hbm, ⟨4, _⟩ => ⟨S4x256x1024, .bf16⟩
  | .hbm, ⟨5, _⟩ => ⟨S4x64, .f32⟩
  | .hbm, ⟨6, _⟩ => ⟨S128, .f32⟩
  | .hbm, ⟨7, _⟩ => ⟨S4x8192x1024, .f32⟩
  | .hbm, ⟨8, _⟩ => ⟨S4x1024x8192, .f32⟩
  | .hbm, ⟨9, _⟩ => ⟨S4x8192x1024, .f32⟩
  | .hbm, ⟨10, _⟩ => ⟨S4x1024x256, .f32⟩
  | .hbm, ⟨11, _⟩ => ⟨S4x256x1024, .f32⟩
  | .hbm, ⟨12, _⟩ => ⟨S4x8192x8x2x64, .f32⟩
  | .hbm, ⟨13, _⟩ => ⟨S4x8192x1024, .f32⟩
  | .hbm, ⟨14, _⟩ => ⟨S4x8192x8x2x64, .f32⟩
  | .hbm, ⟨15, _⟩ => ⟨S4x256x1024, .f32⟩
  | .hbm, ⟨16, _⟩ => ⟨S4x256x8x2x64, .f32⟩
  | .hbm, ⟨17, _⟩ => ⟨S4x8448x8x2x64, .f32⟩
  | .hbm, ⟨18, _⟩ => ⟨S4x8192x8x128, .f32⟩
  | .hbm, ⟨19, _⟩ => ⟨S4x256x8x128, .f32⟩
  | .hbm, ⟨20, _⟩ => ⟨S4x8448x8x128, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x4x8x8192x8448, .f32⟩
  | .hbm, ⟨41, _⟩ => ⟨S_, .f32⟩
  | .hbm, ⟨42, _⟩ => ⟨S2x4x8x8192x8448, .f32⟩
  | .hbm, ⟨43, _⟩ => ⟨S_, .f32⟩
  | .hbm, ⟨44, _⟩ => ⟨S2x4x8x8192, .f32⟩
  | .hbm, ⟨45, _⟩ => ⟨S2x4x8x8192x1, .f32⟩
  | .hbm, ⟨46, _⟩ => ⟨S2x4x8x8192x8448, .f32⟩
  | .hbm, ⟨47, _⟩ => ⟨S2x4x8x8192x8448, .f32⟩
  | .hbm, ⟨48, _⟩ => ⟨S2x4x8x8192x8448, .f32⟩
  | .hbm, ⟨49, _⟩ => ⟨S_, .f32⟩
  | .hbm, ⟨50, _⟩ => ⟨S2x4x8x8192, .f32⟩
  | .hbm, ⟨51, _⟩ => ⟨S2x4x8x8192x1, .f32⟩
  | .hbm, ⟨52, _⟩ => ⟨S2x4x8x8192x8448, .f32⟩
  | .hbm, ⟨53, _⟩ => ⟨S2x4x8x8192x8448, .f32⟩
  | .hbm, ⟨54, _⟩ => ⟨S1x4x8x8192x8448, .f32⟩
  | .hbm, ⟨55, _⟩ => ⟨S4x8x8192x8448, .f32⟩
  | .hbm, ⟨56, _⟩ => ⟨S1x4x8x8192x8448, .f32⟩
  | .hbm, ⟨57, _⟩ => ⟨S4x8x8192x8448, .f32⟩
  | .hbm, ⟨58, _⟩ => ⟨S4x8x8192x8448, .f32⟩
  | .hbm, ⟨59, _⟩ => ⟨S4x8x8192x8448, .f32⟩
  | .hbm, ⟨60, _⟩ => ⟨S4x8x8192x8448, .f32⟩
  | .hbm, ⟨61, _⟩ => ⟨S4x8x128x8192, .f32⟩
  | .hbm, ⟨62, _⟩ => ⟨S4x8192x8x128, .f32⟩
  | .hbm, ⟨63, _⟩ => ⟨S4x8192x8x128, .f32⟩
  | .hbm, ⟨64, _⟩ => ⟨S_, .f32⟩
  | .hbm, ⟨65, _⟩ => ⟨S4x8192x8, .f32⟩
  | .hbm, ⟨66, _⟩ => ⟨S4x8192x8x1, .f32⟩
  | .hbm, ⟨67, _⟩ => ⟨S_, .f32⟩
  | .hbm, ⟨68, _⟩ => ⟨S4x8192x8x1, .f32⟩
  | .hbm, ⟨69, _⟩ => ⟨S4x8192x8x1, .f32⟩
  | .hbm, ⟨70, _⟩ => ⟨S_, .f32⟩
  | .hbm, ⟨71, _⟩ => ⟨S4x8192x8x1, .f32⟩
  | .hbm, ⟨72, _⟩ => ⟨S4x8192x8x1, .f32⟩
  | .hbm, ⟨73, _⟩ => ⟨S4x8192x8x1, .f32⟩
  | .hbm, ⟨74, _⟩ => ⟨S4x8192x8x128, .f32⟩
  | .hbm, ⟨75, _⟩ => ⟨S4x8192x8x128, .f32⟩
  | .hbm, ⟨76, _⟩ => ⟨S1x1x1x128, .f32⟩
  | .hbm, ⟨77, _⟩ => ⟨S4x8192x8x128, .f32⟩
  | .hbm, ⟨78, _⟩ => ⟨S4x8192x8x128, .f32⟩
  | .hbm, ⟨79, _⟩ => ⟨S_, .f32⟩
  | .hbm, ⟨80, _⟩ => ⟨S4x8192x8x128, .f32⟩
  | .hbm, ⟨81, _⟩ => ⟨S4x8192x8x128, .f32⟩
  | .hbm, ⟨82, _⟩ => ⟨S4x8192x1024, .f32⟩
  | .hbm, ⟨83, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Experts.lean ====
abbrev S152 : Shape := ⟨1, ![152]⟩
abbrev S1 : Shape := ⟨1, ![1]⟩
abbrev S38912x1152 : Shape := ⟨2, ![38912, 1152]⟩
abbrev S16x1024x1024 : Shape := ⟨3, ![16, 1024, 1024]⟩
abbrev S38912x1024 : Shape := ⟨2, ![38912, 1024]⟩
abbrev S256x1152 : Shape := ⟨2, ![256, 1152]⟩
abbrev S1x1024x1024 : Shape := ⟨3, ![1, 1024, 1024]⟩
abbrev S256x1024 : Shape := ⟨2, ![256, 1024]⟩
abbrev S256x128 : Shape := ⟨2, ![256, 128]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 5
  | .vmem => 16
  | .smem => 3
  | _ => 0

abbrev bufTy : (tb : Table) → Fin (tcTables nBuf tb) → BufTy
  | .hbm, ⟨0, _⟩ => ⟨S38912x1152, .f32⟩
  | .hbm, ⟨1, _⟩ => ⟨S16x1024x1024, .bf16⟩
  | .hbm, ⟨2, _⟩ => ⟨S16x1024x1024, .bf16⟩
  | .hbm, ⟨3, _⟩ => ⟨S16x1024x1024, .bf16⟩
  | .hbm, ⟨4, _⟩ => ⟨S38912x1024, .f32⟩
  | .local _ .vmem, ⟨0, _⟩ => ⟨S256x1152, .f32⟩
  | .local _ .vmem, ⟨1, _⟩ => ⟨S256x1152, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S256x1024, .f32⟩
  | .local _ .vmem, ⟨15, _⟩ => ⟨S256x1024, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S38912x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S152 : Shape := ⟨1, ![152]⟩
abbrev S1 : Shape := ⟨1, ![1]⟩
abbrev S38912x1152 : Shape := ⟨2, ![38912, 1152]⟩
abbrev S16x1024x1024 : Shape := ⟨3, ![16, 1024, 1024]⟩
abbrev S152x256x1152 : Shape := ⟨3, ![152, 256, 1152]⟩
abbrev S152x256x1024 : Shape := ⟨3, ![152, 256, 1024]⟩
abbrev S152x256x1 : Shape := ⟨3, ![152, 256, 1]⟩
abbrev S_ : Shape := ⟨0, ![]⟩
abbrev S152x1 : Shape := ⟨2, ![152, 1]⟩
abbrev S152x1024x1024 : Shape := ⟨3, ![152, 1024, 1024]⟩
abbrev S152x1x1 : Shape := ⟨3, ![152, 1, 1]⟩
abbrev S38912x1024 : Shape := ⟨2, ![38912, 1024]⟩

abbrev nBuf : Space → Nat
  | .hbm => 110
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S1, .i32⟩
  | .hbm, ⟨3, _⟩ => ⟨S38912x1152, .f32⟩
  | .hbm, ⟨4, _⟩ => ⟨S16x1024x1024, .bf16⟩
  | .hbm, ⟨5, _⟩ => ⟨S16x1024x1024, .bf16⟩
  | .hbm, ⟨6, _⟩ => ⟨S16x1024x1024, .bf16⟩
  | .hbm, ⟨7, _⟩ => ⟨S16x1024x1024, .f32⟩
  | .hbm, ⟨8, _⟩ => ⟨S16x1024x1024, .f32⟩
  | .hbm, ⟨9, _⟩ => ⟨S16x1024x1024, .f32⟩
  | .hbm, ⟨10, _⟩ => ⟨S152x256x1152, .f32⟩
  | .hbm, ⟨11, _⟩ => ⟨S152x256x1024, .f32⟩
  | .hbm, ⟨12, _⟩ => ⟨S152x256x1, .f32⟩
  | .hbm, ⟨13, _⟩ => ⟨S152x256x1, .f32⟩
  | .hbm, ⟨14, _⟩ => ⟨S_, .i32⟩
  | .hbm, ⟨15, _⟩ => ⟨S152, .i32⟩
  | .hbm, ⟨16, _⟩ => ⟨S152, .i1⟩
  | .hbm, ⟨17, _⟩ => ⟨S_, .i32⟩
  | .hbm, ⟨18, _⟩ => ⟨S152, .i32⟩
  | .hbm, ⟨19, _⟩ => ⟨S152, .i32⟩
  | .hbm, ⟨20, _⟩ => ⟨S152, .i32⟩
  | .hbm, ⟨21, _⟩ => ⟨S152x1, .i32⟩
  | .hbm, ⟨22, _⟩ => ⟨S152x1024x1024, .f32⟩
  | .hbm, ⟨23, _⟩ => ⟨S152x256x1024, .f32⟩
  | .hbm, ⟨24, _⟩ => ⟨S152x256x1024, .f32⟩
  | .hbm, ⟨25, _⟩ => ⟨S152x256x1024, .f32⟩
  | .hbm, ⟨26, _⟩ => ⟨S_, .f32⟩
  | .hbm, ⟨27, _⟩ => ⟨S152x256x1024, .f32⟩
  | .hbm, ⟨28, _⟩ => ⟨S152x256x1024, .f32⟩
  | .hbm, ⟨29, _⟩ => ⟨S_, .f32⟩
  | .hbm, ⟨30, _⟩ => ⟨S152x256x1024, .f32⟩
  | .hbm, ⟨31, _⟩ => ⟨S152x256x1024, .f32⟩
  | .hbm, ⟨32, _⟩ => ⟨S152x256x1024, .f32⟩
  | .hbm, ⟨33, _⟩ => ⟨S_, .i32⟩
  | .hbm, ⟨34, _⟩ => ⟨S152, .i32⟩
  | .hbm, ⟨35, _⟩ => ⟨S152, .i1⟩
  | .hbm, ⟨36, _⟩ => ⟨S_, .i32⟩
  | .hbm, ⟨37, _⟩ => ⟨S152, .i32⟩
  | .hbm, ⟨38, _⟩ => ⟨S152, .i32⟩
  | .hbm, ⟨39, _⟩ => ⟨S152, .i32⟩
  | .hbm, ⟨40, _⟩ => ⟨S152x1, .i32⟩
  | .hbm, ⟨41, _⟩ => ⟨S152x1024x1024, .f32⟩
  | .hbm, ⟨42, _⟩ => ⟨S152x256x1024, .f32⟩
  | .hbm, ⟨43, _⟩ => ⟨S152x256x1024, .f32⟩
  | .hbm, ⟨44, _⟩ => ⟨S_, .i32⟩
  | .hbm, ⟨45, _⟩ => ⟨S152, .i32⟩
  | .hbm, ⟨46, _⟩ => ⟨S152, .i1⟩
  | .hbm, ⟨47, _⟩ => ⟨S_, .i32⟩
  | .hbm, ⟨48, _⟩ => ⟨S152, .i32⟩
  | .hbm, ⟨49, _⟩ => ⟨S152, .i32⟩
  | .hbm, ⟨50, _⟩ => ⟨S152, .i32⟩
  | .hbm, ⟨51, _⟩ => ⟨S152x1, .i32⟩
  | .hbm, ⟨52, _⟩ => ⟨S152x1024x1024, .f32⟩
  | .hbm, ⟨53, _⟩ => ⟨S152x256x1024, .f32⟩
  | .hbm, ⟨54, _⟩ => ⟨S152x256x1024, .f32⟩
  | .hbm, ⟨55, _⟩ => ⟨S152x256x1024, .f32⟩
  | .hbm, ⟨56, _⟩ => ⟨S_, .i32⟩
  | .hbm, ⟨57, _⟩ => ⟨S152, .i32⟩
  | .hbm, ⟨58, _⟩ => ⟨S152, .i1⟩
  | .hbm, ⟨59, _⟩ => ⟨S_, .i32⟩
  | .hbm, ⟨60, _⟩ => ⟨S152, .i32⟩
  | .hbm, ⟨61, _⟩ => ⟨S152, .i32⟩
  | .hbm, ⟨62, _⟩ => ⟨S152, .i32⟩
  | .hbm, ⟨63, _⟩ => ⟨S152x1, .i32⟩
  | .hbm, ⟨64, _⟩ => ⟨S152x1024x1024, .f32⟩
  | .hbm, ⟨65, _⟩ => ⟨S152x256x1024, .f32⟩
  | .hbm, ⟨66, _⟩ => ⟨S152x256x1024, .f32⟩
  | .hbm, ⟨67, _⟩ => ⟨S152x256x1024, .f32⟩
  | .hbm, ⟨68, _⟩ => ⟨S_, .f32⟩
  | .hbm, ⟨69, _⟩ => ⟨S152x256x1024, .f32⟩
  | .hbm, ⟨70, _⟩ => ⟨S152x256x1024, .f32⟩
  | .hbm, ⟨71, _⟩ => ⟨S_, .f32⟩
  | .hbm, ⟨72, _⟩ => ⟨S152x256x1024, .f32⟩
  | .hbm, ⟨73, _⟩ => ⟨S152x256x1024, .f32⟩
  | .hbm, ⟨74, _⟩ => ⟨S152x256x1024, .f32⟩
  | .hbm, ⟨75, _⟩ => ⟨S_, .i32⟩
  | .hbm, ⟨76, _⟩ => ⟨S152, .i32⟩
  | .hbm, ⟨77, _⟩ => ⟨S152, .i1⟩
  | .hbm, ⟨78, _⟩ => ⟨S_, .i32⟩
  | .hbm, ⟨79, _⟩ => ⟨S152, .i32⟩
  | .hbm, ⟨80, _⟩ => ⟨S152, .i32⟩
  | .hbm, ⟨81, _⟩ => ⟨S152, .i32⟩
  | .hbm, ⟨82, _⟩ => ⟨S152x1, .i32⟩
  | .hbm, ⟨83, _⟩ => ⟨S152x1024x1024, .f32⟩
  | .hbm, ⟨84, _⟩ => ⟨S152x256x1024, .f32⟩
  | .hbm, ⟨85, _⟩ => ⟨S152x256x1024, .f32⟩
  | .hbm, ⟨86, _⟩ => ⟨S_, .i32⟩
  | .hbm, ⟨87, _⟩ => ⟨S152, .i32⟩
  | .hbm, ⟨88, _⟩ => ⟨S152, .i1⟩
  | .hbm, ⟨89, _⟩ => ⟨S_, .i32⟩
  | .hbm, ⟨90, _⟩ => ⟨S152, .i32⟩
  | .hbm, ⟨91, _⟩ => ⟨S152, .i32⟩
  | .hbm, ⟨92, _⟩ => ⟨S152, .i32⟩
  | .hbm, ⟨93, _⟩ => ⟨S152x1, .i32⟩
  | .hbm, ⟨94, _⟩ => ⟨S152x1024x1024, .f32⟩
  | .hbm, ⟨95, _⟩ => ⟨S152x256x1024, .f32⟩
  | .hbm, ⟨96, _⟩ => ⟨S152x256x1024, .f32⟩
  | .hbm, ⟨97, _⟩ => ⟨S152x256x1024, .f32⟩
  | .hbm, ⟨98, _⟩ => ⟨S152x256x1024, .f32⟩
  | .hbm, ⟨99, _⟩ => ⟨S152, .i32⟩
  | .hbm, ⟨100, _⟩ => ⟨S152x1x1, .i32⟩
  | .hbm, ⟨101, _⟩ => ⟨S_, .i32⟩
  | .hbm, ⟨102, _⟩ => ⟨S152x1x1, .i32⟩
  | .hbm, ⟨103, _⟩ => ⟨S152x1x1, .i1⟩
  | .hbm, ⟨104, _⟩ => ⟨S_, .f32⟩
  | .hbm, ⟨105, _⟩ => ⟨S_, .f32⟩
  | .hbm, ⟨106, _⟩ => ⟨S152x256x1024, .i1⟩
  | .hbm, ⟨107, _⟩ => ⟨S152x256x1024, .f32⟩
  | .hbm, ⟨108, _⟩ => ⟨S152x256x1024, .f32⟩
  | .hbm, ⟨109, _⟩ => ⟨S38912x1024, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v43 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]
-- ==== Project.lean ====
abbrev S4x8192x1024 : Shape := ⟨3, ![4, 8192, 1024]⟩
abbrev S4x1x1024 : Shape := ⟨3, ![4, 1, 1024]⟩
abbrev S1024x3072 : Shape := ⟨2, ![1024, 3072]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x128 : Shape := ⟨3, ![1, 8192, 128]⟩
abbrev S3x8192x128 : Shape := ⟨3, ![3, 8192, 128]⟩
abbrev S4x1024x8192 : Shape := ⟨3, ![4, 1024, 8192]⟩
abbrev S1x512x1024 : Shape := ⟨3, ![1, 512, 1024]⟩
abbrev S1x1x1024 : Shape := ⟨3, ![1, 1, 1024]⟩
abbrev S3x512x128 : Shape := ⟨3, ![3, 512, 128]⟩
abbrev S1x1024x512 : Shape := ⟨3, ![1, 1024, 512]⟩
abbrev S512x1024 : Shape := ⟨2, ![512, 1024]⟩
abbrev S1x1024 : Shape := ⟨2, ![1, 1024]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S1x512x256 : Shape := ⟨3, ![1, 512, 256]⟩
abbrev S256x512 : Shape := ⟨2, ![256, 512]⟩
abbrev S1x256x512 : Shape := ⟨3, ![1, 256, 512]⟩

abbrev nBuf : Space → Nat
  | .hbm => 69
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x3072, .f32⟩
  | .hbm, ⟨4, _⟩ => ⟨S64, .i1⟩
  | .hbm, ⟨5, _⟩ => ⟨S1024x3072, .bf16⟩
  | .hbm, ⟨6, _⟩ => ⟨S128, .i32⟩
  | .hbm, ⟨7, _⟩ => ⟨S128x64, .i32⟩
  | .hbm, ⟨8, _⟩ => ⟨S8192, .i32⟩
  | .hbm, ⟨9, _⟩ => ⟨S8192, .f32⟩
  | .hbm, ⟨10, _⟩ => ⟨S64, .i32⟩
  | .hbm, ⟨11, _⟩ => ⟨S1x64, .i32⟩
  | .hbm, ⟨12, _⟩ => ⟨S128x64, .i32⟩
  | .hbm, ⟨13, _⟩ => ⟨S8192, .i32⟩
  | .hbm, ⟨14, _⟩ => ⟨S8192, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x1, .f32⟩
  | .hbm, ⟨35, _⟩ => ⟨S1x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S_, .f32⟩
  | .hbm, ⟨44, _⟩ => ⟨S_, .f32⟩
  | .hbm, ⟨45, _⟩ => ⟨S8192x64, .i1⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S_, .f32⟩
  | .hbm, ⟨50, _⟩ => ⟨S8192x64, .i1⟩
  | .hbm, ⟨51, _⟩ => ⟨S8192x64, .f32⟩
  | .hbm, ⟨52, _⟩ => ⟨S8192x64, .f32⟩
  | .hbm, ⟨53, _⟩ => ⟨S1x8192x1x64, .f32⟩
  | .hbm, ⟨54, _⟩ => ⟨S1x8192x2x64, .f32⟩
  | .hbm, ⟨55, _⟩ => ⟨S8192x128, .f32⟩
  | .hbm, ⟨56, _⟩ => ⟨S1x8192x1x64, .f32⟩
  | .hbm, ⟨57, _⟩ => ⟨S1x8192x2x64, .f32⟩
  | .hbm, ⟨58, _⟩ => ⟨S8192x128, .f32⟩
  | .hbm, ⟨59, _⟩ => ⟨S1x8192x1x64, .f32⟩
  | .hbm, ⟨60, _⟩ => ⟨S1x8192x2x64, .f32⟩
  | .hbm, ⟨61, _⟩ => ⟨S8192x128, .f32⟩
  | .hbm, ⟨62, _⟩ => ⟨S1x8192x128, .f32⟩
  | .hbm, ⟨63, _⟩ => ⟨S1x8192x128, .f32⟩
  | .hbm, ⟨64, _⟩ => ⟨S1x8192x128, .f32⟩
  | .hbm, ⟨65, _⟩ => ⟨S3x8192x128, .f32⟩
  | .hbm, ⟨66, _⟩ => ⟨S4x8192x1024, .bf16⟩
  | .hbm, ⟨67, _⟩ => ⟨S4x1024x8192, .bf16⟩
  | .hbm, ⟨68, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S3x512x128, .f32⟩
  | .local _ .vmem, ⟨8, _⟩ => ⟨S3x512x128, .f32⟩
  | .local _ .vmem, ⟨9, _⟩ => ⟨S1x512x1024, .bf16⟩
  | .local _ .vmem, ⟨10, _⟩ => ⟨S1x512x1024, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x512x1024, .bf16⟩
  | .local _ .vmem, ⟨14, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_4 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjectReferenceIdeal.lean ====
abbrev S4x8192x1024 : Shape := ⟨3, ![4, 8192, 1024]⟩
abbrev S4x1x1024 : Shape := ⟨3, ![4, 1, 1024]⟩
abbrev S1024x3072 : Shape := ⟨2, ![1024, 3072]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S4x8192x3072 : Shape := ⟨3, ![4, 8192, 3072]⟩
abbrev S4x8192x8x2x64 : Shape := ⟨5, ![4, 8192, 8, 2, 64]⟩
abbrev S4x8192x8x128 : Shape := ⟨4, ![4, 8192, 8, 128]⟩
abbrev S4x8192x8x2x16 : Shape := ⟨5, ![4, 8192, 8, 2, 16]⟩
abbrev S1x8192x1x1x64 : Shape := ⟨5, ![1, 8192, 1, 1, 64]⟩
abbrev S4x1024x8192 : Shape := ⟨3, ![4, 1024, 8192]⟩

abbrev nBuf : Space → Nat
  | .hbm => 92
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x3072, .f32⟩
  | .hbm, ⟨4, _⟩ => ⟨S128, .i32⟩
  | .hbm, ⟨5, _⟩ => ⟨S128x64, .i32⟩
  | .hbm, ⟨6, _⟩ => ⟨S8192, .i32⟩
  | .hbm, ⟨7, _⟩ => ⟨S8192, .f32⟩
  | .hbm, ⟨8, _⟩ => ⟨S64, .i32⟩
  | .hbm, ⟨9, _⟩ => ⟨S1x64, .i32⟩
  | .hbm, ⟨10, _⟩ => ⟨S128x64, .i32⟩
  | .hbm, ⟨11, _⟩ => ⟨S8192, .i32⟩
  | .hbm, ⟨12, _⟩ => ⟨S8192, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S8192x1, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x1, .f32⟩
  | .hbm, ⟨33, _⟩ => ⟨S1x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S_, .f32⟩
  | .hbm, ⟨41, _⟩ => ⟨S4x1x1024, .f32⟩
  | .hbm, ⟨42, _⟩ => ⟨S4x1x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x3072, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x8x2x64, .f32⟩
  | .hbm, ⟨52, _⟩ => ⟨S4x8192x8x2x64, .f32⟩
  | .hbm, ⟨53, _⟩ => ⟨S4x8192x8x128, .f32⟩
  | .hbm, ⟨54, _⟩ => ⟨S4x8192x8x2x16, .f32⟩
  | .hbm, ⟨55, _⟩ => ⟨S4x8192x8x2x16, .f32⟩
  | .hbm, ⟨56, _⟩ => ⟨S4x8192x8x2x16, .f32⟩
  | .hbm, ⟨57, _⟩ => ⟨S4x8192x8x2x16, .f32⟩
  | .hbm, ⟨58, _⟩ => ⟨S4x8192x8x2x16, .f32⟩
  | .hbm, ⟨59, _⟩ => ⟨S4x8192x8x2x16, .f32⟩
  | .hbm, ⟨60, _⟩ => ⟨S4x8192x8x2x64, .f32⟩
  | .hbm, ⟨61, _⟩ => ⟨S1x8192x1x1x64, .f32⟩
  | .hbm, ⟨62, _⟩ => ⟨S1x8192x1x1x64, .f32⟩
  | .hbm, ⟨63, _⟩ => ⟨S4x8192x8x2x64, .f32⟩
  | .hbm, ⟨64, _⟩ => ⟨S4x8192x8x2x64, .f32⟩
  | .hbm, ⟨65, _⟩ => ⟨S4x8192x8x2x64, .f32⟩
  | .hbm, ⟨66, _⟩ => ⟨S4x8192x8x2x64, .f32⟩
  | .hbm, ⟨67, _⟩ => ⟨S4x8192x8x2x64, .f32⟩
  | .hbm, ⟨68, _⟩ => ⟨S_, .f32⟩
  | .hbm, ⟨69, _⟩ => ⟨S4x8192x8x2x64, .f32⟩
  | .hbm, ⟨70, _⟩ => ⟨S4x8192x8x2x64, .f32⟩
  | .hbm, ⟨71, _⟩ => ⟨S4x8192x8x2x16, .f32⟩
  | .hbm, ⟨72, _⟩ => ⟨S4x8192x8x2x16, .f32⟩
  | .hbm, ⟨73, _⟩ => ⟨S4x8192x8x2x16, .f32⟩
  | .hbm, ⟨74, _⟩ => ⟨S4x8192x8x2x16, .f32⟩
  | .hbm, ⟨75, _⟩ => ⟨S4x8192x8x2x16, .f32⟩
  | .hbm, ⟨76, _⟩ => ⟨S4x8192x8x2x16, .f32⟩
  | .hbm, ⟨77, _⟩ => ⟨S4x8192x8x2x64, .f32⟩
  | .hbm, ⟨78, _⟩ => ⟨S1x8192x1x1x64, .f32⟩
  | .hbm, ⟨79, _⟩ => ⟨S1x8192x1x1x64, .f32⟩
  | .hbm, ⟨80, _⟩ => ⟨S4x8192x8x2x64, .f32⟩
  | .hbm, ⟨81, _⟩ => ⟨S4x8192x8x2x64, .f32⟩
  | .hbm, ⟨82, _⟩ => ⟨S4x8192x8x2x64, .f32⟩
  | .hbm, ⟨83, _⟩ => ⟨S4x8192x8x2x64, .f32⟩
  | .hbm, ⟨84, _⟩ => ⟨S4x8192x8x2x64, .f32⟩
  | .hbm, ⟨85, _⟩ => ⟨S4x8192x1024, .f32⟩
  | .hbm, ⟨86, _⟩ => ⟨S4x8192x1024, .bf16⟩
  | .hbm, ⟨87, _⟩ => ⟨S4x8192x1024, .f32⟩
  | .hbm, ⟨88, _⟩ => ⟨S4x1024x8192, .f32⟩
  | .hbm, ⟨89, _⟩ => ⟨S4x1024x8192, .bf16⟩
  | .hbm, ⟨90, _⟩ => ⟨S4x8192x1024, .f32⟩
  | .hbm, ⟨91, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_4 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩

abbrev nD : Nat := 1
abbrev τ : Topo := Topo.v7x

variable {F : FTy → Type} [FloatOps F]
-- ==== Gates.lean ====
abbrev S4x8192x1024 : Shape := ⟨3, ![4, 8192, 1024]⟩
abbrev S4x1x1024 : Shape := ⟨3, ![4, 1, 1024]⟩
abbrev S1024x3072 : Shape := ⟨2, ![1024, 3072]⟩
abbrev S3072 : Shape := ⟨1, ![3072]⟩
abbrev S3x3072 : Shape := ⟨2, ![3, 3072]⟩
abbrev S1x3072 : Shape := ⟨2, ![1, 3072]⟩
abbrev S1x512x1024 : Shape := ⟨3, ![1, 512, 1024]⟩
abbrev S1x16x1024 : Shape := ⟨3, ![1, 16, 1024]⟩
abbrev S1x1x1024 : Shape := ⟨3, ![1, 1, 1024]⟩
abbrev S544x1024 : Shape := ⟨2, ![544, 1024]⟩
abbrev S544x256 : Shape := ⟨2, ![544, 256]⟩
abbrev S1x1024 : Shape := ⟨2, ![1, 1024]⟩
abbrev S512x1024 : Shape := ⟨2, ![512, 1024]⟩
abbrev S16x1024 : Shape := ⟨2, ![16, 1024]⟩
abbrev S1024x256 : Shape := ⟨2, ![1024, 256]⟩
abbrev S1x256 : Shape := ⟨2, ![1, 256]⟩
abbrev S3x256 : Shape := ⟨2, ![3, 256]⟩
abbrev S512x256 : Shape := ⟨2, ![512, 256]⟩
abbrev S1x512x256 : Shape := ⟨3, ![1, 512, 256]⟩

abbrev nBuf : Space → Nat
  | .hbm => 12
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S1024x3072, .bf16⟩
  | .hbm, ⟨8, _⟩ => ⟨S1x3072, .f32⟩
  | .hbm, ⟨9, _⟩ => ⟨S1x3072, .f32⟩
  | .hbm, ⟨10, _⟩ => ⟨S4x8192x1024, .f32⟩
  | .hbm, ⟨11, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x3072, .bf16⟩
  | .local _ .vmem, ⟨11, _⟩ => ⟨S1x3072, .f32⟩
  | .local _ .vmem, ⟨12, _⟩ => ⟨S3x3072, .f32⟩
  | .local _ .vmem, ⟨13, _⟩ => ⟨S1x3072, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S544x1024, .bf16⟩
  | .local _ .vmem, ⟨19, _⟩ => ⟨S544x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GatesReferenceIdeal.lean ====
abbrev S4x8192x1024 : Shape := ⟨3, ![4, 8192, 1024]⟩
abbrev S4x1x1024 : Shape := ⟨3, ![4, 1, 1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩
abbrev S4x8192x3072 : Shape := ⟨3, ![4, 8192, 3072]⟩
abbrev S1x1x3072 : Shape := ⟨3, ![1, 1, 3072]⟩
abbrev S4x8194x3072 : Shape := ⟨3, ![4, 8194, 3072]⟩
abbrev S1x3072 : Shape := ⟨2, ![1, 3072]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x3072, .f32⟩
  | .hbm, ⟨15, _⟩ => ⟨S1x1x3072, .f32⟩
  | .hbm, ⟨16, _⟩ => ⟨S4x8192x3072, .f32⟩
  | .hbm, ⟨17, _⟩ => ⟨S4x8192x3072, .f32⟩
  | .hbm, ⟨18, _⟩ => ⟨S_, .i32⟩
  | .hbm, ⟨19, _⟩ => ⟨S_, .f32⟩
  | .hbm, ⟨20, _⟩ => ⟨S4x8194x3072, .f32⟩
  | .hbm, ⟨21, _⟩ => ⟨S4x8192x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x8192x3072, .f32⟩
  | .hbm, ⟨26, _⟩ => ⟨S4x8192x3072, .f32⟩
  | .hbm, ⟨27, _⟩ => ⟨S4x8192x3072, .f32⟩
  | .hbm, ⟨28, _⟩ => ⟨S1x3072, .f32⟩
  | .hbm, ⟨29, _⟩ => ⟨S3072, .f32⟩
  | .hbm, ⟨30, _⟩ => ⟨S1x1x3072, .f32⟩
  | .hbm, ⟨31, _⟩ => ⟨S4x8192x3072, .f32⟩
  | .hbm, ⟨32, _⟩ => ⟨S4x8192x3072, .f32⟩
  | .hbm, ⟨33, _⟩ => ⟨S4x8192x3072, .f32⟩
  | .hbm, ⟨34, _⟩ => ⟨S4x8192x3072, .f32⟩
  | .hbm, ⟨35, _⟩ => ⟨S1x3072, .f32⟩
  | .hbm, ⟨36, _⟩ => ⟨S3072, .f32⟩
  | .hbm, ⟨37, _⟩ => ⟨S1x1x3072, .f32⟩
  | .hbm, ⟨38, _⟩ => ⟨S4x8192x3072, .f32⟩
  | .hbm, ⟨39, _⟩ => ⟨S4x8192x3072, .f32⟩
  | .hbm, ⟨40, _⟩ => ⟨S4x8192x3072, .f32⟩
  | .hbm, ⟨41, _⟩ => ⟨S1x1x3072, .f32⟩
  | .hbm, ⟨42, _⟩ => ⟨S4x8192x3072, .f32⟩
  | .hbm, ⟨43, _⟩ => ⟨S4x8192x3072, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Update.lean ====
abbrev S4x8192x1024 : Shape := ⟨3, ![4, 8192, 1024]⟩
abbrev S1024x1024 : Shape := ⟨2, ![1024, 1024]⟩
abbrev S1x1024 : Shape := ⟨2, ![1, 1024]⟩
abbrev S4x1x1024 : Shape := ⟨3, ![4, 1, 1024]⟩
abbrev S16x1024 : Shape := ⟨2, ![16, 1024]⟩
abbrev S16x1 : Shape := ⟨2, ![16, 1]⟩
abbrev S512x512 : Shape := ⟨2, ![512, 512]⟩
abbrev S32768x1152 : Shape := ⟨2, ![32768, 1152]⟩
abbrev S8x32768 : Shape := ⟨2, ![8, 32768]⟩
abbrev S32x128 : Shape := ⟨2, ![32, 128]⟩
abbrev S1x512x1024 : Shape := ⟨3, ![1, 512, 1024]⟩
abbrev S1x1x1024 : Shape := ⟨3, ![1, 1, 1024]⟩
abbrev S512x1152 : Shape := ⟨2, ![512, 1152]⟩
abbrev S8x512 : Shape := ⟨2, ![8, 512]⟩
abbrev S32x512 : Shape := ⟨2, ![32, 512]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S32 : Shape := ⟨1, ![32]⟩
abbrev S32x1 : Shape := ⟨2, ![32, 1]⟩
abbrev S128x512 : Shape := ⟨2, ![128, 512]⟩
abbrev S512x128 : Shape := ⟨2, ![512, 128]⟩

abbrev nBuf : Space → Nat
  | .hbm => 18
  | .vmem => 26
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S4x8192x1024, .f32⟩
  | .hbm, ⟨5, _⟩ => ⟨S4x1x1024, .f32⟩
  | .hbm, ⟨6, _⟩ => ⟨S1x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S16x1024, .bf16⟩
  | .hbm, ⟨11, _⟩ => ⟨S16x1, .f32⟩
  | .hbm, ⟨12, _⟩ => ⟨S512x512, .bf16⟩
  | .hbm, ⟨13, _⟩ => ⟨S1024x1024, .bf16⟩
  | .hbm, ⟨14, _⟩ => ⟨S4x8192x1024, .f32⟩
  | .hbm, ⟨15, _⟩ => ⟨S32768x1152, .f32⟩
  | .hbm, ⟨16, _⟩ => ⟨S8x32768, .i32⟩
  | .hbm, ⟨17, _⟩ => ⟨S32x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S16x1024, .bf16⟩
  | .local _ .vmem, ⟨16, _⟩ => ⟨S16x1, .f32⟩
  | .local _ .vmem, ⟨17, _⟩ => ⟨S512x512, .bf16⟩
  | .local _ .vmem, ⟨18, _⟩ => ⟨S1x512x1024, .f32⟩
  | .local _ .vmem, ⟨19, _⟩ => ⟨S1x512x1024, .f32⟩
  | .local _ .vmem, ⟨20, _⟩ => ⟨S512x1152, .f32⟩
  | .local _ .vmem, ⟨21, _⟩ => ⟨S512x1152, .f32⟩
  | .local _ .vmem, ⟨22, _⟩ => ⟨S8x512, .i32⟩
  | .local _ .vmem, ⟨23, _⟩ => ⟨S8x512, .i32⟩
  | .local _ .vmem, ⟨24, _⟩ => ⟨S32x128, .f32⟩
  | .local _ .vmem, ⟨25, _⟩ => ⟨S32x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1152 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== UpdateIdeal.lean ====
abbrev S4x8192x1024 : Shape := ⟨3, ![4, 8192, 1024]⟩
abbrev S1024x1024 : Shape := ⟨2, ![1024, 1024]⟩
abbrev S1x1024 : Shape := ⟨2, ![1, 1024]⟩
abbrev S4x1x1024 : Shape := ⟨3, ![4, 1, 1024]⟩
abbrev S16x1024 : Shape := ⟨2, ![16, 1024]⟩
abbrev S16x1 : Shape := ⟨2, ![16, 1]⟩
abbrev S512x512 : Shape := ⟨2, ![512, 512]⟩
abbrev S32768x1152 : Shape := ⟨2, ![32768, 1152]⟩
abbrev S8x32768 : Shape := ⟨2, ![8, 32768]⟩
abbrev S32x128 : Shape := ⟨2, ![32, 128]⟩
abbrev S1x512x1024 : Shape := ⟨3, ![1, 512, 1024]⟩
abbrev S1x1x1024 : Shape := ⟨3, ![1, 1, 1024]⟩
abbrev S512x1152 : Shape := ⟨2, ![512, 1152]⟩
abbrev S8x512 : Shape := ⟨2, ![8, 512]⟩
abbrev S32x512 : Shape := ⟨2, ![32, 512]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S32 : Shape := ⟨1, ![32]⟩
abbrev S32x1 : Shape := ⟨2, ![32, 1]⟩
abbrev S128x512 : Shape := ⟨2, ![128, 512]⟩
abbrev S512x128 : Shape := ⟨2, ![512, 128]⟩

abbrev nBuf : Space → Nat
  | .hbm => 18
  | .vmem => 26
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S4x8192x1024, .f32⟩
  | .hbm, ⟨5, _⟩ => ⟨S4x1x1024, .f32⟩
  | .hbm, ⟨6, _⟩ => ⟨S1x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S16x1024, .bf16⟩
  | .hbm, ⟨11, _⟩ => ⟨S16x1, .f32⟩
  | .hbm, ⟨12, _⟩ => ⟨S512x512, .bf16⟩
  | .hbm, ⟨13, _⟩ => ⟨S1024x1024, .bf16⟩
  | .hbm, ⟨14, _⟩ => ⟨S4x8192x1024, .f32⟩
  | .hbm, ⟨15, _⟩ => ⟨S32768x1152, .f32⟩
  | .hbm, ⟨16, _⟩ => ⟨S8x32768, .i32⟩
  | .hbm, ⟨17, _⟩ => ⟨S32x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S16x1024, .bf16⟩
  | .local _ .vmem, ⟨16, _⟩ => ⟨S16x1, .f32⟩
  | .local _ .vmem, ⟨17, _⟩ => ⟨S512x512, .bf16⟩
  | .local _ .vmem, ⟨18, _⟩ => ⟨S1x512x1024, .f32⟩
  | .local _ .vmem, ⟨19, _⟩ => ⟨S1x512x1024, .f32⟩
  | .local _ .vmem, ⟨20, _⟩ => ⟨S512x1152, .f32⟩
  | .local _ .vmem, ⟨21, _⟩ => ⟨S512x1152, .f32⟩
  | .local _ .vmem, ⟨22, _⟩ => ⟨S8x512, .i32⟩
  | .local _ .vmem, ⟨23, _⟩ => ⟨S8x512, .i32⟩
  | .local _ .vmem, ⟨24, _⟩ => ⟨S32x128, .f32⟩
  | .local _ .vmem, ⟨25, _⟩ => ⟨S32x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1152 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== UpdateReferenceIdeal.lean ====
abbrev S4x8192x1024 : Shape := ⟨3, ![4, 8192, 1024]⟩
abbrev S1024x1024 : Shape := ⟨2, ![1024, 1024]⟩
abbrev S1x1024 : Shape := ⟨2, ![1, 1024]⟩
abbrev S4x1x1024 : Shape := ⟨3, ![4, 1, 1024]⟩
abbrev S16x1024 : Shape := ⟨2, ![16, 1024]⟩
abbrev S16x1 : Shape := ⟨2, ![16, 1]⟩
abbrev S512x512 : Shape := ⟨2, ![512, 512]⟩
abbrev S1x1x1024 : Shape := ⟨3, ![1, 1, 1024]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S4x8192x1024, .f32⟩
  | .hbm, ⟨5, _⟩ => ⟨S4x1x1024, .f32⟩
  | .hbm, ⟨6, _⟩ => ⟨S1x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S16x1024, .bf16⟩
  | .hbm, ⟨11, _⟩ => ⟨S16x1, .f32⟩
  | .hbm, ⟨12, _⟩ => ⟨S512x512, .bf16⟩
  | .hbm, ⟨13, _⟩ => ⟨S4x8192x1024, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== UpdateWide.lean ====
abbrev S4x8192x1024 : Shape := ⟨3, ![4, 8192, 1024]⟩
abbrev S1024x1024 : Shape := ⟨2, ![1024, 1024]⟩
abbrev S1x1024 : Shape := ⟨2, ![1, 1024]⟩
abbrev S4x1x1024 : Shape := ⟨3, ![4, 1, 1024]⟩
abbrev S16x1024 : Shape := ⟨2, ![16, 1024]⟩
abbrev S16x1 : Shape := ⟨2, ![16, 1]⟩
abbrev S512x512 : Shape := ⟨2, ![512, 512]⟩
abbrev S32768x1152 : Shape := ⟨2, ![32768, 1152]⟩
abbrev S8x32768 : Shape := ⟨2, ![8, 32768]⟩
abbrev S32x128 : Shape := ⟨2, ![32, 128]⟩
abbrev S1x512x1024 : Shape := ⟨3, ![1, 512, 1024]⟩
abbrev S1x1x1024 : Shape := ⟨3, ![1, 1, 1024]⟩
abbrev S512x1152 : Shape := ⟨2, ![512, 1152]⟩
abbrev S8x512 : Shape := ⟨2, ![8, 512]⟩
abbrev S32x512 : Shape := ⟨2, ![32, 512]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S32 : Shape := ⟨1, ![32]⟩
abbrev S32x1 : Shape := ⟨2, ![32, 1]⟩
abbrev S128x512 : Shape := ⟨2, ![128, 512]⟩
abbrev S512x128 : Shape := ⟨2, ![512, 128]⟩

abbrev nBuf : Space → Nat
  | .hbm => 18
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S4x8192x1024, .f32⟩
  | .hbm, ⟨5, _⟩ => ⟨S4x1x1024, .f32⟩
  | .hbm, ⟨6, _⟩ => ⟨S1x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S16x1024, .bf16⟩
  | .hbm, ⟨11, _⟩ => ⟨S16x1, .f32⟩
  | .hbm, ⟨12, _⟩ => ⟨S512x512, .bf16⟩
  | .hbm, ⟨13, _⟩ => ⟨S1024x1024, .bf16⟩
  | .hbm, ⟨14, _⟩ => ⟨S4x8192x1024, .f32⟩
  | .hbm, ⟨15, _⟩ => ⟨S32768x1152, .f32⟩
  | .hbm, ⟨16, _⟩ => ⟨S8x32768, .i32⟩
  | .hbm, ⟨17, _⟩ => ⟨S32x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S16x1024, .bf16⟩
  | .local _ .vmem, ⟨16, _⟩ => ⟨S16x1, .f32⟩
  | .local _ .vmem, ⟨17, _⟩ => ⟨S512x512, .bf16⟩
  | .local _ .vmem, ⟨18, _⟩ => ⟨S1x512x1024, .f32⟩
  | .local _ .vmem, ⟨19, _⟩ => ⟨S1x512x1024, .f32⟩
  | .local _ .vmem, ⟨20, _⟩ => ⟨S512x1152, .f32⟩
  | .local _ .vmem, ⟨21, _⟩ => ⟨S512x1152, .f32⟩
  | .local _ .vmem, ⟨22, _⟩ => ⟨S8x512, .i32⟩
  | .local _ .vmem, ⟨23, _⟩ => ⟨S8x512, .i32⟩
  | .local _ .vmem, ⟨24, _⟩ => ⟨S32x128, .f32⟩
  | .local _ .vmem, ⟨25, _⟩ => ⟨S32x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1152 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== UpdateWideReferenceIdeal.lean ====
abbrev S4x8192x1024 : Shape := ⟨3, ![4, 8192, 1024]⟩
abbrev S1024x1024 : Shape := ⟨2, ![1024, 1024]⟩
abbrev S1x1024 : Shape := ⟨2, ![1, 1024]⟩
abbrev S4x1x1024 : Shape := ⟨3, ![4, 1, 1024]⟩
abbrev S16x1024 : Shape := ⟨2, ![16, 1024]⟩
abbrev S16x1 : Shape := ⟨2, ![16, 1]⟩
abbrev S512x512 : Shape := ⟨2, ![512, 512]⟩
abbrev S1x1x1024 : Shape := ⟨3, ![1, 1, 1024]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S4x8192x1024, .f32⟩
  | .hbm, ⟨5, _⟩ => ⟨S4x1x1024, .f32⟩
  | .hbm, ⟨6, _⟩ => ⟨S1x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S16x1024, .bf16⟩
  | .hbm, ⟨11, _⟩ => ⟨S16x1, .f32⟩
  | .hbm, ⟨12, _⟩ => ⟨S512x512, .bf16⟩
  | .hbm, ⟨13, _⟩ => ⟨S4x8192x1024, .f32⟩
  | .hbm, ⟨14, _⟩ => ⟨S1x1x1024, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Combine.lean ====
abbrev S33280x1024 : Shape := ⟨2, ![33280, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S512x1024 : Shape := ⟨2, ![512, 1024]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S33280x1024, .f32⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineReferenceIdeal.lean ====
abbrev S33280x1024 : Shape := ⟨2, ![33280, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S_ : Shape := ⟨0, ![]⟩
abbrev S32768x1024 : Shape := ⟨2, ![32768, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S32768x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S1x1x1024, .f32⟩
  | .hbm, ⟨40, _⟩ => ⟨S4x8192x1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Modulation.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Context.lean ====
abbrev S4x256x1024 : Shape := ⟨3, ![4, 256, 1024]⟩
abbrev S4x1x1024 : Shape := ⟨3, ![4, 1, 1024]⟩
abbrev S1024x3072 : Shape := ⟨2, ![1024, 3072]⟩
abbrev S4x1024x256 : Shape := ⟨3, ![4, 1024, 256]⟩
abbrev S1x256x1024 : Shape := ⟨3, ![1, 256, 1024]⟩
abbrev S1x1x1024 : Shape := ⟨3, ![1, 1, 1024]⟩
abbrev S1x1024x256 : Shape := ⟨3, ![1, 1024, 256]⟩
abbrev S256x1024 : Shape := ⟨2, ![256, 1024]⟩
abbrev S1x1024 : Shape := ⟨2, ![1, 1024]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 7
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1024x3072, .f32⟩
  | .hbm, ⟨4, _⟩ => ⟨S1024x3072, .bf16⟩
  | .hbm, ⟨5, _⟩ => ⟨S4x1024x256, .bf16⟩
  | .hbm, ⟨6, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x1024, .bf16⟩
  | .local _ .vmem, ⟨10, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ContextReferenceIdeal.lean ====
abbrev S4x256x1024 : Shape := ⟨3, ![4, 256, 1024]⟩
abbrev S4x1x1024 : Shape := ⟨3, ![4, 1, 1024]⟩
abbrev S1024x3072 : Shape := ⟨2, ![1024, 3072]⟩
abbrev S_ : Shape := ⟨0, ![]⟩
abbrev S4x256x3072 : Shape := ⟨3, ![4, 256, 3072]⟩
abbrev S4x256x8x2x64 : Shape := ⟨5, ![4, 256, 8, 2, 64]⟩
abbrev S4x256x8x128 : Shape := ⟨4, ![4, 256, 8, 128]⟩
abbrev S4x1024x256 : Shape := ⟨3, ![4, 1024, 256]⟩

abbrev nBuf : Space → Nat
  | .hbm => 23
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1024x3072, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x3072, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S4x256x8x2x64, .f32⟩
  | .hbm, ⟨16, _⟩ => ⟨S4x256x8x2x64, .f32⟩
  | .hbm, ⟨17, _⟩ => ⟨S4x256x8x128, .f32⟩
  | .hbm, ⟨18, _⟩ => ⟨S4x256x1024, .f32⟩
  | .hbm, ⟨19, _⟩ => ⟨S4x1024x256, .f32⟩
  | .hbm, ⟨20, _⟩ => ⟨S4x1024x256, .bf16⟩
  | .hbm, ⟨21, _⟩ => ⟨S4x256x1024, .f32⟩
  | .hbm, ⟨22, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Pool.lean ====
abbrev S4x8192x1024 : Shape := ⟨3, ![4, 8192, 1024]⟩
abbrev S4x1x1024 : Shape := ⟨3, ![4, 1, 1024]⟩
abbrev S1x512x1024 : Shape := ⟨3, ![1, 512, 1024]⟩
abbrev S1x16x1024 : Shape := ⟨3, ![1, 16, 1024]⟩
abbrev S1x1x1024 : Shape := ⟨3, ![1, 1, 1024]⟩
abbrev S544x1024 : Shape := ⟨2, ![544, 1024]⟩
abbrev S1x1024 : Shape := ⟨2, ![1, 1024]⟩
abbrev S512x1024 : Shape := ⟨2, ![512, 1024]⟩
abbrev S16x1024 : Shape := ⟨2, ![16, 1024]⟩
abbrev S512x256 : Shape := ⟨2, ![512, 256]⟩
abbrev S1x512x256 : Shape := ⟨3, ![1, 512, 256]⟩

abbrev nBuf : Space → Nat
  | .hbm => 4
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S544x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolReferenceIdeal.lean ====
abbrev S4x8192x1024 : Shape := ⟨3, ![4, 8192, 1024]⟩
abbrev S4x1x1024 : Shape := ⟨3, ![4, 1, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8192x256 : Shape := ⟨3, ![4, 8192, 256]⟩
abbrev S4x256x8192 : Shape := ⟨3, ![4, 256, 8192]⟩
abbrev S1x8192x1 : Shape := ⟨3, ![1, 8192, 1]⟩
abbrev S4x8192x1x256 : Shape := ⟨4, ![4, 8192, 1, 256]⟩
abbrev S4x8192x4x256 : Shape := ⟨4, ![4, 8192, 4, 256]⟩

abbrev nBuf : Space → Nat
  | .hbm => 166
  | .vmem => 0
  | .smem => 0
  | _ => 0

abbrev hbmTy0_0 (i : Nat) : BufTy := match i % 128 with
  | 0 => ⟨S4x8192x1024, .f32⟩
  | 1 => ⟨S4x1x1024, .f32⟩
  | 2 => ⟨S4x1x1024, .f32⟩
  | 3 => ⟨S_, .f32⟩
  | 4 => ⟨S4x1x1024, .f32⟩
  | 5 => ⟨S4x1x1024, .f32⟩
  | 6 => ⟨S4x8192x1024, .f32⟩
  | 7 => ⟨S4x8192x1024, .f32⟩
  | 8 => ⟨S4x8192x1024, .f32⟩
  | 9 => ⟨S4x8192x1024, .f32⟩
  | 10 => ⟨S8192, .i32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192x1, .i32⟩
  | 27 => ⟨S1x8192, .i32⟩
  | 28 => ⟨S8192x8192, .i32⟩
  | 29 => ⟨S8192x8192, .i32⟩
  | 30 => ⟨S8192x8192, .i1⟩
  | 31 => ⟨S1x8192, .i32⟩
  | 32 => ⟨S8192x1, .i32⟩
  | 33 => ⟨S8192x8192, .i32⟩
  | 34 => ⟨S8192x8192, .i32⟩
  | 35 => ⟨S8192x8192, .i1⟩
  | 36 => ⟨S8192x8192, .i1⟩
  | 37 => ⟨S8192x8192, .f32⟩
  | 38 => ⟨S4x8192x256, .f32⟩
  | 39 => ⟨S4x256x8192, .f32⟩
  | 40 => ⟨S4x8192x256, .f32⟩
  | 41 => ⟨S8192, .i32⟩
  | 42 => ⟨S8192, .f32⟩
  | 43 => ⟨S8192x1, .f32⟩
  | 44 => ⟨S1x8192x1, .f32⟩
  | 45 => ⟨S4x8192x256, .f32⟩
  | 46 => ⟨S4x8192x256, .f32⟩
  | 47 => ⟨S4x8192x256, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192x1, .i32⟩
  | 64 => ⟨S1x8192, .i32⟩
  | 65 => ⟨S8192x8192, .i32⟩
  | 66 => ⟨S8192x8192, .i32⟩
  | 67 => ⟨S8192x8192, .i1⟩
  | 68 => ⟨S1x8192, .i32⟩
  | 69 => ⟨S8192x1, .i32⟩
  | 70 => ⟨S8192x8192, .i32⟩
  | 71 => ⟨S8192x8192, .i32⟩
  | 72 => ⟨S8192x8192, .i1⟩
  | 73 => ⟨S8192x8192, .i1⟩
  | 74 => ⟨S8192x8192, .f32⟩
  | 75 => ⟨S4x8192x256, .f32⟩
  | 76 => ⟨S4x256x8192, .f32⟩
  | 77 => ⟨S4x8192x256, .f32⟩
  | 78 => ⟨S8192, .i32⟩
  | 79 => ⟨S8192, .f32⟩
  | 80 => ⟨S8192x1, .f32⟩
  | 81 => ⟨S1x8192x1, .f32⟩
  | 82 => ⟨S4x8192x256, .f32⟩
  | 83 => ⟨S4x8192x256, .f32⟩
  | 84 => ⟨S4x8192x256, .f32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S8192x1, .i32⟩
  | 101 => ⟨S1x8192, .i32⟩
  | 102 => ⟨S8192x8192, .i32⟩
  | 103 => ⟨S8192x8192, .i32⟩
  | 104 => ⟨S8192x8192, .i1⟩
  | 105 => ⟨S1x8192, .i32⟩
  | 106 => ⟨S8192x1, .i32⟩
  | 107 => ⟨S8192x8192, .i32⟩
  | 108 => ⟨S8192x8192, .i32⟩
  | 109 => ⟨S8192x8192, .i1⟩
  | 110 => ⟨S8192x8192, .i1⟩
  | 111 => ⟨S8192x8192, .f32⟩
  | 112 => ⟨S4x8192x256, .f32⟩
  | 113 => ⟨S4x256x8192, .f32⟩
  | 114 => ⟨S4x8192x256, .f32⟩
  | 115 => ⟨S8192, .i32⟩
  | 116 => ⟨S8192, .f32⟩
  | 117 => ⟨S8192x1, .f32⟩
  | 118 => ⟨S1x8192x1, .f32⟩
  | 119 => ⟨S4x8192x256, .f32⟩
  | 120 => ⟨S4x8192x256, .f32⟩
  | 121 => ⟨S4x8192x256, .f32⟩
  | 122 => ⟨S_, .i32⟩
  | 123 => ⟨S8192, .i32⟩
  | 124 => ⟨S8192, .i32⟩
  | 125 => ⟨S_, .i32⟩
  | 126 => ⟨S8192, .i32⟩
  | 127 => ⟨S8192, .i32⟩
  | _ => ⟨S4x8192x1024, .f32⟩

abbrev hbmTy0_1 (i : Nat) : BufTy := match i % 128 with
  | 0 => ⟨S_, .i32⟩
  | 1 => ⟨S8192, .i32⟩
  | 2 => ⟨S8192, .i32⟩
  | 3 => ⟨S_, .i32⟩
  | 4 => ⟨S8192, .i32⟩
  | 5 => ⟨S8192, .i32⟩
  | 6 => ⟨S_, .i32⟩
  | 7 => ⟨S8192, .i32⟩
  | 8 => ⟨S8192, .i32⟩
  | 9 => ⟨S8192x1, .i32⟩
  | 10 => ⟨S1x8192, .i32⟩
  | 11 => ⟨S8192x8192, .i32⟩
  | 12 => ⟨S8192x8192, .i32⟩
  | 13 => ⟨S8192x8192, .i1⟩
  | 14 => ⟨S1x8192, .i32⟩
  | 15 => ⟨S8192x1, .i32⟩
  | 16 => ⟨S8192x8192, .i32⟩
  | 17 => ⟨S8192x8192, .i32⟩
  | 18 => ⟨S8192x8192, .i1⟩
  | 19 => ⟨S8192x8192, .i1⟩
  | 20 => ⟨S8192x8192, .f32⟩
  | 21 => ⟨S4x8192x256, .f32⟩
  | 22 => ⟨S4x256x8192, .f32⟩
  | 23 => ⟨S4x8192x256, .f32⟩
  | 24 => ⟨S8192, .i32⟩
  | 25 => ⟨S8192, .f32⟩
  | 26 => ⟨S8192x1, .f32⟩
  | 27 => ⟨S1x8192x1, .f32⟩
  | 28 => ⟨S4x8192x256, .f32⟩
  | 29 => ⟨S4x8192x256, .f32⟩
  | 30 => ⟨S4x8192x256, .f32⟩
  | 31 => ⟨S4x8192x1x256, .f32⟩
  | 32 => ⟨S4x8192x1x256, .f32⟩
  | 33 => ⟨S4x8192x1x256, .f32⟩
  | 34 => ⟨S4x8192x1x256, .f32⟩
  | 35 => ⟨S4x8192x4x256, .f32⟩
  | 36 => ⟨S4x8192x1024, .f32⟩
  | 37 => ⟨S4x8192x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_c_9 : Ref sig .tc := ⟨.hbm, 85, rfl⟩
abbrev main_v71 : Ref sig .tc := ⟨.hbm, 86, rfl⟩
abbrev main_v72 : Ref sig .tc := ⟨.hbm, 87, rfl⟩
abbrev main_c_10 : Ref sig .tc := ⟨.hbm, 88, rfl⟩
abbrev main_v73 : Ref sig .tc := ⟨.hbm, 89, rfl⟩
abbrev main_v74 : Ref sig .tc := ⟨.hbm, 90, rfl⟩
abbrev main_c_11 : Ref sig .tc := ⟨.hbm, 91, rfl⟩
abbrev main_v75 : Ref sig .tc := ⟨.hbm, 92, rfl⟩
abbrev main_v76 : Ref sig .tc := ⟨.hbm, 93, rfl⟩
abbrev main_c_12 : Ref sig .tc := ⟨.hbm, 94, rfl⟩
abbrev main_v77 : Ref sig .tc := ⟨.hbm, 95, rfl⟩
abbrev main_v78 : Ref sig .tc := ⟨.hbm, 96, rfl⟩
abbrev main_c_13 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c_14 : Ref sig .tc := ⟨.hbm, 122, rfl⟩
abbrev main_v103 : Ref sig .tc := ⟨.hbm, 123, rfl⟩
abbrev main_v104 : Ref sig .tc := ⟨.hbm, 124, rfl⟩
abbrev main_c_15 : Ref sig .tc := ⟨.hbm, 125, rfl⟩
abbrev main_v105 : Ref sig .tc := ⟨.hbm, 126, rfl⟩
abbrev main_v106 : Ref sig .tc := ⟨.hbm, 127, rfl⟩
abbrev main_c_16 : Ref sig .tc := ⟨.hbm, 128, rfl⟩
abbrev main_v107 : Ref sig .tc := ⟨.hbm, 129, rfl⟩
abbrev main_v108 : Ref sig .tc := ⟨.hbm, 130, rfl⟩
abbrev main_c_17 : Ref sig .tc := ⟨.hbm, 131, rfl⟩
abbrev main_v109 : Ref sig .tc := ⟨.hbm, 132, rfl⟩
abbrev main_v110 : Ref sig .tc := ⟨.hbm, 133, rfl⟩
abbrev main_c_18 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩

abbrev nD : Nat := 1
abbrev τ : Topo := Topo.v7x

variable {F : FTy → Type} [FloatOps F]
-- ==== Proof.Moe.Ideal.Body.lean ====
module

public import proofs.«01_k».proof.Proof.Gen.ExpertsIdeal.Launch
public import proofs.«01_k».proof.Proof.Gen.ExpertsIdeal.Skeleton
public import Idealize.ShloMosaic.Lib.Tactic
public import Idealize.ShloMosaic.Lib.WordCmp
public import Idealize.ShloMosaic.Lib.WholeRead
public import Idealize.ShloMosaic.Lib.WritesUnit
public import Idealize.ShloMosaic.Lib.Pipeline.Kit
public import Idealize.ShloMosaic.Lib.Pipeline.Frame
public import Idealize.ShloMosaic.Lib.Pipeline.FrameBody

/-! The body of the experts' call at one row block: what it leaves in the output's buffer, and that it does.
    A row block below the number of used blocks gets the two experts' weighted sum; any other gets zeros. -/

@[expose] public section

set_option maxRecDepth 16384

noncomputable section

namespace Moe.Ideal

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the program's assertions speak of. -/
abbrev Res (F : FTy → Type) := MT nD τ sig Unit (Elt F) ℕ (UR sig nD τ) ℕ

/-- The table holding the number of used row blocks. -/
abbrev countRef : Memref sig .tc .smem S1 .i32 := Memref.whole main_arg2

/-- A table as the body holds it: half of its share, read only. -/
abbrev heldTable (c : Dev nD) {S : Shape} (M : Memref sig .tc .smem S .i32)
    (f : Buf (Elt F) (M.view.loc (c : Thread nD τ))) : sProp (Res F) :=
  M.view.loc (c : Thread nD τ) ↦{fullShare.right} f

/-- The number of used row blocks, as a word. -/
def count (c : Dev nD) (n : Buf (Elt F) (countRef.view.loc (c : Thread nD τ))) : BitVec 32 :=
  View.readAt (Elt F) countRef.view (Rect.unit (s := S1) ![0] S1.size inb_S1_S1_0).toLoadRect n
    (Shape.Idx.first (by decide))

/-- The second condition is the first one's negation. -/
theorem conds (i : grid0.Coords) (w : BitVec 32) : k0_cond2 i w = 1#1 ↔ ¬ k0_cond1 i w = 1#1 := by
  unfold k0_cond1 k0_cond2
  simp only [Scalar.cmpi, Scalar.extui, WordCmp.cmpi_slt_eq, WordCmp.cmpi_sge_eq]
  by_cases h : (BitVec.ofNat 32 (i 0).val).toInt < w.toInt
  · rw [decide_eq_true h, decide_eq_false (by omega)]; decide
  · rw [decide_eq_false h, decide_eq_true (by omega)]; decide

/-- The part of a block a load reads. -/
abbrev part {s : Shape} {e : EltTy} (x : Vec F s e) (B : LoadRect s) : B.shape.Idx → Elt F e := fun y => x (B.idx y)

theorem load_part {S : Shape} {e : EltTy} {M : Memref sig .tc .vmem S e} (h : M.IsWhole) (x : Vec F S e) (B : LoadRect S) :
    View.readAt (Elt F) M.view B (h.unread x) = part x B := funext fun y => h.readAt_unread x B y

/-- The row block's inputs, its first 1024 columns. -/
abbrev rows (x : Vec F S256x1152 .f32) := part x (Rect.unit (s := S256x1152) ![0, 0] S256x1024.size inb_S256x1152_S256x1024_0_0).toLoadRect
/-- The row block's two routing weights, in the columns after. -/
abbrev gates (x : Vec F S256x1152 .f32) := part x (Rect.unit (s := S256x1152) ![0, 1024] S256x128.size inb_S256x1152_S256x128_0_1024).toLoadRect
/-- The halves of an expert's three matrices. -/
abbrev left (x : Vec F S1x1024x1024 .bf16) := part x (Rect.unit (s := S1x1024x1024) ![0, 0, 0] S1x1024x512.size inb_S1x1024x1024_S1x1024x512_0_0_0).toLoadRect
abbrev right (x : Vec F S1x1024x1024 .bf16) := part x (Rect.unit (s := S1x1024x1024) ![0, 0, 512] S1x1024x512.size inb_S1x1024x1024_S1x1024x512_0_0_512).toLoadRect
abbrev top (x : Vec F S1x1024x1024 .bf16) := part x (Rect.unit (s := S1x1024x1024) ![0, 0, 0] S1x512x1024.size inb_S1x1024x1024_S1x512x1024_0_0_0).toLoadRect
abbrev bottom (x : Vec F S1x1024x1024 .bf16) := part x (Rect.unit (s := S1x1024x1024) ![0, 512, 0] S1x512x1024.size inb_S1x1024x1024_S1x512x1024_0_512_0).toLoadRect

/-- What a used row block's output holds. -/
def mixed (x0 : Vec F S256x1152 .f32) (x1 x2 x3 x4 x5 x6 : Vec F S1x1024x1024 .bf16) : Vec F S256x1024 .f32 :=
  k0_pay6 (k0_pay2 (rows x0)) (k0_pay3 (gates x0)) (k0_pay4 (gates x0))
    (k0_pay5 (rows x0) (left x1) (left x2) (top x3) (right x1) (right x2) (bottom x3))
    (left x4) (left x5) (top x6) (right x4) (right x5) (bottom x6)

/-- What a row block's output holds. -/
def result (i : grid0.Coords) (w : BitVec 32) (x0 : Vec F S256x1152 .f32) (x1 x2 x3 x4 x5 x6 : Vec F S1x1024x1024 .bf16) : Vec F S256x1024 .f32 :=
  if k0_cond1 i w = 1#1 then mixed x0 x1 x2 x3 x4 x5 x6 else k0_pay1

/-- A buffer written once, whole, reads as what was written. -/
theorem read_once (M : Memref sig .tc .vmem S256x1024 .f32) (f : M.view.ty.Contents (Elt F)) (v : Vec F S256x1024 .f32) :
    View.read (Elt F) M.view (M.view.writes (Elt F) f [⟨Rect.unit (s := S256x1024) ![0, 0] S256x1024.size inb_S256x1024_S256x1024_0_0, v⟩]) = v := by
  funext y
  exact View.read_writes_cons_unit_of_mem M.view f (off' := ![0, 0]) inb_S256x1024_S256x1024_0_0 v [] y y rfl (by
    intro a; fin_cases a <;> exact (Nat.zero_add _).symm)

set_option maxHeartbeats 2000000 in
/-- The body's triple. -/
theorem body_spec (c : Dev nD) (i : grid0.Coords)
    (a1 : Memref sig .tc .smem S152 .i32) (h1 : a1.IsWhole) (a2 : Memref sig .tc .smem S152 .i32) (h2 : a2.IsWhole)
    (a4 : Memref sig .tc .vmem S256x1152 .f32) (h4 : a4.IsWhole)
    (a5 : Memref sig .tc .vmem S1x1024x1024 .bf16) (h5 : a5.IsWhole) (a6 : Memref sig .tc .vmem S1x1024x1024 .bf16) (h6 : a6.IsWhole)
    (a7 : Memref sig .tc .vmem S1x1024x1024 .bf16) (h7 : a7.IsWhole) (a8 : Memref sig .tc .vmem S1x1024x1024 .bf16) (h8 : a8.IsWhole)
    (a9 : Memref sig .tc .vmem S1x1024x1024 .bf16) (h9 : a9.IsWhole) (a10 : Memref sig .tc .vmem S1x1024x1024 .bf16) (h10 : a10.IsWhole)
    (a11 : Memref sig .tc .vmem S256x1024 .f32) (h11 : a11.IsWhole)
    (x0 : Vec F S256x1152 .f32) (x1 x2 x3 x4 x5 x6 : Vec F S1x1024x1024 .bf16)
    (n : Buf (Elt F) (countRef.view.loc (c : Thread nD τ))) (E : Set ℕ) (K : PUnit → sProp (Res F)) :
    iprop(owns (c : Thread nD τ) a4 fullShare x0 ∗ owns (c : Thread nD τ) a5 fullShare x1 ∗ owns (c : Thread nD τ) a6 fullShare x2
        ∗ owns (c : Thread nD τ) a7 fullShare x3 ∗ owns (c : Thread nD τ) a8 fullShare x4 ∗ owns (c : Thread nD τ) a9 fullShare x5
        ∗ owns (c : Thread nD τ) a10 fullShare x6 ∗ (∃ d, owns (c : Thread nD τ) a11 fullShare d) ∗ heldTable c countRef n
        ∗ (iprop(owns (c : Thread nD τ) a4 fullShare x0 ∗ owns (c : Thread nD τ) a5 fullShare x1 ∗ owns (c : Thread nD τ) a6 fullShare x2
            ∗ owns (c : Thread nD τ) a7 fullShare x3 ∗ owns (c : Thread nD τ) a8 fullShare x4 ∗ owns (c : Thread nD τ) a9 fullShare x5
            ∗ owns (c : Thread nD τ) a10 fullShare x6 ∗ owns (c : Thread nD τ) a11 fullShare (result i (count c n) x0 x1 x2 x3 x4 x5 x6)
            ∗ heldTable c countRef n) -∗ K ⟨⟩))
      ⊢ wp frame (wpE (defs₀ (F := F)) Variants.none c none) E
          (cc0_experts i a1 h1 a2 h2 countRef (Memref.isWhole_whole _) a4 h4 a5 h5 a6 h6 a7 h7 a8 h8 a9 h9 a10 h10 a11 h11) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6
  sl_exec
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    swap
    · iexact H7
    ipureintro
    by_cases hc : k0_cond1 i (count c n) = 1#1
    · have hd : ¬ k0_cond2 i (count c n) = 1#1 := fun h => (conds i _).1 h hc
      refine (congrArg (View.read (Elt F) a11.view) ((dif_neg hd).trans (dif_pos hc))).trans ?_
      refine (read_once a11 f7 _).trans ?_
      rw [result, if_pos hc]
      unfold mixed body_spec.sl.r_1 body_spec.sl.r_2 body_spec.sl.r_3 body_spec.sl.r_4
      simp only [load_part]
    · have hd : k0_cond2 i (count c n) = 1#1 := (conds i _).2 hc
      refine (congrArg (View.read (Elt F) a11.view) (dif_pos hd)).trans ?_
      refine (read_once a11 _ _).trans ?_
      rw [result, if_neg hc]
  · iexact HT

end Moe.Ideal

end
-- ==== Proof.Moe.Spec.lean ====
module

public import Idealize.ShloMosaic.Lib.Pointwise

/-! What the experts' call computes, on extended reals: each used row block goes through its two experts, and each row
    adds their outputs by its own two weights; the rows of the other blocks are zero. -/

@[expose] public section

set_option maxRecDepth 16384

noncomputable section

namespace Moe

open Idealize.ShloMosaic

/-- The shapes of the arrays. -/
abbrev SBlocks : Shape := ⟨1, ![152]⟩
abbrev SCount : Shape := ⟨1, ![1]⟩
abbrev SRows : Shape := ⟨2, ![38912, 1152]⟩
abbrev SWeights : Shape := ⟨3, ![16, 1024, 1024]⟩
abbrev SOut : Shape := ⟨2, ![38912, 1024]⟩

/-- A row times a matrix, at a column. -/
def through (x : Fin 1024 → EReal) (w : Fin 1024 → Fin 1024 → EReal) (f : Fin 1024) : EReal := ∑ d, x d * w d f

/-- The gated unit: the gate's sigmoid-weighted value times the other branch. -/
def unit (h u : EReal) : EReal := h * Ideal.logistic h * u

/-- One expert on one row, at an output column. -/
def expert (x : Fin 1024 → EReal) (wg wu wd : Fin 1024 → Fin 1024 → EReal) (c : Fin 1024) : EReal :=
  ∑ f, unit (through x wg f) (through x wu f) * wd f c

/-- The expert a word names. -/
def pick (w : BitVec 32) : Fin 16 := ⟨min w.toNat 15, by omega⟩

theorem pick_val (w : BitVec 32) (h : w.toNat < 16) : (pick w : ℕ) = w.toNat := by
  show min w.toNat 15 = w.toNat
  omega

/-- The matrix of an expert. -/
def matrix (w : SWeights.Idx → EReal) (e : Fin 16) (i j : Fin 1024) : EReal := w (ix3 e i j)

/-- A row of inputs. -/
def rowOf (xs : SRows.Idx → EReal) (r : Fin 38912) (d : Fin 1024) : EReal := xs (ix2 r (⟨d, by omega⟩ : Fin 1152))

/-- A row's output by the two experts. -/
def twoExperts (ea eb : BitVec 32) (xs : SRows.Idx → EReal) (wg wu wd : SWeights.Idx → EReal) (r : Fin 38912) (c : Fin 1024) :
    EReal :=
  xs (ix2 r (1024 : Fin 1152)) * expert (rowOf xs r) (matrix wg (pick ea)) (matrix wu (pick ea)) (matrix wd (pick ea)) c
    + xs (ix2 r (1025 : Fin 1152)) * expert (rowOf xs r) (matrix wg (pick eb)) (matrix wu (pick eb)) (matrix wd (pick eb)) c

/-- A row's block. -/
def blockOf (r : Fin 38912) : Fin 152 := ⟨r / 256, by omega⟩

/-- The result at a row and a column. -/
def entry (ea eb : IVec SBlocks 32) (n : IVec SCount 32) (xs : SRows.Idx → EReal) (wg wu wd : SWeights.Idx → EReal)
    (r : Fin 38912) (c : Fin 1024) : EReal :=
  if (BitVec.ofNat 32 (blockOf r : ℕ)).toInt < (n (ix1 (0 : Fin 1))).toInt then
    twoExperts (ea (ix1 (blockOf r))) (eb (ix1 (blockOf r))) xs wg wu wd r c
  else 0

/-- The result. -/
def spec (ea eb : IVec SBlocks 32) (n : IVec SCount 32) (xs : SRows.Idx → EReal) (wg wu wd : SWeights.Idx → EReal) :
    SOut.Idx → EReal := fun i => entry ea eb n xs wg wu wd (i 0 : Fin 38912) (i 1 : Fin 1024)

end Moe

end
-- ==== Proof.Moe.Ideal.Payload.lean ====
module

public import proofs.«01_k».proof.Proof.Moe.Ideal.Body
public import proofs.«01_k».proof.Proof.Moe.Spec

/-! A used row block's output read at an index, on extended reals. -/

@[expose] public section

set_option maxRecDepth 16384

noncomputable section

namespace Moe.Ideal

open Idealize.ShloMosaic Idealize.ShloMosaic.TcCoe Idealize.SL.Sem
open Cert.ExpertsIdeal Cert.ExpertsIdeal.Gen

/-- A part's coordinate, from where it starts. -/
theorem from_zero (n : ℕ) : 0 + 1 * n = n := by omega
theorem from_off (k n : ℕ) : k + 1 * n = k + n := by omega

/-! The parts of the blocks. -/

theorem rows_apply (x : FVec Ideal S256x1152 .f32) (p : Fin 256) (d : Fin 1024) :
    rows (F := Ideal) x (ix2 p d) = x (ix2 p (⟨d, by omega⟩ : Fin 1152)) :=
  congrArg x (funext fun a => Fin.ext (by
    match a with
    | ⟨0, _⟩ => exact from_zero _
    | ⟨1, _⟩ => exact from_zero _))

theorem gates_apply (x : FVec Ideal S256x1152 .f32) (p : Fin 256) (d : Fin 128) :
    gates (F := Ideal) x (ix2 p d) = x (ix2 p (⟨1024 + d, by omega⟩ : Fin 1152)) :=
  congrArg x (funext fun a => Fin.ext (by
    match a with
    | ⟨0, _⟩ => exact from_zero _
    | ⟨1, _⟩ => exact from_off _ _))

theorem left_apply (x : FVec Ideal S1x1024x1024 .bf16) (d : Fin 1024) (f : Fin 512) :
    left (F := Ideal) x (ix3 (0 : Fin 1) d f) = x (ix3 (0 : Fin 1) d (Fin.castAdd 512 f : Fin (512 + 512))) :=
  congrArg x (funext fun a => Fin.ext (by
    match a with
    | ⟨0, _⟩ => exact from_zero _
    | ⟨1, _⟩ => exact from_zero _
    | ⟨2, _⟩ => exact from_zero _))

theorem right_apply (x : FVec Ideal S1x1024x1024 .bf16) (d : Fin 1024) (f : Fin 512) :
    right (F := Ideal) x (ix3 (0 : Fin 1) d f) = x (ix3 (0 : Fin 1) d (Fin.natAdd 512 f : Fin (512 + 512))) :=
  congrArg x (funext fun a => Fin.ext (by
    match a with
    | ⟨0, _⟩ => exact from_zero _
    | ⟨1, _⟩ => exact from_zero _
    | ⟨2, _⟩ => exact from_off _ _))

theorem top_apply (x : FVec Ideal S1x1024x1024 .bf16) (f : Fin 512) (c : Fin 1024) :
    top (F := Ideal) x (ix3 (0 : Fin 1) f c) = x (ix3 (0 : Fin 1) (Fin.castAdd 512 f : Fin (512 + 512)) c) :=
  congrArg x (funext fun a => Fin.ext (by
    match a with
    | ⟨0, _⟩ => exact from_zero _
    | ⟨1, _⟩ => exact from_zero _
    | ⟨2, _⟩ => exact from_zero _))

theorem bottom_apply (x : FVec Ideal S1x1024x1024 .bf16) (f : Fin 512) (c : Fin 1024) :
    bottom (F := Ideal) x (ix3 (0 : Fin 1) f c) = x (ix3 (0 : Fin 1) (Fin.natAdd 512 f : Fin (512 + 512)) c) :=
  congrArg x (funext fun a => Fin.ext (by
    match a with
    | ⟨0, _⟩ => exact from_zero _
    | ⟨1, _⟩ => exact from_off _ _
    | ⟨2, _⟩ => exact from_zero _))

/-- Half an expert: a row through half of its hidden columns. -/
def half (x : Fin 1024 → EReal) (wg wu : FVec Ideal S1x1024x512 .bf16) (wd : FVec Ideal S1x512x1024 .bf16) (c : Fin 1024) : EReal :=
  ∑ f : Fin 512, Moe.unit (∑ d, x d * wg (ix3 (0 : Fin 1) d f)) (∑ d, x d * wu (ix3 (0 : Fin 1) d f)) * wd (ix3 (0 : Fin 1) f c)

/-- The first expert's two halves. -/
theorem first_apply (x : FVec Ideal S256x1024 .f32) (g u : FVec Ideal S1x1024x512 .bf16) (d : FVec Ideal S1x512x1024 .bf16)
    (g' u' : FVec Ideal S1x1024x512 .bf16) (d' : FVec Ideal S1x512x1024 .bf16) (p : Fin 256) (c : Fin 1024) :
    k0_pay5 (F := Ideal) x g u d g' u' d' (ix2 p c)
      = half (fun k => x (ix2 p k)) g u d c + half (fun k => x (ix2 p k)) g' u' d' c := by
  pointwise [k0_pay5, k0_pay2, half, Moe.unit]

/-- The second expert's two halves, and the sum by the row's weights. -/
theorem second_apply (x : FVec Ideal S256x1024 .bf16) (a b : FVec Ideal S256x1 .f32) (y : FVec Ideal S256x1024 .f32)
    (g u : FVec Ideal S1x1024x512 .bf16) (d : FVec Ideal S1x512x1024 .bf16)
    (g' u' : FVec Ideal S1x1024x512 .bf16) (d' : FVec Ideal S1x512x1024 .bf16) (p : Fin 256) (c : Fin 1024) :
    k0_pay6 (F := Ideal) x a b y g u d g' u' d' (ix2 p c)
      = a (ix2 p (0 : Fin 1)) * y (ix2 p c)
        + b (ix2 p (0 : Fin 1)) * (half (fun k => x (ix2 p k)) g u d c + half (fun k => x (ix2 p k)) g' u' d' c) := by
  pointwise [k0_pay6, half, Moe.unit]

theorem weight_a (x : FVec Ideal S256x128 .f32) (p : Fin 256) :
    k0_pay3 (F := Ideal) x (ix2 p (0 : Fin 1)) = x (ix2 p (0 : Fin 128)) := by
  pointwise [k0_pay3]

theorem weight_b (x : FVec Ideal S256x128 .f32) (p : Fin 256) :
    k0_pay4 (F := Ideal) x (ix2 p (0 : Fin 1)) = x (ix2 p (1 : Fin 128)) := by
  pointwise [k0_pay4]

theorem unused_apply (p : Fin 256) (c : Fin 1024) : k0_pay1 (F := Ideal) (ix2 p c) = 0 := by
  pointwise [k0_pay1]

/-- The matrix of a block, and a row's inputs. -/
def mat (x : FVec Ideal S1x1024x1024 .bf16) (i j : Fin 1024) : EReal := x (ix3 (0 : Fin 1) i j)
def input (x : FVec Ideal S256x1152 .f32) (p : Fin 256) (d : Fin 1024) : EReal := x (ix2 p (⟨d, by omega⟩ : Fin 1152))

theorem through_left (x : Fin 1024 → EReal) (w : FVec Ideal S1x1024x1024 .bf16) (f : Fin 512) :
    ∑ d, x d * left (F := Ideal) w (ix3 (0 : Fin 1) d f) = Moe.through x (mat w) (Fin.castAdd 512 f : Fin (512 + 512)) :=
  Finset.sum_congr rfl fun d _ => congrArg (x d * ·) (left_apply w d f)

theorem through_right (x : Fin 1024 → EReal) (w : FVec Ideal S1x1024x1024 .bf16) (f : Fin 512) :
    ∑ d, x d * right (F := Ideal) w (ix3 (0 : Fin 1) d f) = Moe.through x (mat w) (Fin.natAdd 512 f : Fin (512 + 512)) :=
  Finset.sum_congr rfl fun d _ => congrArg (x d * ·) (right_apply w d f)

/-- An expert's two halves are the expert. -/
theorem halves (x : Fin 1024 → EReal) (g u d : FVec Ideal S1x1024x1024 .bf16) (c : Fin 1024) :
    half x (left (F := Ideal) g) (left (F := Ideal) u) (top (F := Ideal) d) c
      + half x (right (F := Ideal) g) (right (F := Ideal) u) (bottom (F := Ideal) d) c
      = Moe.expert x (mat g) (mat u) (mat d) c := by
  refine Eq.trans ?_ (Fin.sum_univ_add (a := 512) (b := 512) fun f : Fin (512 + 512) =>
    Moe.unit (Moe.through x (mat g) f) (Moe.through x (mat u) f) * mat d f c).symm
  exact congrArg₂ (· + ·)
    (Finset.sum_congr rfl fun f _ => congrArg₂ (· * ·) (congrArg₂ Moe.unit (through_left x g f) (through_left x u f)) (top_apply d f c))
    (Finset.sum_congr rfl fun f _ => congrArg₂ (· * ·) (congrArg₂ Moe.unit (through_right x g f) (through_right x u f))
      (bottom_apply d f c))

/-- A used row block's output. -/
theorem mixed_apply (x0 : FVec Ideal S256x1152 .f32) (x1 x2 x3 x4 x5 x6 : FVec Ideal S1x1024x1024 .bf16) (p : Fin 256) (c : Fin 1024) :
    mixed (F := Ideal) x0 x1 x2 x3 x4 x5 x6 (ix2 p c)
      = x0 (ix2 p (1024 : Fin 1152)) * Moe.expert (input x0 p) (mat x1) (mat x2) (mat x3) c
        + x0 (ix2 p (1025 : Fin 1152)) * Moe.expert (input x0 p) (mat x4) (mat x5) (mat x6) c := by
  unfold mixed
  rw [second_apply, first_apply, weight_a, weight_b, gates_apply, gates_apply]
  have hx : (fun k : Fin 1024 => rows (F := Ideal) x0 (ix2 p k)) = input x0 p := funext fun k => rows_apply x0 p k
  have hy : (fun k : Fin 1024 => k0_pay2 (F := Ideal) (rows (F := Ideal) x0) (ix2 p k)) = input x0 p := hx
  rw [hx, hy, halves, halves]
  rfl

end Moe.Ideal

end
-- ==== Proof.Moe.Ideal.Launch.lean ====
module

public import proofs.«01_k».proof.Proof.Moe.Ideal.Body
public import Idealize.ShloMosaic.Lib.Claim

/-! The experts' call launched: the tables read off the memory, the pipeline's data, the run, the frame. -/

@[expose] public section

set_option maxRecDepth 16384

noncomputable section

namespace Moe.Ideal

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] (m : (ℓ : Loc nD τ sig) → Buf (Elt F) ℓ) (g : Dev nD → PrngReg)

/-- Core `c`'s buffers at the launch. -/
abbrev start (c : Dev nD) (b : Ref sig .tc) : Buf (Elt F) ((c : Thread nD τ).loc b) := m ((c : Thread nD τ).loc b)

/-- The three tables at the launch (there is one device). -/
def tables : pre0.Contents (Elt F) := fun j => start m 0 (pre0.ref j)

theorem start_tables (c : Dev nD) (j : Fin 3) : start m c (pre0.ref j) = tables m j := by
  obtain rfl : c = 0 := Subsingleton.elim _ _
  rfl

/-- Every block a table names lies inside its array. -/
abbrev InRange : Prop := ok0 (F := F) (tables m)

variable {m} (hO : InRange m)

abbrev contents : (pcfg0 (F := F)).Adm := ⟨tables m, hO⟩

/-- The pipeline at these tables. -/
abbrev pipe : Pipeline.Cfg sig Λ₀ := cfg0 (contents hO)

/-- Window `w`'s block at point `t`, as launched. -/
def blockAt (c : Dev nD) (w : Fin (pipe hO).W) (t : Fin (pipe hO).N) :
    (((pipe hO).win w).xblock ((pipe hO).grid.coords t)).Idx → Elt F ((pipe hO).win w).elt :=
  (((pipe hO).win w).blk t).view.read (Elt F) (start m c (Pipeline.arrRef spec0 w))

/-- What point `t` leaves in the output's buffer. -/
def written (c : Dev nD) (t : Fin (pipe hO).N) : Vec F S256x1024 .f32 :=
  result (grid0.coords t) (count c (tables m 2)) (blockAt hO c 0 t) (blockAt hO c 1 t) (blockAt hO c 2 t) (blockAt hO c 3 t)
    (blockAt hO c 4 t) (blockAt hO c 5 t) (blockAt hO c 6 t)

/-- The pipeline's data: inputs keep their blocks, the output's buffer gets `written`. -/
def data (_ : Fin 1) (c : Dev nD) : Dat τ (Elt F) Unit ℕ (UR sig nD τ) ℕ (pipe hO) c where
  A w := start m c (Pipeline.arrRef spec0 w)
  after w t := match w with
    | ⟨0, _⟩ => blockAt hO c 0 t
    | ⟨1, _⟩ => blockAt hO c 1 t
    | ⟨2, _⟩ => blockAt hO c 2 t
    | ⟨3, _⟩ => blockAt hO c 3 t
    | ⟨4, _⟩ => blockAt hO c 4 t
    | ⟨5, _⟩ => blockAt hO c 5 t
    | ⟨6, _⟩ => blockAt hO c 6 t
    | ⟨7, _⟩ => written hO c t
  Φ _ := iprop(Pipeline.ΦA spec0 c ∗ Pipeline.ΦT pre0 (tables m) c)
  q w := Pipeline.shareOf spec0 w
  owed _ := 0

theorem data_A (c : Dev nD) (w : Fin (pipe hO).W) : (data hO 0 c).A w = start m c (Pipeline.arrRef spec0 w) := by dsimp only [data]

theorem left0 (c : Dev nD) (t : Fin (pipe hO).N) : (data hO 0 c).after 0 t = blockAt hO c 0 t := by dsimp only [data]; try rfl
theorem left1 (c : Dev nD) (t : Fin (pipe hO).N) : (data hO 0 c).after 1 t = blockAt hO c 1 t := by dsimp only [data]; try rfl
theorem left2 (c : Dev nD) (t : Fin (pipe hO).N) : (data hO 0 c).after 2 t = blockAt hO c 2 t := by dsimp only [data]; try rfl
theorem left3 (c : Dev nD) (t : Fin (pipe hO).N) : (data hO 0 c).after 3 t = blockAt hO c 3 t := by dsimp only [data]; try rfl
theorem left4 (c : Dev nD) (t : Fin (pipe hO).N) : (data hO 0 c).after 4 t = blockAt hO c 4 t := by dsimp only [data]; try rfl
theorem left5 (c : Dev nD) (t : Fin (pipe hO).N) : (data hO 0 c).after 5 t = blockAt hO c 5 t := by dsimp only [data]; try rfl
theorem left6 (c : Dev nD) (t : Fin (pipe hO).N) : (data hO 0 c).after 6 t = blockAt hO c 6 t := by dsimp only [data]; try rfl
theorem left7 (c : Dev nD) (t : Fin (pipe hO).N) : (data hO 0 c).after 7 t = written hO c t := by dsimp only [data]; try rfl

/-! An input's buffer holds its block when the body starts. -/

theorem held0 (c : Dev nD) (t : Fin (pipe hO).N) (d) : (data hO 0 c).before 0 t d = blockAt hO c 0 t :=
  (Dat.before_in_eq_fetched _ 0 rfl (fun _ => rfl) (fun _ _ _ => rfl) (fun t => by rw [left0]; unfold Dat.blockOf blockAt; rw [data_A]; try rfl) t d).trans
    (by unfold Dat.fetched Dat.blockOf blockAt; rw [data_A]; try rfl)
theorem held1 (c : Dev nD) (t : Fin (pipe hO).N) (d) : (data hO 0 c).before 1 t d = blockAt hO c 1 t :=
  (Dat.before_in_eq_fetched _ 1 rfl (fun _ => rfl) (fun _ _ _ => rfl) (fun t => by rw [left1]; unfold Dat.blockOf blockAt; rw [data_A]; try rfl) t d).trans
    (by unfold Dat.fetched Dat.blockOf blockAt; rw [data_A]; try rfl)
theorem held2 (c : Dev nD) (t : Fin (pipe hO).N) (d) : (data hO 0 c).before 2 t d = blockAt hO c 2 t :=
  (Dat.before_in_eq_fetched _ 2 rfl (fun _ => rfl) (fun _ _ _ => rfl) (fun t => by rw [left2]; unfold Dat.blockOf blockAt; rw [data_A]; try rfl) t d).trans
    (by unfold Dat.fetched Dat.blockOf blockAt; rw [data_A]; try rfl)
theorem held3 (c : Dev nD) (t : Fin (pipe hO).N) (d) : (data hO 0 c).before 3 t d = blockAt hO c 3 t :=
  (Dat.before_in_eq_fetched _ 3 rfl (fun _ => rfl) (fun _ _ _ => rfl) (fun t => by rw [left3]; unfold Dat.blockOf blockAt; rw [data_A]; try rfl) t d).trans
    (by unfold Dat.fetched Dat.blockOf blockAt; rw [data_A]; try rfl)
theorem held4 (c : Dev nD) (t : Fin (pipe hO).N) (d) : (data hO 0 c).before 4 t d = blockAt hO c 4 t :=
  (Dat.before_in_eq_fetched _ 4 rfl (fun _ => rfl) (fun _ _ _ => rfl) (fun t => by rw [left4]; unfold Dat.blockOf blockAt; rw [data_A]; try rfl) t d).trans
    (by unfold Dat.fetched Dat.blockOf blockAt; rw [data_A]; try rfl)
theorem held5 (c : Dev nD) (t : Fin (pipe hO).N) (d) : (data hO 0 c).before 5 t d = blockAt hO c 5 t :=
  (Dat.before_in_eq_fetched _ 5 rfl (fun _ => rfl) (fun _ _ _ => rfl) (fun t => by rw [left5]; unfold Dat.blockOf blockAt; rw [data_A]; try rfl) t d).trans
    (by unfold Dat.fetched Dat.blockOf blockAt; rw [data_A]; try rfl)
theorem held6 (c : Dev nD) (t : Fin (pipe hO).N) (d) : (data hO 0 c).before 6 t d = blockAt hO c 6 t :=
  (Dat.before_in_eq_fetched _ 6 rfl (fun _ => rfl) (fun _ _ _ => rfl) (fun t => by rw [left6]; unfold Dat.blockOf blockAt; rw [data_A]; try rfl) t d).trans
    (by unfold Dat.fetched Dat.blockOf blockAt; rw [data_A]; try rfl)

/-! The body at a point. -/

/-- The three tables' halves, one by one. -/
theorem tables_held (c : Dev nD) : (Pipeline.ΦT pre0 (tables m) c : sProp (Res F))
    = iprop(heldTable c (Memref.whole main_arg0 : Memref sig .tc .smem S152 .i32) (tables m 0)
        ∗ heldTable c (Memref.whole main_arg1 : Memref sig .tc .smem S152 .i32) (tables m 1) ∗ heldTable c countRef (tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

abbrev stage0 (t : Fin (pipe hO).N) : Memref sig .tc .vmem S256x1152 .f32 := spec0_0.stage ((pipe hO).slots t 0)
abbrev stage1 (t : Fin (pipe hO).N) : Memref sig .tc .vmem S1x1024x1024 .bf16 := spec0_1.stage ((pipe hO).slots t 1)
abbrev stage2 (t : Fin (pipe hO).N) : Memref sig .tc .vmem S1x1024x1024 .bf16 := spec0_2.stage ((pipe hO).slots t 2)
abbrev stage3 (t : Fin (pipe hO).N) : Memref sig .tc .vmem S1x1024x1024 .bf16 := spec0_3.stage ((pipe hO).slots t 3)
abbrev stage4 (t : Fin (pipe hO).N) : Memref sig .tc .vmem S1x1024x1024 .bf16 := spec0_4.stage ((pipe hO).slots t 4)
abbrev stage5 (t : Fin (pipe hO).N) : Memref sig .tc .vmem S1x1024x1024 .bf16 := spec0_5.stage ((pipe hO).slots t 5)
abbrev stage6 (t : Fin (pipe hO).N) : Memref sig .tc .vmem S1x1024x1024 .bf16 := spec0_6.stage ((pipe hO).slots t 6)
abbrev stage7 (t : Fin (pipe hO).N) : Memref sig .tc .vmem S256x1024 .f32 := spec0_7.stage ((pipe hO).slots t 7)

/-- The call of the body at point `t`. -/
abbrev callAt (t : Fin (pipe hO).N) : Prog (TpuEff nD τ sig (Elt F) Λ₀ .tc) PUnit :=
  cc0_experts (grid0.coords t) (Memref.whole main_arg0) (Memref.isWhole_whole _) (Memref.whole main_arg1) (Memref.isWhole_whole _)
    countRef (Memref.isWhole_whole _)
    (stage0 hO t) (hstage0_0 (((pipe hO).slots t 0).cast nbuf0_0)) (stage1 hO t) (hstage0_1 (((pipe hO).slots t 1).cast nbuf0_1))
    (stage2 hO t) (hstage0_2 (((pipe hO).slots t 2).cast nbuf0_2)) (stage3 hO t) (hstage0_3 (((pipe hO).slots t 3).cast nbuf0_3))
    (stage4 hO t) (hstage0_4 (((pipe hO).slots t 4).cast nbuf0_4)) (stage5 hO t) (hstage0_5 (((pipe hO).slots t 5).cast nbuf0_5))
    (stage6 hO t) (hstage0_6 (((pipe hO).slots t 6).cast nbuf0_6)) (stage7 hO t) (hstage0_7 (((pipe hO).slots t 7).cast nbuf0_7))

/-- What the body starts from, and what it leaves. -/
def entry (c : Dev nD) (t : Fin (pipe hO).N) : sProp (Res F) :=
  iprop((data hO 0 c).Φ t.castSucc ∗ (data hO 0 c).owesAt () t.castSucc
    ∗ (∃ d, owns (c : Thread nD τ) (stage0 hO t) fullShare ((data hO 0 c).before 0 t d))
    ∗ (∃ d, owns (c : Thread nD τ) (stage1 hO t) fullShare ((data hO 0 c).before 1 t d))
    ∗ (∃ d, owns (c : Thread nD τ) (stage2 hO t) fullShare ((data hO 0 c).before 2 t d))
    ∗ (∃ d, owns (c : Thread nD τ) (stage3 hO t) fullShare ((data hO 0 c).before 3 t d))
    ∗ (∃ d, owns (c : Thread nD τ) (stage4 hO t) fullShare ((data hO 0 c).before 4 t d))
    ∗ (∃ d, owns (c : Thread nD τ) (stage5 hO t) fullShare ((data hO 0 c).before 5 t d))
    ∗ (∃ d, owns (c : Thread nD τ) (stage6 hO t) fullShare ((data hO 0 c).before 6 t d))
    ∗ (∃ d, owns (c : Thread nD τ) (stage7 hO t) fullShare ((data hO 0 c).before 7 t d)))
def exit (c : Dev nD) (t : Fin (pipe hO).N) : sProp (Res F) :=
  iprop((data hO 0 c).Φ t.succ ∗ (data hO 0 c).owesAt () t.succ
    ∗ owns (c : Thread nD τ) (stage0 hO t) fullShare ((data hO 0 c).after 0 t)
    ∗ owns (c : Thread nD τ) (stage1 hO t) fullShare ((data hO 0 c).after 1 t)
    ∗ owns (c : Thread nD τ) (stage2 hO t) fullShare ((data hO 0 c).after 2 t)
    ∗ owns (c : Thread nD τ) (stage3 hO t) fullShare ((data hO 0 c).after 3 t)
    ∗ owns (c : Thread nD τ) (stage4 hO t) fullShare ((data hO 0 c).after 4 t)
    ∗ owns (c : Thread nD τ) (stage5 hO t) fullShare ((data hO 0 c).after 5 t)
    ∗ owns (c : Thread nD τ) (stage6 hO t) fullShare ((data hO 0 c).after 6 t)
    ∗ owns (c : Thread nD τ) (stage7 hO t) fullShare ((data hO 0 c).after 7 t))

set_option maxHeartbeats 1000000 in
theorem point (c : Dev nD) (t : Fin (pipe hO).N) :
    entry hO c t ⊢ wp frame (wpE (defs₀ (F := F)) Variants.none c none) Set.univ (callAt hO t) (fun _ => exit hO c t) := by
  unfold entry exit callAt
  simp only [held0, held1, held2, held3, held4, held5, held6]
  rw [show (data hO 0 c).Φ t.succ = (data hO 0 c).Φ t.castSucc from rfl,
    show (data hO 0 c).owesAt () t.succ = (data hO 0 c).owesAt () t.castSucc from rfl,
    left0, left1, left2, left3, left4, left5, left6, left7,
    show (data hO 0 c).Φ t.castSucc = iprop(Pipeline.ΦA spec0 c ∗ Pipeline.ΦT pre0 (tables m) c) from rfl, tables_held]
  unfold written
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_spec c (grid0.coords t) _ _ _ _ _ _ _ _ _ _ _ _ _ _ _ _ _ _ _ _ (blockAt hO c 0 t) (blockAt hO c 1 t)
    (blockAt hO c 2 t) (blockAt hO c 3 t) (blockAt hO c 4 t) (blockAt hO c 5 t) (blockAt hO c 6 t) (tables m 2) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _
    iexact H7
  isplitl [HT2]
  · iexact HT2
  iintro ⟨H0, H1, H2, H3, H4, H5, H6, H7, HT2⟩
  isplitl [HΦ HT0 HT1 HT2]
  · isplitl [HΦ]
    · iexact HΦ
    isplitl [HT0]
    · iexact HT0
    isplitl [HT1]
    · iexact HT1
    iexact HT2
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

theorem call_row (t : Fin (pipe hO).N) :
    defs₀ (F := F) .tc (pipe hO).body ((pipe hO).bodyArgs t ((pipe hO).slots t)) = callAt hO t := by
  unfold defs₀
  rw [Defs.onTc_tc]

/-- Every point stores the output: one of the two conditions holds. -/
theorem stores (t : Fin (pipe hO).N) : (pipe hO).idle 7 ((pipe hO).grid.coords t) = false := by
  show idle0 (tables m) 7 (grid0.coords t) = false
  have h := conds (grid0.coords t) ((tables m).atD 2 ![0])
  show (!(k0_cond1 (grid0.coords t) ((tables m).atD 2 ![0]) == 1#1) && !(k0_cond2 (grid0.coords t) ((tables m).atD 2 ![0]) == 1#1)) = false
  by_cases hc : k0_cond1 (grid0.coords t) ((tables m).atD 2 ![0]) = 1#1
  · rw [hc]; rfl
  · rw [h.2 hc]
    exact Bool.and_false _

theorem obligation (c : Dev nD) : BodyObligation (data hO 0 c) (defs₀ (F := F)) Variants.none () Set.univ := fun t => by
  rw [bigSep_W0, bigSep_W0, call_row hO]
  refine triple_restated (point hO c t) rfl .rfl fun _ => ?_
  have e : idle0 (tables m) 7 (((pcfg0 (F := F)).gridAt (tables m)).coords t) = false := stores hO t
  simp only []
  rw [e]
  exact .rfl

/-! The run. -/

variable (m) in
theorem main_region (𝒱₀ : Variants) :
    Pipeline.HMainP (Ix := Unit) (Name := ℕ) (U := UR sig nD τ) (Lvl := ℕ) pcfgs 0 defs₀ 𝒱₀ m (main (F := F)) (start m) :=
  Pipeline.hmainP_region pcfgs 0 defs₀ 𝒱₀ m main fun c => (main_chain c).trans rfl

set_option backward.isDefEq.respectTransparency.types false in
/-- Every run ends, with the pipeline's arrays at what its data say, everything else as launched, and the counters at zero. -/
theorem runs : θ_run defs (onTc (τ := τ) (main (F := F))) (s₀ m g)
    (fun r => (Pipeline.FramePost (Pipeline.pin pcfgs fun _ => contents hO) (data hO) 0 (start m)) r ∧ r.2.sem = fun _ => 0) :=
  Pipeline.θ_run_frameP_shared (Q' := _) pcfgs (fun _ => contents hO) (data hO) (0 : Fin 1) launch₀0 defs₀ Variants.none m g main
    (hbody := fun c => (obligation hO c).loose) (hq := fun _ _ _ => rfl) (howed := fun _ _ => rfl) (V := start m)
    (hmain := main_region m Variants.none) (hA := data_A hO) (hpf := start_tables m) (hΦ := fun _ _ => rfl)

/-- The run: the result array is what the pipeline wrote, the arguments are unchanged, the counters are zero. -/
theorem run_all : θ_run defs (onTc (τ := τ) (main (F := F))) ⟨m, fun _ => 0, g⟩ (fun r =>
    (∀ c : Dev nD, r.2.mem ((c.tc : Thread nD τ).loc main_v0) = (data hO 0 c).arrAt 7 (pipe hO).N)
    ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun _ h =>
    ⟨fun c => (h.1 c).1 7,
     fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((data hO 0 c).arrAt_in 0 rfl _).trans (data_A hO c 0)),
      ((h.1 c).1 4).trans (((data hO 0 c).arrAt_in 4 rfl _).trans (data_A hO c 4)),
      ((h.1 c).1 5).trans (((data hO 0 c).arrAt_in 5 rfl _).trans (data_A hO c 5)),
      ((h.1 c).1 6).trans (((data hO 0 c).arrAt_in 6 rfl _).trans (data_A hO c 6))⟩, h.2⟩) (runs g hO)

end Moe.Ideal

end
-- ==== Proof.Moe.Ideal.Tables.lean ====
module

public import proofs.«01_k».proof.Proof.Moe.Ideal.Launch
public import Idealize.ShloMosaic.Lib.WordArith

/-! The blocks the tables name lie inside the arrays, once the tables are in range. -/

@[expose] public section

set_option maxRecDepth 16384

noncomputable section

namespace Moe.Ideal

open Cert.ExpertsIdeal Cert.ExpertsIdeal.Gen
open Idealize.ShloMosaic Idealize.ShloMosaic.TcCoe Idealize.SL.Sem

variable {F : FTy → Type} [FloatOps F] (m : (ℓ : Loc nD τ sig) → Buf (Elt F) ℓ)

/-- The tables, as arrays of words. -/
abbrev tableA : IVec S152 32 := m (((0 : Dev nD) : Thread nD τ).loc main_arg0)
abbrev tableB : IVec S152 32 := m (((0 : Dev nD) : Thread nD τ).loc main_arg1)
abbrev tableN : IVec S1 32 := m (((0 : Dev nD) : Thread nD τ).loc main_arg2)

/-- An expert's block is inside its array and moves whole words. -/
theorem expert_block (f : Fin 3 → Nat) (k : Nat) (hk : k < 16) (hf : f = ![k, 0, 0]) :
    ∃ h : (∀ a, (f a + 1) * S1x1024x1024.size a ≤ S16x1024x1024.size a),
      EltTy.bits .bf16 = 32 ∨ (Rect.block (s := S16x1024x1024) S1x1024x1024.size f h).WholeWords (EltTy.packing .bf16) := by
  subst hf
  refine ⟨fun a => ?_, Or.inr (Or.inr ⟨by decide, rfl, rfl, rfl⟩)⟩
  fin_cases a
  · show (k + 1) * 1 ≤ 16
    omega
  · show (0 + 1) * 1024 ≤ 1024
    omega
  · show (0 + 1) * 1024 ≤ 1024
    omega

/-- The smaller of the row block's number and the last used one, as a natural. -/
theorem clamp_le (b : Nat) (hb : b < 152) (n : BitVec 32) (hn : 1 ≤ n.toInt) :
    (Scalar.minsi (BitVec.ofNat 32 b) (Scalar.subi n 1#32)).toNat = min b (n.toNat - 1) := by
  have hn' : n.toNat < 2 ^ 31 := (WordCmp.toInt_nonneg_iff_lt_half n).1 (by omega)
  have hi : n.toInt = n.toNat := WordCmp.toInt_eq_toNat_of_lt_half hn'
  have hs : (Scalar.subi n 1#32).toNat = n.toNat - 1 := by
    show (n - 1#32).toNat = _
    rw [BitVec.toNat_sub]
    show (2 ^ 32 - 1 + n.toNat) % 2 ^ 32 = _
    omega
  have hb' : (BitVec.ofNat 32 b).toNat = b := WordCmp.toNat_ofNat_of_lt (by omega)
  refine (WordArith.toNat_minsi_of_lt _ _ (by omega) (by omega)).trans ?_
  rw [hs, hb']

theorem clamp_inside (b : Nat) (hb : b < 152) (n : BitVec 32) (hn : 1 ≤ n.toInt) :
    ((Scalar.minsi (BitVec.ofNat 32 b) (Scalar.subi n 1#32)).toNat + 1) * 256 ≤ 38912 := by
  rw [clamp_le b hb n hn]
  omega

theorem inRange_of (h0 : ∀ i, (tableA m i).toNat < 16) (h1 : ∀ i, (tableB m i).toNat < 16) (hn : ∀ i, 1 ≤ (tableN m i).toInt) :
    InRange m := by
  refine ⟨fun i => ⟨fun a => ?_, Or.inl rfl⟩, fun i => expert_block _ _ (h0 _) rfl, fun i => expert_block _ _ (h0 _) rfl,
    fun i => expert_block _ _ (h0 _) rfl, fun i => expert_block _ _ (h1 _) rfl, fun i => expert_block _ _ (h1 _) rfl,
    fun i => expert_block _ _ (h1 _) rfl⟩
  have hi : (i 0).val < 152 := (i 0).isLt
  fin_cases a
  · exact clamp_inside _ hi _ (hn _)
  · show (0 + 1) * 1152 ≤ 1152
    omega

end Moe.Ideal

end
-- ==== Proof.Moe.Ideal.Array.lean ====
module

public import proofs.«01_k».proof.Proof.Moe.Ideal.Payload
public import proofs.«01_k».proof.Proof.Moe.Ideal.Tables
public import Idealize.ShloMosaic.Lib.Pipeline.ValueKit
public import Idealize.ShloMosaic.Lib.Pipeline.Value

/-! The experts' result array, from the row blocks the grid points write. -/

@[expose] public section

set_option maxRecDepth 16384

noncomputable section

namespace Moe.Ideal

open Idealize.ShloMosaic Idealize.ShloMosaic.TcCoe Idealize.SL.Sem
open Cert.ExpertsIdeal Cert.ExpertsIdeal.Gen

theorem coord_val : ∀ t : Fin grid0.N, (grid0.coords t 0).val = t.val := by decide +kernel

variable {m : (ℓ : Loc nD τ sig) → Buf (Elt Ideal) ℓ} (hO : InRange m) (c : Dev nD) (t : Fin (pipe hO).N)

/-- The row block of a grid point. -/
def blk : Fin 152 := ⟨t.val, t.isLt⟩

theorem word_of_blk : (BitVec.ofNat 32 (grid0.coords t 0).val).toNat = t.val := by
  rw [coord_val]
  have : t.val < 152 := t.isLt
  exact WordCmp.toNat_ofNat_of_lt (by omega)

/-! The blocks' indices. -/

theorem index_a : cc0_transform_1 (F := Ideal) k0_off1_inb numel1_S1 (tables m) (grid0.coords t) = ![(tableA m (ix1 (blk hO t))).toNat, 0, 0] := by
  refine congrArg (fun w : BitVec 32 => (![w.toNat, 0, 0] : Fin 3 → ℕ)) (congrArg (tableA m) (funext fun a => Fin.ext ?_))
  match a with
  | ⟨0, _⟩ =>
    show (BitVec.ofNat 32 (grid0.coords t 0).val).toNat + 1 * 0 = t.val
    rw [word_of_blk hO t]
    rfl

theorem index_b : cc0_transform_4 (F := Ideal) k0_off1_inb numel1_S1 (tables m) (grid0.coords t) = ![(tableB m (ix1 (blk hO t))).toNat, 0, 0] := by
  refine congrArg (fun w : BitVec 32 => (![w.toNat, 0, 0] : Fin 3 → ℕ)) (congrArg (tableB m) (funext fun a => Fin.ext ?_))
  match a with
  | ⟨0, _⟩ =>
    show (BitVec.ofNat 32 (grid0.coords t 0).val).toNat + 1 * 0 = t.val
    rw [word_of_blk hO t]
    rfl

theorem word_n (i : S1.Idx) : tableN m i = tableN m (ix1 (0 : Fin 1)) := congrArg (tableN m) (funext fun a => by
  match a with
  | ⟨0, _⟩ => exact Subsingleton.elim (α := Fin 1) _ _)

theorem index_rows (hn : ∀ i, 1 ≤ (tableN m i).toInt) :
    cc0_transform_0 (F := Ideal) inb_S1_S1_0 numel1_S1 (tables m) (grid0.coords t) = ![min t.val ((tableN m (ix1 (0 : Fin 1))).toNat - 1), 0] := by
  refine congrArg (fun w : ℕ => (![w, 0] : Fin 2 → ℕ)) ?_
  have hb : (grid0.coords t 0).val < 152 := (grid0.coords t 0).isLt
  refine (clamp_le _ hb _ (hn _)).trans ?_
  rw [coord_val]
  exact congrArg (fun w : BitVec 32 => min t.val (w.toNat - 1)) (word_n _)

theorem index_out : cc0_transform_7 (grid0.coords t) = ![t.val, 0] :=
  congrArg (fun w : ℕ => (![w, 0] : Fin 2 → ℕ)) (word_of_blk hO t)

/-! The blocks at coordinates. -/

/-- A matrix block's entry, where the index of its block is known. -/
theorem emb_matrix (f : Fin 3 → ℕ) (k : Fin 16) (hf : f = ![(k : ℕ), 0, 0]) (i j : Fin 1024) (z : S16x1024x1024.Idx)
    (h : ∀ a : Fin 3, (z a : ℕ) = f a * S1x1024x1024.size a + 1 * ((ix3 (0 : Fin 1) i j : S1x1024x1024.Idx) a : ℕ)) :
    z = ix3 k i j := by
  subst hf
  funext a
  refine Fin.ext ((h a).trans ?_)
  match a with
  | ⟨0, _⟩ =>
    show (k : ℕ) * 1 + 1 * 0 = k
    omega
  | ⟨1, _⟩ =>
    show 0 * 1024 + 1 * (i : ℕ) = i
    omega
  | ⟨2, _⟩ =>
    show 0 * 1024 + 1 * (j : ℕ) = j
    omega

theorem pick_index (e : IVec S152 32) (b : Fin 152) (he : ∀ i, (e i).toNat < 16) :
    (![(e (ix1 b)).toNat, 0, 0] : Fin 3 → ℕ) = ![(Moe.pick (e (ix1 b)) : ℕ), 0, 0] := by
  rw [Moe.pick_val _ (he _)]

theorem block1 (ha : ∀ i, (tableA m i).toNat < 16) : mat (blockAt hO c 1 t)
    = Moe.matrix (m ((c : Thread nD τ).loc main_arg4)) (Moe.pick (tableA m (ix1 (blk hO t)))) :=
  funext fun i => funext fun j => congrArg (m ((c : Thread nD τ).loc main_arg4))
    (emb_matrix _ _ ((index_a hO t).trans (pick_index _ _ ha)) i j _ fun _ => rfl)

theorem block2 (ha : ∀ i, (tableA m i).toNat < 16) : mat (blockAt hO c 2 t)
    = Moe.matrix (m ((c : Thread nD τ).loc main_arg5)) (Moe.pick (tableA m (ix1 (blk hO t)))) :=
  funext fun i => funext fun j => congrArg (m ((c : Thread nD τ).loc main_arg5))
    (emb_matrix _ _ ((index_a hO t).trans (pick_index _ _ ha)) i j _ fun _ => rfl)

theorem block3 (ha : ∀ i, (tableA m i).toNat < 16) : mat (blockAt hO c 3 t)
    = Moe.matrix (m ((c : Thread nD τ).loc main_arg6)) (Moe.pick (tableA m (ix1 (blk hO t)))) :=
  funext fun i => funext fun j => congrArg (m ((c : Thread nD τ).loc main_arg6))
    (emb_matrix _ _ ((index_a hO t).trans (pick_index _ _ ha)) i j _ fun _ => rfl)

theorem block4 (hb : ∀ i, (tableB m i).toNat < 16) : mat (blockAt hO c 4 t)
    = Moe.matrix (m ((c : Thread nD τ).loc main_arg4)) (Moe.pick (tableB m (ix1 (blk hO t)))) :=
  funext fun i => funext fun j => congrArg (m ((c : Thread nD τ).loc main_arg4))
    (emb_matrix _ _ ((index_b hO t).trans (pick_index _ _ hb)) i j _ fun _ => rfl)

theorem block5 (hb : ∀ i, (tableB m i).toNat < 16) : mat (blockAt hO c 5 t)
    = Moe.matrix (m ((c : Thread nD τ).loc main_arg5)) (Moe.pick (tableB m (ix1 (blk hO t)))) :=
  funext fun i => funext fun j => congrArg (m ((c : Thread nD τ).loc main_arg5))
    (emb_matrix _ _ ((index_b hO t).trans (pick_index _ _ hb)) i j _ fun _ => rfl)

theorem block6 (hb : ∀ i, (tableB m i).toNat < 16) : mat (blockAt hO c 6 t)
    = Moe.matrix (m ((c : Thread nD τ).loc main_arg6)) (Moe.pick (tableB m (ix1 (blk hO t)))) :=
  funext fun i => funext fun j => congrArg (m ((c : Thread nD τ).loc main_arg6))
    (emb_matrix _ _ ((index_b hO t).trans (pick_index _ _ hb)) i j _ fun _ => rfl)

/-- A row of the grid point's row block, in the array. -/
def rowAt (p : Fin 256) : Fin 38912 := ⟨t.val * 256 + p, by have : t.val < 152 := t.isLt; omega⟩

/-- A used row block's entry. -/
theorem block0 (hn : ∀ i, 1 ≤ (tableN m i).toInt) (hu : t.val < (tableN m (ix1 (0 : Fin 1))).toNat) (p : Fin 256) (d : Fin 1152) :
    (blockAt hO c 0 t : FVec Ideal S256x1152 .f32) (ix2 p d) = (m ((c : Thread nD τ).loc main_arg3) : FVec Ideal S38912x1152 .f32)
      (ix2 (rowAt hO t p) d) := by
  have hi := (index_rows hO t hn).trans (congrArg (fun w : ℕ => (![w, 0] : Fin 2 → ℕ))
    (show min t.val ((tableN m (ix1 (0 : Fin 1))).toNat - 1) = t.val by omega))
  refine congrArg (m ((c : Thread nD τ).loc main_arg3)) (funext fun a => Fin.ext ?_)
  match a with
  | ⟨0, _⟩ =>
    refine (congrArg (fun f : Fin 2 → ℕ => f 0 * 256 + 1 * (p : ℕ)) hi).trans ?_
    show t.val * 256 + 1 * (p : ℕ) = t.val * 256 + p
    omega
  | ⟨1, _⟩ =>
    refine (congrArg (fun f : Fin 2 → ℕ => f 1 * 1152 + 1 * (d : ℕ)) hi).trans ?_
    show 0 * 1152 + 1 * (d : ℕ) = d
    omega

/-- The number of used row blocks, read by the body. -/
theorem count_eq : count c (tables m 2) = tableN m (ix1 (0 : Fin 1)) := word_n _

theorem used_iff : k0_cond1 (grid0.coords t) (count c (tables m 2)) = 1#1
    ↔ (BitVec.ofNat 32 t.val).toInt < (tableN m (ix1 (0 : Fin 1))).toInt := by
  rw [count_eq]
  unfold k0_cond1
  simp only [Scalar.cmpi, Scalar.extui, WordCmp.cmpi_slt_eq, coord_val]
  by_cases h : (BitVec.ofNat 32 t.val).toInt < (tableN m (ix1 (0 : Fin 1))).toInt
  · rw [decide_eq_true h]
    exact iff_of_true (by decide) h
  · rw [decide_eq_false h]
    exact iff_of_false (by decide) h

theorem expert_congr {x x' : Fin 1024 → EReal} {g g' u u' d d' : Fin 1024 → Fin 1024 → EReal} (hx : x = x') (hg : g = g') (hu : u = u')
    (hd : d = d') (f : Fin 1024) : Moe.expert x g u d f = Moe.expert x' g' u' d' f := by
  rw [hx, hg, hu, hd]

/-- What a grid point writes, at its entries of the result. -/
theorem written_apply (ha : ∀ i, (tableA m i).toNat < 16) (hb : ∀ i, (tableB m i).toNat < 16) (hn : ∀ i, 1 ≤ (tableN m i).toInt)
    (p : Fin 256) (f : Fin 1024) :
    written (F := Ideal) hO c t (ix2 p f) = Moe.entry (tableA m) (tableB m) (tableN m) (m ((c : Thread nD τ).loc main_arg3))
      (m ((c : Thread nD τ).loc main_arg4)) (m ((c : Thread nD τ).loc main_arg5)) (m ((c : Thread nD τ).loc main_arg6))
      (rowAt hO t p) f := by
  have hr : Moe.blockOf (rowAt hO t p) = blk hO t := Fin.ext (by
    show (t.val * 256 + (p : ℕ)) / 256 = t.val
    omega)
  have ht : t.val < 152 := t.isLt
  unfold written result Moe.entry
  rw [hr]
  by_cases h : (BitVec.ofNat 32 t.val).toInt < (tableN m (ix1 (0 : Fin 1))).toInt
  · rw [if_pos ((used_iff hO c t).2 h)]
    refine Eq.trans ?_ (if_pos (show (BitVec.ofNat 32 (blk hO t : ℕ)).toInt < (tableN m (ix1 (0 : Fin 1))).toInt from h)).symm
    have hu : t.val < (tableN m (ix1 (0 : Fin 1))).toNat := by
      have h1 := hn (ix1 (0 : Fin 1))
      have hn' := (WordCmp.toInt_nonneg_iff_lt_half (tableN m (ix1 (0 : Fin 1)))).1 (by omega)
      have hi := WordCmp.toInt_eq_toNat_of_lt_half hn'
      have hk : (BitVec.ofNat 32 t.val).toNat = t.val := WordCmp.toNat_ofNat_of_lt (by omega)
      have hj := WordCmp.toInt_eq_toNat_of_lt_half (x := BitVec.ofNat 32 t.val) (by omega)
      omega
    have hx : input (blockAt hO c 0 t) p = Moe.rowOf (m ((c : Thread nD τ).loc main_arg3)) (rowAt hO t p) :=
      funext fun d => block0 hO c t hn hu p _
    refine (mixed_apply _ _ _ _ _ _ _ p f).trans ?_
    exact congrArg₂ (· + ·)
      (congrArg₂ (· * ·) (block0 hO c t hn hu p 1024) (expert_congr hx (block1 hO c t ha) (block2 hO c t ha) (block3 hO c t ha) f))
      (congrArg₂ (· * ·) (block0 hO c t hn hu p 1025) (expert_congr hx (block4 hO c t hb) (block5 hO c t hb) (block6 hO c t hb) f))
  · rw [if_neg (fun e => h ((used_iff hO c t).1 e))]
    exact (unused_apply p f).trans (if_neg (show ¬ (BitVec.ofNat 32 (blk hO t : ℕ)).toInt < (tableN m (ix1 (0 : Fin 1))).toInt from h)).symm

/-- The output is written back at every grid point: consecutive points have different blocks. -/
theorem flush_out : ((pipe hO).win 7).flush t = true :=
  (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _)

/-- Where the grid point's block lies in the result. -/
theorem emb_out (p : Fin 256) (f : Fin 1024) (z : S38912x1024.Idx)
    (h : ∀ a : Fin 2, (z a : ℕ) = cc0_transform_7 (grid0.coords t) a * S256x1024.size a + 1 * ((ix2 p f : S256x1024.Idx) a : ℕ)) :
    z = ix2 (rowAt hO t p) f := by
  rw [index_out hO t] at h
  funext a
  refine Fin.ext ((h a).trans ?_)
  match a with
  | ⟨0, _⟩ =>
    show t.val * 256 + 1 * (p : ℕ) = t.val * 256 + p
    omega
  | ⟨1, _⟩ =>
    show 0 * 1024 + 1 * (f : ℕ) = f
    omega

/-- Every entry of the result lies in the block of its grid point. -/
theorem covered (i : S38912x1024.Idx) :
    ∃ t : Fin (pipe hO).N, ((pipe hO).win 7).flush t = true ∧ i ∈ (((pipe hO).win 7).blk t).view.set := by
  have h0 : (i 0 : Fin 38912).val < 38912 := (i 0 : Fin 38912).isLt
  have hb : (i 0 : Fin 38912).val / 256 < 152 := by omega
  let t : Fin (pipe hO).N := ⟨(i 0 : Fin 38912).val / 256, hb⟩
  let y : S256x1024.Idx := ix2 (⟨(i 0 : Fin 38912).val % 256, by omega⟩ : Fin 256) (i 1 : Fin 1024)
  refine ⟨t, flush_out hO t, ?_⟩
  have hr : rowAt hO t (⟨(i 0 : Fin 38912).val % 256, by omega⟩ : Fin 256) = (i 0 : Fin 38912) := Fin.ext (by
    show (i 0 : Fin 38912).val / 256 * 256 + (i 0 : Fin 38912).val % 256 = (i 0 : Fin 38912).val
    omega)
  have e : ((((pipe hO).win 7).blk t).view.emb y : S38912x1024.Idx) = i :=
    (emb_out hO t _ _ _ fun a => rfl).trans ((congrArg (fun r : Fin 38912 => (ix2 r (i 1 : Fin 1024) : S38912x1024.Idx)) hr).trans
      (eq_ix2 i).symm)
  have hm := View.emb_mem_set (((pipe hO).win 7).blk t).view y
  exact Eq.mp (congrArg (fun z : S38912x1024.Idx => z ∈ (((pipe hO).win 7).blk t).view.set) e) hm

/-- The result array after the run. -/
theorem final (ha : ∀ i, (tableA m i).toNat < 16) (hb : ∀ i, (tableB m i).toNat < 16) (hn : ∀ i, 1 ≤ (tableN m i).toInt) :
    (data hO 0 c).arrAt 7 (pipe hO).N = Moe.spec (tableA m) (tableB m) (tableN m) (m ((c : Thread nD τ).loc main_arg3))
      (m ((c : Thread nD τ).loc main_arg4)) (m ((c : Thread nD τ).loc main_arg5)) (m ((c : Thread nD τ).loc main_arg6)) := by
  refine (data hO 0 c).arrAt_eq_of_emb 7 _ (fun t _ (y : S256x1024.Idx) => ?_) (covered hO)
  have hy : y = ix2 (y 0 : Fin 256) (y 1 : Fin 1024) := eq_ix2 y
  have hz : ((((pipe hO).win 7).blk t).view.emb y : S38912x1024.Idx) = ix2 (rowAt hO t (y 0 : Fin 256)) (y 1 : Fin 1024) :=
    emb_out hO t _ _ _ fun a => Eq.trans rfl (congrArg (fun z : S256x1024.Idx =>
      cc0_transform_7 (grid0.coords t) a * S256x1024.size a + 1 * (z a : ℕ)) hy)
  refine Eq.trans ?_ (congrArg (Moe.spec (tableA m) (tableB m) (tableN m) (m ((c : Thread nD τ).loc main_arg3))
    (m ((c : Thread nD τ).loc main_arg4)) (m ((c : Thread nD τ).loc main_arg5)) (m ((c : Thread nD τ).loc main_arg6))) hz).symm
  refine Eq.trans ?_ (written_apply hO c t ha hb hn (y 0 : Fin 256) (y 1 : Fin 1024))
  exact (congrFun (left7 hO c t) _).trans (congrArg (written hO c t) hy)

end Moe.Ideal

end
-- ==== Proof.Moe.Reference.lean ====
module

public import proofs.«01_k».proof.Proof.Gen.ExpertsReferenceIdeal.Run
public import proofs.«01_k».proof.Proof.Moe.Spec
public import Idealize.ShloMosaic.Lib.WordCmp
public import Idealize.ShloMosaic.Lib.Pipeline.ValueKit

/-! The experts' reference read at an index. -/

@[expose] public section

set_option maxRecDepth 16384

noncomputable section

namespace Moe.Ref

open Idealize.ShloMosaic Idealize.ShloMosaic.TcCoe Idealize.SL.Sem
open Cert.ExpertsReferenceIdeal Cert.ExpertsReferenceIdeal.Gen

/-- The gather's axes. -/
abbrev axes := gather_S16x1024x1024_S152x1_S152x1024x1024_12_0_n_n_0_1_110241024

/-- The matrices' start index at a block. -/
theorem start_index (b : Fin 152) (i j : Fin 1024) (k : Fin axes.startIndexMap.length) :
    axes.siIdx (ix3 b i j) k = (ix2 b (0 : Fin 1) : S152x1.Idx) := by
  obtain rfl : k = (0 : Fin 1) := Subsingleton.elim (α := Fin 1) _ _
  funext a
  refine Fin.ext ?_
  match a with
  | ⟨0, _⟩ => rfl
  | ⟨1, _⟩ => rfl

/-- A gathered matrix: the one its word names, clamped. -/
theorem gather_apply (w : S16x1024x1024.Idx → EReal) (e : IVec S152x1 32) (b : Fin 152) (i j : Fin 1024) :
    Host.gather axes w e (ix3 b i j)
      = w (ix3 (⟨min (e (ix2 b (0 : Fin 1))).toInt.toNat 15, by omega⟩ : Fin 16) i j) := by
  unfold Host.gather
  refine congrArg w (funext fun a => Fin.ext ?_)
  match a with
  | ⟨0, h⟩ =>
    show axes.start (ix3 b i j) e 0 + axes.batchCoord (ix3 b i j) 0 + axes.offCoord (ix3 b i j) 0 = _
    rw [axes.batchCoord_eq_zero _ _ List.not_mem_nil,
      axes.offCoord_eq_zero _ _ (fun h => ((axes.mem_sKept _).mp h).1 (List.mem_singleton.mpr rfl))]
    unfold GatherDims.start
    rw [dif_pos (show (0 : Fin 3) ∈ axes.startIndexMap from List.mem_singleton.mpr rfl), start_index]
    rfl
  | ⟨1, h⟩ =>
    show axes.start (ix3 b i j) e 1 + axes.batchCoord (ix3 b i j) 1 + axes.offCoord (ix3 b i j) 1 = i.val
    rw [axes.batchCoord_eq_zero _ _ List.not_mem_nil]
    unfold GatherDims.start
    rw [dif_neg (show ¬ (1 : Fin 3) ∈ axes.startIndexMap from by decide)]
    exact (Nat.zero_add _).trans rfl
  | ⟨2, h⟩ =>
    show axes.start (ix3 b i j) e 2 + axes.batchCoord (ix3 b i j) 2 + axes.offCoord (ix3 b i j) 2 = j.val
    rw [axes.batchCoord_eq_zero _ _ List.not_mem_nil]
    unfold GatherDims.start
    rw [dif_neg (show ¬ (2 : Fin 3) ∈ axes.startIndexMap from by decide)]
    exact (Nat.zero_add _).trans rfl

/-- The words as start indices: a negative one counts from the end. -/
def wrap (e : IVec S152 32) : IVec S152x1 32 :=
  broadcastInDim S152x1 ![0] bcast_S152_S152x1_0 (select (cmpi .slt e (broadcastInDim S152 ![] bcast_S_S152 (constantI S_ 32 0#32)))
    (addi e (broadcastInDim S152 ![] bcast_S_S152 (constantI S_ 32 16#32))) e)

/-- The blocks' matrices. -/
def matrices (w : FVec Ideal S16x1024x1024 .bf16) (e : IVec S152 32) : FVec Ideal S152x1024x1024 .f32 :=
  Host.gather axes (extf .f32 w bitsLt_bf16_f32) (wrap e)

/-- The blocks of rows. -/
def blocks (xs : FVec Ideal S38912x1152 .f32) : FVec Ideal S152x256x1152 .f32 := shapeCast _ xs shapeCasts_S38912x1152_S152x256x1152

/-- The rows through a matrix. -/
def product (x : FVec Ideal S152x256x1024 .f32) (w : FVec Ideal S152x1024x1024 .f32) : FVec Ideal S152x256x1024 .f32 :=
  Host.dotGeneral dot_S152x256x1024_S152x1024x1024_S152x256x1024_2_1_1_2_0_0 none x w

/-- The gate. -/
def silu (x : FVec Ideal S152x256x1024 .f32) : FVec Ideal S152x256x1024 .f32 :=
  mulf x (Host.divf (broadcastInDim S152x256x1024 ![] bcast_S_S152x256x1024 (constant S_ .f32 0x3F800000#32))
    (addf (broadcastInDim S152x256x1024 ![] bcast_S_S152x256x1024 (constant S_ .f32 0x3F800000#32)) (Host.exp (Host.negf x))))

/-- The rows' inputs. -/
def inputs (xs : FVec Ideal S38912x1152 .f32) : FVec Ideal S152x256x1024 .f32 :=
  extractStridedSlice S152x256x1024 ![0, 0, 0] (blocks xs) slices_S152x256x1152_S152x256x1024_0_0_0

/-- The blocks' outputs of one of their experts. -/
def outputs (x : FVec Ideal S152x256x1024 .f32) (wg wu wd : FVec Ideal S152x1024x1024 .f32) : FVec Ideal S152x256x1024 .f32 :=
  product (mulf (silu (product x wg)) (product x wu)) wd

/-- The sum by the rows' weights. -/
def sum (xs : FVec Ideal S38912x1152 .f32) (ya yb : FVec Ideal S152x256x1024 .f32) : FVec Ideal S152x256x1024 .f32 :=
  addf (mulf (broadcastInDim S152x256x1024 ![0, 1, 2] bcast_S152x256x1_S152x256x1024_0_1_2
      (extractStridedSlice S152x256x1 ![0, 0, 1024] (blocks xs) slices_S152x256x1152_S152x256x1_0_0_1024)) ya)
    (mulf (broadcastInDim S152x256x1024 ![0, 1, 2] bcast_S152x256x1_S152x256x1024_0_1_2
      (extractStridedSlice S152x256x1 ![0, 0, 1025] (blocks xs) slices_S152x256x1152_S152x256x1_0_0_1025)) yb)

/-- The used blocks' rows, the others zero. -/
def used (n : IVec S1 32) (y : FVec Ideal S152x256x1024 .f32) : FVec Ideal S38912x1024 .f32 :=
  shapeCast _ (select (broadcastInDim S152x256x1024 ![0, 1, 2] bcast_S152x1x1_S152x256x1024_0_1_2
    (cmpi .slt (broadcastInDim S152x1x1 ![0] bcast_S152_S152x1x1_0 (iotaInDim S152 32 0))
      (broadcastInDim S152x1x1 ![] bcast_S_S152x1x1 (shapeCast _ n shapeCasts_S1_S_)))) y
    (broadcastInDim S152x256x1024 ![] bcast_S_S152x256x1024 (id (constant S_ .f32 0x00000000#32))))
    shapeCasts_S152x256x1024_S38912x1024

/-- The reference's result in these steps. -/
def whole (ea eb : IVec S152 32) (n : IVec S1 32) (xs : FVec Ideal S38912x1152 .f32) (wg wu wd : FVec Ideal S16x1024x1024 .bf16) :
    FVec Ideal S38912x1024 .f32 :=
  used n (sum xs (outputs (inputs xs) (matrices wg ea) (matrices wu ea) (matrices wd ea))
    (outputs (inputs xs) (matrices wg eb) (matrices wu eb) (matrices wd eb)))

theorem res_eq (m : (ℓ : Loc nD τ sig) → Buf (Elt Ideal) ℓ) (c : Dev nD) :
    Cert.ExpertsReferenceIdeal.Value.res_main_v70 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := rfl

/-- A word in range is not wrapped. -/
theorem wrap_apply (e : IVec S152 32) (b : Fin 152) (h : (e (ix1 b)).toNat < 16) : wrap e (ix2 b (0 : Fin 1)) = e (ix1 b) := by
  have hs : wrap e (ix2 b (0 : Fin 1)) = Scalar.select (IntOp.cmpi .slt (e (ix1 b)) 0#32) (e (ix1 b) + 16#32) (e (ix1 b)) := by
    pointwise [wrap]
    rfl
  rw [hs]
  have hi : (e (ix1 b)).toInt = (e (ix1 b)).toNat := WordCmp.toInt_eq_toNat_of_lt_half (by omega)
  have hn : ¬ IntOp.cmpi .slt (e (ix1 b)) 0#32 = 1 := by
    rw [WordCmp.cmpi_slt_eq, decide_eq_false (by rw [hi]; show ¬ ((e (ix1 b)).toNat : ℤ) < 0; omega)]
    decide
  exact if_neg hn

theorem matrices_apply (w : FVec Ideal S16x1024x1024 .bf16) (e : IVec S152 32) (b : Fin 152) (i j : Fin 1024)
    (h : (e (ix1 b)).toNat < 16) : matrices w e (ix3 b i j) = matrix w (pick (e (ix1 b))) i j := by
  refine (gather_apply _ _ _ _ _).trans ?_
  have hi : (e (ix1 b)).toInt = (e (ix1 b)).toNat := WordCmp.toInt_eq_toNat_of_lt_half (by omega)
  have hf : (⟨min (wrap e (ix2 b (0 : Fin 1))).toInt.toNat 15, by omega⟩ : Fin 16) = pick (e (ix1 b)) := by
    refine Fin.ext ?_
    show min (wrap e (ix2 b (0 : Fin 1))).toInt.toNat 15 = min (e (ix1 b)).toNat 15
    rw [wrap_apply e b h, hi]
    rfl
  rw [hf]
  rfl

theorem product_apply (x : FVec Ideal S152x256x1024 .f32) (w : FVec Ideal S152x1024x1024 .f32) (b : Fin 152) (p : Fin 256)
    (f : Fin 1024) : product x w (ix3 b p f) = ∑ d : Fin 1024, x (ix3 b p d) * w (ix3 b d f) := by
  pointwise [product]

theorem silu_apply (x : FVec Ideal S152x256x1024 .f32) (b : Fin 152) (p : Fin 256) (f : Fin 1024) :
    silu x (ix3 b p f) = x (ix3 b p f) * Ideal.logistic (x (ix3 b p f)) := by
  pointwise [silu]
  rfl

theorem inputs_apply (xs : FVec Ideal S38912x1152 .f32) (b : Fin 152) (p : Fin 256) (d : Fin 1024) :
    inputs xs (ix3 b p d) = rowOf xs (⟨(b : ℕ) * 256 + p, by omega⟩ : Fin 38912) d := by
  pointwise [inputs, blocks, rowOf]

theorem sum_apply (xs : FVec Ideal S38912x1152 .f32) (ya yb : FVec Ideal S152x256x1024 .f32) (b : Fin 152) (p : Fin 256)
    (f : Fin 1024) : sum xs ya yb (ix3 b p f)
      = xs (ix2 (⟨(b : ℕ) * 256 + p, by omega⟩ : Fin 38912) (1024 : Fin 1152)) * ya (ix3 b p f)
        + xs (ix2 (⟨(b : ℕ) * 256 + p, by omega⟩ : Fin 38912) (1025 : Fin 1152)) * yb (ix3 b p f) := by
  pointwise [sum, blocks]

theorem used_apply (n : IVec S1 32) (y : FVec Ideal S152x256x1024 .f32) (r : Fin 38912) (c : Fin 1024) :
    used n y (ix2 r c) = if (BitVec.ofNat 32 (blockOf r : ℕ)).toInt < (n (ix1 (0 : Fin 1))).toInt then
      y (ix3 (blockOf r) (⟨(r : ℕ) % 256, by omega⟩ : Fin 256) c) else 0 := by
  have hs : used n y (ix2 r c) = Scalar.select (IntOp.cmpi .slt (BitVec.ofNat 32 (blockOf r : ℕ)) (n (ix1 (0 : Fin 1))))
      (y (ix3 (blockOf r) (⟨(r : ℕ) % 256, by omega⟩ : Fin 256) c)) 0 := by
    pointwise [used, blockOf, id]
  rw [hs, WordCmp.cmpi_slt_eq]
  by_cases h : (BitVec.ofNat 32 (blockOf r : ℕ)).toInt < (n (ix1 (0 : Fin 1))).toInt
  · rw [if_pos h, decide_eq_true h]; rfl
  · rw [if_neg h, decide_eq_false h]; rfl

/-- One expert's outputs. -/
theorem outputs_apply (xs : FVec Ideal S38912x1152 .f32) (e : IVec S152 32) (wg wu wd : FVec Ideal S16x1024x1024 .bf16)
    (b : Fin 152) (h : (e (ix1 b)).toNat < 16) (p : Fin 256) (c : Fin 1024) :
    outputs (inputs xs) (matrices wg e) (matrices wu e) (matrices wd e) (ix3 b p c)
      = expert (rowOf xs (⟨(b : ℕ) * 256 + p, by omega⟩ : Fin 38912)) (matrix wg (pick (e (ix1 b)))) (matrix wu (pick (e (ix1 b))))
          (matrix wd (pick (e (ix1 b)))) c := by
  refine (product_apply _ _ _ _ _).trans (Finset.sum_congr rfl fun f _ => ?_)
  have hp : ∀ w : FVec Ideal S16x1024x1024 .bf16, product (inputs xs) (matrices w e) (ix3 b p f)
      = through (rowOf xs (⟨(b : ℕ) * 256 + p, by omega⟩ : Fin 38912)) (matrix w (pick (e (ix1 b)))) f := fun w =>
    (product_apply _ _ _ _ _).trans (Finset.sum_congr rfl fun d _ => by rw [inputs_apply, matrices_apply _ _ _ _ _ h])
  rw [matrices_apply _ _ _ _ _ h]
  refine congrArg (· * _) ?_
  show silu (product (inputs xs) (matrices wg e)) (ix3 b p f) * product (inputs xs) (matrices wu e) (ix3 b p f) = _
  rw [silu_apply, hp, hp]
  rfl

/-- The reference is the specification. -/
theorem whole_eq (ea eb : IVec S152 32) (n : IVec S1 32) (xs : FVec Ideal S38912x1152 .f32)
    (wg wu wd : FVec Ideal S16x1024x1024 .bf16) (ha : ∀ i, (ea i).toNat < 16) (hb : ∀ i, (eb i).toNat < 16) :
    whole ea eb n xs wg wu wd = spec ea eb n xs wg wu wd := by
  have he : ∀ (r : Fin 38912) (c : Fin 1024), whole ea eb n xs wg wu wd (ix2 r c) = entry ea eb n xs wg wu wd r c := fun r c => by
    unfold whole Moe.entry
    rw [used_apply]
    refine congrArg (fun z => ite _ z 0) ?_
    have hr : (⟨(blockOf r : ℕ) * 256 + ((⟨(r : ℕ) % 256, by omega⟩ : Fin 256) : ℕ), by
        show (r : ℕ) / 256 * 256 + (r : ℕ) % 256 < 38912; omega⟩ : Fin 38912) = r := Fin.ext (by
      show (r : ℕ) / 256 * 256 + (r : ℕ) % 256 = r; omega)
    rw [sum_apply, outputs_apply _ _ _ _ _ _ (ha _), outputs_apply _ _ _ _ _ _ (hb _), hr]
    rfl
  funext i
  have hi : (i : S38912x1024.Idx) = ix2 (i 0 : Fin 38912) (i 1 : Fin 1024) := eq_ix2 i
  exact (congrArg _ hi).trans (he _ _)

end Moe.Ref

end
-- ==== Proof.Moe.Routed.lean ====
module

public import proofs.«01_k».proof.Proof.Gen.Pre_routed
public import Idealize.ShloMosaic.Lib.ReduceAll
public import Idealize.ShloMosaic.Lib.WordCmp
public import Idealize.ShloMosaic.Lib.Pipeline.ValueKit
public import Idealize.ShloMosaic.Lib.Pointwise

/-! What the experts' precondition says: the tables name experts below 16, and at least one row block is used. -/

@[expose] public section

set_option maxRecDepth 16384

noncomputable section

namespace Moe

open Idealize.ShloMosaic Idealize.ShloMosaic.TcCoe Idealize.SL.Sem
open Cert.Pre_routed

/-- A table passing the test has words below 16 only. -/
theorem below_of_all (x : IVec S152 32) (hb hb' : S_.BroadcastsInDim S152 (![] : Fin 0 → Fin S152.rank))
    (hr : S152.ReducesTo [0] S_) (hu : 0 < S_.numel)
    (h : Host.reduce IntOp.andi (andi (cmpi .sge x (broadcastInDim S152 ![] hb (constantI S_ 32 0#32)))
        (cmpi .slt x (broadcastInDim S152 ![] hb' (constantI S_ 32 16#32)))) (constantI S_ 1 1#1) hr hu ix0 = 1#1)
    (i : S152.Idx) : (x i).toNat < 16 := by
  haveI : Subsingleton S_.Idx := ⟨fun a b => funext fun i => i.elim0⟩
  have e : IntOp.andi (IntOp.cmpi .sge (x i) 0#32) (IntOp.cmpi .slt (x i) 16#32) = 1#1 :=
    Host.reduce_andi_all _ _ hr hu _ h i
  rw [WordCmp.andi_sge_zero_slt_ofNat (k := 16) (by decide)] at e
  exact (WordCmp.ofBool_decide_eq_one_iff _).1 e

theorem facts_of_routed {F : FTy → Type} [FloatOps F] (x0 x1 : IVec S152 32) (x2 : IVec S1 32) (x3 : FVec F S38912x1152 .f32)
    (x4 x5 x6 : FVec F S16x1024x1024 .bf16) (h : fn (F := F) x0 x1 x2 x3 x4 x5 x6 = fun _ => 1#1) :
    (∀ i, (x0 i).toNat < 16) ∧ (∀ i, (x1 i).toNat < 16) ∧ ∀ i, 1 ≤ (x2 i).toInt := by
  have and2 : ∀ a b : BitVec 1, a &&& b = 1#1 → a = 1#1 ∧ b = 1#1 := by decide
  obtain ⟨h, h2⟩ := and2 _ _ (congrFun h ix0)
  obtain ⟨h0, h1⟩ := and2 _ _ h
  refine ⟨below_of_all x0 _ _ _ _ h0, below_of_all x1 _ _ _ _ h1, fun i => ?_⟩
  have h2' : IntOp.cmpi .sge (x2 (ix1 0)) 1#32 = 1#1 := by
    pointwise at h2
    exact h2
  rw [WordCmp.cmpi_sge_eq] at h2'
  have e := (WordCmp.ofBool_decide_eq_one_iff _).1 h2'
  have hi : i = ix1 0 := by
    funext a
    obtain rfl : a = 0 := Subsingleton.elim _ _
    exact Fin.ext (by have := (i 0).isLt; show (i 0).val = 0; exact Nat.lt_one_iff.1 this)
  rw [hi]
  exact e

end Moe

end
-- ==== Proof.Proj.Spec.lean ====
module

public import Idealize.ShloMosaic.Lib.Pointwise

/-! What the projections' call computes, on extended reals: each token's features, scaled and shifted by its sequence's
    modulation, go through one matrix of queries, keys and values; the queries and keys are then turned by the angles of
    the token's place on the grid, two of the groups of sixteen lanes by its row and two by its column. -/

@[expose] public section

set_option maxRecDepth 16384

noncomputable section

namespace Proj

open Idealize.ShloMosaic

/-- The shapes of the arrays. -/
abbrev STokens : Shape := ⟨3, ![4, 8192, 1024]⟩
abbrev SMod : Shape := ⟨3, ![4, 1, 1024]⟩
abbrev SMatrix : Shape := ⟨2, ![1024, 3072]⟩
abbrev SKeys : Shape := ⟨3, ![4, 1024, 8192]⟩
abbrev STable : Shape := ⟨2, ![8192, 64]⟩

/-- A modulated token through the matrix, at a column. -/
def through (x : STokens.Idx → EReal) (sc sh : SMod.Idx → EReal) (w : SMatrix.Idx → EReal) (b : Fin 4) (l : Fin 8192)
    (n : Fin 3072) : EReal :=
  ∑ k : Fin 1024, (x (ix3 b l k) * (1 + sc (ix3 b (0 : Fin 1) k)) + sh (ix3 b (0 : Fin 1) k)) * w (ix2 k n)

/-- The lane that a turn pairs with lane `n`: sixteen further on, negated, or sixteen before. -/
def partner (z : Fin 1024 → EReal) (n : Fin 1024) : EReal :=
  if h : (n : ℕ) % 32 < 16 then -z ⟨n + 16, by omega⟩ else z ⟨n - 16, by omega⟩

/-- The lane's place among the sixty-four of its half head. -/
def place (n : Fin 1024) : Fin 64 := ⟨n % 64, by omega⟩

/-- A token's lanes, turned. -/
def turned (co si : STable.Idx → EReal) (l : Fin 8192) (z : Fin 1024 → EReal) (n : Fin 1024) : EReal :=
  z n * co (ix2 l (place n)) + partner z n * si (ix2 l (place n))

section

variable (co si : STable.Idx → EReal) (s : EReal) (x : STokens.Idx → EReal) (sc sh : SMod.Idx → EReal) (w : SMatrix.Idx → EReal)

/-- A token's queries, before they are turned; its keys; its values. -/
def query (b : Fin 4) (l : Fin 8192) (n : Fin 1024) : EReal := through x sc sh w b l ⟨n, by omega⟩
def key (b : Fin 4) (l : Fin 8192) (n : Fin 1024) : EReal := through x sc sh w b l ⟨1024 + n, by omega⟩
def value (b : Fin 4) (l : Fin 8192) (n : Fin 1024) : EReal := through x sc sh w b l ⟨2048 + n, by omega⟩

/-- The queries, turned and scaled by `s`. -/
def queries : STokens.Idx → EReal := fun i =>
  turned co si (i 1 : Fin 8192) (query x sc sh w (i 0 : Fin 4) (i 1 : Fin 8192)) (i 2 : Fin 1024) * s

/-- The keys, turned, the lanes before the tokens. -/
def keys : SKeys.Idx → EReal := fun i =>
  turned co si (i 2 : Fin 8192) (key x sc sh w (i 0 : Fin 4) (i 2 : Fin 8192)) (i 1 : Fin 1024)

/-- The values. -/
def values : STokens.Idx → EReal := fun i => value x sc sh w (i 0 : Fin 4) (i 1 : Fin 8192) (i 2 : Fin 1024)

end

end Proj

end
-- ==== Proof.Proj.Payload.lean ====
module

public import proofs.«01_k».proof.Proof.Gen.ProjectIdeal.Frame
public import proofs.«01_k».proof.Proof.Proj.Spec
public import Idealize.ShloMosaic.Lib.Pipeline.ValueKit

/-! The pieces of its blocks that a grid point stores, read at an index. -/

@[expose] public section

set_option maxRecDepth 16384

noncomputable section

namespace Proj

open Idealize.ShloMosaic Idealize.ShloMosaic.TcCoe Idealize.SL.Sem
open Cert.ProjectIdeal Cert.ProjectIdeal.Gen

section shape

variable {F : FTy → Type} [FloatOps F]

/-- The modulated rows through two heads' columns of the matrix. -/
def heads (h : FVec F S512x1024 .bf16) (w : Vec F S1024x256 .bf16) : FVec F S512x256 .f32 :=
  matmul dot_S512x1024_S1024x256_S512x256_1_0_0_1_n_n none h (shapeCast S1024x256 w shapeCasts_S1024x256_S1024x256)
    (constant S512x256 .f32 0x00000000#32)

/-- One head's lanes turned: themselves, the lanes sixteen on and the lanes sixteen before, each times its table. -/
def turn (z : FVec F S512x128 .f32) (c n p : Vec F S1x512x128 .f32) : FVec F S512x128 .f32 :=
  addf (addf (mulf z (shapeCast S512x128 c shapeCasts_S1x512x128_S512x128))
      (mulf (dynamicRotate 1 112#32 none z rotates_S512x128_d1) (shapeCast S512x128 n shapeCasts_S1x512x128_S512x128)))
    (mulf (dynamicRotate 1 16#32 none z rotates_S512x128_d1) (shapeCast S512x128 p shapeCasts_S1x512x128_S512x128))

/-- Two heads turned. -/
def turnBoth (z : FVec F S512x256 .f32) (c n p : Vec F S1x512x128 .f32) : FVec F S512x256 .f32 :=
  concatenate S512x256 1 [⟨S512x128, turn (extractStridedSlice S512x128 ![0, 0] z slices_S512x256_o0_0_S512x128) c n p⟩,
    ⟨S512x128, turn (extractStridedSlice S512x128 ![0, 128] z slices_S512x256_o0_128_S512x128) c n p⟩]
    concatenates_S512x128_S512x128_S512x256_d1

/-- The piece of queries, of keys and of values that two heads store. -/
def queryPiece (z : FVec F S512x256 .f32) (c n p : Vec F S1x512x128 .f32) : FVec F S1x512x256 .bf16 :=
  shapeCast S1x512x256 (truncf .bf16 (mulf (turnBoth z c n p) (broadcast S512x256 (Scalar.ofBits .f32 0x3E38AA3B#32)))
    bitsLt_bf16_f32) shapeCasts_S512x256_S1x512x256
def keyPiece (z : FVec F S512x256 .f32) (c n p : Vec F S1x512x128 .f32) : FVec F S1x256x512 .bf16 :=
  shapeCast S1x256x512 (truncf .bf16 (transpose S256x512 [1, 0] (turnBoth z c n p) transposes_S512x256_p1_0_S256x512)
    bitsLt_bf16_f32) shapeCasts_S256x512_S1x256x512
def valuePiece (z : FVec F S512x256 .f32) : FVec F S1x512x256 .bf16 :=
  shapeCast S1x512x256 (truncf .bf16 z bitsLt_bf16_f32) shapeCasts_S512x256_S1x512x256

variable (x0 : Vec F S1x512x1024 .f32) (x1 x2 : Vec F S1x1x1024 .f32) (x3 : Vec F S1024x3072 .bf16) (x4 : Vec F S3x512x128 .f32)

/-- The block of queries is its four pieces. -/
theorem out5_eq : out0_5 x0 x1 x2 x3 x4 = View.canon
    [⟨r0_12, queryPiece (heads (k0_pay41 x0 x1 x2 x3 x4) (View.ld x3 r0_11)) (View.ld x4 r0_3) (View.ld x4 r0_4) (View.ld x4 r0_5)⟩,
     ⟨r0_10, queryPiece (heads (k0_pay41 x0 x1 x2 x3 x4) (View.ld x3 r0_9)) (View.ld x4 r0_3) (View.ld x4 r0_4) (View.ld x4 r0_5)⟩,
     ⟨r0_8, queryPiece (heads (k0_pay41 x0 x1 x2 x3 x4) (View.ld x3 r0_7)) (View.ld x4 r0_3) (View.ld x4 r0_4) (View.ld x4 r0_5)⟩,
     ⟨r0_6, queryPiece (heads (k0_pay41 x0 x1 x2 x3 x4) (View.ld x3 r0_2)) (View.ld x4 r0_3) (View.ld x4 r0_4) (View.ld x4 r0_5)⟩] := rfl

/-- The block of keys is its four pieces. -/
theorem out6_eq : out0_6 x0 x1 x2 x3 x4 = View.canon
    [⟨r0_20, keyPiece (heads (k0_pay41 x0 x1 x2 x3 x4) (View.ld x3 r0_19)) (View.ld x4 r0_3) (View.ld x4 r0_4) (View.ld x4 r0_5)⟩,
     ⟨r0_18, keyPiece (heads (k0_pay41 x0 x1 x2 x3 x4) (View.ld x3 r0_17)) (View.ld x4 r0_3) (View.ld x4 r0_4) (View.ld x4 r0_5)⟩,
     ⟨r0_16, keyPiece (heads (k0_pay41 x0 x1 x2 x3 x4) (View.ld x3 r0_15)) (View.ld x4 r0_3) (View.ld x4 r0_4) (View.ld x4 r0_5)⟩,
     ⟨r0_14, keyPiece (heads (k0_pay41 x0 x1 x2 x3 x4) (View.ld x3 r0_13)) (View.ld x4 r0_3) (View.ld x4 r0_4) (View.ld x4 r0_5)⟩] := rfl

/-- The block of values is its four pieces. -/
theorem out7_eq : out0_7 x0 x1 x2 x3 x4 = View.canon
    [⟨r0_12, valuePiece (heads (k0_pay41 x0 x1 x2 x3 x4) (View.ld x3 r0_24))⟩,
     ⟨r0_10, valuePiece (heads (k0_pay41 x0 x1 x2 x3 x4) (View.ld x3 r0_23))⟩,
     ⟨r0_8, valuePiece (heads (k0_pay41 x0 x1 x2 x3 x4) (View.ld x3 r0_22))⟩,
     ⟨r0_6, valuePiece (heads (k0_pay41 x0 x1 x2 x3 x4) (View.ld x3 r0_21))⟩] := rfl

end shape

/-- The modulated row of a token of the block. -/
theorem rows_apply (x0 : Vec Ideal S1x512x1024 .f32) (x1 x2 : Vec Ideal S1x1x1024 .f32) (x3 : Vec Ideal S1024x3072 .bf16)
    (x4 : Vec Ideal S3x512x128 .f32) (p : Fin 512) (k : Fin 1024) : k0_pay41 x0 x1 x2 x3 x4 (ix2 p k)
      = x0 (ix3 (0 : Fin 1) p k) * (1 + x1 (ix3 (0 : Fin 1) (0 : Fin 1) k)) + x2 (ix3 (0 : Fin 1) (0 : Fin 1) k) := by
  pointwise [k0_pay41, k0_pay3]

theorem heads_apply (h : FVec Ideal S512x1024 .bf16) (w : Vec Ideal S1024x256 .bf16) (p : Fin 512) (n : Fin 256) :
    heads h w (ix2 p n) = ∑ k : Fin 1024, h (ix2 p k) * w (ix2 k n) := by
  pointwise [heads]

theorem turn_apply (z : FVec Ideal S512x128 .f32) (c n p : Vec Ideal S1x512x128 .f32) (r : Fin 512) (i : Fin 128) :
    turn z c n p (ix2 r i) = z (ix2 r i) * c (ix3 (0 : Fin 1) r i)
        + z (ix2 r (⟨(i + 16) % 128, by omega⟩ : Fin 128)) * n (ix3 (0 : Fin 1) r i)
        + z (ix2 r (⟨(i + 112) % 128, by omega⟩ : Fin 128)) * p (ix3 (0 : Fin 1) r i) := by
  pointwise [turn]
  refine congrArg₂ (· + ·) (congrArg₂ (· + ·) rfl (congrArg (fun k => z (ix2 r k) * n (ix3 (0 : Fin 1) r i)) (Fin.ext ?_)))
    (congrArg (fun k => z (ix2 r k) * p (ix3 (0 : Fin 1) r i)) (Fin.ext ?_))
  · show ((i : ℕ) + 128 - 112) % 128 = (i + 16) % 128
    omega
  · show ((i : ℕ) + 128 - 16) % 128 = (i + 112) % 128
    omega

/-- The first and the second head's lanes of a product. -/
theorem first_apply (z : FVec Ideal S512x256 .f32) (r : Fin 512) (i : Fin 128) :
    extractStridedSlice S512x128 ![0, 0] z slices_S512x256_o0_0_S512x128 (ix2 r i) = z (ix2 r (⟨i, by omega⟩ : Fin 256)) := by
  pointwise
theorem second_apply (z : FVec Ideal S512x256 .f32) (r : Fin 512) (i : Fin 128) :
    extractStridedSlice S512x128 ![0, 128] z slices_S512x256_o0_128_S512x128 (ix2 r i)
      = z (ix2 r (⟨128 + i, by omega⟩ : Fin 256)) := by
  pointwise

theorem turnBoth_apply (z : FVec Ideal S512x256 .f32) (c n p : Vec Ideal S1x512x128 .f32) (r : Fin 512) (i : Fin 256) :
    turnBoth z c n p (ix2 r i) = z (ix2 r i) * c (ix3 (0 : Fin 1) r (⟨i % 128, by omega⟩ : Fin 128))
        + z (ix2 r (⟨i / 128 * 128 + (i % 128 + 16) % 128, by omega⟩ : Fin 256)) * n (ix3 (0 : Fin 1) r (⟨i % 128, by omega⟩ : Fin 128))
        + z (ix2 r (⟨i / 128 * 128 + (i % 128 + 112) % 128, by omega⟩ : Fin 256)) * p (ix3 (0 : Fin 1) r (⟨i % 128, by omega⟩ : Fin 128)) := by
  pointwise [turnBoth]
  have hm : ∀ (a a' b b' d d' : Fin 256) (e e' : Fin 128), a = a' → b = b' → d = d' → e = e' →
      z (ix2 r a) * c (ix3 (0 : Fin 1) r e) + z (ix2 r b) * n (ix3 (0 : Fin 1) r e) + z (ix2 r d) * p (ix3 (0 : Fin 1) r e)
        = z (ix2 r a') * c (ix3 (0 : Fin 1) r e') + z (ix2 r b') * n (ix3 (0 : Fin 1) r e')
          + z (ix2 r d') * p (ix3 (0 : Fin 1) r e') := by
    rintro a _ b _ d _ e _ rfl rfl rfl rfl
    rfl
  have hi : (i : ℕ) < 256 := i.isLt
  split
  · rw [turn_apply, first_apply, first_apply, first_apply]
    refine hm _ _ _ _ _ _ _ _ (Fin.ext ?_) (Fin.ext ?_) (Fin.ext ?_) (Fin.ext ?_) <;> dsimp only <;> omega
  · rw [turn_apply, second_apply, second_apply, second_apply]
    refine hm _ _ _ _ _ _ _ _ (Fin.ext ?_) (Fin.ext ?_) (Fin.ext ?_) (Fin.ext ?_) <;> dsimp only <;> omega

theorem queryPiece_apply (z : FVec Ideal S512x256 .f32) (c n p : Vec Ideal S1x512x128 .f32) (r : Fin 512) (i : Fin 256) :
    queryPiece z c n p (ix3 (0 : Fin 1) r i) = turnBoth z c n p (ix2 r i) * Ideal.ofBits .f32 0x3E38AA3B#32 := by
  pointwise [queryPiece]

theorem keyPiece_apply (z : FVec Ideal S512x256 .f32) (c n p : Vec Ideal S1x512x128 .f32) (i : Fin 256) (r : Fin 512) :
    keyPiece z c n p (ix3 (0 : Fin 1) i r) = turnBoth z c n p (ix2 r i) := by
  pointwise [keyPiece]

theorem valuePiece_apply (z : FVec Ideal S512x256 .f32) (r : Fin 512) (i : Fin 256) :
    valuePiece z (ix3 (0 : Fin 1) r i) = z (ix2 r i) := by
  pointwise [valuePiece]

end Proj

end
-- ==== Proof.Proj.Reference.lean ====
module

public import proofs.«01_k».proof.Proof.Gen.ProjectReferenceIdeal.Run
public import proofs.«01_k».proof.Proof.Proj.Spec
public import Idealize.ShloMosaic.Lib.Pipeline.ValueKit

/-! The projections' reference read at an index. -/

@[expose] public section

set_option maxRecDepth 16384

noncomputable section

namespace Proj.Ref

open Idealize.ShloMosaic Idealize.ShloMosaic.TcCoe Idealize.SL.Sem
open Cert.ProjectReferenceIdeal Cert.ProjectReferenceIdeal.Gen

/-- The rates of the sixteen angles. -/
def rates : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))

/-- The tokens' rows and columns on the grid. -/
def rowIds : FVec Ideal S8192 .f32 :=
  sitofp .f32 (shapeCast S8192 (broadcastInDim S128x64 ![0] bcast_S128_S128x64_0 (iotaInDim S128 32 0)) shapeCasts_S128x64_S8192)
def colIds : FVec Ideal S8192 .f32 :=
  sitofp .f32 (shapeCast S8192 (broadcastInDim S128x64 ![0, 1] bcast_S1x64_S128x64_0_1 (shapeCast S1x64 (iotaInDim S64 32 0) shapeCasts_S64_S1x64))
    shapeCasts_S128x64_S8192)

/-- Sixteen angles of each token. -/
def sixteen (ids : FVec Ideal S8192 .f32) : FVec Ideal S8192x16 .f32 :=
  mulf (broadcastInDim S8192x16 ![0, 1] bcast_S8192x1_S8192x16_0_1 (broadcastInDim S8192x1 ![0] bcast_S8192_S8192x1_0 ids))
    (broadcastInDim S8192x16 ![0, 1] bcast_S1x16_S8192x16_0_1 (broadcastInDim S1x16 ![1] bcast_S16_S1x16_1 rates))

/-- The sixty-four angles of each token. -/
def angles : FVec Ideal S8192x64 .f32 :=
  concatenate S8192x64 1 [⟨S8192x16, sixteen rowIds⟩, ⟨S8192x16, sixteen rowIds⟩, ⟨S8192x16, sixteen colIds⟩, ⟨S8192x16, sixteen colIds⟩]
    concatenates_S8192x16_S8192x16_S8192x16_S8192x16_S8192x64_d1

/-- Their cosines and sines. -/
def cosines : FVec Ideal S8192x64 .f32 := Host.cos angles
def sines : FVec Ideal S8192x64 .f32 := Host.sin angles

/-- The modulated tokens through the matrix. -/
def product (x : FVec Ideal S4x8192x1024 .f32) (sc sh : FVec Ideal S4x1x1024 .f32) (w : FVec Ideal S1024x3072 .f32) :
    FVec Ideal S4x8192x3072 .f32 :=
  Host.dotGeneral dot_S4x8192x1024_S1024x3072_S4x8192x3072_2_0_01_1_n_n none
    (addf (mulf x (broadcastInDim S4x8192x1024 ![0, 1, 2] bcast_S4x1x1024_S4x8192x1024_0_1_2
        (addf (broadcastInDim S4x1x1024 ![] bcast_S_S4x1x1024 (constant S_ .f32 0x3F800000#32)) sc)))
      (broadcastInDim S4x8192x1024 ![0, 1, 2] bcast_S4x1x1024_S4x8192x1024_0_1_2 sh)) w

/-- The half heads' lanes, paired. -/
def rotated (y : FVec Ideal S4x8192x8x2x64 .f32) : FVec Ideal S4x8192x8x2x64 .f32 :=
  concatenate S4x8192x8x2x64 4
    [⟨S4x8192x8x2x16, Host.negf (extractStridedSlice S4x8192x8x2x16 ![0, 0, 0, 0, 16] y slices_S4x8192x8x2x64_S4x8192x8x2x16_0_0_0_0_16)⟩,
     ⟨S4x8192x8x2x16, extractStridedSlice S4x8192x8x2x16 ![0, 0, 0, 0, 0] y slices_S4x8192x8x2x64_S4x8192x8x2x16_0_0_0_0_0⟩,
     ⟨S4x8192x8x2x16, Host.negf (extractStridedSlice S4x8192x8x2x16 ![0, 0, 0, 0, 48] y slices_S4x8192x8x2x64_S4x8192x8x2x16_0_0_0_0_48)⟩,
     ⟨S4x8192x8x2x16, extractStridedSlice S4x8192x8x2x16 ![0, 0, 0, 0, 32] y slices_S4x8192x8x2x64_S4x8192x8x2x16_0_0_0_0_32⟩]
    concatenates_S4x8192x8x2x16_S4x8192x8x2x16_S4x8192x8x2x16_S4x8192x8x2x16_S4x8192x8x2x64_d4

/-- A table, for every half head. -/
def everywhere (t : FVec Ideal S8192x64 .f32) : FVec Ideal S4x8192x8x2x64 .f32 :=
  broadcastInDim S4x8192x8x2x64 ![0, 1, 2, 3, 4] bcast_S1x8192x1x1x64_S4x8192x8x2x64_0_1_2_3_4
    (broadcastInDim S1x8192x1x1x64 ![1, 4] bcast_S8192x64_S1x8192x1x1x64_1_4 t)

/-- The half heads turned. -/
def turn (y : FVec Ideal S4x8192x8x2x64 .f32) : FVec Ideal S4x8192x8x2x64 .f32 :=
  addf (mulf y (everywhere cosines)) (mulf (rotated y) (everywhere sines))

/-- The three results, of the product. -/
def queries (z : FVec Ideal S4x8192x3072 .f32) : FVec Ideal S4x8192x1024 .bf16 :=
  truncf .bf16 (shapeCast S4x8192x1024 (mulf (turn (shapeCast S4x8192x8x2x64
      (extractStridedSlice S4x8192x1024 ![0, 0, 0] z slices_S4x8192x3072_S4x8192x1024_0_0_0) shapeCasts_S4x8192x1024_S4x8192x8x2x64))
    (broadcastInDim S4x8192x8x2x64 ![] bcast_S_S4x8192x8x2x64 (constant S_ .f32 0x3E38AA3B#32))) shapeCasts_S4x8192x8x2x64_S4x8192x1024)
    bitsLt_bf16_f32
def keys (z : FVec Ideal S4x8192x3072 .f32) : FVec Ideal S4x1024x8192 .bf16 :=
  truncf .bf16 (transpose S4x1024x8192 [0, 2, 1] (shapeCast S4x8192x1024 (turn (shapeCast S4x8192x8x2x64
      (extractStridedSlice S4x8192x1024 ![0, 0, 1024] z slices_S4x8192x3072_S4x8192x1024_0_0_1024) shapeCasts_S4x8192x1024_S4x8192x8x2x64))
    shapeCasts_S4x8192x8x2x64_S4x8192x1024) transposes_S4x8192x1024_S4x1024x8192_0_2_1) bitsLt_bf16_f32
def values (z : FVec Ideal S4x8192x3072 .f32) : FVec Ideal S4x8192x1024 .bf16 :=
  truncf .bf16 (shapeCast S4x8192x1024 (shapeCast S4x8192x8x128
      (extractStridedSlice S4x8192x1024 ![0, 0, 2048] z slices_S4x8192x3072_S4x8192x1024_0_0_2048) shapeCasts_S4x8192x1024_S4x8192x8x128)
    shapeCasts_S4x8192x8x128_S4x8192x1024) bitsLt_bf16_f32

theorem queries_eq (m : (ℓ : Loc nD τ sig) → Buf (Elt Ideal) ℓ) (c : Dev nD) : Cert.ProjectReferenceIdeal.Value.res_out0 m c
    = queries (product (m ((c.tc : Thread nD τ).loc main_arg0)) (m ((c.tc : Thread nD τ).loc main_arg1))
        (m ((c.tc : Thread nD τ).loc main_arg2)) (m ((c.tc : Thread nD τ).loc main_arg3))) := rfl

theorem keys_eq (m : (ℓ : Loc nD τ sig) → Buf (Elt Ideal) ℓ) (c : Dev nD) : Cert.ProjectReferenceIdeal.Value.res_out1 m c
    = keys (product (m ((c.tc : Thread nD τ).loc main_arg0)) (m ((c.tc : Thread nD τ).loc main_arg1))
        (m ((c.tc : Thread nD τ).loc main_arg2)) (m ((c.tc : Thread nD τ).loc main_arg3))) := rfl

theorem product_apply (x : FVec Ideal S4x8192x1024 .f32) (sc sh : FVec Ideal S4x1x1024 .f32) (w : FVec Ideal S1024x3072 .f32)
    (b : Fin 4) (l : Fin 8192) (n : Fin 3072) : product x sc sh w (ix3 b l n) = through x sc sh w b l n := by
  pointwise [product, through]

theorem values_apply (z : FVec Ideal S4x8192x3072 .f32) (b : Fin 4) (l : Fin 8192) (n : Fin 1024) :
    values z (ix3 b l n) = z (ix3 b l (⟨2048 + n, by omega⟩ : Fin 3072)) := by
  pointwise [values]

theorem rotated_apply (y : FVec Ideal S4x8192x8x2x64 .f32) (b : Fin 4) (l : Fin 8192) (h : Fin 8) (c : Fin 2) (j : Fin 64) :
    rotated y (ix5 b l h c j) = if hj : (j : ℕ) % 32 < 16 then -y (ix5 b l h c (⟨j + 16, by omega⟩ : Fin 64))
      else y (ix5 b l h c (⟨j - 16, by omega⟩ : Fin 64)) := by
  pointwise [rotated]
  have hy : ∀ k k' : Fin 64, (k : ℕ) = k' → y (ix5 b l h c k) = y (ix5 b l h c k') := fun k k' e =>
    congrArg (fun k => y (ix5 b l h c k)) (Fin.ext e)
  have hj : (j : ℕ) < 64 := j.isLt
  split <;> [skip; split <;> [skip; split]]
  · rw [dif_pos (by omega)]
    exact congrArg Neg.neg (hy _ _ (by dsimp only; omega))
  · rw [dif_neg (by omega)]
  · rw [dif_pos (by omega)]
    exact congrArg Neg.neg (hy _ _ (by dsimp only; omega))
  · rw [dif_neg (by omega)]
    exact hy _ _ (by dsimp only; omega)

/-- A lane of a half head, among all the heads' lanes. -/
theorem spread_apply (z : FVec Ideal S4x8192x1024 .f32) (b : Fin 4) (l : Fin 8192) (h : Fin 8) (c : Fin 2) (j : Fin 64) :
    shapeCast S4x8192x8x2x64 z shapeCasts_S4x8192x1024_S4x8192x8x2x64 (ix5 b l h c j)
      = z (ix3 b l (⟨h * 128 + c * 64 + j, by omega⟩ : Fin 1024)) := by
  pointwise

/-- Turned half heads, read at a lane of all the heads' lanes. -/
theorem turn_apply (z : FVec Ideal S4x8192x1024 .f32) (b : Fin 4) (l : Fin 8192) (n : Fin 1024) :
    turn (shapeCast S4x8192x8x2x64 z shapeCasts_S4x8192x1024_S4x8192x8x2x64)
        (ix5 b l (⟨n / 128, by omega⟩ : Fin 8) (⟨n / 64 % 2, by omega⟩ : Fin 2) (⟨n % 64, by omega⟩ : Fin 64))
      = turned cosines sines l (fun n => z (ix3 b l n)) n := by
  pointwise [turn, everywhere]
  refine congrArg (fun t => z (ix3 b l n) * cosines (ix2 l (place n)) + t * sines (ix2 l (place n))) ?_
  have hn : (n : ℕ) < 1024 := n.isLt
  have hz : ∀ k k' : Fin 1024, (k : ℕ) = k' → z (ix3 b l k) = z (ix3 b l k') := fun k k' e =>
    congrArg (fun k => z (ix3 b l k)) (Fin.ext e)
  rw [rotated_apply, partner]
  by_cases h : (n : ℕ) % 32 < 16
  · rw [dif_pos h, dif_pos (by dsimp only; omega)]
    exact congrArg Neg.neg ((spread_apply _ _ _ _ _ _).trans (hz _ _ (by dsimp only; omega)))
  · rw [dif_neg h, dif_neg (by dsimp only; omega)]
    exact (spread_apply _ _ _ _ _ _).trans (hz _ _ (by dsimp only; omega))

/-- The queries', the keys' and the values' columns of the product. -/
theorem first_apply (z : FVec Ideal S4x8192x3072 .f32) (b : Fin 4) (l : Fin 8192) (n : Fin 1024) :
    extractStridedSlice S4x8192x1024 ![0, 0, 0] z slices_S4x8192x3072_S4x8192x1024_0_0_0 (ix3 b l n)
      = z (ix3 b l (⟨n, by omega⟩ : Fin 3072)) := by
  pointwise
theorem second_apply (z : FVec Ideal S4x8192x3072 .f32) (b : Fin 4) (l : Fin 8192) (n : Fin 1024) :
    extractStridedSlice S4x8192x1024 ![0, 0, 1024] z slices_S4x8192x3072_S4x8192x1024_0_0_1024 (ix3 b l n)
      = z (ix3 b l (⟨1024 + n, by omega⟩ : Fin 3072)) := by
  pointwise

theorem queries_apply (z : FVec Ideal S4x8192x3072 .f32) (b : Fin 4) (l : Fin 8192) (n : Fin 1024) :
    queries z (ix3 b l n) = turned cosines sines l (fun n => z (ix3 b l (⟨n, by omega⟩ : Fin 3072))) n
      * Ideal.ofBits .f32 0x3E38AA3B#32 := by
  pointwise [queries]
  rw [turn_apply, show (fun n : Fin 1024 => extractStridedSlice S4x8192x1024 ![0, 0, 0] z
    slices_S4x8192x3072_S4x8192x1024_0_0_0 (ix3 b l n)) = _ from funext fun n => first_apply z b l n]

theorem keys_apply (z : FVec Ideal S4x8192x3072 .f32) (b : Fin 4) (n : Fin 1024) (l : Fin 8192) :
    keys z (ix3 b n l) = turned cosines sines l (fun n => z (ix3 b l (⟨1024 + n, by omega⟩ : Fin 3072))) n := by
  pointwise [keys]
  rw [turn_apply, show (fun n : Fin 1024 => extractStridedSlice S4x8192x1024 ![0, 0, 1024] z
    slices_S4x8192x3072_S4x8192x1024_0_0_1024 (ix3 b l n)) = _ from funext fun n => second_apply z b l n]

section

variable (x : FVec Ideal S4x8192x1024 .f32) (sc sh : FVec Ideal S4x1x1024 .f32) (w : FVec Ideal S1024x3072 .f32)

/-- The three results are the specification's. -/
theorem queries_spec : queries (product x sc sh w) = Proj.queries cosines sines (Ideal.ofBits .f32 0x3E38AA3B#32) x sc sh w := by
  refine funext fun i => ?_
  obtain ⟨b, l, n, rfl⟩ : ∃ (b : Fin 4) (l : Fin 8192) (n : Fin 1024), i = ix3 b l n := ⟨i 0, i 1, i 2, eq_ix3 i⟩
  refine (queries_apply _ b l n).trans ?_
  show _ = turned cosines sines l (query x sc sh w b l) n * _
  rw [show (fun n : Fin 1024 => product x sc sh w (ix3 b l (⟨n, by omega⟩ : Fin 3072))) = query x sc sh w b l from
    funext fun n => product_apply x sc sh w b l _]

theorem keys_spec : keys (product x sc sh w) = Proj.keys cosines sines x sc sh w := by
  refine funext fun i => ?_
  obtain ⟨b, n, l, rfl⟩ : ∃ (b : Fin 4) (n : Fin 1024) (l : Fin 8192), i = ix3 b n l := ⟨i 0, i 1, i 2, eq_ix3 i⟩
  refine (keys_apply _ b n l).trans ?_
  show _ = turned cosines sines l (key x sc sh w b l) n
  rw [show (fun n : Fin 1024 => product x sc sh w (ix3 b l (⟨1024 + n, by omega⟩ : Fin 3072))) = key x sc sh w b l from
    funext fun n => product_apply x sc sh w b l _]

theorem values_spec : values (product x sc sh w) = Proj.values x sc sh w := by
  refine funext fun i => ?_
  obtain ⟨b, l, n, rfl⟩ : ∃ (b : Fin 4) (l : Fin 8192) (n : Fin 1024), i = ix3 b l n := ⟨i 0, i 1, i 2, eq_ix3 i⟩
  exact (values_apply _ b l n).trans (product_apply x sc sh w b l _)

end

end Proj.Ref

end
-- ==== Proof.Proj.Tables.lean ====
module

public import proofs.«01_k».proof.Proof.Proj.Payload
public import proofs.«01_k».proof.Proof.Proj.Reference
public import Idealize.ShloMosaic.Lib.StableHlo.RunRead

/-! The tables of angles that the host line prepares for the call, and the matrix. -/

@[expose] public section

set_option maxRecDepth 16384

noncomputable section

namespace Proj

open Idealize.ShloMosaic Idealize.ShloMosaic.TcCoe Idealize.SL.Sem
open Cert.ProjectIdeal Cert.ProjectIdeal.Gen

/-- A table for a head: its sixty-four lanes, twice. -/
def twice (t : FVec Ideal S8192x64 .f32) : FVec Ideal S1x8192x128 .f32 :=
  broadcastInDim S1x8192x128 ![1, 2] bcast_S8192x128_S1x8192x128_1_2 (shapeCast S8192x128
    (broadcastInDim S1x8192x2x64 ![0, 1, 2, 3] bcast_S1x8192x1x64_S1x8192x2x64_0_1_2_3
      (shapeCast S1x8192x1x64 t shapeCasts_S8192x64_S1x8192x1x64)) shapeCasts_S1x8192x2x64_S8192x128)

/-- The lanes whose partner is sixteen further on. -/
def early : IVec S8192x64 1 := broadcastInDim S8192x64 ![1] bcast_S64_S8192x64_1 (fun i => lit0 (S64.rowMajor i))

/-- The zero table. -/
def zeros : FVec Ideal S8192x64 .f32 := broadcastInDim S8192x64 ![] bcast_S_S8192x64 (id (constant S_ .f32 0x00000000#32))

/-- Four groups of sixteen angles. -/
def four (a b c d : FVec Ideal S8192x16 .f32) : FVec Ideal S8192x64 .f32 :=
  concatenate S8192x64 1 [⟨S8192x16, a⟩, ⟨S8192x16, b⟩, ⟨S8192x16, c⟩, ⟨S8192x16, d⟩]
    concatenates_S8192x16_S8192x16_S8192x16_S8192x16_S8192x64_d1

/-- Three tables, one after the other. -/
def stack (a b c : FVec Ideal S1x8192x128 .f32) : FVec Ideal S3x8192x128 .f32 :=
  concatenate S3x8192x128 0 [⟨S1x8192x128, a⟩, ⟨S1x8192x128, b⟩, ⟨S1x8192x128, c⟩]
    concatenates_S1x8192x128_S1x8192x128_S1x8192x128_S3x8192x128_d0

/-- The three tables: the cosines; the sines negated on the early lanes; the sines on the others. -/
def tables (co si : FVec Ideal S8192x64 .f32) : FVec Ideal S3x8192x128 .f32 :=
  stack (twice co) (twice (select early (Host.negf si) zeros)) (twice (select early zeros si))

theorem twice_apply (t : FVec Ideal S8192x64 .f32) (l : Fin 8192) (i : Fin 128) :
    twice t (ix3 (0 : Fin 1) l i) = t (ix2 l (⟨i % 64, by omega⟩ : Fin 64)) := by
  pointwise [twice]

theorem early_lanes : ∀ j : Fin 64, lit0 j = if (j : ℕ) % 32 < 16 then 1#1 else 0#1 := by decide +kernel

theorem row_one (j : Fin 64) : S64.rowMajor (ix1 j) = j := Fin.ext ((Shape.rowMajor_val_one _).trans rfl)

theorem negated_apply (si : FVec Ideal S8192x64 .f32) (l : Fin 8192) (j : Fin 64) :
    select early (Host.negf si) zeros (ix2 l j) = if (j : ℕ) % 32 < 16 then -si (ix2 l j) else 0 := by
  pointwise [early, zeros, id]
  refine (congrArg (fun w => Scalar.select w _ _) ((congrArg lit0 (row_one j)).trans (early_lanes j))).trans ?_
  split <;> rfl

theorem kept_apply (si : FVec Ideal S8192x64 .f32) (l : Fin 8192) (j : Fin 64) :
    select early zeros si (ix2 l j) = if (j : ℕ) % 32 < 16 then 0 else si (ix2 l j) := by
  pointwise [early, zeros, id]
  refine (congrArg (fun w => Scalar.select w _ _) ((congrArg lit0 (row_one j)).trans (early_lanes j))).trans ?_
  split <;> rfl

theorem tables_apply_0 (co si : FVec Ideal S8192x64 .f32) (l : Fin 8192) (i : Fin 128) :
    tables co si (ix3 (0 : Fin 3) l i) = co (ix2 l (⟨i % 64, by omega⟩ : Fin 64)) := by
  pointwise [tables, stack]
  exact twice_apply _ l i

theorem tables_apply_1 (co si : FVec Ideal S8192x64 .f32) (l : Fin 8192) (i : Fin 128) :
    tables co si (ix3 (1 : Fin 3) l i) = if (i : ℕ) % 32 < 16 then -si (ix2 l (⟨i % 64, by omega⟩ : Fin 64)) else 0 := by
  pointwise [tables, stack]
  refine (twice_apply _ l i).trans ((negated_apply si l _).trans (if_congr ?_ rfl rfl))
  show (i : ℕ) % 64 % 32 < 16 ↔ _
  omega

theorem tables_apply_2 (co si : FVec Ideal S8192x64 .f32) (l : Fin 8192) (i : Fin 128) :
    tables co si (ix3 (2 : Fin 3) l i) = if (i : ℕ) % 32 < 16 then 0 else si (ix2 l (⟨i % 64, by omega⟩ : Fin 64)) := by
  pointwise [tables, stack]
  refine (twice_apply _ l i).trans ((kept_apply si l _).trans (if_congr ?_ rfl rfl))
  show (i : ℕ) % 64 % 32 < 16 ↔ _
  omega

section

variable (m : (ℓ : Loc nD τ sig) → Buf (Elt Ideal) ℓ) (c : Dev nD) (t : Fin cfg0.N)

/-- The host line before the call. -/
abbrev line : List (HloOp τ sig (Elt Ideal)) := hostOps0 ++ (hostOps0_1 ++ (hostOps0_2 ++ (hostOps0_3 ++ hostOps0_4)))

/-- What the line has left in a buffer before its operation `k`. -/
abbrev before (k : ℕ) (b : Ref sig .tc) : Buf (Elt Ideal) ((c : Thread nD τ).loc b) :=
  StableHlo.upto line (fun b => m (c, b)) k (Proc.devRef .tc b)

/-- Sixteen angles by the tokens' rows, and sixteen by their columns. -/
theorem line_rows : before m c 35 main_v24 = Ref.sixteen Ref.rowIds := by
  after_reads_simp
  rfl
theorem line_cols : before m c 35 main_v29 = Ref.sixteen Ref.colIds := by
  after_reads_simp
  rfl

/-- The sixty-four angles, of the four groups of sixteen. -/
theorem angles_eq : four (before m c 35 main_v24) (before m c 35 main_v24) (before m c 35 main_v29) (before m c 35 main_v29)
    = Ref.angles :=
  (congrArg₂ (fun a b => four a a b b) (line_rows m c) (line_cols m c)).trans rfl

/-- The three tables. -/
theorem line_cosines : before m c 61 main_v45 = twice Ref.cosines := by
  after_reads_simp
  exact congrArg (fun a => twice (Host.cos a)) (angles_eq m c)
theorem line_negated : before m c 61 main_v46 = twice (select early (Host.negf Ref.sines) zeros) := by
  after_reads_simp
  exact congrArg (fun a => twice (select early (Host.negf (Host.sin a)) zeros)) (angles_eq m c)
theorem line_kept : before m c 61 main_v47 = twice (select early zeros Ref.sines) := by
  after_reads_simp
  exact congrArg (fun a => twice (select early zeros (Host.sin a))) (angles_eq m c)

/-- What the call finds in the tables' buffer. -/
theorem entry_tables : (V m c main_v48 : FVec Ideal S3x8192x128 .f32) = tables Ref.cosines Ref.sines := by
  show StableHlo.after line (fun b => m (c, b)) (Proc.devRef .tc main_v48) = _
  after_reads_simp
  exact congrArg₂ (fun a b => stack a b.1 b.2) (line_cosines m c) (congrArg₂ Prod.mk (line_negated m c) (line_kept m c))

/-- What the call finds in the matrix's buffer. -/
theorem entry_matrix : (V m c main_v0 : FVec Ideal S1024x3072 .bf16) = m ((c : Thread nD τ).loc main_arg3) := by
  entry_read
  rfl

/-- The blocks' indices at a grid point. -/
theorem idx : ∀ t : Fin cfg0.N,
    win0_0.index t = ![t.val / 16, t.val % 16, 0] ∧ win0_1.index t = ![t.val / 16, 0, 0] ∧ win0_2.index t = ![t.val / 16, 0, 0]
    ∧ win0_3.index t = ![0, 0] ∧ win0_4.index t = ![0, t.val % 16, 0] ∧ win0_5.index t = ![t.val / 16, t.val % 16, 0]
    ∧ win0_6.index t = ![t.val / 16, 0, t.val % 16] ∧ win0_7.index t = ![t.val / 16, t.val % 16, 0] :=
  (by decide +kernel : ∀ t : Fin grid0.N, _)

/-- The sequence and a token of a grid point. -/
def seq : Fin 4 := ⟨t.val / 16, by have : t.val < 64 := t.2; omega⟩
def token (p : Fin 512) : Fin 8192 := ⟨512 * (t.val % 16) + p, by omega⟩

theorem block0 (p : Fin 512) (k : Fin 1024) : (iblk m c 0 t : FVec Ideal S1x512x1024 .f32) (ix3 (0 : Fin 1) p k)
    = (m ((c : Thread nD τ).loc main_arg0) : FVec Ideal S4x8192x1024 .f32) (ix3 (seq t) (token t p) k) := by
  blk_ext! [iblk, V, idx t, seq, token]

theorem block1 (k : Fin 1024) : (iblk m c 1 t : FVec Ideal S1x1x1024 .f32) (ix3 (0 : Fin 1) (0 : Fin 1) k)
    = (m ((c : Thread nD τ).loc main_arg1) : FVec Ideal S4x1x1024 .f32) (ix3 (seq t) (0 : Fin 1) k) := by
  blk_ext! [iblk, V, idx t, seq]

theorem block2 (k : Fin 1024) : (iblk m c 2 t : FVec Ideal S1x1x1024 .f32) (ix3 (0 : Fin 1) (0 : Fin 1) k)
    = (m ((c : Thread nD τ).loc main_arg2) : FVec Ideal S4x1x1024 .f32) (ix3 (seq t) (0 : Fin 1) k) := by
  blk_ext! [iblk, V, idx t, seq]

theorem block3 (k : Fin 1024) (n : Fin 3072) : (iblk m c 3 t : FVec Ideal S1024x3072 .bf16) (ix2 k n)
    = (m ((c : Thread nD τ).loc main_arg3) : FVec Ideal S1024x3072 .f32) (ix2 k n) := by
  blk_simp [iblk, idx t]
  rw [entry_matrix]
  blk_ext! [idx t]

theorem block4 (a : Fin 3) (p : Fin 512) (i : Fin 128) : (iblk m c 4 t : FVec Ideal S3x512x128 .f32) (ix3 a p i)
    = tables Ref.cosines Ref.sines (ix3 a (token t p) i) := by
  blk_simp [iblk, idx t]
  rw [entry_tables]
  generalize tables Ref.cosines Ref.sines = T
  blk_ext! [idx t, token]

end

end Proj

end
-- ==== Proof.Proj.Array.lean ====
module

public import proofs.«01_k».proof.Proof.Proj.Tables

/-! The three result arrays of the projections' call, from the blocks its grid points write. -/

@[expose] public section

set_option maxRecDepth 16384

noncomputable section

namespace Proj

open Idealize.ShloMosaic Idealize.ShloMosaic.TcCoe Idealize.SL.Sem
open Cert.ProjectIdeal Cert.ProjectIdeal.Gen

section

variable (m : (ℓ : Loc nD τ sig) → Buf (Elt Ideal) ℓ) (c : Dev nD) (t : Fin cfg0.N)

/-- The grid point's modulated rows. -/
abbrev rows : FVec Ideal S512x1024 .bf16 := k0_pay41 (F := Ideal) (iblk m c 0 t) (iblk m c 1 t) (iblk m c 2 t) (iblk m c 3 t) (iblk m c 4 t)

/-- The specification's arrays, of the call's arguments. -/
abbrev X : STokens.Idx → EReal := m ((c : Thread nD τ).loc main_arg0)
abbrev Sc : SMod.Idx → EReal := m ((c : Thread nD τ).loc main_arg1)
abbrev Sh : SMod.Idx → EReal := m ((c : Thread nD τ).loc main_arg2)
abbrev W : SMatrix.Idx → EReal := m ((c : Thread nD τ).loc main_arg3)

/-- Two heads' columns, read from the matrix at column `o`, give the specification's product at those columns. -/
theorem product_apply (w : Vec Ideal S1024x256 .bf16) (o : ℕ) (ho : o + 256 ≤ 3072)
    (hw : ∀ (k : Fin 1024) (n : Fin 256), w (ix2 k n) = (iblk m c 3 t : FVec Ideal S1024x3072 .bf16) (ix2 k (⟨o + n, by omega⟩ : Fin 3072)))
    (p : Fin 512) (n : Fin 256) :
    heads (rows m c t) w (ix2 p n)
      = through (X m c) (Sc m c) (Sh m c) (W m c) (seq t) (token t p) (⟨o + n, by omega⟩ : Fin 3072) := by
  refine (heads_apply _ _ _ _).trans (Finset.sum_congr rfl fun k _ => ?_)
  refine congrArg₂ (· * ·) ((rows_apply _ _ _ _ _ _ _).trans ?_) ((hw k n).trans (block3 m c t _ _))
  rw [block0, block1, block2]

/-- A plane of the tables, loaded. -/
theorem ld_plane (T : Vec Ideal S3x512x128 .f32) (p : Fin 512) (i : Fin 128) :
    View.ld T r0_3 (ix3 (0 : Fin 1) p i) = T (ix3 (0 : Fin 3) p i)
    ∧ View.ld T r0_4 (ix3 (0 : Fin 1) p i) = T (ix3 (1 : Fin 3) p i)
    ∧ View.ld T r0_5 (ix3 (0 : Fin 1) p i) = T (ix3 (2 : Fin 3) p i) := by
  refine ⟨View.ld_unit_apply_of T _ _ _ _ _ fun a => ?_, View.ld_unit_apply_of T _ _ _ _ _ fun a => ?_,
    View.ld_unit_apply_of T _ _ _ _ _ fun a => ?_⟩ <;> fin_cases a <;> simp [ix3]

/-- Two heads' columns of the matrix, loaded. -/
theorem ld_columns (w : Vec Ideal S1024x3072 .bf16) (o : ℕ) (ho : o + 256 ≤ 3072) (inb) (k : Fin 1024) (n : Fin 256) :
    View.ld w (Rect.unit (s := S1024x3072) ![0, o] S1024x256.size inb) (ix2 k n) = w (ix2 k (⟨o + n, by omega⟩ : Fin 3072)) := by
  refine View.ld_unit_apply_of w _ _ _ _ _ fun a => ?_
  fin_cases a <;> simp [ix2]

/-- The tables' planes at a grid point. -/
theorem plane0 (p : Fin 512) (i : Fin 128) : View.ld (iblk m c 4 t : FVec Ideal S3x512x128 .f32) r0_3 (ix3 (0 : Fin 1) p i)
    = Ref.cosines (ix2 (token t p) (⟨i % 64, by omega⟩ : Fin 64)) :=
  (ld_plane _ p i).1.trans ((block4 m c t 0 p i).trans (tables_apply_0 _ _ _ _))
theorem plane1 (p : Fin 512) (i : Fin 128) : View.ld (iblk m c 4 t : FVec Ideal S3x512x128 .f32) r0_4 (ix3 (0 : Fin 1) p i)
    = if (i : ℕ) % 32 < 16 then -Ref.sines (ix2 (token t p) (⟨i % 64, by omega⟩ : Fin 64)) else 0 :=
  (ld_plane _ p i).2.1.trans ((block4 m c t 1 p i).trans (tables_apply_1 _ _ _ _))
theorem plane2 (p : Fin 512) (i : Fin 128) : View.ld (iblk m c 4 t : FVec Ideal S3x512x128 .f32) r0_5 (ix3 (0 : Fin 1) p i)
    = if (i : ℕ) % 32 < 16 then 0 else Ref.sines (ix2 (token t p) (⟨i % 64, by omega⟩ : Fin 64)) :=
  (ld_plane _ p i).2.2.trans ((block4 m c t 2 p i).trans (tables_apply_2 _ _ _ _))

/-- Two heads turned by the grid point's tables, at lane `o + i` of the operand's lanes. -/
theorem turned_apply (z : FVec Ideal S512x256 .f32) (p : Fin 512) (y : Fin 1024 → EReal) (o : ℕ) (ho : o % 256 = 0) (hl : o + 256 ≤ 1024)
    (hz : ∀ i : Fin 256, z (ix2 p i) = y ⟨o + i, by omega⟩) (i : Fin 256) :
    turnBoth z (View.ld (iblk m c 4 t : FVec Ideal S3x512x128 .f32) r0_3) (View.ld (iblk m c 4 t : FVec Ideal S3x512x128 .f32) r0_4)
        (View.ld (iblk m c 4 t : FVec Ideal S3x512x128 .f32) r0_5) (ix2 p i)
      = turned Ref.cosines Ref.sines (token t p) y ⟨o + i, by omega⟩ := by
  have hi : (i : ℕ) < 256 := i.isLt
  have hy : ∀ k k' : Fin 1024, (k : ℕ) = k' → y k = y k' := fun k k' e => congrArg y (Fin.ext e)
  have hp : (⟨(⟨(i : ℕ) % 128, by omega⟩ : Fin 128) % 64, by omega⟩ : Fin 64) = place ⟨o + i, by omega⟩ := Fin.ext (by
    show (i : ℕ) % 128 % 64 = (o + i) % 64
    omega)
  rw [turnBoth_apply, plane0, plane1, plane2, hp, turned, partner, hz, hz, hz]
  by_cases h : (i : ℕ) % 32 < 16
  · rw [if_pos (by dsimp only; omega), if_pos (by dsimp only; omega), dif_pos (by dsimp only; omega), mul_zero, add_zero, mul_neg, ← neg_mul]
    exact congrArg (fun v => _ + -v * _) (hy _ _ (by dsimp only; omega))
  · rw [if_neg (by dsimp only; omega), if_neg (by dsimp only; omega), dif_neg (by dsimp only; omega), mul_zero, add_zero]
    exact congrArg (fun v => _ + v * _) (hy _ _ (by dsimp only; omega))

/-- The piece of queries that two heads store, from lane `o` on. -/
theorem query_tile (w : Vec Ideal S1024x256 .bf16) (o : ℕ) (ho : o % 256 = 0) (hl : o + 256 ≤ 1024)
    (hw : ∀ (k : Fin 1024) (n : Fin 256), w (ix2 k n) = (iblk m c 3 t : FVec Ideal S1024x3072 .bf16) (ix2 k (⟨o + n, by omega⟩ : Fin 3072)))
    (p : Fin 512) (n : Fin 1024) :
    View.TileAt (Val := Elt Ideal) (S := S1x512x1024) (e := .bf16) (ix3 (0 : Fin 1) p n) ![0, 0, o] S1x512x256.size
      (queryPiece (heads (rows m c t) w) (View.ld (iblk m c 4 t : FVec Ideal S3x512x128 .f32) r0_3)
        (View.ld (iblk m c 4 t : FVec Ideal S3x512x128 .f32) r0_4) (View.ld (iblk m c 4 t : FVec Ideal S3x512x128 .f32) r0_5))
      (queries Ref.cosines Ref.sines (Ideal.ofBits .f32 0x3E38AA3B#32) (X m c) (Sc m c) (Sh m c) (W m c) (ix3 (seq t) (token t p) n)) := by
  intro x hx
  obtain ⟨a, q, i, rfl⟩ : ∃ (a : Fin 1) (q : Fin 512) (i : Fin 256), x = ix3 a q i := ⟨x 0, x 1, x 2, eq_ix3 x⟩
  obtain rfl : a = 0 := Subsingleton.elim _ _
  obtain rfl : p = q := Fin.ext ((hx 1).trans (Nat.zero_add _))
  obtain rfl : n = ⟨o + i, by omega⟩ := Fin.ext (hx 2)
  refine (queryPiece_apply _ _ _ _ _ _).trans (congrArg (· * Ideal.ofBits .f32 0x3E38AA3B#32) ?_)
  exact turned_apply m c t _ p (query (X m c) (Sc m c) (Sh m c) (W m c) (seq t) (token t p)) o ho hl
    (fun i => product_apply m c t w o (by omega) hw p i) i

/-- The piece of keys. -/
theorem key_tile (w : Vec Ideal S1024x256 .bf16) (o : ℕ) (ho : o % 256 = 0) (hl : o + 256 ≤ 1024)
    (hw : ∀ (k : Fin 1024) (n : Fin 256), w (ix2 k n)
      = (iblk m c 3 t : FVec Ideal S1024x3072 .bf16) (ix2 k (⟨1024 + o + n, by omega⟩ : Fin 3072)))
    (p : Fin 512) (n : Fin 1024) :
    View.TileAt (Val := Elt Ideal) (S := S1x1024x512) (e := .bf16) (ix3 (0 : Fin 1) n p) ![0, o, 0] S1x256x512.size
      (keyPiece (heads (rows m c t) w) (View.ld (iblk m c 4 t : FVec Ideal S3x512x128 .f32) r0_3)
        (View.ld (iblk m c 4 t : FVec Ideal S3x512x128 .f32) r0_4) (View.ld (iblk m c 4 t : FVec Ideal S3x512x128 .f32) r0_5))
      (keys Ref.cosines Ref.sines (X m c) (Sc m c) (Sh m c) (W m c) (ix3 (seq t) n (token t p))) := by
  intro x hx
  obtain ⟨a, i, q, rfl⟩ : ∃ (a : Fin 1) (i : Fin 256) (q : Fin 512), x = ix3 a i q := ⟨x 0, x 1, x 2, eq_ix3 x⟩
  obtain rfl : a = 0 := Subsingleton.elim _ _
  obtain rfl : p = q := Fin.ext ((hx 2).trans (Nat.zero_add _))
  obtain rfl : n = ⟨o + i, by omega⟩ := Fin.ext (hx 1)
  refine (keyPiece_apply _ _ _ _ _ _).trans ?_
  exact turned_apply m c t _ p (key (X m c) (Sc m c) (Sh m c) (W m c) (seq t) (token t p)) o ho hl
    (fun i => (product_apply m c t w (1024 + o) (by omega) hw p i).trans
      (congrArg (through (X m c) (Sc m c) (Sh m c) (W m c) (seq t) (token t p)) (Fin.ext (Nat.add_assoc _ _ _)))) i

/-- The piece of values. -/
theorem value_tile (w : Vec Ideal S1024x256 .bf16) (o : ℕ) (hl : o + 256 ≤ 1024)
    (hw : ∀ (k : Fin 1024) (n : Fin 256), w (ix2 k n)
      = (iblk m c 3 t : FVec Ideal S1024x3072 .bf16) (ix2 k (⟨2048 + o + n, by omega⟩ : Fin 3072)))
    (p : Fin 512) (n : Fin 1024) :
    View.TileAt (Val := Elt Ideal) (S := S1x512x1024) (e := .bf16) (ix3 (0 : Fin 1) p n) ![0, 0, o] S1x512x256.size
      (valuePiece (heads (rows m c t) w)) (values (X m c) (Sc m c) (Sh m c) (W m c) (ix3 (seq t) (token t p) n)) := by
  intro x hx
  obtain ⟨a, q, i, rfl⟩ : ∃ (a : Fin 1) (q : Fin 512) (i : Fin 256), x = ix3 a q i := ⟨x 0, x 1, x 2, eq_ix3 x⟩
  obtain rfl : a = 0 := Subsingleton.elim _ _
  obtain rfl : p = q := Fin.ext ((hx 1).trans (Nat.zero_add _))
  obtain rfl : n = ⟨o + i, by omega⟩ := Fin.ext (hx 2)
  exact (valuePiece_apply _ _ _).trans ((product_apply m c t w (2048 + o) (by omega) hw p i).trans
    (congrArg (through (X m c) (Sc m c) (Sh m c) (W m c) (seq t) (token t p)) (Fin.ext (Nat.add_assoc _ _ _))))

/-- The three blocks that a grid point leaves. -/
theorem queries_block (p : Fin 512) (n : Fin 1024) :
    out0_5 (F := Ideal) (iblk m c 0 t) (iblk m c 1 t) (iblk m c 2 t) (iblk m c 3 t) (iblk m c 4 t) (ix3 (0 : Fin 1) p n)
      = queries Ref.cosines Ref.sines (Ideal.ofBits .f32 0x3E38AA3B#32) (X m c) (Sc m c) (Sh m c) (W m c) (ix3 (seq t) (token t p) n) := by
  rw [out5_eq]
  exact View.canon_eq_of_allAt _ _ _ (cover0_5 _ _ _ _ _)
    (View.allAt_cons_unit _ _ _ _ _ (query_tile m c t _ 768 rfl (by omega) (ld_columns _ 768 (by omega) _) p n)
    (View.allAt_cons_unit _ _ _ _ _ (query_tile m c t _ 512 rfl (by omega) (ld_columns _ 512 (by omega) _) p n)
    (View.allAt_cons_unit _ _ _ _ _ (query_tile m c t _ 256 rfl (by omega) (ld_columns _ 256 (by omega) _) p n)
    (View.allAt_cons_unit _ _ _ _ _ (query_tile m c t _ 0 rfl (by omega) (ld_columns _ 0 (by omega) _) p n)
    (View.allAt_nil _ _)))))

theorem keys_block (n : Fin 1024) (p : Fin 512) :
    out0_6 (F := Ideal) (iblk m c 0 t) (iblk m c 1 t) (iblk m c 2 t) (iblk m c 3 t) (iblk m c 4 t) (ix3 (0 : Fin 1) n p)
      = keys Ref.cosines Ref.sines (X m c) (Sc m c) (Sh m c) (W m c) (ix3 (seq t) n (token t p)) := by
  rw [out6_eq]
  exact View.canon_eq_of_allAt _ _ _ (cover0_6 _ _ _ _ _)
    (View.allAt_cons_unit _ _ _ _ _ (key_tile m c t _ 768 rfl (by omega) (ld_columns _ 1792 (by omega) _) p n)
    (View.allAt_cons_unit _ _ _ _ _ (key_tile m c t _ 512 rfl (by omega) (ld_columns _ 1536 (by omega) _) p n)
    (View.allAt_cons_unit _ _ _ _ _ (key_tile m c t _ 256 rfl (by omega) (ld_columns _ 1280 (by omega) _) p n)
    (View.allAt_cons_unit _ _ _ _ _ (key_tile m c t _ 0 rfl (by omega) (ld_columns _ 1024 (by omega) _) p n)
    (View.allAt_nil _ _)))))

theorem values_block (p : Fin 512) (n : Fin 1024) :
    out0_7 (F := Ideal) (iblk m c 0 t) (iblk m c 1 t) (iblk m c 2 t) (iblk m c 3 t) (iblk m c 4 t) (ix3 (0 : Fin 1) p n)
      = values (X m c) (Sc m c) (Sh m c) (W m c) (ix3 (seq t) (token t p) n) := by
  rw [out7_eq]
  exact View.canon_eq_of_allAt _ _ _ (cover0_7 _ _ _ _ _)
    (View.allAt_cons_unit _ _ _ _ _ (value_tile m c t _ 768 (by omega) (ld_columns _ 2816 (by omega) _) p n)
    (View.allAt_cons_unit _ _ _ _ _ (value_tile m c t _ 512 (by omega) (ld_columns _ 2560 (by omega) _) p n)
    (View.allAt_cons_unit _ _ _ _ _ (value_tile m c t _ 256 (by omega) (ld_columns _ 2304 (by omega) _) p n)
    (View.allAt_cons_unit _ _ _ _ _ (value_tile m c t _ 0 (by omega) (ld_columns _ 2048 (by omega) _) p n)
    (View.allAt_nil _ _)))))

end

section

variable (m : (ℓ : Loc nD τ sig) → Buf (Elt Ideal) ℓ) (c : Dev nD)

/-- The three arrays that the call leaves. -/
theorem queries_final : (dats m 0 c).arrAt 5 cfg0.N
    = queries Ref.cosines Ref.sines (Ideal.ofBits .f32 0x3E38AA3B#32) (X m c) (Sc m c) (Sh m c) (W m c) := by
  refine (dats m 0 c).arrAt_eq_of_covers 5 _ (by decide +kernel) fun t _ y => ?_
  blk_simp
  rw [after0_5]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_5.blk t).view.emb (ix3 (0 : Fin 1) p n : S1x512x1024.Idx) : S4x8192x1024.Idx) = ix3 (seq t) (token t p) n := by
    blk_ext! [idx t, seq, token]
  exact (queries_block m c t p n).trans (congrArg _ he).symm

theorem keys_final : (dats m 0 c).arrAt 6 cfg0.N
    = keys Ref.cosines Ref.sines (X m c) (Sc m c) (Sh m c) (W m c) := by
  refine (dats m 0 c).arrAt_eq_of_covers 6 _ (by decide +kernel) fun t _ y => ?_
  blk_simp
  rw [after0_6]
  obtain ⟨a, n, p, rfl⟩ : ∃ (a : Fin 1) (n : Fin 1024) (p : Fin 512), (y : S1x1024x512.Idx) = ix3 a n p := ⟨y 0, y 1, y 2, eq_ix3 y⟩
  obtain rfl : a = 0 := Subsingleton.elim _ _
  have he : ((win0_6.blk t).view.emb (ix3 (0 : Fin 1) n p : S1x1024x512.Idx) : S4x1024x8192.Idx) = ix3 (seq t) n (token t p) := by
    blk_ext! [idx t, seq, token]
  exact (keys_block m c t n p).trans (congrArg _ he).symm

theorem values_final : (dats m 0 c).arrAt 7 cfg0.N = values (X m c) (Sc m c) (Sh m c) (W m c) := by
  refine (dats m 0 c).arrAt_eq_of_covers 7 _ (by decide +kernel) fun t _ y => ?_
  blk_simp
  rw [after0_7]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_7.blk t).view.emb (ix3 (0 : Fin 1) p n : S1x512x1024.Idx) : S4x8192x1024.Idx) = ix3 (seq t) (token t p) n := by
    blk_ext! [idx t, seq, token]
  exact (values_block m c t p n).trans (congrArg _ he).symm

end

end Proj

end
-- ==== Proof.Hyena.State.lean ====
module

public import proofs.«01_k».proof.Proof.Gen.GatesIdeal.Value
public import Idealize.ShloMosaic.Lib.Pipeline.ValueKit
public import Idealize.ShloMosaic.Lib.Pipeline.ReadBack
public import Idealize.ShloMosaic.Lib.Pointwise

/-! What one grid point of the gates' call computes from its blocks, in the steps of its body.

The blocks are `x0` (512 tokens), `x1` and `x2` (sixteen tokens before and after them), `x3` and `x4` (the sequence's scale
and shift), `x5` and `x6` (the matrix and its bias), `x7` and `x8` (the three taps and their bias). The body works on 256
columns at a time: it puts the 544 modulated tokens through the columns and reads the product one row early, in place
and one row late. -/

@[expose] public section

set_option maxRecDepth 16384

noncomputable section

namespace Hyena

open Idealize.ShloMosaic Idealize.ShloMosaic.TcCoe Idealize.SL.Sem
open Cert.GatesIdeal Cert.GatesIdeal.Gen

variable {F : FTy → Type} [FloatOps F]

/-- 256 columns, from column `o` on: of the matrix, of a bias, of the taps. -/
def cols (x5 : Vec F S1024x3072 .bf16) (o : ℕ) : Vec F S1024x256 .bf16 := fun i =>
  x5 (ix2 (i 0 : Fin 1024) (⟨(o + (i 1 : Fin 256).1) % 3072, Nat.mod_lt _ (by decide)⟩ : Fin 3072))
def lane (x : Vec F S1x3072 .f32) (o : ℕ) : Vec F S1x256 .f32 := fun i =>
  x (ix2 (i 0 : Fin 1) (⟨(o + (i 1 : Fin 256).1) % 3072, Nat.mod_lt _ (by decide)⟩ : Fin 3072))
def taps (x7 : Vec F S3x3072 .f32) (o : ℕ) : Vec F S3x256 .f32 := fun i =>
  x7 (ix2 (i 0 : Fin 3) (⟨(o + (i 1 : Fin 256).1) % 3072, Nat.mod_lt _ (by decide)⟩ : Fin 3072))

/-- 512 rows, from row `j` on. -/
def rowsFrom (z : Vec F S544x256 .f32) (j : ℕ) : Vec F S512x256 .f32 := fun i =>
  z (ix2 (⟨(j + (i 0 : Fin 512).1) % 544, Nat.mod_lt _ (by decide)⟩ : Fin 544) (i 1 : Fin 256))

section state

variable (a : BitVec 32) (x0 : Vec F S1x512x1024 .f32) (x1 x2 : Vec F S1x16x1024 .f32) (x3 x4 : Vec F S1x1x1024 .f32)
  (x5 : Vec F S1024x3072 .bf16) (x6 : Vec F S1x3072 .f32) (x7 : Vec F S3x3072 .f32) (x8 : Vec F S1x3072 .f32)

/-- The 544 modulated tokens: sixteen before, the block's own, sixteen after. -/
def tokens : FVec F S544x1024 .bf16 := View.canon (Val := Elt F) (s := S544x1024) (e := .bf16)
  [⟨Rect.unit (s := S544x1024) ![528, 0] S16x1024.size inb_S544x1024_S16x1024_528_0, k0_pay7 (k0_pay6 x3 x4 x2)⟩,
   ⟨Rect.unit (s := S544x1024) ![0, 0] S16x1024.size inb_S544x1024_S16x1024_0_0, k0_pay5 x3 x4 x1⟩,
   ⟨Rect.unit (s := S544x1024) ![16, 0] S512x1024.size inb_S544x1024_S512x1024_16_0, k0_pay4 x3 x4 x0⟩]

/-- The tokens through 256 columns, zero off the sequence. -/
def product (o : ℕ) : FVec F S544x256 .f32 := k0_pay9 a (tokens x0 x1 x2 x3 x4) (cols x5 o) (lane x6 o)

/-- The three taps over the product, with their bias. -/
def filtered (o : ℕ) : FVec F S512x256 .f32 :=
  k0_pay24 (taps x7 o) (rowsFrom (product a x0 x1 x2 x3 x4 x5 x6 o) 15) (rowsFrom (product a x0 x1 x2 x3 x4 x5 x6 o) 16)
    (rowsFrom (product a x0 x1 x2 x3 x4 x5 x6 o) 17) (lane x8 o)

/-- The pieces stored: a gate, and a value times its gate. -/
def gatePiece (o : ℕ) : FVec F S1x512x256 .f32 :=
  shapeCast S1x512x256 (filtered a x0 x1 x2 x3 x4 x5 x6 x7 x8 o) shapeCasts_S512x256_S1x512x256
def valuePiece (o : ℕ) : FVec F S1x512x256 .f32 :=
  shapeCast S1x512x256 (mulf (filtered a x0 x1 x2 x3 x4 x5 x6 x7 x8 (2048 + o)) (filtered a x0 x1 x2 x3 x4 x5 x6 x7 x8 (1024 + o)))
    shapeCasts_S512x256_S1x512x256

/-- The two blocks the grid point writes. -/
def valueBlock : FVec F S1x512x1024 .f32 := View.canon (Val := Elt F) (s := S1x512x1024) (e := .f32)
  [⟨Rect.unit (s := S1x512x1024) ![0, 0, 768] S1x512x256.size inb_S1x512x1024_S1x512x256_0_0_768, valuePiece a x0 x1 x2 x3 x4 x5 x6 x7 x8 768⟩,
   ⟨Rect.unit (s := S1x512x1024) ![0, 0, 512] S1x512x256.size inb_S1x512x1024_S1x512x256_0_0_512, valuePiece a x0 x1 x2 x3 x4 x5 x6 x7 x8 512⟩,
   ⟨Rect.unit (s := S1x512x1024) ![0, 0, 256] S1x512x256.size inb_S1x512x1024_S1x512x256_0_0_256, valuePiece a x0 x1 x2 x3 x4 x5 x6 x7 x8 256⟩,
   ⟨Rect.unit (s := S1x512x1024) ![0, 0, 0] S1x512x256.size inb_S1x512x1024_S1x512x256_0_0_0, valuePiece a x0 x1 x2 x3 x4 x5 x6 x7 x8 0⟩]
def gateBlock : FVec F S1x512x1024 .f32 := View.canon (Val := Elt F) (s := S1x512x1024) (e := .f32)
  [⟨Rect.unit (s := S1x512x1024) ![0, 0, 768] S1x512x256.size inb_S1x512x1024_S1x512x256_0_0_768, gatePiece a x0 x1 x2 x3 x4 x5 x6 x7 x8 768⟩,
   ⟨Rect.unit (s := S1x512x1024) ![0, 0, 512] S1x512x256.size inb_S1x512x1024_S1x512x256_0_0_512, gatePiece a x0 x1 x2 x3 x4 x5 x6 x7 x8 512⟩,
   ⟨Rect.unit (s := S1x512x1024) ![0, 0, 256] S1x512x256.size inb_S1x512x1024_S1x512x256_0_0_256, gatePiece a x0 x1 x2 x3 x4 x5 x6 x7 x8 256⟩,
   ⟨Rect.unit (s := S1x512x1024) ![0, 0, 0] S1x512x256.size inb_S1x512x1024_S1x512x256_0_0_0, gatePiece a x0 x1 x2 x3 x4 x5 x6 x7 x8 0⟩]

end state

/-! The loads of the input blocks and of the product. -/

/-- A load of a whole buffer reads its contents. -/
theorem load_all {A B C : ℕ} {e : EltTy} {a : Memref sig .tc .vmem ⟨3, ![A, B, C]⟩ e} (h : a.IsWhole)
    (X : (⟨3, ![A, B, C]⟩ : Shape).Idx → Elt F e)
    (inb : ∀ k, (![0, 0, 0] : Fin 3 → ℕ) k + (⟨3, ![A, B, C]⟩ : Shape).size k ≤ (⟨3, ![A, B, C]⟩ : Shape).size k) :
    View.readAt (Elt F) a.view (Rect.unit ![0, 0, 0] (⟨3, ![A, B, C]⟩ : Shape).size inb).toLoadRect (h.unread X) = X := by
  rw [View.readAt_eq_ld, h.read_unread]
  exact View.ld_unit_lit inb X fun k => by fin_cases k <;> rfl

/-- A load of 256 columns of a buffer of 3072. -/
theorem load_columns {A : ℕ} {e : EltTy} {a : Memref sig .tc .vmem ⟨2, ![A, 3072]⟩ e} (h : a.IsWhole)
    (X : (⟨2, ![A, 3072]⟩ : Shape).Idx → Elt F e) (o : ℕ)
    (inb : ∀ k, (![0, o] : Fin 2 → ℕ) k + (⟨2, ![A, 256]⟩ : Shape).size k ≤ (⟨2, ![A, 3072]⟩ : Shape).size k) :
    View.readAt (Elt F) a.view (Rect.unit (s := ⟨2, ![A, 3072]⟩) ![0, o] (⟨2, ![A, 256]⟩ : Shape).size inb).toLoadRect (h.unread X)
      = fun i : (⟨2, ![A, 256]⟩ : Shape).Idx =>
        X (ix2 (i 0 : Fin A) (⟨(o + (i 1 : Fin 256).1) % 3072, Nat.mod_lt _ (by decide)⟩ : Fin 3072)) := by
  rw [View.readAt_eq_ld, h.read_unread]
  funext i
  have ho : o + 256 ≤ 3072 := inb 1
  have h1 : (i 1 : ℕ) < 256 := (i 1).isLt
  refine View.ld_unit_apply_of X _ _ inb i _ fun k => ?_
  fin_cases k
  · show (i 0 : ℕ) = 0 + (i 0 : ℕ)
    omega
  · show (o + (i 1 : ℕ)) % 3072 = o + (i 1 : ℕ)
    omega

theorem load_cols {a : Memref sig .tc .vmem S1024x3072 .bf16} (h : a.IsWhole) (X : Vec F S1024x3072 .bf16) (o : ℕ) (inb) :
    View.readAt (Elt F) a.view (Rect.unit (s := S1024x3072) ![0, o] S1024x256.size inb).toLoadRect (h.unread X) = cols X o :=
  load_columns h X o inb
theorem load_lane {a : Memref sig .tc .vmem S1x3072 .f32} (h : a.IsWhole) (X : Vec F S1x3072 .f32) (o : ℕ) (inb) :
    View.readAt (Elt F) a.view (Rect.unit (s := S1x3072) ![0, o] S1x256.size inb).toLoadRect (h.unread X) = lane X o :=
  load_columns h X o inb
theorem load_taps {a : Memref sig .tc .vmem S3x3072 .f32} (h : a.IsWhole) (X : Vec F S3x3072 .f32) (o : ℕ) (inb) :
    View.readAt (Elt F) a.view (Rect.unit (s := S3x3072) ![0, o] S3x256.size inb).toLoadRect (h.unread X) = taps X o :=
  load_columns h X o inb

/-- A load of 512 rows of the product just stored. -/
theorem read_rows {sg : RefSig} {κ : Kind} {sp : Space} (v : View sg κ sp S544x256 .f32) (inb) (Z : Vec F S544x256 .f32)
    (L : List (View.Piece (Elt F) S544x256 .f32)) (j : ℕ) (inb') :
    v.readCov (⟨Rect.unit (s := S544x256) ![0, 0] S544x256.size inb, Z⟩ :: L)
      (Rect.unit (s := S544x256) ![j, 0] S512x256.size inb').toLoadRect = rowsFrom Z j := by
  refine (View.readCov_fill v inb Z L _ fun a => by fin_cases a <;> rfl).trans (funext fun i => ?_)
  have hj : j + 512 ≤ 544 := inb' 0
  have h0 : (i 0 : ℕ) < 512 := (i 0).isLt
  refine View.ld_unit_apply_of Z _ _ inb' i _ fun k => ?_
  fin_cases k
  · show (j + (i 0 : ℕ)) % 544 = j + (i 0 : ℕ)
    omega
  · show (i 1 : ℕ) = 0 + (i 1 : ℕ)
    omega

/-- A load of a whole buffer reads what its stores left. -/
theorem read_all {sg : RefSig} {κ : Kind} {sp : Space} (v : View sg κ sp S544x1024 .bf16) (L : List (View.Piece (Elt F) S544x1024 .bf16)) (inb) :
    v.readCov L (Rect.unit (s := S544x1024) ![0, 0] S544x1024.size inb).toLoadRect = View.canon L :=
  (View.readCov_eq_canon' v L _).trans (View.ld_unit_lit inb (View.canon L) fun a => by fin_cases a <;> rfl)

end Hyena

end
-- ==== Proof.Hyena.Spec.lean ====
module

public import Idealize.ShloMosaic.Lib.Pointwise

/-! What the gates' call computes, on extended reals: each token's features, scaled and shifted by its sequence's
    modulation, go through one matrix with a bias; every column is then filtered along the sequence by three taps of its own,
    the sequence continued by zeros. The first 1024 columns are the gates of the output, the second ones the gates of the
    values and the last ones the values. -/

@[expose] public section

set_option maxRecDepth 16384

noncomputable section

namespace Hyena

open Idealize.ShloMosaic

/-- The shapes of the arrays. -/
abbrev STokens : Shape := ⟨3, ![4, 8192, 1024]⟩
abbrev SMod : Shape := ⟨3, ![4, 1, 1024]⟩
abbrev SMatrix : Shape := ⟨2, ![1024, 3072]⟩
abbrev SBias : Shape := ⟨1, ![3072]⟩
abbrev STaps : Shape := ⟨2, ![3, 3072]⟩

section

variable (x : STokens.Idx → EReal) (sc sh : SMod.Idx → EReal) (w : SMatrix.Idx → EReal) (bias : SBias.Idx → EReal)
  (cw : STaps.Idx → EReal) (cb : SBias.Idx → EReal)

/-- A modulated token through the matrix, at a column. -/
def mixed (b : Fin 4) (l : Fin 8192) (n : Fin 3072) : EReal :=
  (∑ k : Fin 1024, (x (ix3 b l k) * (1 + sc (ix3 b (0 : Fin 1) k)) + sh (ix3 b (0 : Fin 1) k)) * w (ix2 k n)) + bias (ix1 n)

/-- The sequence with a zero before it and zeros after it: place `s` is token `s - 1`. -/
def continued (b : Fin 4) (s : ℕ) (n : Fin 3072) : EReal :=
  if h : 1 ≤ s ∧ s ≤ 8192 then mixed x sc sh w bias b ⟨s - 1, by omega⟩ n else 0

/-- The three taps at token `l`. -/
def tapped (b : Fin 4) (l : Fin 8192) (n : Fin 3072) : EReal :=
  continued x sc sh w bias b l n * cw (ix2 (0 : Fin 3) n) + continued x sc sh w bias b (l + 1) n * cw (ix2 (1 : Fin 3) n)
    + continued x sc sh w bias b (l + 2) n * cw (ix2 (2 : Fin 3) n) + cb (ix1 n)

/-- The gates of the output. -/
def gates : STokens.Idx → EReal := fun i =>
  tapped x sc sh w bias cw cb (i 0 : Fin 4) (i 1 : Fin 8192) (⟨(i 2 : Fin 1024), (i 2).isLt.trans (by decide)⟩ : Fin 3072)

/-- The values, times their gates. -/
def values : STokens.Idx → EReal := fun i =>
  tapped x sc sh w bias cw cb (i 0 : Fin 4) (i 1 : Fin 8192) (⟨2048 + (i 2 : Fin 1024), (Nat.add_lt_add_left (i 2).isLt 2048).trans_le (by decide)⟩ : Fin 3072)
    * tapped x sc sh w bias cw cb (i 0 : Fin 4) (i 1 : Fin 8192) (⟨1024 + (i 2 : Fin 1024), (Nat.add_lt_add_left (i 2).isLt 1024).trans_le (by decide)⟩ : Fin 3072)

end

end Hyena

end
-- ==== Proof.Hyena.Payload.lean ====
module

public import proofs.«01_k».proof.Proof.Hyena.State
public import proofs.«01_k».proof.Proof.Hyena.Spec
public import Idealize.ShloMosaic.Lib.Pipeline.ValueKit

/-! The steps of the body read at an index. -/

@[expose] public section

set_option maxRecDepth 16384

noncomputable section

namespace Hyena

open Idealize.ShloMosaic Idealize.ShloMosaic.TcCoe Idealize.SL.Sem
open Cert.GatesIdeal Cert.GatesIdeal.Gen

variable (a : BitVec 32) (x0 : Vec Ideal S1x512x1024 .f32) (x1 x2 : Vec Ideal S1x16x1024 .f32) (x3 x4 : Vec Ideal S1x1x1024 .f32)
  (x5 : Vec Ideal S1024x3072 .bf16) (x6 : Vec Ideal S1x3072 .f32) (x7 : Vec Ideal S3x3072 .f32) (x8 : Vec Ideal S1x3072 .f32)

/-- A token's features before the modulation: sixteen tokens before the block, the block, sixteen after. -/
def raw (r : Fin 544) (k : Fin 1024) : EReal :=
  if h : (r : ℕ) < 16 then x1 (ix3 (0 : Fin 1) (⟨r, h⟩ : Fin 16) k)
  else if h' : (r : ℕ) < 528 then x0 (ix3 (0 : Fin 1) (⟨r - 16, by omega⟩ : Fin 512) k)
  else x2 (ix3 (0 : Fin 1) (⟨r - 528, by omega⟩ : Fin 16) k)

/-- Its modulation. -/
def modulated (v : EReal) (k : Fin 1024) : EReal :=
  v * (1 + x3 (ix3 (0 : Fin 1) (0 : Fin 1) k)) + x4 (ix3 (0 : Fin 1) (0 : Fin 1) k)

theorem own_apply (p : Fin 512) (k : Fin 1024) :
    k0_pay4 x3 x4 x0 (ix2 p k) = modulated x3 x4 (x0 (ix3 (0 : Fin 1) p k)) k := by
  pointwise [k0_pay4, k0_pay2, k0_pay3, modulated]

theorem before_apply (p : Fin 16) (k : Fin 1024) :
    k0_pay5 x3 x4 x1 (ix2 p k) = modulated x3 x4 (x1 (ix3 (0 : Fin 1) p k)) k := by
  pointwise [k0_pay5, k0_pay2, k0_pay3, modulated]

theorem after_apply (p : Fin 16) (k : Fin 1024) :
    k0_pay7 (k0_pay6 x3 x4 x2) (ix2 p k) = modulated x3 x4 (x2 (ix3 (0 : Fin 1) p k)) k := by
  pointwise [k0_pay7, k0_pay6, k0_pay2, k0_pay3, modulated]

theorem tokens_apply (r : Fin 544) (k : Fin 1024) :
    tokens x0 x1 x2 x3 x4 (ix2 r k) = modulated x3 x4 (raw x0 x1 x2 r k) k := by
  have hr : (r : ℕ) < 544 := r.isLt
  have hk : (k : ℕ) < 1024 := k.isLt
  unfold tokens
  refine View.canon_eq_of_allAt _ _ _ ?_ (View.allAt_cons_unit _ _ _ _ _ ?_ (View.allAt_cons_unit _ _ _ _ _ ?_
    (View.allAt_cons_unit _ _ _ _ _ ?_ (View.allAt_nil _ _))))
  · by_cases h : (r : ℕ) < 16
    · refine ⟨⟨Rect.unit (s := S544x1024) ![0, 0] S16x1024.size inb_S544x1024_S16x1024_0_0, k0_pay5 x3 x4 x1⟩,
        List.mem_cons_of_mem _ List.mem_cons_self, ?_⟩
      rw [Rect.mem_set_unit]
      intro d
      fin_cases d
      · show 0 ≤ (r : ℕ) ∧ (r : ℕ) < 0 + 16
        omega
      · show 0 ≤ (k : ℕ) ∧ (k : ℕ) < 0 + 1024
        omega
    · by_cases h' : (r : ℕ) < 528
      · refine ⟨_, List.mem_cons_of_mem _ (List.mem_cons_of_mem _ List.mem_cons_self), ?_⟩
        rw [Rect.mem_set_unit]
        intro d
        fin_cases d
        · show 16 ≤ (r : ℕ) ∧ (r : ℕ) < 16 + 512
          omega
        · show 0 ≤ (k : ℕ) ∧ (k : ℕ) < 0 + 1024
          omega
      · refine ⟨_, List.mem_cons_self, ?_⟩
        rw [Rect.mem_set_unit]
        intro d
        fin_cases d
        · show 528 ≤ (r : ℕ) ∧ (r : ℕ) < 528 + 16
          omega
        · show 0 ≤ (k : ℕ) ∧ (k : ℕ) < 0 + 1024
          omega
  · intro x hx
    obtain ⟨p, q, rfl⟩ : ∃ (p : Fin 16) (q : Fin 1024), x = ix2 p q := ⟨x 0, x 1, eq_ix2 x⟩
    have h0 : (r : ℕ) = 528 + p := hx 0
    obtain rfl : k = q := Fin.ext ((hx 1).trans (Nat.zero_add _))
    refine (after_apply _ _ _ _ _).trans (congrArg (modulated x3 x4 · k) ?_)
    rw [raw, dif_neg (by omega), dif_neg (by omega)]
    exact congrArg (fun p : Fin 16 => x2 (ix3 (0 : Fin 1) p k)) (Fin.ext (by dsimp only; omega))
  · intro x hx
    obtain ⟨p, q, rfl⟩ : ∃ (p : Fin 16) (q : Fin 1024), x = ix2 p q := ⟨x 0, x 1, eq_ix2 x⟩
    have h0 : (r : ℕ) = 0 + p := hx 0
    obtain rfl : k = q := Fin.ext ((hx 1).trans (Nat.zero_add _))
    refine (before_apply _ _ _ _ _).trans (congrArg (modulated x3 x4 · k) ?_)
    rw [raw, dif_pos (by omega)]
    exact congrArg (fun p : Fin 16 => x1 (ix3 (0 : Fin 1) p k)) (Fin.ext (by dsimp only; omega))
  · intro x hx
    obtain ⟨p, q, rfl⟩ : ∃ (p : Fin 512) (q : Fin 1024), x = ix2 p q := ⟨x 0, x 1, eq_ix2 x⟩
    have h0 : (r : ℕ) = 16 + p := hx 0
    obtain rfl : k = q := Fin.ext ((hx 1).trans (Nat.zero_add _))
    refine (own_apply _ _ _ _ _).trans (congrArg (modulated x3 x4 · k) ?_)
    rw [raw, dif_neg (by omega), dif_pos (by omega)]
    exact congrArg (fun p : Fin 512 => x0 (ix3 (0 : Fin 1) p k)) (Fin.ext (by dsimp only; omega))

/-- Which of the 544 rows are tokens of the sequence: the comparisons of the body. -/
theorem inside : ∀ (i : Fin 16) (r : Fin 544),
    IntOp.cmpi CmpIPredicate.sge (IntOp.addi (Scalar.subi (Scalar.muli (BitVec.ofNat 32 i.val) 512#32) 16#32) (BitVec.ofNat 32 r.val)) 0#32
        = (if 16 ≤ 512 * i.val + r.val then 1#1 else 0#1)
    ∧ IntOp.cmpi CmpIPredicate.slt (IntOp.addi (Scalar.subi (Scalar.muli (BitVec.ofNat 32 i.val) 512#32) 16#32) (BitVec.ofNat 32 r.val)) 8192#32
        = (if 512 * i.val + r.val < 8208 then 1#1 else 0#1) :=
  by decide +kernel

theorem product_apply (i : Fin 16) (o : ℕ) (r : Fin 544) (n : Fin 256) :
    product (BitVec.ofNat 32 i.val) x0 x1 x2 x3 x4 x5 x6 o (ix2 r n)
      = if 16 ≤ 512 * i.val + r.val ∧ 512 * i.val + r.val < 8208
        then (∑ k : Fin 1024, modulated x3 x4 (raw x0 x1 x2 r k) k * cols x5 o (ix2 k n)) + lane x6 o (ix2 (0 : Fin 1) n) else 0 := by
  pointwise [product, k0_pay9, k0_pay8]
  rw [(inside i r).1, (inside i r).2]
  simp only [tokens_apply]
  by_cases h : 16 ≤ 512 * i.val + r.val
  · by_cases h' : 512 * i.val + r.val < 8208
    · rw [if_pos h, if_pos h', if_pos ⟨h, h'⟩]
      rfl
    · rw [if_pos h, if_neg h', if_neg (show ¬(16 ≤ 512 * i.val + r.val ∧ 512 * i.val + r.val < 8208) from fun e => h' e.2)]
      rfl
  · rw [if_neg h, if_neg (show ¬(16 ≤ 512 * i.val + r.val ∧ 512 * i.val + r.val < 8208) from fun e => h e.1)]
    rfl

theorem filter_apply (t : Vec Ideal S3x256 .f32) (u v w : Vec Ideal S512x256 .f32) (b : Vec Ideal S1x256 .f32) (q : Fin 512)
    (n : Fin 256) : k0_pay24 t u v w b (ix2 q n)
      = u (ix2 q n) * t (ix2 (0 : Fin 3) n) + v (ix2 q n) * t (ix2 (1 : Fin 3) n) + w (ix2 q n) * t (ix2 (2 : Fin 3) n)
        + b (ix2 (0 : Fin 1) n) := by
  pointwise [k0_pay24]

theorem filtered_apply (a : BitVec 32) (o : ℕ) (q : Fin 512) (n : Fin 256) :
    filtered a x0 x1 x2 x3 x4 x5 x6 x7 x8 o (ix2 q n)
      = product a x0 x1 x2 x3 x4 x5 x6 o (ix2 (⟨15 + q, by omega⟩ : Fin 544) n) * taps x7 o (ix2 (0 : Fin 3) n)
        + product a x0 x1 x2 x3 x4 x5 x6 o (ix2 (⟨16 + q, by omega⟩ : Fin 544) n) * taps x7 o (ix2 (1 : Fin 3) n)
        + product a x0 x1 x2 x3 x4 x5 x6 o (ix2 (⟨17 + q, by omega⟩ : Fin 544) n) * taps x7 o (ix2 (2 : Fin 3) n)
        + lane x8 o (ix2 (0 : Fin 1) n) := by
  have hz : ∀ (j : ℕ) (hj : j + 512 ≤ 544), rowsFrom (product a x0 x1 x2 x3 x4 x5 x6 o) j (ix2 q n)
      = product a x0 x1 x2 x3 x4 x5 x6 o (ix2 (⟨j + q, by omega⟩ : Fin 544) n) := fun j hj =>
    congrArg (fun r : Fin 544 => product a x0 x1 x2 x3 x4 x5 x6 o (ix2 r n)) (Fin.ext (Nat.mod_eq_of_lt (by
      have := q.isLt
      show j + (q : ℕ) < 544
      omega)))
  refine (filter_apply _ _ _ _ _ _ _).trans ?_
  rw [hz 15 (by omega), hz 16 (by omega), hz 17 (by omega)]

theorem gatePiece_apply (a : BitVec 32) (o : ℕ) (q : Fin 512) (n : Fin 256) :
    gatePiece a x0 x1 x2 x3 x4 x5 x6 x7 x8 o (ix3 (0 : Fin 1) q n) = filtered a x0 x1 x2 x3 x4 x5 x6 x7 x8 o (ix2 q n) := by
  pointwise [gatePiece]

theorem valuePiece_apply (a : BitVec 32) (o : ℕ) (q : Fin 512) (n : Fin 256) :
    valuePiece a x0 x1 x2 x3 x4 x5 x6 x7 x8 o (ix3 (0 : Fin 1) q n)
      = filtered a x0 x1 x2 x3 x4 x5 x6 x7 x8 (2048 + o) (ix2 q n) * filtered a x0 x1 x2 x3 x4 x5 x6 x7 x8 (1024 + o) (ix2 q n) := by
  pointwise [valuePiece]

end Hyena

end
-- ==== Proof.Hyena.Chain.lean ====
module

public import proofs.«01_k».proof.Proof.Hyena.State

/-! What the body's loads from its two scratch buffers read, and what its stores leave in the two output blocks. Each
group of 256 columns overwrites the product of the group before, so a load reads the group's own product. -/

@[expose] public section

set_option maxRecDepth 16384

noncomputable section

namespace Hyena

open Idealize.ShloMosaic Idealize.ShloMosaic.TcCoe Idealize.SL.Sem
open Cert.GatesIdeal Cert.GatesIdeal.Gen Cert.GatesIdeal.Gen.kernelRun0_A.sl

variable {F : FTy → Type} [FloatOps F] (c : Dev nD) (i : grid0.Coords)
  (arg2 : Memref sig .tc .vmem S1x512x1024 .f32) (harg2 : arg2.IsWhole)
  (arg3 : Memref sig .tc .vmem S1x16x1024 .f32) (harg3 : arg3.IsWhole)
  (arg4 : Memref sig .tc .vmem S1x16x1024 .f32) (harg4 : arg4.IsWhole)
  (arg5 : Memref sig .tc .vmem S1x1x1024 .f32) (harg5 : arg5.IsWhole)
  (arg6 : Memref sig .tc .vmem S1x1x1024 .f32) (harg6 : arg6.IsWhole)
  (arg7 : Memref sig .tc .vmem S1024x3072 .bf16) (harg7 : arg7.IsWhole)
  (arg8 : Memref sig .tc .vmem S1x3072 .f32) (harg8 : arg8.IsWhole)
  (arg9 : Memref sig .tc .vmem S3x3072 .f32) (harg9 : arg9.IsWhole)
  (arg10 : Memref sig .tc .vmem S1x3072 .f32) (harg10 : arg10.IsWhole)
  (arg11 : Memref sig .tc .vmem S1x512x1024 .f32) (harg11 : arg11.IsWhole)
  (arg12 : Memref sig .tc .vmem S1x512x1024 .f32) (harg12 : arg12.IsWhole)
  (arg13 : Memref sig .tc .vmem S544x1024 .bf16) (harg13 : arg13.IsWhole)
  (arg14 : Memref sig .tc .vmem S544x256 .f32) (harg14 : arg14.IsWhole)
  (x0 : Vec F S1x512x1024 .f32) (x1 : Vec F S1x16x1024 .f32) (x2 : Vec F S1x16x1024 .f32) (x3 : Vec F S1x1x1024 .f32) (x4 : Vec F S1x1x1024 .f32) (x5 : Vec F S1024x3072 .bf16) (x6 : Vec F S1x3072 .f32) (x7 : Vec F S3x3072 .f32) (x8 : Vec F S1x3072 .f32)

/-- The loaded tokens. -/
theorem v41_eq : v41 c arg2 harg2 arg3 harg3 arg4 harg4 arg5 harg5 arg6 harg6 arg13 x0 x1 x2 x3 x4 = tokens x0 x1 x2 x3 x4 := by
  unfold v41 HS0_3 r
  rw [read_all]
  simp only [load_all harg2, load_all harg3, load_all harg4, load_all harg5, load_all harg6]
  rfl

/-- The literal sizes of the last group. -/
theorem load_last {a : Memref sig .tc .vmem S1x3072 .f32} (h : a.IsWhole) (X : Vec F S1x3072 .f32) (o : ℕ) (inb) :
    (View.readAt (Elt F) a.view (Rect.unit (s := S1x3072) ![0, o] ![1, 256] inb).toLoadRect (h.unread X) : Vec F S1x256 .f32) = lane X o :=
  load_columns h X o inb

/-! Group by group, the product one row early, in place and one row late. -/

theorem v61_eq : v61 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 0) 15 := by
  unfold v61 HS1_1
  refine (read_rows _ _ _ _ 15 _).trans (congrArg (rowsFrom · 15) ?_)
  simp only [v41_eq, load_cols harg7, load_lane harg8]
  rfl

theorem v65_eq : v65 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 0) 16 := by
  unfold v65 HS1_1
  refine (read_rows _ _ _ _ 16 _).trans (congrArg (rowsFrom · 16) ?_)
  simp only [v41_eq, load_cols harg7, load_lane harg8]
  rfl

theorem v70_eq : v70 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 0) 17 := by
  unfold v70 HS1_1
  refine (read_rows _ _ _ _ 17 _).trans (congrArg (rowsFrom · 17) ?_)
  simp only [v41_eq, load_cols harg7, load_lane harg8]
  rfl

theorem v102_eq : v102 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1024) 15 := by
  unfold v102 HS1_2
  refine (read_rows _ _ _ _ 15 _).trans (congrArg (rowsFrom · 15) ?_)
  simp only [r_1, v41_eq, load_cols harg7, load_lane harg8]
  rfl

theorem v106_eq : v106 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1024) 16 := by
  unfold v106 HS1_2
  refine (read_rows _ _ _ _ 16 _).trans (congrArg (rowsFrom · 16) ?_)
  simp only [r_1, v41_eq, load_cols harg7, load_lane harg8]
  rfl

theorem v111_eq : v111 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1024) 17 := by
  unfold v111 HS1_2
  refine (read_rows _ _ _ _ 17 _).trans (congrArg (rowsFrom · 17) ?_)
  simp only [r_1, v41_eq, load_cols harg7, load_lane harg8]
  rfl

theorem v140_eq : v140 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2048) 15 := by
  unfold v140 HS1_3
  refine (read_rows _ _ _ _ 15 _).trans (congrArg (rowsFrom · 15) ?_)
  simp only [r_1, v41_eq, load_cols harg7, load_lane harg8]
  rfl

theorem v144_eq : v144 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2048) 16 := by
  unfold v144 HS1_3
  refine (read_rows _ _ _ _ 16 _).trans (congrArg (rowsFrom · 16) ?_)
  simp only [r_1, v41_eq, load_cols harg7, load_lane harg8]
  rfl

theorem v149_eq : v149 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2048) 17 := by
  unfold v149 HS1_3
  refine (read_rows _ _ _ _ 17 _).trans (congrArg (rowsFrom · 17) ?_)
  simp only [r_1, v41_eq, load_cols harg7, load_lane harg8]
  rfl

theorem v182_eq : v182 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 256) 15 := by
  unfold v182 HS1_4
  refine (read_rows _ _ _ _ 15 _).trans (congrArg (rowsFrom · 15) ?_)
  simp only [r_1, r_8, v41_eq, load_cols harg7, load_lane harg8]
  rfl

theorem v186_eq : v186 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 256) 16 := by
  unfold v186 HS1_4
  refine (read_rows _ _ _ _ 16 _).trans (congrArg (rowsFrom · 16) ?_)
  simp only [r_1, r_8, v41_eq, load_cols harg7, load_lane harg8]
  rfl

theorem v191_eq : v191 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 256) 17 := by
  unfold v191 HS1_4
  refine (read_rows _ _ _ _ 17 _).trans (congrArg (rowsFrom · 17) ?_)
  simp only [r_1, r_8, v41_eq, load_cols harg7, load_lane harg8]
  rfl

theorem v223_eq : v223 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1280) 15 := by
  unfold v223 HS1_5
  refine (read_rows _ _ _ _ 15 _).trans (congrArg (rowsFrom · 15) ?_)
  simp only [r_1, r_9, r_10, v41_eq, load_cols harg7, load_lane harg8]
  rfl

theorem v227_eq : v227 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1280) 16 := by
  unfold v227 HS1_5
  refine (read_rows _ _ _ _ 16 _).trans (congrArg (rowsFrom · 16) ?_)
  simp only [r_1, r_9, r_10, v41_eq, load_cols harg7, load_lane harg8]
  rfl

theorem v232_eq : v232 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1280) 17 := by
  unfold v232 HS1_5
  refine (read_rows _ _ _ _ 17 _).trans (congrArg (rowsFrom · 17) ?_)
  simp only [r_1, r_9, r_10, v41_eq, load_cols harg7, load_lane harg8]
  rfl

theorem v261_eq : v261 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2304) 15 := by
  unfold v261 HS1_6
  refine (read_rows _ _ _ _ 15 _).trans (congrArg (rowsFrom · 15) ?_)
  simp only [r_1, r_12, r_13, v41_eq, load_cols harg7, load_lane harg8]
  rfl

theorem v265_eq : v265 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2304) 16 := by
  unfold v265 HS1_6
  refine (read_rows _ _ _ _ 16 _).trans (congrArg (rowsFrom · 16) ?_)
  simp only [r_1, r_12, r_13, v41_eq, load_cols harg7, load_lane harg8]
  rfl

theorem v270_eq : v270 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2304) 17 := by
  unfold v270 HS1_6
  refine (read_rows _ _ _ _ 17 _).trans (congrArg (rowsFrom · 17) ?_)
  simp only [r_1, r_12, r_13, v41_eq, load_cols harg7, load_lane harg8]
  rfl

theorem v303_eq : v303 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 512) 15 := by
  unfold v303 HS1_7
  refine (read_rows _ _ _ _ 15 _).trans (congrArg (rowsFrom · 15) ?_)
  simp only [r_1, r_14, v41_eq, load_cols harg7, load_lane harg8]
  rfl

theorem v307_eq : v307 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 512) 16 := by
  unfold v307 HS1_7
  refine (read_rows _ _ _ _ 16 _).trans (congrArg (rowsFrom · 16) ?_)
  simp only [r_1, r_14, v41_eq, load_cols harg7, load_lane harg8]
  rfl

theorem v312_eq : v312 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 512) 17 := by
  unfold v312 HS1_7
  refine (read_rows _ _ _ _ 17 _).trans (congrArg (rowsFrom · 17) ?_)
  simp only [r_1, r_14, v41_eq, load_cols harg7, load_lane harg8]
  rfl

theorem v344_eq : v344 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1536) 15 := by
  unfold v344 HS1_8
  refine (read_rows _ _ _ _ 15 _).trans (congrArg (rowsFrom · 15) ?_)
  simp only [r_1, v41_eq, load_cols harg7, load_lane harg8]
  rfl

theorem v348_eq : v348 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1536) 16 := by
  unfold v348 HS1_8
  refine (read_rows _ _ _ _ 16 _).trans (congrArg (rowsFrom · 16) ?_)
  simp only [r_1, v41_eq, load_cols harg7, load_lane harg8]
  rfl

theorem v353_eq : v353 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1536) 17 := by
  unfold v353 HS1_8
  refine (read_rows _ _ _ _ 17 _).trans (congrArg (rowsFrom · 17) ?_)
  simp only [r_1, v41_eq, load_cols harg7, load_lane harg8]
  rfl

theorem v382_eq : v382 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2560) 15 := by
  unfold v382 HS1_9
  refine (read_rows _ _ _ _ 15 _).trans (congrArg (rowsFrom · 15) ?_)
  simp only [r_1, v41_eq, load_cols harg7, load_lane harg8]
  rfl

theorem v386_eq : v386 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2560) 16 := by
  unfold v386 HS1_9
  refine (read_rows _ _ _ _ 16 _).trans (congrArg (rowsFrom · 16) ?_)
  simp only [r_1, v41_eq, load_cols harg7, load_lane harg8]
  rfl

theorem v391_eq : v391 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2560) 17 := by
  unfold v391 HS1_9
  refine (read_rows _ _ _ _ 17 _).trans (congrArg (rowsFrom · 17) ?_)
  simp only [r_1, v41_eq, load_cols harg7, load_lane harg8]
  rfl

theorem v424_eq : v424 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 768) 15 := by
  unfold v424 HS1_10
  refine (read_rows _ _ _ _ 15 _).trans (congrArg (rowsFrom · 15) ?_)
  simp only [r_1, v41_eq, load_cols harg7, load_lane harg8]
  rfl

theorem v428_eq : v428 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 768) 16 := by
  unfold v428 HS1_10
  refine (read_rows _ _ _ _ 16 _).trans (congrArg (rowsFrom · 16) ?_)
  simp only [r_1, v41_eq, load_cols harg7, load_lane harg8]
  rfl

theorem v433_eq : v433 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 768) 17 := by
  unfold v433 HS1_10
  refine (read_rows _ _ _ _ 17 _).trans (congrArg (rowsFrom · 17) ?_)
  simp only [r_1, v41_eq, load_cols harg7, load_lane harg8]
  rfl

theorem v465_eq : v465 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1792) 15 := by
  unfold v465 HS1_11
  refine (read_rows _ _ _ _ 15 _).trans (congrArg (rowsFrom · 15) ?_)
  simp only [r_1, v41_eq, load_cols harg7, load_lane harg8]
  rfl

theorem v469_eq : v469 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1792) 16 := by
  unfold v469 HS1_11
  refine (read_rows _ _ _ _ 16 _).trans (congrArg (rowsFrom · 16) ?_)
  simp only [r_1, v41_eq, load_cols harg7, load_lane harg8]
  rfl

theorem v474_eq : v474 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 1792) 17 := by
  unfold v474 HS1_11
  refine (read_rows _ _ _ _ 17 _).trans (congrArg (rowsFrom · 17) ?_)
  simp only [r_1, v41_eq, load_cols harg7, load_lane harg8]
  rfl

theorem v503_eq : v503 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2816) 15 := by
  unfold v503 HS1_12
  refine (read_rows _ _ _ _ 15 _).trans (congrArg (rowsFrom · 15) ?_)
  simp only [r_1, v41_eq, load_cols harg7, load_lane harg8]
  rfl

theorem v507_eq : v507 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2816) 16 := by
  unfold v507 HS1_12
  refine (read_rows _ _ _ _ 16 _).trans (congrArg (rowsFrom · 16) ?_)
  simp only [r_1, v41_eq, load_cols harg7, load_lane harg8]
  rfl

theorem v512_eq : v512 c i arg2 harg2 arg3 harg3 arg4 harg4 arg5 harg5 arg6 harg6 arg7 harg7 arg8 harg8 arg13 arg14 x0 x1 x2 x3 x4 x5 x6
    = rowsFrom (product (BitVec.ofNat 32 (i 1).val) x0 x1 x2 x3 x4 x5 x6 2816) 17 := by
  unfold v512 HS1_12
  refine (read_rows _ _ _ _ 17 _).trans (congrArg (rowsFrom · 17) ?_)
  simp only [r_1, v41_eq, load_cols harg7, load_lane harg8]
  rfl

/-- The output block of window 9. -/
theorem out9_eq : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = valueBlock (BitVec.ofNat 32 (i 1).val) x0 x1 x2 x3 x4 x5 x6 x7 x8 := by
  unfold out0_A_9
  rw [View.read_writes_junk_eq_canon]
  dsimp only [kernelRun0_A]
  simp only [r_2, r_3, r_4, r_5, r_6, r_7, r_11, r_15, r_16, r_17, r_18, r_19, r_20, r_21, r_22, r_23, r_24, r_25, v61_eq, v65_eq, v70_eq, v102_eq, v106_eq, v111_eq, v140_eq, v144_eq, v149_eq, v182_eq, v186_eq, v191_eq, v223_eq, v227_eq, v232_eq, v261_eq, v265_eq, v270_eq, v303_eq, v307_eq, v312_eq, v344_eq, v348_eq, v353_eq, v382_eq, v386_eq, v391_eq, v424_eq, v428_eq, v433_eq, v465_eq, v469_eq, v474_eq, v503_eq, v507_eq, v512_eq, load_taps harg9, load_lane harg10, load_last harg10]
  rfl

/-- The output block of window 10. -/
theorem out10_eq : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = gateBlock (BitVec.ofNat 32 (i 1).val) x0 x1 x2 x3 x4 x5 x6 x7 x8 := by
  unfold out0_A_10
  rw [View.read_writes_junk_eq_canon]
  dsimp only [kernelRun0_A]
  simp only [r_2, r_3, r_4, r_5, r_6, r_7, r_11, r_15, r_16, r_17, r_18, r_19, r_20, r_21, r_22, r_23, r_24, r_25, v61_eq, v65_eq, v70_eq, v102_eq, v106_eq, v111_eq, v140_eq, v144_eq, v149_eq, v182_eq, v186_eq, v191_eq, v223_eq, v227_eq, v232_eq, v261_eq, v265_eq, v270_eq, v303_eq, v307_eq, v312_eq, v344_eq, v348_eq, v353_eq, v382_eq, v386_eq, v391_eq, v424_eq, v428_eq, v433_eq, v465_eq, v469_eq, v474_eq, v503_eq, v507_eq, v512_eq, load_taps harg9, load_lane harg10, load_last harg10]
  rfl

end Hyena

end
-- ==== Proof.Hyena.Array.lean ====
module

public import proofs.«01_k».proof.Proof.Hyena.Payload
public import proofs.«01_k».proof.Proof.Hyena.Chain
public import Idealize.ShloMosaic.Lib.StableHlo.RunRead

/-! The two result arrays of the gates' call, from the blocks its grid points write. -/

@[expose] public section

set_option maxRecDepth 16384

noncomputable section

namespace Hyena

open Idealize.ShloMosaic Idealize.ShloMosaic.TcCoe Idealize.SL.Sem
open Cert.GatesIdeal Cert.GatesIdeal.Gen

section

variable (m : (ℓ : Loc nD τ sig) → Buf (Elt Ideal) ℓ) (c : Dev nD)

/-- The specification's arrays, of the call's arguments. -/
abbrev X : STokens.Idx → EReal := m ((c : Thread nD τ).loc main_arg0)
abbrev Sc : SMod.Idx → EReal := m ((c : Thread nD τ).loc main_arg1)
abbrev Sh : SMod.Idx → EReal := m ((c : Thread nD τ).loc main_arg2)
abbrev W : SMatrix.Idx → EReal := m ((c : Thread nD τ).loc main_arg3)
abbrev Bi : SBias.Idx → EReal := m ((c : Thread nD τ).loc main_arg4)
abbrev Cw : STaps.Idx → EReal := m ((c : Thread nD τ).loc main_arg5)
abbrev Cb : SBias.Idx → EReal := m ((c : Thread nD τ).loc main_arg6)

/-- What the call finds in the matrix's buffer and in the two rows'. -/
theorem entry_matrix : (V m c main_v0 : FVec Ideal S1024x3072 .bf16) = m ((c : Thread nD τ).loc main_arg3) := by
  entry_read
  rfl

theorem entry_bias : (V m c main_v1 : FVec Ideal S1x3072 .f32)
    = shapeCast S1x3072 (m ((c : Thread nD τ).loc main_arg4) : FVec Ideal S3072 .f32) shapeCasts_S3072_S1x3072 := by
  entry_read
  rfl

theorem entry_last : (V m c main_v2 : FVec Ideal S1x3072 .f32)
    = shapeCast S1x3072 (m ((c : Thread nD τ).loc main_arg6) : FVec Ideal S3072 .f32) shapeCasts_S3072_S1x3072 := by
  entry_read
  rfl

variable (t : Fin cfg0.N)

/-- The blocks' indices at a grid point. -/
theorem idx : ∀ t : Fin cfg0.N,
    win0_0.index t = ![t.val / 16, t.val % 16, 0] ∧ win0_1.index t = ![t.val / 16, 32 * (t.val % 16) - 1, 0]
    ∧ win0_2.index t = ![t.val / 16, min (32 * (t.val % 16) + 32) 511, 0] ∧ win0_3.index t = ![t.val / 16, 0, 0]
    ∧ win0_4.index t = ![t.val / 16, 0, 0] ∧ win0_5.index t = ![0, 0] ∧ win0_6.index t = ![0, 0] ∧ win0_7.index t = ![0, 0]
    ∧ win0_8.index t = ![0, 0] ∧ win0_9.index t = ![t.val / 16, t.val % 16, 0] ∧ win0_10.index t = ![t.val / 16, t.val % 16, 0] :=
  (by decide +kernel : ∀ t : Fin grid0.N, _)

/-- The grid point's second coordinate. -/
theorem second : ∀ t : Fin cfg0.N, (grid0.coords t 1).val = t.val % 16 := (by decide +kernel : ∀ t : Fin grid0.N, _)

/-- The sequence, the place in it and a token of a grid point. -/
def seq : Fin 4 := ⟨t.val / 16, by have : t.val < 64 := t.2; omega⟩
def place : Fin 16 := ⟨t.val % 16, by omega⟩
def token (p : Fin 512) : Fin 8192 := ⟨512 * (t.val % 16) + p, by omega⟩

theorem block0 (p : Fin 512) (k : Fin 1024) : (iblk m c 0 t : FVec Ideal S1x512x1024 .f32) (ix3 (0 : Fin 1) p k)
    = X m c (ix3 (seq t) (token t p) k) := by
  blk_ext! [iblk, V, idx t, seq, token]

theorem block1 (p : Fin 16) (k : Fin 1024) : (iblk m c 1 t : FVec Ideal S1x16x1024 .f32) (ix3 (0 : Fin 1) p k)
    = X m c (ix3 (seq t) (⟨16 * (32 * (t.val % 16) - 1) + p, by omega⟩ : Fin 8192) k) := by
  blk_ext! [iblk, V, idx t, seq]

theorem block2 (p : Fin 16) (k : Fin 1024) : (iblk m c 2 t : FVec Ideal S1x16x1024 .f32) (ix3 (0 : Fin 1) p k)
    = X m c (ix3 (seq t) (⟨16 * min (32 * (t.val % 16) + 32) 511 + p, by omega⟩ : Fin 8192) k) := by
  blk_ext! [iblk, V, idx t, seq]

theorem block3 (k : Fin 1024) : (iblk m c 3 t : FVec Ideal S1x1x1024 .f32) (ix3 (0 : Fin 1) (0 : Fin 1) k)
    = Sc m c (ix3 (seq t) (0 : Fin 1) k) := by
  blk_ext! [iblk, V, idx t, seq]

theorem block4 (k : Fin 1024) : (iblk m c 4 t : FVec Ideal S1x1x1024 .f32) (ix3 (0 : Fin 1) (0 : Fin 1) k)
    = Sh m c (ix3 (seq t) (0 : Fin 1) k) := by
  blk_ext! [iblk, V, idx t, seq]

theorem block5 (k : Fin 1024) (n : Fin 3072) : (iblk m c 5 t : FVec Ideal S1024x3072 .bf16) (ix2 k n) = W m c (ix2 k n) := by
  blk_simp [iblk, idx t]
  rw [entry_matrix]
  blk_ext! [idx t]

/-- A row of 3072 laid out as one row of a matrix. -/
theorem row_apply (v : FVec Ideal S3072 .f32) (n : Fin 3072) :
    shapeCast S1x3072 v shapeCasts_S3072_S1x3072 (ix2 (0 : Fin 1) n) = v (ix1 n) := by
  pointwise

theorem block6 (n : Fin 3072) : (iblk m c 6 t : FVec Ideal S1x3072 .f32) (ix2 (0 : Fin 1) n) = Bi m c (ix1 n) := by
  refine Eq.trans ?_ (row_apply (Bi m c) n)
  blk_simp [iblk, idx t]
  rw [entry_bias]
  generalize shapeCast S1x3072 (Bi m c) shapeCasts_S3072_S1x3072 = T
  blk_ext! [idx t]

theorem block7 (j : Fin 3) (n : Fin 3072) : (iblk m c 7 t : FVec Ideal S3x3072 .f32) (ix2 j n) = Cw m c (ix2 j n) := by
  blk_ext! [iblk, V, idx t]

theorem block8 (n : Fin 3072) : (iblk m c 8 t : FVec Ideal S1x3072 .f32) (ix2 (0 : Fin 1) n) = Cb m c (ix1 n) := by
  refine Eq.trans ?_ (row_apply (Cb m c) n)
  blk_simp [iblk, idx t]
  rw [entry_last]
  generalize shapeCast S1x3072 (Cb m c) shapeCasts_S3072_S1x3072 = T
  blk_ext! [idx t]

/-- Row `15 + q` of the 544 is token `512 i + q - 1`, where that is a token. -/
theorem raw_block (q : ℕ) (hq : q ≤ 513) (h : 1 ≤ 512 * (t.val % 16) + q ∧ 512 * (t.val % 16) + q ≤ 8192) (k : Fin 1024) :
    raw (iblk m c 0 t) (iblk m c 1 t) (iblk m c 2 t) (⟨15 + q, by omega⟩ : Fin 544) k
      = X m c (ix3 (seq t) (⟨512 * (t.val % 16) + q - 1, by omega⟩ : Fin 8192) k) := by
  have hx : ∀ l l' : Fin 8192, (l : ℕ) = l' → X m c (ix3 (seq t) l k) = X m c (ix3 (seq t) l' k) :=
    fun l l' e => congrArg (fun l => X m c (ix3 (seq t) l k)) (Fin.ext e)
  rw [raw]
  by_cases h0 : 15 + q < 16
  · rw [dif_pos h0]
    refine (block1 m c t _ _).trans (hx _ _ ?_)
    dsimp only
    omega
  · rw [dif_neg h0]
    by_cases h1 : 15 + q < 528
    · rw [dif_pos h1]
      refine (block0 m c t _ _).trans (hx _ _ ?_)
      dsimp only [token]
      omega
    · rw [dif_neg h1]
      refine (block2 m c t _ _).trans (hx _ _ ?_)
      dsimp only
      omega

/-- So the product at that row is the continued sequence at place `512 i + q`. -/
theorem product_block (o : ℕ) (ho : o + 256 ≤ 3072) (q : ℕ) (hq : q ≤ 513) (n : Fin 256) :
    product (F := Ideal) (BitVec.ofNat 32 (place t).val) (iblk m c 0 t) (iblk m c 1 t) (iblk m c 2 t) (iblk m c 3 t) (iblk m c 4 t)
        (iblk m c 5 t) (iblk m c 6 t) o (ix2 (⟨15 + q, by omega⟩ : Fin 544) n)
      = continued (X m c) (Sc m c) (Sh m c) (W m c) (Bi m c) (seq t) (512 * (t.val % 16) + q) (⟨o + n, by omega⟩ : Fin 3072) := by
  have hn : (⟨(o + n) % 3072, Nat.mod_lt _ (by decide)⟩ : Fin 3072) = ⟨o + n, by omega⟩ := Fin.ext (Nat.mod_eq_of_lt (by omega))
  refine (product_apply _ _ _ _ _ _ _ (place t) o _ n).trans ?_
  rw [continued]
  by_cases h : 1 ≤ 512 * (t.val % 16) + q ∧ 512 * (t.val % 16) + q ≤ 8192
  · rw [if_pos (by dsimp only [place]; omega), dif_pos h, mixed]
    refine congrArg₂ (· + ·) (Finset.sum_congr rfl fun k _ => congrArg₂ (· * ·) ?_ ?_) ?_
    · rw [modulated, raw_block m c t q hq h, block3, block4]
    · exact (block5 m c t k _).trans (congrArg (fun n => W m c (ix2 k n)) hn)
    · exact (block6 m c t _).trans (congrArg (fun n => Bi m c (ix1 n)) hn)
  · rw [if_neg (by dsimp only [place]; omega), dif_neg h]

/-- And the filtered columns are the specification's. -/
theorem filtered_block (o : ℕ) (ho : o + 256 ≤ 3072) (q : Fin 512) (n : Fin 256) :
    filtered (F := Ideal) (BitVec.ofNat 32 (place t).val) (iblk m c 0 t) (iblk m c 1 t) (iblk m c 2 t) (iblk m c 3 t) (iblk m c 4 t)
        (iblk m c 5 t) (iblk m c 6 t) (iblk m c 7 t) (iblk m c 8 t) o (ix2 q n)
      = tapped (X m c) (Sc m c) (Sh m c) (W m c) (Bi m c) (Cw m c) (Cb m c) (seq t) (token t q) (⟨o + n, by omega⟩ : Fin 3072) := by
  have hn : (⟨(o + n) % 3072, Nat.mod_lt _ (by decide)⟩ : Fin 3072) = ⟨o + n, by omega⟩ := Fin.ext (Nat.mod_eq_of_lt (by omega))
  have ht : ∀ j : Fin 3, taps (F := Ideal) (iblk m c 7 t) o (ix2 j n) = Cw m c (ix2 j (⟨o + n, by omega⟩ : Fin 3072)) := fun j =>
    (block7 m c t j _).trans (congrArg (fun n => Cw m c (ix2 j n)) hn)
  have hr : ∀ (j : ℕ) (hj : j ≤ 2) (h : 15 + j + q.val < 544), (⟨15 + j + q, h⟩ : Fin 544) = ⟨15 + (q + j), by omega⟩ :=
    fun j hj h => Fin.ext (by dsimp only; omega)
  refine (filtered_apply _ _ _ _ _ _ _ _ _ _ o q n).trans ?_
  rw [ht 0, ht 1, ht 2, tapped]
  refine congrArg₂ (· + ·) (congrArg₂ (· + ·) (congrArg₂ (· + ·) (congrArg (· * _) ?_) (congrArg (· * _) ?_)) (congrArg (· * _) ?_)) ?_
  · exact product_block m c t o ho q (by omega) n
  · refine (congrArg (fun r : Fin 544 => product _ _ _ _ _ _ _ _ o (ix2 r n)) (hr 1 (by omega) (by omega))).trans ?_
    exact product_block m c t o ho (q + 1) (by omega) n
  · refine (congrArg (fun r : Fin 544 => product _ _ _ _ _ _ _ _ o (ix2 r n)) (hr 2 (by omega) (by omega))).trans ?_
    exact product_block m c t o ho (q + 2) (by omega) n
  · exact (block8 m c t _).trans (congrArg (fun n => Cb m c (ix1 n)) hn)

/-- The piece of gates and the piece of values stored at lane `o`. -/
theorem gate_tile (o : ℕ) (hl : o + 256 ≤ 1024) (p : Fin 512) (n : Fin 1024) :
    View.TileAt (Val := Elt Ideal) (S := S1x512x1024) (e := .f32) (ix3 (0 : Fin 1) p n) ![0, 0, o] S1x512x256.size
      (gatePiece (F := Ideal) (BitVec.ofNat 32 (place t).val) (iblk m c 0 t) (iblk m c 1 t) (iblk m c 2 t) (iblk m c 3 t) (iblk m c 4 t)
        (iblk m c 5 t) (iblk m c 6 t) (iblk m c 7 t) (iblk m c 8 t) o)
      (gates (X m c) (Sc m c) (Sh m c) (W m c) (Bi m c) (Cw m c) (Cb m c) (ix3 (seq t) (token t p) n)) := by
  intro x hx
  obtain ⟨a, q, i, rfl⟩ : ∃ (a : Fin 1) (q : Fin 512) (i : Fin 256), x = ix3 a q i := ⟨x 0, x 1, x 2, eq_ix3 x⟩
  obtain rfl : a = 0 := Subsingleton.elim _ _
  obtain rfl : p = q := Fin.ext ((hx 1).trans (Nat.zero_add _))
  obtain rfl : n = ⟨o + i, by omega⟩ := Fin.ext (hx 2)
  exact (gatePiece_apply _ _ _ _ _ _ _ _ _ _ _ _ _).trans (filtered_block m c t o (by omega) p i)

theorem value_tile (o : ℕ) (hl : o + 256 ≤ 1024) (p : Fin 512) (n : Fin 1024) :
    View.TileAt (Val := Elt Ideal) (S := S1x512x1024) (e := .f32) (ix3 (0 : Fin 1) p n) ![0, 0, o] S1x512x256.size
      (valuePiece (F := Ideal) (BitVec.ofNat 32 (place t).val) (iblk m c 0 t) (iblk m c 1 t) (iblk m c 2 t) (iblk m c 3 t) (iblk m c 4 t)
        (iblk m c 5 t) (iblk m c 6 t) (iblk m c 7 t) (iblk m c 8 t) o)
      (values (X m c) (Sc m c) (Sh m c) (W m c) (Bi m c) (Cw m c) (Cb m c) (ix3 (seq t) (token t p) n)) := by
  intro x hx
  obtain ⟨a, q, i, rfl⟩ : ∃ (a : Fin 1) (q : Fin 512) (i : Fin 256), x = ix3 a q i := ⟨x 0, x 1, x 2, eq_ix3 x⟩
  obtain rfl : a = 0 := Subsingleton.elim _ _
  obtain rfl : p = q := Fin.ext ((hx 1).trans (Nat.zero_add _))
  obtain rfl : n = ⟨o + i, by omega⟩ := Fin.ext (hx 2)
  refine (valuePiece_apply _ _ _ _ _ _ _ _ _ _ _ _ _).trans (congrArg₂ (· * ·) ?_ ?_)
  · exact (filtered_block m c t (2048 + o) (by omega) p i).trans
      (congrArg (tapped (X m c) (Sc m c) (Sh m c) (W m c) (Bi m c) (Cw m c) (Cb m c) (seq t) (token t p)) (Fin.ext (Nat.add_assoc _ _ _)))
  · exact (filtered_block m c t (1024 + o) (by omega) p i).trans
      (congrArg (tapped (X m c) (Sc m c) (Sh m c) (W m c) (Bi m c) (Cw m c) (Cb m c) (seq t) (token t p)) (Fin.ext (Nat.add_assoc _ _ _)))

/-- The two blocks that a grid point leaves. -/
theorem gate_block (p : Fin 512) (n : Fin 1024) :
    gateBlock (F := Ideal) (BitVec.ofNat 32 (place t).val) (iblk m c 0 t) (iblk m c 1 t) (iblk m c 2 t) (iblk m c 3 t) (iblk m c 4 t)
        (iblk m c 5 t) (iblk m c 6 t) (iblk m c 7 t) (iblk m c 8 t) (ix3 (0 : Fin 1) p n)
      = gates (X m c) (Sc m c) (Sh m c) (W m c) (Bi m c) (Cw m c) (Cb m c) (ix3 (seq t) (token t p) n) := by
  unfold gateBlock
  refine View.canon_eq_of_allAt _ _ _ ?_
    (View.allAt_cons_unit _ _ _ _ _ (gate_tile m c t 768 (by omega) p n)
    (View.allAt_cons_unit _ _ _ _ _ (gate_tile m c t 512 (by omega) p n)
    (View.allAt_cons_unit _ _ _ _ _ (gate_tile m c t 256 (by omega) p n)
    (View.allAt_cons_unit _ _ _ _ _ (gate_tile m c t 0 (by omega) p n)
    (View.allAt_nil _ _)))))
  exact View.cover_of_tiledL (s := S1x512x1024) _ S1x512x256.size (by sl_kernel_rfl) _

theorem value_block (p : Fin 512) (n : Fin 1024) :
    valueBlock (F := Ideal) (BitVec.ofNat 32 (place t).val) (iblk m c 0 t) (iblk m c 1 t) (iblk m c 2 t) (iblk m c 3 t) (iblk m c 4 t)
        (iblk m c 5 t) (iblk m c 6 t) (iblk m c 7 t) (iblk m c 8 t) (ix3 (0 : Fin 1) p n)
      = values (X m c) (Sc m c) (Sh m c) (W m c) (Bi m c) (Cw m c) (Cb m c) (ix3 (seq t) (token t p) n) := by
  unfold valueBlock
  refine View.canon_eq_of_allAt _ _ _ ?_
    (View.allAt_cons_unit _ _ _ _ _ (value_tile m c t 768 (by omega) p n)
    (View.allAt_cons_unit _ _ _ _ _ (value_tile m c t 512 (by omega) p n)
    (View.allAt_cons_unit _ _ _ _ _ (value_tile m c t 256 (by omega) p n)
    (View.allAt_cons_unit _ _ _ _ _ (value_tile m c t 0 (by omega) p n)
    (View.allAt_nil _ _)))))
  exact View.cover_of_tiledL (s := S1x512x1024) _ S1x512x256.size (by sl_kernel_rfl) _

end

section

variable (m : (ℓ : Loc nD τ sig) → Buf (Elt Ideal) ℓ) (c : Dev nD)

/-- The two arrays that the call leaves. -/
theorem values_final : (dats m 0 c).arrAt 9 cfg0.N
    = values (X m c) (Sc m c) (Sh m c) (W m c) (Bi m c) (Cw m c) (Cb m c) := by
  refine (dats m 0 c).arrAt_eq_of_covers 9 _ (by decide +kernel) fun t _ y => ?_
  blk_simp
  rw [after0_9]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_9.blk t).view.emb (ix3 (0 : Fin 1) p n : S1x512x1024.Idx) : S4x8192x1024.Idx) = ix3 (seq t) (token t p) n := by
    blk_ext! [idx t, seq, token]
  dsimp only [outsAt0]
  rw [out9_eq, second t]
  exact (value_block m c t p n).trans (congrArg _ he).symm

theorem gates_final : (dats m 0 c).arrAt 10 cfg0.N
    = gates (X m c) (Sc m c) (Sh m c) (W m c) (Bi m c) (Cw m c) (Cb m c) := by
  refine (dats m 0 c).arrAt_eq_of_covers 10 _ (by decide +kernel) fun t _ y => ?_
  blk_simp
  rw [after0_10]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_10.blk t).view.emb (ix3 (0 : Fin 1) p n : S1x512x1024.Idx) : S4x8192x1024.Idx) = ix3 (seq t) (token t p) n := by
    blk_ext! [idx t, seq, token]
  dsimp only [outsAt0]
  rw [out10_eq, second t]
  exact (gate_block m c t p n).trans (congrArg _ he).symm

end

end Hyena

end
-- ==== Proof.Hyena.Reference.lean ====
module

public import proofs.«01_k».proof.Proof.Gen.GatesReferenceIdeal.Run
public import proofs.«01_k».proof.Proof.Hyena.Spec
public import Idealize.ShloMosaic.Lib.Pipeline.ValueKit
public import Idealize.ShloMosaic.Lib.KernelVsHost

/-! The gates' reference read at an index. -/

@[expose] public section

set_option maxRecDepth 16384

noncomputable section

namespace Hyena.Ref

open Idealize.ShloMosaic Idealize.ShloMosaic.TcCoe Idealize.SL.Sem
open Cert.GatesReferenceIdeal Cert.GatesReferenceIdeal.Gen

/-- A row of 3072, for every token of every sequence. -/
def everywhere (r : FVec Ideal S3072 .f32) : FVec Ideal S4x8192x3072 .f32 :=
  broadcastInDim S4x8192x3072 ![0, 1, 2] bcast_S1x1x3072_S4x8192x3072_0_1_2
    (broadcastInDim S1x1x3072 ![2] bcast_S3072_S1x1x3072_2 r)

/-- The modulated tokens through the matrix, with its bias. -/
def mix (x : FVec Ideal S4x8192x1024 .f32) (sc sh : FVec Ideal S4x1x1024 .f32) (w : FVec Ideal S1024x3072 .f32)
    (bias : FVec Ideal S3072 .f32) : FVec Ideal S4x8192x3072 .f32 :=
  addf (Host.dotGeneral dot_S4x8192x1024_S1024x3072_S4x8192x3072_2_0_01_1_n_n none
    (addf (mulf x (broadcastInDim S4x8192x1024 ![0, 1, 2] bcast_S4x1x1024_S4x8192x1024_0_1_2
        (addf (broadcastInDim S4x1x1024 ![] bcast_S_S4x1x1024 (constant S_ .f32 0x3F800000#32)) sc)))
      (broadcastInDim S4x8192x1024 ![0, 1, 2] bcast_S4x1x1024_S4x8192x1024_0_1_2 sh)) w) (everywhere bias)

/-- A zero before and after each sequence. -/
def padded (z : FVec Ideal S4x8192x3072 .f32) : FVec Ideal S4x8194x3072 .f32 :=
  pad S4x8194x3072 ![0, 1, 0] ![0, 1, 0] ![0, 0, 0] z (sitofp .f32 (constantI S_ 32 0#32)) pads_S4x8192x3072_S4x8194x3072_000_110_000 h_S_

/-- The three taps. -/
def tap (z : FVec Ideal S4x8194x3072 .f32) (cw : FVec Ideal S3x3072 .f32) (cb : FVec Ideal S3072 .f32) : FVec Ideal S4x8192x3072 .f32 :=
  addf (addf (addf
    (mulf (extractStridedSlice S4x8192x3072 ![0, 0, 0] z slices_S4x8194x3072_S4x8192x3072_0_0_0)
      (everywhere (shapeCast S3072 (extractStridedSlice S1x3072 ![0, 0] cw slices_S3x3072_S1x3072_0_0) shapeCasts_S1x3072_S3072)))
    (mulf (extractStridedSlice S4x8192x3072 ![0, 1, 0] z slices_S4x8194x3072_S4x8192x3072_0_1_0)
      (everywhere (shapeCast S3072 (extractStridedSlice S1x3072 ![1, 0] cw slices_S3x3072_S1x3072_1_0) shapeCasts_S1x3072_S3072))))
    (mulf (extractStridedSlice S4x8192x3072 ![0, 2, 0] z slices_S4x8194x3072_S4x8192x3072_0_2_0)
      (everywhere (shapeCast S3072 (extractStridedSlice S1x3072 ![2, 0] cw slices_S3x3072_S1x3072_2_0) shapeCasts_S1x3072_S3072))))
    (everywhere cb)

/-- The two results, of the filtered columns. -/
def first (y : FVec Ideal S4x8192x3072 .f32) : FVec Ideal S4x8192x1024 .f32 :=
  extractStridedSlice S4x8192x1024 ![0, 0, 0] y slices_S4x8192x3072_S4x8192x1024_0_0_0
def last (y : FVec Ideal S4x8192x3072 .f32) : FVec Ideal S4x8192x1024 .f32 :=
  mulf (extractStridedSlice S4x8192x1024 ![0, 0, 2048] y slices_S4x8192x3072_S4x8192x1024_0_0_2048)
    (extractStridedSlice S4x8192x1024 ![0, 0, 1024] y slices_S4x8192x3072_S4x8192x1024_0_0_1024)

section

variable (x : FVec Ideal S4x8192x1024 .f32) (sc sh : FVec Ideal S4x1x1024 .f32) (w : FVec Ideal S1024x3072 .f32)
    (bias : FVec Ideal S3072 .f32) (cw : FVec Ideal S3x3072 .f32) (cb : FVec Ideal S3072 .f32)

theorem mix_apply (b : Fin 4) (l : Fin 8192) (n : Fin 3072) : mix x sc sh w bias (ix3 b l n) = mixed x sc sh w bias b l n := by
  pointwise [mix, everywhere, mixed]

theorem padded_apply (z : FVec Ideal S4x8192x3072 .f32) (b : Fin 4) (s : Fin 8194) (n : Fin 3072) :
    padded z (ix3 b s n) = if h : 1 ≤ (s : ℕ) ∧ (s : ℕ) ≤ 8192 then z (ix3 b (⟨s - 1, by omega⟩ : Fin 8192) n) else 0 := by
  by_cases h : 1 ≤ (s : ℕ) ∧ (s : ℕ) ≤ 8192
  · rw [dif_pos h]
    refine pad_apply_of_inside _ _ _ z _ _ _ _ (ix3 b (⟨s - 1, by omega⟩ : Fin 8192) n) fun a => ?_
    fin_cases a
    · show (b : ℕ) = 0 + (b : ℕ) * (0 + 1)
      omega
    · show (s : ℕ) = 1 + ((s : ℕ) - 1) * (0 + 1)
      omega
    · show (n : ℕ) = 0 + (n : ℕ) * (0 + 1)
      omega
  · rw [dif_neg h]
    refine (pad_apply_of_not_inside _ _ _ z _ _ _ _ (1 : Fin 3) ?_).trans ?_
    · show ¬(1 ≤ (s : ℕ) ∧ ((s : ℕ) - 1) % (0 + 1) = 0 ∧ ((s : ℕ) - 1) / (0 + 1) < 8192)
      omega
    · pointwise
      show (((0#32 : BitVec 32).toInt : ℝ) : EReal) = 0
      simp

theorem continued_apply (b : Fin 4) (s : Fin 8194) (n : Fin 3072) :
    padded (mix x sc sh w bias) (ix3 b s n) = continued x sc sh w bias b s n := by
  rw [padded_apply, continued]
  simp only [mix_apply]

theorem tap_apply (z : FVec Ideal S4x8194x3072 .f32) (b : Fin 4) (l : Fin 8192) (n : Fin 3072) : tap z cw cb (ix3 b l n)
    = z (ix3 b (⟨l, by omega⟩ : Fin 8194) n) * cw (ix2 (0 : Fin 3) n) + z (ix3 b (⟨1 + l, by omega⟩ : Fin 8194) n) * cw (ix2 (1 : Fin 3) n)
      + z (ix3 b (⟨2 + l, by omega⟩ : Fin 8194) n) * cw (ix2 (2 : Fin 3) n) + cb (ix1 n) := by
  pointwise [tap, everywhere]

theorem tapped_apply (b : Fin 4) (l : Fin 8192) (n : Fin 3072) :
    tap (padded (mix x sc sh w bias)) cw cb (ix3 b l n) = tapped x sc sh w bias cw cb b l n := by
  rw [tap_apply, continued_apply, continued_apply, continued_apply, tapped]
  dsimp only
  rw [Nat.add_comm 1, Nat.add_comm 2]

theorem first_spec : first (tap (padded (mix x sc sh w bias)) cw cb) = gates x sc sh w bias cw cb := by
  refine funext fun i => ?_
  obtain ⟨b, l, n, rfl⟩ : ∃ (b : Fin 4) (l : Fin 8192) (n : Fin 1024), i = ix3 b l n := ⟨i 0, i 1, i 2, eq_ix3 i⟩
  pointwise [first]
  exact tapped_apply x sc sh w bias cw cb b l _

theorem last_spec : last (tap (padded (mix x sc sh w bias)) cw cb) = values x sc sh w bias cw cb := by
  refine funext fun i => ?_
  obtain ⟨b, l, n, rfl⟩ : ∃ (b : Fin 4) (l : Fin 8192) (n : Fin 1024), i = ix3 b l n := ⟨i 0, i 1, i 2, eq_ix3 i⟩
  pointwise [last]
  exact congrArg₂ (· * ·) (tapped_apply x sc sh w bias cw cb b l _) (tapped_apply x sc sh w bias cw cb b l _)

end

/-- The first result, as the steps above. -/
theorem values_eq (m : (ℓ : Loc nD τ sig) → Buf (Elt Ideal) ℓ) (c : Dev nD) : Cert.GatesReferenceIdeal.Value.res_out0 m c
    = last (tap (padded (mix (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))))
        (m ((c.tc : Thread nD τ).loc main_arg5)) (m ((c.tc : Thread nD τ).loc main_arg6))) := rfl

end Hyena.Ref

end
-- ==== Proof.Update.Spec.lean ====
module

public import Idealize.ShloMosaic.Lib.Pointwise

/-! What the output projection's call adds to the stream: the mixer's result through the last matrix, with its bias and its
scale, added through the gate to the stream, and each token normed. -/

@[expose] public section

noncomputable section

namespace Update

open Idealize.ShloMosaic

/-- Four sequences of 8192 tokens; a row for each sequence; the matrix; a row of 1024. -/
abbrev STokens : Shape := ⟨3, ![4, 8192, 1024]⟩
abbrev SMod : Shape := ⟨3, ![4, 1, 1024]⟩
abbrev SMatrix : Shape := ⟨2, ![1024, 1024]⟩
abbrev SRow : Shape := ⟨2, ![1, 1024]⟩

/-- One feature of the stream after the update: `y` is the mixer's feature through the matrix. -/
def added (y bias scale x g : EReal) : EReal :=
  Ideal.ofBits .f32 0x3FD744FD#32 * x + (1 + g) * ((y + bias) * scale)

/-- The mean of a token's features, and the norm of a token at one feature. -/
def mean (u : Fin 1024 → EReal) : EReal := Ideal.div (∑ k : Fin 1024, u k) (Ideal.ofBits .f32 0x44800000#32)
def normed (u : Fin 1024 → EReal) (lg lb : EReal) (n : Fin 1024) : EReal :=
  (u n - mean u) * Ideal.rsqrt (mean (fun k => (u k - mean u) * (u k - mean u)) + Ideal.ofBits .f32 0x3727C5AC#32) * lg + lb

section

variable (A : STokens.Idx → EReal) (W : SMatrix.Idx → EReal) (Bi Sc : SRow.Idx → EReal) (X : STokens.Idx → EReal)
  (G : SMod.Idx → EReal) (Lg Lb : SRow.Idx → EReal)

/-- The updated stream before the norm, and the call's result. -/
def stream (b : Fin 4) (l : Fin 8192) (n : Fin 1024) : EReal :=
  added (∑ k : Fin 1024, A (ix3 b l k) * W (ix2 k n)) (Bi (ix2 (0 : Fin 1) n)) (Sc (ix2 (0 : Fin 1) n)) (X (ix3 b l n))
    (G (ix3 b (0 : Fin 1) n))
def spec : STokens.Idx → EReal := fun i =>
  normed (stream A W Bi Sc X G (i 0 : Fin 4) (i 1 : Fin 8192)) (Lg (ix2 (0 : Fin 1) (i 2 : Fin 1024)))
    (Lb (ix2 (0 : Fin 1) (i 2 : Fin 1024))) (i 2 : Fin 1024)

end

end Update

end
-- ==== Proof.Update.Payload.lean ====
module

public import proofs.«01_k».proof.Proof.Gen.UpdateIdeal.Skeleton
public import proofs.«01_k».proof.Proof.Update.Spec
public import Idealize.ShloMosaic.Lib.Pipeline.ValueKit

/-! What one grid point of the output projection's call computes from its blocks: 512 tokens of the mixer's result `x0`, the
matrix `x1`, its bias and scale `x2` and `x3`, the tokens of the stream `x4`, the sequence's gate `x5`, the norm's scale and
shift `x6` and `x7`. -/

@[expose] public section

set_option maxRecDepth 16384

noncomputable section

namespace Update

open Idealize.ShloMosaic Idealize.ShloMosaic.TcCoe Idealize.SL.Sem
open Cert.UpdateIdeal Cert.UpdateIdeal.Gen

/-- The block of the stream that the grid point stores. -/
def block {F : FTy → Type} [FloatOps F] (x0 : Vec F S1x512x1024 .bf16) (x1 : Vec F S1024x1024 .bf16) (x2 x3 : Vec F S1x1024 .f32)
    (x4 : Vec F S1x512x1024 .f32) (x5 : Vec F S1x1x1024 .f32) (x6 x7 : Vec F S1x1024 .f32) : FVec F S1x512x1024 .f32 :=
  k0_pay5 (k0_pay2 x0 x1 x2 x3 x4 x5) x6 x7 (k0_pay3 x0 x1 x2 x3 x4 x5)

variable (x0 : Vec Ideal S1x512x1024 .bf16) (x1 : Vec Ideal S1024x1024 .bf16) (x2 x3 : Vec Ideal S1x1024 .f32)
  (x4 : Vec Ideal S1x512x1024 .f32) (x5 : Vec Ideal S1x1x1024 .f32) (x6 x7 : Vec Ideal S1x1024 .f32)

/-- The updated stream at a token of the block. -/
def row (p : Fin 512) (n : Fin 1024) : EReal :=
  added (∑ k : Fin 1024, x0 (ix3 (0 : Fin 1) p k) * x1 (ix2 k n)) (x2 (ix2 (0 : Fin 1) n)) (x3 (ix2 (0 : Fin 1) n))
    (x4 (ix3 (0 : Fin 1) p n)) (x5 (ix3 (0 : Fin 1) (0 : Fin 1) n))

theorem update_apply (p : Fin 512) (n : Fin 1024) : k0_pay2 x0 x1 x2 x3 x4 x5 (ix2 p n) = row x0 x1 x2 x3 x4 x5 p n := by
  pointwise [k0_pay2, row, added]

/-- The sum of a token's features. -/
theorem total_apply (p : Fin 512) :
    k0_pay3 x0 x1 x2 x3 x4 x5 (ix2 p (0 : Fin 1)) = ∑ k : Fin 1024, row x0 x1 x2 x3 x4 x5 p k := by
  pointwise [k0_pay3]
  exact Finset.sum_congr rfl fun k _ => update_apply x0 x1 x2 x3 x4 x5 p k

/-- The norm, of any rows and their sums. -/
theorem norm_apply (u : FVec Ideal S512x1024 .f32) (s : FVec Ideal S512x1 .f32) (p : Fin 512) (n : Fin 1024)
    (hs : s (ix2 p (0 : Fin 1)) = ∑ k : Fin 1024, u (ix2 p k)) :
    k0_pay5 u x6 x7 s (ix3 (0 : Fin 1) p n)
      = normed (fun k => u (ix2 p k)) (x6 (ix2 (0 : Fin 1) n)) (x7 (ix2 (0 : Fin 1) n)) n := by
  pointwise [k0_pay5, k0_pay4, normed, mean]
  rw [hs]

theorem block_apply (p : Fin 512) (n : Fin 1024) : block x0 x1 x2 x3 x4 x5 x6 x7 (ix3 (0 : Fin 1) p n)
    = normed (row x0 x1 x2 x3 x4 x5 p) (x6 (ix2 (0 : Fin 1) n)) (x7 (ix2 (0 : Fin 1) n)) n := by
  refine (norm_apply x6 x7 _ _ p n ?_).trans ?_
  · rw [total_apply]
    exact Finset.sum_congr rfl fun k _ => (update_apply x0 x1 x2 x3 x4 x5 p k).symm
  · exact congrArg (fun u => normed u _ _ n) (funext fun k => update_apply x0 x1 x2 x3 x4 x5 p k)

end Update

end
-- ==== Proof.Update.State.lean ====
module

public import proofs.«01_k».proof.Proof.Gen.UpdateIdeal.Value
public import proofs.«01_k».proof.Proof.Update.Payload
public import Idealize.ShloMosaic.Lib.Pipeline.ReadBack

/-! The stores of the body leave one block of the stream, at the first grid point and at the later ones alike. -/

@[expose] public section

set_option maxRecDepth 16384

noncomputable section

namespace Update

open Idealize.ShloMosaic Idealize.ShloMosaic.TcCoe Idealize.SL.Sem
open Cert.UpdateIdeal Cert.UpdateIdeal.Gen

variable {F : FTy → Type} [FloatOps F]

/-- A load of a whole buffer reads its contents. -/
theorem load_all {A B C : ℕ} {e : EltTy} {a : Memref sig .tc .vmem ⟨3, ![A, B, C]⟩ e} (h : a.IsWhole)
    (X : (⟨3, ![A, B, C]⟩ : Shape).Idx → Elt F e)
    (inb : ∀ k, (![0, 0, 0] : Fin 3 → ℕ) k + (⟨3, ![A, B, C]⟩ : Shape).size k ≤ (⟨3, ![A, B, C]⟩ : Shape).size k) :
    View.readAt (Elt F) a.view (Rect.unit ![0, 0, 0] (⟨3, ![A, B, C]⟩ : Shape).size inb).toLoadRect (h.unread X) = X := by
  rw [View.readAt_eq_ld, h.read_unread]
  exact View.ld_unit_lit inb X fun k => by fin_cases k <;> rfl

theorem load_whole {A B : ℕ} {e : EltTy} {a : Memref sig .tc .vmem ⟨2, ![A, B]⟩ e} (h : a.IsWhole)
    (X : (⟨2, ![A, B]⟩ : Shape).Idx → Elt F e)
    (inb : ∀ k, (![0, 0] : Fin 2 → ℕ) k + (⟨2, ![A, B]⟩ : Shape).size k ≤ (⟨2, ![A, B]⟩ : Shape).size k) :
    View.readAt (Elt F) a.view (Rect.unit ![0, 0] (⟨2, ![A, B]⟩ : Shape).size inb).toLoadRect (h.unread X) = X := by
  rw [View.readAt_eq_ld, h.read_unread]
  exact View.ld_unit_lit inb X fun k => by fin_cases k <;> rfl

/-- A buffer stored once, whole, holds what was stored. -/
theorem stored (Z : FVec F S1x512x1024 .f32) (inb) :
    View.canon (Val := Elt F) (s := S1x512x1024) (e := .f32) [⟨Rect.unit ![0, 0, 0] S1x512x1024.size inb, Z⟩] = Z := by
  funext i
  obtain ⟨a, p, n, rfl⟩ : ∃ (a : Fin 1) (p : Fin 512) (n : Fin 1024), i = ix3 a p n := ⟨i 0, i 1, i 2, eq_ix3 i⟩
  refine View.canon_eq_of_allAt _ _ _ ?_ (View.allAt_cons_unit _ _ _ _ _ ?_ (View.allAt_nil _ _))
  · exact View.cover_of_tiledL (s := S1x512x1024) _ S1x512x1024.size (by sl_kernel_rfl) _
  · intro x hx
    exact congrArg Z (funext fun k => Fin.ext (by
      have := hx k
      fin_cases k <;> exact (this.trans (Nat.zero_add _)).symm))

section

variable (c : Dev nD) (i : grid0.Coords)

  (arg2 : Memref sig .tc .vmem S1x512x1024 .bf16) (harg2 : arg2.IsWhole)
  (arg3 : Memref sig .tc .vmem S1024x1024 .bf16) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x512x1024 .f32) (harg6 : arg6.IsWhole)
  (arg7 : Memref sig .tc .vmem S1x1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1x1024 .f32) (harg10 : arg10.IsWhole)
  (arg11 : Memref sig .tc .vmem S1x1x1024 .f32) (harg11 : arg11.IsWhole)
  (arg12 : Memref sig .tc .vmem S16x1024 .bf16) (harg12 : arg12.IsWhole)
  (arg13 : Memref sig .tc .vmem S16x1 .f32) (harg13 : arg13.IsWhole)
  (arg14 : Memref sig .tc .vmem S512x512 .bf16) (harg14 : arg14.IsWhole)
  (arg15 : Memref sig .tc .vmem S1x512x1024 .f32) (harg15 : arg15.IsWhole)
  (arg16 : Memref sig .tc .vmem S512x1152 .f32) (harg16 : arg16.IsWhole)
  (arg17 : Memref sig .tc .vmem S8x512 .i32) (harg17 : arg17.IsWhole)
  (arg18 : Memref sig .tc .vmem S32x128 .f32) (harg18 : arg18.IsWhole)
  (arg19 : Memref sig .tc .vmem S32x512 .f32) (harg19 : arg19.IsWhole)
  (x0 : Vec F S1x512x1024 .bf16) (x1 : Vec F S1024x1024 .bf16) (x2 : Vec F S1x1024 .f32) (x3 : Vec F S1x1024 .f32) (x4 : Vec F S1x512x1024 .f32) (x5 : Vec F S1x1x1024 .f32) (x6 : Vec F S1x1024 .f32) (x7 : Vec F S1x1024 .f32) (x8 : Vec F S1x1x1024 .f32) (x9 : Vec F S1x1x1024 .f32) (x10 : Vec F S16x1024 .bf16) (x11 : Vec F S16x1 .f32) (x12 : Vec F S512x512 .bf16)

theorem first_eq (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12
    = block x0 x1 x2 x3 x4 x5 x6 x7 := by
  unfold out0_A_13
  rw [View.read_writes_junk_eq_canon]
  dsimp only [kernelRun0_A]
  simp only [kernelRun0_A.sl.r, kernelRun0_A.sl.r_1, kernelRun0_A.sl.r_2, kernelRun0_A.sl.r_3,
    load_all harg2, load_all harg6, load_all harg7, load_whole harg3, load_whole harg4, load_whole harg5, load_whole harg8, load_whole harg9]
  exact stored (F := F) (block x0 x1 x2 x3 x4 x5 x6 x7) _

theorem later_eq (hc0 : ¬cond0_0 i) (xs0 : Vec F S32x512 .f32) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0
    = block x0 x1 x2 x3 x4 x5 x6 x7 := by
  unfold out0_B_13
  rw [View.read_writes_junk_eq_canon]
  dsimp only [kernelRun0_B]
  simp only [kernelRun0_B.sl.r, kernelRun0_B.sl.r_1, kernelRun0_B.sl.r_2, kernelRun0_B.sl.r_3,
    load_all harg2, load_all harg6, load_all harg7, load_whole harg3, load_whole harg4, load_whole harg5, load_whole harg8, load_whole harg9]
  exact stored (F := F) (block x0 x1 x2 x3 x4 x5 x6 x7) _

end

end Update

end
-- ==== Proof.Update.Array.lean ====
module

public import proofs.«01_k».proof.Proof.Update.State
public import Idealize.ShloMosaic.Lib.StableHlo.RunRead

/-! The stream that the output projection's call leaves, from the blocks its grid points write. -/

@[expose] public section

set_option maxRecDepth 16384

noncomputable section

namespace Update

open Idealize.ShloMosaic Idealize.ShloMosaic.TcCoe Idealize.SL.Sem
open Cert.UpdateIdeal Cert.UpdateIdeal.Gen

section

variable (m : (ℓ : Loc nD τ sig) → Buf (Elt Ideal) ℓ) (c : Dev nD)

/-- The specification's arrays, of the call's arguments. -/
abbrev A : STokens.Idx → EReal := m ((c : Thread nD τ).loc main_arg0)
abbrev W : SMatrix.Idx → EReal := m ((c : Thread nD τ).loc main_arg1)
abbrev Bi : SRow.Idx → EReal := m ((c : Thread nD τ).loc main_arg2)
abbrev Sc : SRow.Idx → EReal := m ((c : Thread nD τ).loc main_arg3)
abbrev X : STokens.Idx → EReal := m ((c : Thread nD τ).loc main_arg4)
abbrev G : SMod.Idx → EReal := m ((c : Thread nD τ).loc main_arg5)
abbrev Lg : SRow.Idx → EReal := m ((c : Thread nD τ).loc main_arg6)
abbrev Lb : SRow.Idx → EReal := m ((c : Thread nD τ).loc main_arg7)

/-- What the call finds in the matrix's buffer. -/
theorem entry_matrix : (V m c main_v0 : FVec Ideal S1024x1024 .bf16) = m ((c : Thread nD τ).loc main_arg1) := by
  entry_read
  rfl

variable (t : Fin cfg0.N)

/-- The blocks' indices at a grid point. -/
theorem idx : ∀ t : Fin cfg0.N,
    win0_0.index t = ![t.val / 16, t.val % 16, 0] ∧ win0_1.index t = ![0, 0] ∧ win0_2.index t = ![0, 0] ∧ win0_3.index t = ![0, 0]
    ∧ win0_4.index t = ![t.val / 16, t.val % 16, 0] ∧ win0_5.index t = ![t.val / 16, 0, 0] ∧ win0_6.index t = ![0, 0]
    ∧ win0_7.index t = ![0, 0] ∧ win0_13.index t = ![t.val / 16, t.val % 16, 0] :=
  (by decide +kernel : ∀ t : Fin grid0.N, _)

/-- The sequence and a token of a grid point. -/
def seq : Fin 4 := ⟨t.val / 16, by have : t.val < 64 := t.2; omega⟩
def token (p : Fin 512) : Fin 8192 := ⟨512 * (t.val % 16) + p, by omega⟩

theorem block0 (p : Fin 512) (k : Fin 1024) : (iblk m c 0 t : FVec Ideal S1x512x1024 .bf16) (ix3 (0 : Fin 1) p k)
    = A m c (ix3 (seq t) (token t p) k) := by
  blk_ext! [iblk, V, idx t, seq, token]

theorem block1 (k n : Fin 1024) : (iblk m c 1 t : FVec Ideal S1024x1024 .bf16) (ix2 k n) = W m c (ix2 k n) := by
  blk_simp [iblk, idx t]
  rw [entry_matrix]
  blk_ext! [idx t]

theorem block2 (n : Fin 1024) : (iblk m c 2 t : FVec Ideal S1x1024 .f32) (ix2 (0 : Fin 1) n) = Bi m c (ix2 (0 : Fin 1) n) := by
  blk_ext! [iblk, V, idx t]

theorem block3 (n : Fin 1024) : (iblk m c 3 t : FVec Ideal S1x1024 .f32) (ix2 (0 : Fin 1) n) = Sc m c (ix2 (0 : Fin 1) n) := by
  blk_ext! [iblk, V, idx t]

theorem block4 (p : Fin 512) (k : Fin 1024) : (iblk m c 4 t : FVec Ideal S1x512x1024 .f32) (ix3 (0 : Fin 1) p k)
    = X m c (ix3 (seq t) (token t p) k) := by
  blk_ext! [iblk, V, idx t, seq, token]

theorem block5 (k : Fin 1024) : (iblk m c 5 t : FVec Ideal S1x1x1024 .f32) (ix3 (0 : Fin 1) (0 : Fin 1) k)
    = G m c (ix3 (seq t) (0 : Fin 1) k) := by
  blk_ext! [iblk, V, idx t, seq]

theorem block6 (n : Fin 1024) : (iblk m c 6 t : FVec Ideal S1x1024 .f32) (ix2 (0 : Fin 1) n) = Lg m c (ix2 (0 : Fin 1) n) := by
  blk_ext! [iblk, V, idx t]

theorem block7 (n : Fin 1024) : (iblk m c 7 t : FVec Ideal S1x1024 .f32) (ix2 (0 : Fin 1) n) = Lb m c (ix2 (0 : Fin 1) n) := by
  blk_ext! [iblk, V, idx t]

/-- A token of the grid point, updated. -/
theorem row_block (p : Fin 512) : row (iblk m c 0 t) (iblk m c 1 t) (iblk m c 2 t) (iblk m c 3 t) (iblk m c 4 t) (iblk m c 5 t) p
    = stream (A m c) (W m c) (Bi m c) (Sc m c) (X m c) (G m c) (seq t) (token t p) := by
  funext n
  rw [row, stream, block2, block3, block4, block5]
  exact congrArg (added · _ _ _ _) (Finset.sum_congr rfl fun k _ => congrArg₂ (· * ·) (block0 m c t p k) (block1 m c t k n))

/-- The block that the grid point stores. -/
theorem stream_block (p : Fin 512) (n : Fin 1024) :
    block (F := Ideal) (iblk m c 0 t) (iblk m c 1 t) (iblk m c 2 t) (iblk m c 3 t) (iblk m c 4 t) (iblk m c 5 t) (iblk m c 6 t)
        (iblk m c 7 t) (ix3 (0 : Fin 1) p n)
      = spec (A m c) (W m c) (Bi m c) (Sc m c) (X m c) (G m c) (Lg m c) (Lb m c) (ix3 (seq t) (token t p) n) := by
  refine (block_apply _ _ _ _ _ _ _ _ p n).trans ?_
  rw [row_block, block6, block7]
  rfl

end

section

variable (m : (ℓ : Loc nD τ sig) → Buf (Elt Ideal) ℓ) (c : Dev nD)

/-- What a grid point leaves in the stream's block. -/
theorem outs_eq (t : Fin cfg0.N) : (outsAt0 (F := Ideal) m c t.val t.isLt).1
    = block (F := Ideal) (iblk m c 0 t) (iblk m c 1 t) (iblk m c 2 t) (iblk m c 3 t) (iblk m c 4 t) (iblk m c 5 t) (iblk m c 6 t)
        (iblk m c 7 t) := by
  by_cases h : t.val % 64 = 0
  · rw [outsAt0_A m c t h]
    dsimp only
    exact first_eq ..
  · rw [outsAt0_B m c t h]
    dsimp only
    exact later_eq ..

/-- The array that the call leaves. -/
theorem final : (dats m 0 c).arrAt 13 cfg0.N
    = spec (A m c) (W m c) (Bi m c) (Sc m c) (X m c) (G m c) (Lg m c) (Lb m c) := by
  refine (dats m 0 c).arrAt_eq_of_covers 13 _ (by decide +kernel) fun t _ y => ?_
  blk_simp
  rw [after0_13]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_13.blk t).view.emb (ix3 (0 : Fin 1) p n : S1x512x1024.Idx) : S4x8192x1024.Idx) = ix3 (seq t) (token t p) n := by
    blk_ext! [idx t, seq, token]
  rw [outs_eq]
  exact (stream_block m c t p n).trans (congrArg _ he).symm

end

end Update

end
-- ==== Proof.Update.Reference.lean ====
module

public import proofs.«01_k».proof.Proof.Gen.UpdateReferenceIdeal.Run
public import proofs.«01_k».proof.Proof.Update.Spec
public import Idealize.ShloMosaic.Lib.Pipeline.ValueKit
public import Idealize.ShloMosaic.Lib.KernelVsHost

/-! The output projection's reference read at an index. -/

@[expose] public section

set_option maxRecDepth 16384

noncomputable section

namespace Update.Ref

open Idealize.ShloMosaic Idealize.ShloMosaic.TcCoe Idealize.SL.Sem
open Cert.UpdateReferenceIdeal Cert.UpdateReferenceIdeal.Gen

/-- A row of 1024, for every token of every sequence. -/
def everywhere (r : FVec Ideal S1x1024 .f32) : FVec Ideal S4x8192x1024 .f32 :=
  broadcastInDim S4x8192x1024 ![0, 1, 2] bcast_S1x1x1024_S4x8192x1024_0_1_2
    (broadcastInDim S1x1x1024 ![1, 2] bcast_S1x1024_S1x1x1024_1_2 r)

/-- A number of each token, for all its features. -/
def along (r : FVec Ideal S4x8192x1 .f32) : FVec Ideal S4x8192x1024 .f32 :=
  broadcastInDim S4x8192x1024 ![0, 1, 2] bcast_S4x8192x1_S4x8192x1024_0_1_2 r

/-- The updated stream before the norm. -/
def sum (a : FVec Ideal S4x8192x1024 .bf16) (w : FVec Ideal S1024x1024 .f32) (bias scale : FVec Ideal S1x1024 .f32)
    (x : FVec Ideal S4x8192x1024 .f32) (g : FVec Ideal S4x1x1024 .f32) : FVec Ideal S4x8192x1024 .f32 :=
  addf (mulf (broadcastInDim S4x8192x1024 ![] bcast_S_S4x8192x1024 (constant S_ .f32 0x3FD744FD#32)) x)
    (mulf (broadcastInDim S4x8192x1024 ![0, 1, 2] bcast_S4x1x1024_S4x8192x1024_0_1_2
        (addf (broadcastInDim S4x1x1024 ![] bcast_S_S4x1x1024 (constant S_ .f32 0x3F800000#32)) g))
      (mulf (addf (Host.dotGeneral dot_S4x8192x1024_S1024x1024_S4x8192x1024_2_0_01_1_n_n none
        (extf .f32 a bitsLt_bf16_f32) w) (everywhere bias)) (everywhere scale)))

/-- The mean over the features. -/
def average (u : FVec Ideal S4x8192x1024 .f32) : FVec Ideal S4x8192x1 .f32 :=
  Host.divf (broadcastInDim S4x8192x1 ![0, 1] bcast_S4x8192_S4x8192x1_0_1
      (Host.reduceAdd u (constant S_ .f32 0x00000000#32) reducesTo_S4x8192x1024_S4x8192_d2 h_S_))
    (broadcastInDim S4x8192x1 ![] bcast_S_S4x8192x1 (constant S_ .f32 0x44800000#32))

/-- The norm. -/
def norm (u : FVec Ideal S4x8192x1024 .f32) (lg lb : FVec Ideal S1x1024 .f32) : FVec Ideal S4x8192x1024 .f32 :=
  addf (mulf (mulf (subf u (along (average u)))
    (along (Host.rsqrt (addf (average (mulf (subf u (along (average u))) (subf u (along (average u)))))
      (broadcastInDim S4x8192x1 ![] bcast_S_S4x8192x1 (constant S_ .f32 0x3727C5AC#32))))))
    (everywhere lg)) (everywhere lb)

theorem sum_apply (a : FVec Ideal S4x8192x1024 .bf16) (w : FVec Ideal S1024x1024 .f32) (bias scale : FVec Ideal S1x1024 .f32)
    (x : FVec Ideal S4x8192x1024 .f32) (g : FVec Ideal S4x1x1024 .f32) (b : Fin 4) (l : Fin 8192) (n : Fin 1024) :
    sum a w bias scale x g (ix3 b l n) = stream a w bias scale x g b l n := by
  pointwise [sum, everywhere, stream, added]

theorem average_apply (u : FVec Ideal S4x8192x1024 .f32) (b : Fin 4) (l : Fin 8192) :
    average u (ix3 b l (0 : Fin 1)) = mean (fun k => u (ix3 b l k)) := by
  pointwise [average, mean]

theorem along_apply (r : FVec Ideal S4x8192x1 .f32) (b : Fin 4) (l : Fin 8192) (n : Fin 1024) :
    along r (ix3 b l n) = r (ix3 b l (0 : Fin 1)) := by
  pointwise [along]

theorem everywhere_apply (r : FVec Ideal S1x1024 .f32) (b : Fin 4) (l : Fin 8192) (n : Fin 1024) :
    everywhere r (ix3 b l n) = r (ix2 (0 : Fin 1) n) := by
  pointwise [everywhere]

theorem norm_apply (u : FVec Ideal S4x8192x1024 .f32) (lg lb : FVec Ideal S1x1024 .f32) (b : Fin 4) (l : Fin 8192) (n : Fin 1024) :
    norm u lg lb (ix3 b l n) = normed (fun k => u (ix3 b l k)) (lg (ix2 (0 : Fin 1) n)) (lb (ix2 (0 : Fin 1) n)) n := by
  have hd : ∀ k : Fin 1024, subf u (along (average u)) (ix3 b l k) = u (ix3 b l k) - mean (fun k => u (ix3 b l k)) := fun k => by
    rw [← average_apply, ← along_apply (average u) b l k]
    rfl
  have hs : mulf (subf u (along (average u))) (subf u (along (average u)))
      = fun i => subf u (along (average u)) i * subf u (along (average u)) i := rfl
  unfold norm
  refine congrArg₂ (· + ·) (congrArg₂ (· * ·) (congrArg₂ (· * ·) (hd n) ?_) (everywhere_apply lg b l n)) (everywhere_apply lb b l n)
  refine (along_apply _ b l n).trans (congrArg (fun v => Ideal.rsqrt (v + Ideal.ofBits .f32 0x3727C5AC#32)) ?_)
  refine (average_apply _ b l).trans (congrArg mean (funext fun k => ?_))
  exact congrArg₂ (· * ·) (hd k) (hd k)

/-- The reference's value is the specification. -/
theorem norm_spec (a : FVec Ideal S4x8192x1024 .bf16) (w : FVec Ideal S1024x1024 .f32) (bias scale : FVec Ideal S1x1024 .f32)
    (x : FVec Ideal S4x8192x1024 .f32) (g : FVec Ideal S4x1x1024 .f32) (lg lb : FVec Ideal S1x1024 .f32) :
    norm (sum a w bias scale x g) lg lb = spec a w bias scale x g lg lb := by
  refine funext fun i => ?_
  obtain ⟨b, l, n, rfl⟩ : ∃ (b : Fin 4) (l : Fin 8192) (n : Fin 1024), i = ix3 b l n := ⟨i 0, i 1, i 2, eq_ix3 i⟩
  refine (norm_apply _ lg lb b l n).trans ?_
  exact congrArg (fun u => normed u _ _ n) (funext fun k => sum_apply a w bias scale x g b l k)

/-- The reference's result is these steps. -/
theorem result_eq (m : (ℓ : Loc nD τ sig) → Buf (Elt Ideal) ℓ) (c : Dev nD) : Cert.UpdateReferenceIdeal.Value.res_out0 m c
    = norm (sum (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))) (m ((c.tc : Thread nD τ).loc main_arg6)) (m ((c.tc : Thread nD τ).loc main_arg7)) := rfl

end Update.Ref

end
-- ==== Proof.UpdateWide.Payload.lean ====
module

public import proofs.«01_k».proof.Proof.Gen.UpdateWideIdeal.Skeleton
public import proofs.«01_k».proof.Proof.Update.Spec
public import Idealize.ShloMosaic.Lib.Pipeline.ValueKit

/-! What one grid point of the output projection's call computes when the mixer hands it numbers of 32 bits: 512 tokens of the
mixer's result `x0`, the
matrix `x1`, its bias and scale `x2` and `x3`, the tokens of the stream `x4`, the sequence's gate `x5`, the norm's scale and
shift `x6` and `x7`. -/

@[expose] public section

set_option maxRecDepth 16384

noncomputable section

namespace UpdateWide

open Idealize.ShloMosaic Idealize.ShloMosaic.TcCoe Idealize.SL.Sem
open Cert.UpdateWideIdeal Cert.UpdateWideIdeal.Gen
open Update (STokens SMod SMatrix SRow added mean normed stream spec)

/-- The block of the stream that the grid point stores. -/
def block {F : FTy → Type} [FloatOps F] (x0 : Vec F S1x512x1024 .f32) (x1 : Vec F S1024x1024 .bf16) (x2 x3 : Vec F S1x1024 .f32)
    (x4 : Vec F S1x512x1024 .f32) (x5 : Vec F S1x1x1024 .f32) (x6 x7 : Vec F S1x1024 .f32) : FVec F S1x512x1024 .f32 :=
  k0_pay5 (k0_pay2 x0 x1 x2 x3 x4 x5) x6 x7 (k0_pay3 x0 x1 x2 x3 x4 x5)

variable (x0 : Vec Ideal S1x512x1024 .f32) (x1 : Vec Ideal S1024x1024 .bf16) (x2 x3 : Vec Ideal S1x1024 .f32)
  (x4 : Vec Ideal S1x512x1024 .f32) (x5 : Vec Ideal S1x1x1024 .f32) (x6 x7 : Vec Ideal S1x1024 .f32)

/-- The updated stream at a token of the block. -/
def row (p : Fin 512) (n : Fin 1024) : EReal :=
  added (∑ k : Fin 1024, x0 (ix3 (0 : Fin 1) p k) * x1 (ix2 k n)) (x2 (ix2 (0 : Fin 1) n)) (x3 (ix2 (0 : Fin 1) n))
    (x4 (ix3 (0 : Fin 1) p n)) (x5 (ix3 (0 : Fin 1) (0 : Fin 1) n))

theorem update_apply (p : Fin 512) (n : Fin 1024) : k0_pay2 x0 x1 x2 x3 x4 x5 (ix2 p n) = row x0 x1 x2 x3 x4 x5 p n := by
  pointwise [k0_pay2, row, added]

/-- The sum of a token's features. -/
theorem total_apply (p : Fin 512) :
    k0_pay3 x0 x1 x2 x3 x4 x5 (ix1 p) = ∑ k : Fin 1024, row x0 x1 x2 x3 x4 x5 p k := by
  pointwise [k0_pay3]
  exact Finset.sum_congr rfl fun k _ => update_apply x0 x1 x2 x3 x4 x5 p k

/-- The norm, of any rows and their sums. -/
theorem norm_apply (u : FVec Ideal S512x1024 .f32) (s : FVec Ideal S512 .f32) (p : Fin 512) (n : Fin 1024)
    (hs : s (ix1 p) = ∑ k : Fin 1024, u (ix2 p k)) :
    k0_pay5 u x6 x7 s (ix3 (0 : Fin 1) p n)
      = normed (fun k => u (ix2 p k)) (x6 (ix2 (0 : Fin 1) n)) (x7 (ix2 (0 : Fin 1) n)) n := by
  pointwise [k0_pay5, k0_pay4, normed, mean]
  rw [hs]

theorem block_apply (p : Fin 512) (n : Fin 1024) : block x0 x1 x2 x3 x4 x5 x6 x7 (ix3 (0 : Fin 1) p n)
    = normed (row x0 x1 x2 x3 x4 x5 p) (x6 (ix2 (0 : Fin 1) n)) (x7 (ix2 (0 : Fin 1) n)) n := by
  refine (norm_apply x6 x7 _ _ p n ?_).trans ?_
  · rw [total_apply]
    exact Finset.sum_congr rfl fun k _ => (update_apply x0 x1 x2 x3 x4 x5 p k).symm
  · exact congrArg (fun u => normed u _ _ n) (funext fun k => update_apply x0 x1 x2 x3 x4 x5 p k)

end UpdateWide

end
-- ==== Proof.UpdateWide.State.lean ====
module

public import proofs.«01_k».proof.Proof.Gen.UpdateWideIdeal.Value
public import proofs.«01_k».proof.Proof.UpdateWide.Payload
public import proofs.«01_k».proof.Proof.Update.State
public import Idealize.ShloMosaic.Lib.Pipeline.ReadBack

/-! With the mixer's result of 32 bits too, the stores of the body leave one block of the stream, at the first grid point and at the later ones alike. -/

@[expose] public section

set_option maxRecDepth 16384

noncomputable section

namespace UpdateWide

open Idealize.ShloMosaic Idealize.ShloMosaic.TcCoe Idealize.SL.Sem
open Cert.UpdateWideIdeal Cert.UpdateWideIdeal.Gen

variable {F : FTy → Type} [FloatOps F]

/-- A load of a whole buffer reads its contents. -/
theorem load_all {A B C : ℕ} {e : EltTy} {a : Memref sig .tc .vmem ⟨3, ![A, B, C]⟩ e} (h : a.IsWhole)
    (X : (⟨3, ![A, B, C]⟩ : Shape).Idx → Elt F e)
    (inb : ∀ k, (![0, 0, 0] : Fin 3 → ℕ) k + (⟨3, ![A, B, C]⟩ : Shape).size k ≤ (⟨3, ![A, B, C]⟩ : Shape).size k) :
    View.readAt (Elt F) a.view (Rect.unit ![0, 0, 0] (⟨3, ![A, B, C]⟩ : Shape).size inb).toLoadRect (h.unread X) = X := by
  rw [View.readAt_eq_ld, h.read_unread]
  exact View.ld_unit_lit inb X fun k => by fin_cases k <;> rfl

theorem load_whole {A B : ℕ} {e : EltTy} {a : Memref sig .tc .vmem ⟨2, ![A, B]⟩ e} (h : a.IsWhole)
    (X : (⟨2, ![A, B]⟩ : Shape).Idx → Elt F e)
    (inb : ∀ k, (![0, 0] : Fin 2 → ℕ) k + (⟨2, ![A, B]⟩ : Shape).size k ≤ (⟨2, ![A, B]⟩ : Shape).size k) :
    View.readAt (Elt F) a.view (Rect.unit ![0, 0] (⟨2, ![A, B]⟩ : Shape).size inb).toLoadRect (h.unread X) = X := by
  rw [View.readAt_eq_ld, h.read_unread]
  exact View.ld_unit_lit inb X fun k => by fin_cases k <;> rfl

section

variable (c : Dev nD) (i : grid0.Coords)

  (arg2 : Memref sig .tc .vmem S1x512x1024 .f32) (harg2 : arg2.IsWhole)
  (arg3 : Memref sig .tc .vmem S1024x1024 .bf16) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x512x1024 .f32) (harg6 : arg6.IsWhole)
  (arg7 : Memref sig .tc .vmem S1x1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1x1024 .f32) (harg10 : arg10.IsWhole)
  (arg11 : Memref sig .tc .vmem S1x1x1024 .f32) (harg11 : arg11.IsWhole)
  (arg12 : Memref sig .tc .vmem S16x1024 .bf16) (harg12 : arg12.IsWhole)
  (arg13 : Memref sig .tc .vmem S16x1 .f32) (harg13 : arg13.IsWhole)
  (arg14 : Memref sig .tc .vmem S512x512 .bf16) (harg14 : arg14.IsWhole)
  (arg15 : Memref sig .tc .vmem S1x512x1024 .f32) (harg15 : arg15.IsWhole)
  (arg16 : Memref sig .tc .vmem S512x1152 .f32) (harg16 : arg16.IsWhole)
  (arg17 : Memref sig .tc .vmem S8x512 .i32) (harg17 : arg17.IsWhole)
  (arg18 : Memref sig .tc .vmem S32x128 .f32) (harg18 : arg18.IsWhole)
  (arg19 : Memref sig .tc .vmem S32x512 .f32) (harg19 : arg19.IsWhole)
  (x0 : Vec F S1x512x1024 .f32) (x1 : Vec F S1024x1024 .bf16) (x2 : Vec F S1x1024 .f32) (x3 : Vec F S1x1024 .f32) (x4 : Vec F S1x512x1024 .f32) (x5 : Vec F S1x1x1024 .f32) (x6 : Vec F S1x1024 .f32) (x7 : Vec F S1x1024 .f32) (x8 : Vec F S1x1x1024 .f32) (x9 : Vec F S1x1x1024 .f32) (x10 : Vec F S16x1024 .bf16) (x11 : Vec F S16x1 .f32) (x12 : Vec F S512x512 .bf16)

theorem first_eq (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12
    = block x0 x1 x2 x3 x4 x5 x6 x7 := by
  unfold out0_A_13
  rw [View.read_writes_junk_eq_canon]
  dsimp only [kernelRun0_A]
  simp only [kernelRun0_A.sl.r, kernelRun0_A.sl.r_1, kernelRun0_A.sl.r_2, kernelRun0_A.sl.r_3,
    load_all harg2, load_all harg6, load_all harg7, load_whole harg3, load_whole harg4, load_whole harg5, load_whole harg8, load_whole harg9]
  exact Update.stored (F := F) (block x0 x1 x2 x3 x4 x5 x6 x7) _

theorem later_eq (hc0 : ¬cond0_0 i) (xs0 : Vec F S32x512 .f32) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0
    = block x0 x1 x2 x3 x4 x5 x6 x7 := by
  unfold out0_B_13
  rw [View.read_writes_junk_eq_canon]
  dsimp only [kernelRun0_B]
  simp only [kernelRun0_B.sl.r, kernelRun0_B.sl.r_1, kernelRun0_B.sl.r_2, kernelRun0_B.sl.r_3,
    load_all harg2, load_all harg6, load_all harg7, load_whole harg3, load_whole harg4, load_whole harg5, load_whole harg8, load_whole harg9]
  exact Update.stored (F := F) (block x0 x1 x2 x3 x4 x5 x6 x7) _

end

end UpdateWide

end
-- ==== Proof.UpdateWide.Array.lean ====
module

public import proofs.«01_k».proof.Proof.UpdateWide.State
public import Idealize.ShloMosaic.Lib.StableHlo.RunRead

/-! The stream that the output projection's call leaves of a mixer's result of 32 bits, from the blocks its grid points write. -/

@[expose] public section

set_option maxRecDepth 16384

noncomputable section

namespace UpdateWide

open Idealize.ShloMosaic Idealize.ShloMosaic.TcCoe Idealize.SL.Sem
open Cert.UpdateWideIdeal Cert.UpdateWideIdeal.Gen
open Update (STokens SMod SMatrix SRow added mean normed stream spec)

section

variable (m : (ℓ : Loc nD τ sig) → Buf (Elt Ideal) ℓ) (c : Dev nD)

/-- The specification's arrays, of the call's arguments. -/
abbrev A : STokens.Idx → EReal := m ((c : Thread nD τ).loc main_arg0)
abbrev W : SMatrix.Idx → EReal := m ((c : Thread nD τ).loc main_arg1)
abbrev Bi : SRow.Idx → EReal := m ((c : Thread nD τ).loc main_arg2)
abbrev Sc : SRow.Idx → EReal := m ((c : Thread nD τ).loc main_arg3)
abbrev X : STokens.Idx → EReal := m ((c : Thread nD τ).loc main_arg4)
abbrev G : SMod.Idx → EReal := m ((c : Thread nD τ).loc main_arg5)
abbrev Lg : SRow.Idx → EReal := m ((c : Thread nD τ).loc main_arg6)
abbrev Lb : SRow.Idx → EReal := m ((c : Thread nD τ).loc main_arg7)

/-- What the call finds in the matrix's buffer. -/
theorem entry_matrix : (V m c main_v0 : FVec Ideal S1024x1024 .bf16) = m ((c : Thread nD τ).loc main_arg1) := by
  entry_read
  rfl

variable (t : Fin cfg0.N)

/-- The blocks' indices at a grid point. -/
theorem idx : ∀ t : Fin cfg0.N,
    win0_0.index t = ![t.val / 16, t.val % 16, 0] ∧ win0_1.index t = ![0, 0] ∧ win0_2.index t = ![0, 0] ∧ win0_3.index t = ![0, 0]
    ∧ win0_4.index t = ![t.val / 16, t.val % 16, 0] ∧ win0_5.index t = ![t.val / 16, 0, 0] ∧ win0_6.index t = ![0, 0]
    ∧ win0_7.index t = ![0, 0] ∧ win0_13.index t = ![t.val / 16, t.val % 16, 0] :=
  (by decide +kernel : ∀ t : Fin grid0.N, _)

/-- The sequence and a token of a grid point. -/
def seq : Fin 4 := ⟨t.val / 16, by have : t.val < 64 := t.2; omega⟩
def token (p : Fin 512) : Fin 8192 := ⟨512 * (t.val % 16) + p, by omega⟩

theorem block0 (p : Fin 512) (k : Fin 1024) : (iblk m c 0 t : FVec Ideal S1x512x1024 .f32) (ix3 (0 : Fin 1) p k)
    = A m c (ix3 (seq t) (token t p) k) := by
  blk_ext! [iblk, V, idx t, seq, token]

theorem block1 (k n : Fin 1024) : (iblk m c 1 t : FVec Ideal S1024x1024 .bf16) (ix2 k n) = W m c (ix2 k n) := by
  blk_simp [iblk, idx t]
  rw [entry_matrix]
  blk_ext! [idx t]

theorem block2 (n : Fin 1024) : (iblk m c 2 t : FVec Ideal S1x1024 .f32) (ix2 (0 : Fin 1) n) = Bi m c (ix2 (0 : Fin 1) n) := by
  blk_ext! [iblk, V, idx t]

theorem block3 (n : Fin 1024) : (iblk m c 3 t : FVec Ideal S1x1024 .f32) (ix2 (0 : Fin 1) n) = Sc m c (ix2 (0 : Fin 1) n) := by
  blk_ext! [iblk, V, idx t]

theorem block4 (p : Fin 512) (k : Fin 1024) : (iblk m c 4 t : FVec Ideal S1x512x1024 .f32) (ix3 (0 : Fin 1) p k)
    = X m c (ix3 (seq t) (token t p) k) := by
  blk_ext! [iblk, V, idx t, seq, token]

theorem block5 (k : Fin 1024) : (iblk m c 5 t : FVec Ideal S1x1x1024 .f32) (ix3 (0 : Fin 1) (0 : Fin 1) k)
    = G m c (ix3 (seq t) (0 : Fin 1) k) := by
  blk_ext! [iblk, V, idx t, seq]

theorem block6 (n : Fin 1024) : (iblk m c 6 t : FVec Ideal S1x1024 .f32) (ix2 (0 : Fin 1) n) = Lg m c (ix2 (0 : Fin 1) n) := by
  blk_ext! [iblk, V, idx t]

theorem block7 (n : Fin 1024) : (iblk m c 7 t : FVec Ideal S1x1024 .f32) (ix2 (0 : Fin 1) n) = Lb m c (ix2 (0 : Fin 1) n) := by
  blk_ext! [iblk, V, idx t]

/-- A token of the grid point, updated. -/
theorem row_block (p : Fin 512) : row (iblk m c 0 t) (iblk m c 1 t) (iblk m c 2 t) (iblk m c 3 t) (iblk m c 4 t) (iblk m c 5 t) p
    = stream (A m c) (W m c) (Bi m c) (Sc m c) (X m c) (G m c) (seq t) (token t p) := by
  funext n
  rw [row, stream, block2, block3, block4, block5]
  exact congrArg (added · _ _ _ _) (Finset.sum_congr rfl fun k _ => congrArg₂ (· * ·) (block0 m c t p k) (block1 m c t k n))

/-- The block that the grid point stores. -/
theorem stream_block (p : Fin 512) (n : Fin 1024) :
    block (F := Ideal) (iblk m c 0 t) (iblk m c 1 t) (iblk m c 2 t) (iblk m c 3 t) (iblk m c 4 t) (iblk m c 5 t) (iblk m c 6 t)
        (iblk m c 7 t) (ix3 (0 : Fin 1) p n)
      = spec (A m c) (W m c) (Bi m c) (Sc m c) (X m c) (G m c) (Lg m c) (Lb m c) (ix3 (seq t) (token t p) n) := by
  refine (block_apply _ _ _ _ _ _ _ _ p n).trans ?_
  rw [row_block, block6, block7]
  rfl

end

section

variable (m : (ℓ : Loc nD τ sig) → Buf (Elt Ideal) ℓ) (c : Dev nD)

/-- What a grid point leaves in the stream's block. -/
theorem outs_eq (t : Fin cfg0.N) : (outsAt0 (F := Ideal) m c t.val t.isLt).1
    = block (F := Ideal) (iblk m c 0 t) (iblk m c 1 t) (iblk m c 2 t) (iblk m c 3 t) (iblk m c 4 t) (iblk m c 5 t) (iblk m c 6 t)
        (iblk m c 7 t) := by
  by_cases h : t.val % 64 = 0
  · rw [outsAt0_A m c t h]
    dsimp only
    exact first_eq ..
  · rw [outsAt0_B m c t h]
    dsimp only
    exact later_eq ..

/-- The array that the call leaves. -/
theorem final : (dats m 0 c).arrAt 13 cfg0.N
    = spec (A m c) (W m c) (Bi m c) (Sc m c) (X m c) (G m c) (Lg m c) (Lb m c) := by
  refine (dats m 0 c).arrAt_eq_of_covers 13 _ (by decide +kernel) fun t _ y => ?_
  blk_simp
  rw [after0_13]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_13.blk t).view.emb (ix3 (0 : Fin 1) p n : S1x512x1024.Idx) : S4x8192x1024.Idx) = ix3 (seq t) (token t p) n := by
    blk_ext! [idx t, seq, token]
  rw [outs_eq]
  exact (stream_block m c t p n).trans (congrArg _ he).symm

end

end UpdateWide

end
-- ==== Proof.UpdateWide.Reference.lean ====
module

public import proofs.«01_k».proof.Proof.Gen.UpdateWideReferenceIdeal.Run
public import proofs.«01_k».proof.Proof.Update.Spec
public import Idealize.ShloMosaic.Lib.Pipeline.ValueKit
public import Idealize.ShloMosaic.Lib.KernelVsHost

/-! The output projection's reference, of a mixer's result of 32 bits, read at an index. -/

@[expose] public section

set_option maxRecDepth 16384

noncomputable section

namespace UpdateWide.Ref

open Idealize.ShloMosaic Idealize.ShloMosaic.TcCoe Idealize.SL.Sem
open Cert.UpdateWideReferenceIdeal Cert.UpdateWideReferenceIdeal.Gen
open Update (STokens SMod SMatrix SRow added mean normed stream spec)

/-- A row of 1024, for every token of every sequence. -/
def everywhere (r : FVec Ideal S1x1024 .f32) : FVec Ideal S4x8192x1024 .f32 :=
  broadcastInDim S4x8192x1024 ![0, 1, 2] bcast_S1x1x1024_S4x8192x1024_0_1_2
    (broadcastInDim S1x1x1024 ![1, 2] bcast_S1x1024_S1x1x1024_1_2 r)

/-- A number of each token, for all its features. -/
def along (r : FVec Ideal S4x8192x1 .f32) : FVec Ideal S4x8192x1024 .f32 :=
  broadcastInDim S4x8192x1024 ![0, 1, 2] bcast_S4x8192x1_S4x8192x1024_0_1_2 r

/-- The updated stream before the norm. -/
def sum (a : FVec Ideal S4x8192x1024 .f32) (w : FVec Ideal S1024x1024 .f32) (bias scale : FVec Ideal S1x1024 .f32)
    (x : FVec Ideal S4x8192x1024 .f32) (g : FVec Ideal S4x1x1024 .f32) : FVec Ideal S4x8192x1024 .f32 :=
  addf (mulf (broadcastInDim S4x8192x1024 ![] bcast_S_S4x8192x1024 (constant S_ .f32 0x3FD744FD#32)) x)
    (mulf (broadcastInDim S4x8192x1024 ![0, 1, 2] bcast_S4x1x1024_S4x8192x1024_0_1_2
        (addf (broadcastInDim S4x1x1024 ![] bcast_S_S4x1x1024 (constant S_ .f32 0x3F800000#32)) g))
      (mulf (addf (Host.dotGeneral dot_S4x8192x1024_S1024x1024_S4x8192x1024_2_0_01_1_n_n none a w) (everywhere bias)) (everywhere scale)))

/-- The mean over the features. -/
def average (u : FVec Ideal S4x8192x1024 .f32) : FVec Ideal S4x8192x1 .f32 :=
  Host.divf (broadcastInDim S4x8192x1 ![0, 1] bcast_S4x8192_S4x8192x1_0_1
      (Host.reduceAdd u (constant S_ .f32 0x00000000#32) reducesTo_S4x8192x1024_S4x8192_d2 h_S_))
    (broadcastInDim S4x8192x1 ![] bcast_S_S4x8192x1 (constant S_ .f32 0x44800000#32))

/-- The norm. -/
def norm (u : FVec Ideal S4x8192x1024 .f32) (lg lb : FVec Ideal S1x1024 .f32) : FVec Ideal S4x8192x1024 .f32 :=
  addf (mulf (mulf (subf u (along (average u)))
    (along (Host.rsqrt (addf (average (mulf (subf u (along (average u))) (subf u (along (average u)))))
      (broadcastInDim S4x8192x1 ![] bcast_S_S4x8192x1 (constant S_ .f32 0x3727C5AC#32))))))
    (everywhere lg)) (everywhere lb)

theorem sum_apply (a : FVec Ideal S4x8192x1024 .f32) (w : FVec Ideal S1024x1024 .f32) (bias scale : FVec Ideal S1x1024 .f32)
    (x : FVec Ideal S4x8192x1024 .f32) (g : FVec Ideal S4x1x1024 .f32) (b : Fin 4) (l : Fin 8192) (n : Fin 1024) :
    sum a w bias scale x g (ix3 b l n) = stream a w bias scale x g b l n := by
  pointwise [sum, everywhere, stream, added]

theorem average_apply (u : FVec Ideal S4x8192x1024 .f32) (b : Fin 4) (l : Fin 8192) :
    average u (ix3 b l (0 : Fin 1)) = mean (fun k => u (ix3 b l k)) := by
  pointwise [average, mean]

theorem along_apply (r : FVec Ideal S4x8192x1 .f32) (b : Fin 4) (l : Fin 8192) (n : Fin 1024) :
    along r (ix3 b l n) = r (ix3 b l (0 : Fin 1)) := by
  pointwise [along]

theorem everywhere_apply (r : FVec Ideal S1x1024 .f32) (b : Fin 4) (l : Fin 8192) (n : Fin 1024) :
    everywhere r (ix3 b l n) = r (ix2 (0 : Fin 1) n) := by
  pointwise [everywhere]

theorem norm_apply (u : FVec Ideal S4x8192x1024 .f32) (lg lb : FVec Ideal S1x1024 .f32) (b : Fin 4) (l : Fin 8192) (n : Fin 1024) :
    norm u lg lb (ix3 b l n) = normed (fun k => u (ix3 b l k)) (lg (ix2 (0 : Fin 1) n)) (lb (ix2 (0 : Fin 1) n)) n := by
  have hd : ∀ k : Fin 1024, subf u (along (average u)) (ix3 b l k) = u (ix3 b l k) - mean (fun k => u (ix3 b l k)) := fun k => by
    rw [← average_apply, ← along_apply (average u) b l k]
    rfl
  have hs : mulf (subf u (along (average u))) (subf u (along (average u)))
      = fun i => subf u (along (average u)) i * subf u (along (average u)) i := rfl
  unfold norm
  refine congrArg₂ (· + ·) (congrArg₂ (· * ·) (congrArg₂ (· * ·) (hd n) ?_) (everywhere_apply lg b l n)) (everywhere_apply lb b l n)
  refine (along_apply _ b l n).trans (congrArg (fun v => Ideal.rsqrt (v + Ideal.ofBits .f32 0x3727C5AC#32)) ?_)
  refine (average_apply _ b l).trans (congrArg mean (funext fun k => ?_))
  exact congrArg₂ (· * ·) (hd k) (hd k)

/-- The reference's value is the specification. -/
theorem norm_spec (a : FVec Ideal S4x8192x1024 .f32) (w : FVec Ideal S1024x1024 .f32) (bias scale : FVec Ideal S1x1024 .f32)
    (x : FVec Ideal S4x8192x1024 .f32) (g : FVec Ideal S4x1x1024 .f32) (lg lb : FVec Ideal S1x1024 .f32) :
    norm (sum a w bias scale x g) lg lb = spec a w bias scale x g lg lb := by
  refine funext fun i => ?_
  obtain ⟨b, l, n, rfl⟩ : ∃ (b : Fin 4) (l : Fin 8192) (n : Fin 1024), i = ix3 b l n := ⟨i 0, i 1, i 2, eq_ix3 i⟩
  refine (norm_apply _ lg lb b l n).trans ?_
  exact congrArg (fun u => normed u _ _ n) (funext fun k => sum_apply a w bias scale x g b l k)

/-- The reference's result is these steps. -/
theorem result_eq (m : (ℓ : Loc nD τ sig) → Buf (Elt Ideal) ℓ) (c : Dev nD) : Cert.UpdateWideReferenceIdeal.Value.res_out0 m c
    = norm (sum (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))) (m ((c.tc : Thread nD τ).loc main_arg6)) (m ((c.tc : Thread nD τ).loc main_arg7)) := rfl

end UpdateWide.Ref

end
-- ==== Proof.Combine.Spec.lean ====
module

public import proofs.«01_k».proof.Proof.Update.Spec

/-! The layer's last step: the experts' rows, added through the gate to the stream, and each token normed. The experts' rows
come in the order of the tokens, the four sequences one after another; the rows past the last token are not read. -/

@[expose] public section

set_option maxRecDepth 16384

noncomputable section

namespace Combine

open Idealize.ShloMosaic
open Update (STokens SMod SRow normed)

/-- The experts' rows. -/
abbrev SRows : Shape := ⟨2, ![33280, 1024]⟩

section

variable (Y : SRows.Idx → EReal) (X : STokens.Idx → EReal) (G : SMod.Idx → EReal) (Lg Lb : SRow.Idx → EReal)

/-- The row of a token. -/
def place (b : Fin 4) (l : Fin 8192) : Fin 33280 := ⟨b * 8192 + l, by omega⟩

/-- One feature of the stream after the experts, of the row's, the stream's and the gate's features. -/
def joined (y x g : EReal) : EReal := Ideal.ofBits .f32 0x3FD744FD#32 * x + (1 + g) * y

/-- The stream before the norm, and the layer's result. -/
def stream (b : Fin 4) (l : Fin 8192) (n : Fin 1024) : EReal :=
  joined (Y (ix2 (place b l) n)) (X (ix3 b l n)) (G (ix3 b (0 : Fin 1) n))
def spec : STokens.Idx → EReal := fun i =>
  normed (stream Y X G (i 0 : Fin 4) (i 1 : Fin 8192)) (Lg (ix2 (0 : Fin 1) (i 2 : Fin 1024)))
    (Lb (ix2 (0 : Fin 1) (i 2 : Fin 1024))) (i 2 : Fin 1024)

end

end Combine

end
-- ==== Proof.Combine.Array.lean ====
module

public import proofs.«01_k».proof.Proof.Gen.CombineIdeal.Value
public import proofs.«01_k».proof.Proof.Combine.Spec
public import Idealize.ShloMosaic.Lib.Pipeline.ValueKit

/-! What the layer's last call computes of 512 tokens (their experts' rows `x0`, their stream `x1`, the sequence's gate `x2`,
the norm's scale and shift `x3` and `x4`), and the array its grid points leave. -/

@[expose] public section

set_option maxRecDepth 16384

noncomputable section

namespace Combine

open Idealize.ShloMosaic Idealize.ShloMosaic.TcCoe Idealize.SL.Sem
open Cert.CombineIdeal Cert.CombineIdeal.Gen
open Update (STokens SMod SRow mean normed)

section

variable (x0 : Vec Ideal S512x1024 .f32) (x1 : Vec Ideal S1x512x1024 .f32) (x2 : Vec Ideal S1x1x1024 .f32)
  (x3 x4 : Vec Ideal S1x1024 .f32)

/-- The stream at a token of the block. -/
def row (p : Fin 512) (n : Fin 1024) : EReal :=
  joined (x0 (ix2 p n)) (x1 (ix3 (0 : Fin 1) p n)) (x2 (ix3 (0 : Fin 1) (0 : Fin 1) n))

theorem norm_apply (p : Fin 512) (n : Fin 1024) : k0_pay1 (k0_pay2 x1 x2 x0 x3 x4) (ix3 (0 : Fin 1) p n)
    = normed (row x0 x1 x2 p) (x3 (ix2 (0 : Fin 1) n)) (x4 (ix2 (0 : Fin 1) n)) n := by
  pointwise [k0_pay1, k0_pay2, normed, mean, row, joined]

/-- What the grid point stores. -/
theorem out_apply (p : Fin 512) (n : Fin 1024) : out0_5 x0 x1 x2 x3 x4 (ix3 (0 : Fin 1) p n)
    = normed (row x0 x1 x2 p) (x3 (ix2 (0 : Fin 1) n)) (x4 (ix2 (0 : Fin 1) n)) n := by
  have h0 : View.ld x0 r0_2 = x0 := View.ld_unit_lit _ x0 fun k => by fin_cases k <;> rfl
  have h1 : View.ld x1 r0_0 = x1 := View.ld_unit_lit _ x1 fun k => by fin_cases k <;> rfl
  have h2 : View.ld x2 r0_1 = x2 := View.ld_unit_lit _ x2 fun k => by fin_cases k <;> rfl
  have h3 : View.ld x3 r0_3 = x3 := View.ld_unit_lit _ x3 fun k => by fin_cases k <;> rfl
  have h4 : View.ld x4 r0_3 = x4 := View.ld_unit_lit _ x4 fun k => by fin_cases k <;> rfl
  unfold out0_5
  rw [h0, h1, h2, h3, h4]
  refine (View.canon_apply_of_pieces (k0_pay1 (k0_pay2 x1 x2 x0 x3 x4)) _ ?_ _ (cover0_5 _ _)).trans (norm_apply x0 x1 x2 x3 x4 p n)
  intro pc hpc x
  obtain rfl := List.mem_singleton.mp hpc
  exact congrArg (k0_pay1 (k0_pay2 x1 x2 x0 x3 x4)) (funext fun k => Fin.ext (by
    fin_cases k <;> exact ((Nat.zero_add _).trans (Nat.one_mul _)).symm))

end

section

variable (m : (ℓ : Loc nD τ sig) → Buf (Elt Ideal) ℓ) (c : Dev nD)

/-- The specification's arrays, of the call's arguments. -/
abbrev Y : SRows.Idx → EReal := m ((c : Thread nD τ).loc main_arg0)
abbrev X : STokens.Idx → EReal := m ((c : Thread nD τ).loc main_arg1)
abbrev G : SMod.Idx → EReal := m ((c : Thread nD τ).loc main_arg2)
abbrev Lg : SRow.Idx → EReal := m ((c : Thread nD τ).loc main_arg3)
abbrev Lb : SRow.Idx → EReal := m ((c : Thread nD τ).loc main_arg4)

/-- The blocks' indices at a grid point. -/
theorem idx : ∀ t : Fin cfg0.N,
    win0_0.index t = ![t.val, 0] ∧ win0_1.index t = ![t.val / 16, t.val % 16, 0] ∧ win0_2.index t = ![t.val / 16, 0, 0]
    ∧ win0_3.index t = ![0, 0] ∧ win0_4.index t = ![0, 0] ∧ win0_5.index t = ![t.val / 16, t.val % 16, 0] :=
  (by decide +kernel : ∀ t : Fin grid0.N, _)

variable (t : Fin cfg0.N)

/-- The sequence and a token of a grid point. -/
def seq : Fin 4 := ⟨t.val / 16, by have : t.val < 64 := t.2; omega⟩
def token (p : Fin 512) : Fin 8192 := ⟨512 * (t.val % 16) + p, by omega⟩

theorem block0 (p : Fin 512) (n : Fin 1024) : (iblk m c 0 t : FVec Ideal S512x1024 .f32) (ix2 p n)
    = Y m c (ix2 (place (seq t) (token t p)) n) := by
  blk_ext! [iblk, V, idx t, seq, token, place]

theorem block1 (p : Fin 512) (n : Fin 1024) : (iblk m c 1 t : FVec Ideal S1x512x1024 .f32) (ix3 (0 : Fin 1) p n)
    = X m c (ix3 (seq t) (token t p) n) := by
  blk_ext! [iblk, V, idx t, seq, token]

theorem block2 (n : Fin 1024) : (iblk m c 2 t : FVec Ideal S1x1x1024 .f32) (ix3 (0 : Fin 1) (0 : Fin 1) n)
    = G m c (ix3 (seq t) (0 : Fin 1) n) := by
  blk_ext! [iblk, V, idx t, seq]

theorem block3 (n : Fin 1024) : (iblk m c 3 t : FVec Ideal S1x1024 .f32) (ix2 (0 : Fin 1) n) = Lg m c (ix2 (0 : Fin 1) n) := by
  blk_ext! [iblk, V, idx t]

theorem block4 (n : Fin 1024) : (iblk m c 4 t : FVec Ideal S1x1024 .f32) (ix2 (0 : Fin 1) n) = Lb m c (ix2 (0 : Fin 1) n) := by
  blk_ext! [iblk, V, idx t]

theorem row_block (p : Fin 512) :
    row (iblk m c 0 t) (iblk m c 1 t) (iblk m c 2 t) p = stream (Y m c) (X m c) (G m c) (seq t) (token t p) := by
  funext n
  rw [row, stream, block0, block1, block2]

/-- The block that the grid point stores. -/
theorem out_block (p : Fin 512) (n : Fin 1024) :
    out0_5 (F := Ideal) (iblk m c 0 t) (iblk m c 1 t) (iblk m c 2 t) (iblk m c 3 t) (iblk m c 4 t) (ix3 (0 : Fin 1) p n)
      = spec (Y m c) (X m c) (G m c) (Lg m c) (Lb m c) (ix3 (seq t) (token t p) n) := by
  refine (out_apply _ _ _ _ _ p n).trans ?_
  rw [row_block, block3, block4]
  rfl

end

/-- The array that the call leaves. -/
theorem final (m : (ℓ : Loc nD τ sig) → Buf (Elt Ideal) ℓ) (c : Dev nD) : (dats m 0 c).arrAt 5 cfg0.N
    = spec (Y m c) (X m c) (G m c) (Lg m c) (Lb m c) := by
  refine (dats m 0 c).arrAt_eq_of_covers 5 _ (by decide +kernel) fun t _ y => ?_
  blk_simp
  rw [after0_5]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_5.blk t).view.emb (ix3 (0 : Fin 1) p n : S1x512x1024.Idx) : S4x8192x1024.Idx) = ix3 (seq t) (token t p) n := by
    blk_ext! [idx t, seq, token]
  exact (out_block m c t p n).trans (congrArg _ he).symm

end Combine

end
-- ==== Proof.Combine.Reference.lean ====
module

public import proofs.«01_k».proof.Proof.Gen.CombineReferenceIdeal.Run
public import proofs.«01_k».proof.Proof.Combine.Spec
public import Idealize.ShloMosaic.Lib.Pipeline.ValueKit
public import Idealize.ShloMosaic.Lib.KernelVsHost

/-! The reference of the layer's last step read at an index. -/

@[expose] public section

set_option maxRecDepth 16384

noncomputable section

namespace Combine.Ref

open Idealize.ShloMosaic Idealize.ShloMosaic.TcCoe Idealize.SL.Sem
open Cert.CombineReferenceIdeal Cert.CombineReferenceIdeal.Gen
open Update (mean normed)

/-- A row of 1024, for every token of every sequence. -/
def everywhere (r : FVec Ideal S1x1024 .f32) : FVec Ideal S4x8192x1024 .f32 :=
  broadcastInDim S4x8192x1024 ![0, 1, 2] bcast_S1x1x1024_S4x8192x1024_0_1_2
    (broadcastInDim S1x1x1024 ![1, 2] bcast_S1x1024_S1x1x1024_1_2 r)

/-- A number of each token, for all its features. -/
def along (r : FVec Ideal S4x8192x1 .f32) : FVec Ideal S4x8192x1024 .f32 :=
  broadcastInDim S4x8192x1024 ![0, 1, 2] bcast_S4x8192x1_S4x8192x1024_0_1_2 r

/-- The stream before the norm. -/
def sum (y : FVec Ideal S33280x1024 .f32) (x : FVec Ideal S4x8192x1024 .f32) (g : FVec Ideal S4x1x1024 .f32) :
    FVec Ideal S4x8192x1024 .f32 :=
  addf (mulf (broadcastInDim S4x8192x1024 ![] bcast_S_S4x8192x1024 (constant S_ .f32 0x3FD744FD#32)) x)
    (mulf (broadcastInDim S4x8192x1024 ![0, 1, 2] bcast_S4x1x1024_S4x8192x1024_0_1_2
        (addf (broadcastInDim S4x1x1024 ![] bcast_S_S4x1x1024 (constant S_ .f32 0x3F800000#32)) g))
      (shapeCast S4x8192x1024 (extractStridedSlice S32768x1024 ![0, 0] y slices_S33280x1024_S32768x1024_0_0)
        shapeCasts_S32768x1024_S4x8192x1024))

/-- The mean over the features. -/
def average (u : FVec Ideal S4x8192x1024 .f32) : FVec Ideal S4x8192x1 .f32 :=
  Host.divf (broadcastInDim S4x8192x1 ![0, 1] bcast_S4x8192_S4x8192x1_0_1
      (Host.reduceAdd u (constant S_ .f32 0x00000000#32) reducesTo_S4x8192x1024_S4x8192_d2 h_S_))
    (broadcastInDim S4x8192x1 ![] bcast_S_S4x8192x1 (constant S_ .f32 0x44800000#32))

/-- The norm. -/
def norm (u : FVec Ideal S4x8192x1024 .f32) (lg lb : FVec Ideal S1x1024 .f32) : FVec Ideal S4x8192x1024 .f32 :=
  addf (mulf (mulf (subf u (along (average u)))
    (along (Host.rsqrt (addf (average (mulf (subf u (along (average u))) (subf u (along (average u)))))
      (broadcastInDim S4x8192x1 ![] bcast_S_S4x8192x1 (constant S_ .f32 0x3727C5AC#32))))))
    (everywhere lg)) (everywhere lb)

theorem sum_apply (y : FVec Ideal S33280x1024 .f32) (x : FVec Ideal S4x8192x1024 .f32) (g : FVec Ideal S4x1x1024 .f32)
    (b : Fin 4) (l : Fin 8192) (n : Fin 1024) : sum y x g (ix3 b l n) = stream y x g b l n := by
  pointwise [sum, stream, joined, place]

theorem average_apply (u : FVec Ideal S4x8192x1024 .f32) (b : Fin 4) (l : Fin 8192) :
    average u (ix3 b l (0 : Fin 1)) = mean (fun k => u (ix3 b l k)) := by
  pointwise [average, mean]

theorem along_apply (r : FVec Ideal S4x8192x1 .f32) (b : Fin 4) (l : Fin 8192) (n : Fin 1024) :
    along r (ix3 b l n) = r (ix3 b l (0 : Fin 1)) := by
  pointwise [along]

theorem everywhere_apply (r : FVec Ideal S1x1024 .f32) (b : Fin 4) (l : Fin 8192) (n : Fin 1024) :
    everywhere r (ix3 b l n) = r (ix2 (0 : Fin 1) n) := by
  pointwise [everywhere]

theorem norm_apply (u : FVec Ideal S4x8192x1024 .f32) (lg lb : FVec Ideal S1x1024 .f32) (b : Fin 4) (l : Fin 8192) (n : Fin 1024) :
    norm u lg lb (ix3 b l n) = normed (fun k => u (ix3 b l k)) (lg (ix2 (0 : Fin 1) n)) (lb (ix2 (0 : Fin 1) n)) n := by
  have hd : ∀ k : Fin 1024, subf u (along (average u)) (ix3 b l k) = u (ix3 b l k) - mean (fun k => u (ix3 b l k)) := fun k => by
    rw [← average_apply, ← along_apply (average u) b l k]
    rfl
  have hs : mulf (subf u (along (average u))) (subf u (along (average u)))
      = fun i => subf u (along (average u)) i * subf u (along (average u)) i := rfl
  unfold norm
  refine congrArg₂ (· + ·) (congrArg₂ (· * ·) (congrArg₂ (· * ·) (hd n) ?_) (everywhere_apply lg b l n)) (everywhere_apply lb b l n)
  refine (along_apply _ b l n).trans (congrArg (fun v => Ideal.rsqrt (v + Ideal.ofBits .f32 0x3727C5AC#32)) ?_)
  refine (average_apply _ b l).trans (congrArg mean (funext fun k => ?_))
  exact congrArg₂ (· * ·) (hd k) (hd k)

/-- The reference's value is the specification. -/
theorem norm_spec (y : FVec Ideal S33280x1024 .f32) (x : FVec Ideal S4x8192x1024 .f32) (g : FVec Ideal S4x1x1024 .f32)
    (lg lb : FVec Ideal S1x1024 .f32) : norm (sum y x g) lg lb = spec y x g lg lb := by
  refine funext fun i => ?_
  obtain ⟨b, l, n, rfl⟩ : ∃ (b : Fin 4) (l : Fin 8192) (n : Fin 1024), i = ix3 b l n := ⟨i 0, i 1, i 2, eq_ix3 i⟩
  refine (norm_apply _ lg lb b l n).trans ?_
  exact congrArg (fun u => normed u _ _ n) (funext fun k => sum_apply y x g b l k)

/-- The reference's result is these steps. -/
theorem result_eq (m : (ℓ : Loc nD τ sig) → Buf (Elt Ideal) ℓ) (c : Dev nD) : Cert.CombineReferenceIdeal.Value.res_out0 m c
    = norm (sum (m ((c.tc : Thread nD τ).loc main_arg0)) (m ((c.tc : Thread nD τ).loc main_arg1))
        (m ((c.tc : Thread nD τ).loc main_arg2))) (m ((c.tc : Thread nD τ).loc main_arg3)) (m ((c.tc : Thread nD τ).loc main_arg4)) := rfl

end Combine.Ref

end
-- ==== Proof.Modulation.Spec.lean ====
module

public import Idealize.ShloMosaic.Lib.Pointwise

/-! The modulation's vectors: for each layer, each condition's `silu` through the layer's matrix, plus its bias. -/

@[expose] public section

set_option maxRecDepth 16384

noncomputable section

namespace Modulation

open Idealize.ShloMosaic

/-- The shapes of the arrays. -/
abbrev SCond : Shape := ⟨2, ![8, 1024]⟩
abbrev SMatrices : Shape := ⟨3, ![4, 1024, 6144]⟩
abbrev SBiases : Shape := ⟨2, ![4, 6144]⟩
abbrev SVectors : Shape := ⟨3, ![4, 8, 6144]⟩

/-- The activation. -/
def silu (u : EReal) : EReal := u * Ideal.logistic u

/-- One condition through one layer's matrix, at a column. -/
def vector (x : SCond.Idx → EReal) (w : SMatrices.Idx → EReal) (b : SBiases.Idx → EReal) (i : Fin 4) (r : Fin 8) (n : Fin 6144) :
    EReal :=
  (∑ k : Fin 1024, silu (x (ix2 r k)) * w (ix3 i k n)) + b (ix2 i n)

/-- All the vectors. -/
def vectors (x : SCond.Idx → EReal) (w : SMatrices.Idx → EReal) (b : SBiases.Idx → EReal) : SVectors.Idx → EReal := fun y =>
  vector x w b (y 0 : Fin 4) (y 1 : Fin 8) (y 2 : Fin 6144)

end Modulation

end
-- ==== Proof.Modulation.Array.lean ====
module

public import proofs.«01_k».proof.Proof.Gen.ModulationIdeal.Value
public import proofs.«01_k».proof.Proof.Modulation.Spec
public import Idealize.ShloMosaic.Lib.Pipeline.ValueKit

/-! What the modulation's call computes of the conditions `x0`, 1536 columns of a layer's matrix `x1` and of its bias `x2`, and
the array its grid points leave. -/

@[expose] public section

set_option maxRecDepth 16384

noncomputable section

namespace Modulation

open Idealize.ShloMosaic Idealize.ShloMosaic.TcCoe Idealize.SL.Sem
open Cert.ModulationIdeal Cert.ModulationIdeal.Gen

section

variable (x0 : Vec Ideal S8x1024 .f32) (x1 : Vec Ideal S1x1024x1536 .f32) (x2 : Vec Ideal S1x1x1536 .f32)

theorem columns_apply (r : Fin 8) (n : Fin 1536) : k0_pay1 x0 x1 x2 (ix3 (0 : Fin 1) r n)
    = (∑ k : Fin 1024, silu (x0 (ix2 r k)) * x1 (ix3 (0 : Fin 1) k n)) + x2 (ix3 (0 : Fin 1) (0 : Fin 1) n) := by
  pointwise [k0_pay1, silu]

/-- What the grid point stores. -/
theorem out_apply (r : Fin 8) (n : Fin 1536) : out0_3 x0 x1 x2 (ix3 (0 : Fin 1) r n)
    = (∑ k : Fin 1024, silu (x0 (ix2 r k)) * x1 (ix3 (0 : Fin 1) k n)) + x2 (ix3 (0 : Fin 1) (0 : Fin 1) n) := by
  have h0 : View.ld x0 r0_0 = x0 := View.ld_unit_lit _ x0 fun k => by fin_cases k <;> rfl
  have h1 : View.ld x1 r0_1 = x1 := View.ld_unit_lit _ x1 fun k => by fin_cases k <;> rfl
  have h2 : View.ld x2 r0_2 = x2 := View.ld_unit_lit _ x2 fun k => by fin_cases k <;> rfl
  unfold out0_3
  rw [h0, h1, h2]
  refine (View.canon_apply_of_pieces (k0_pay1 x0 x1 x2) _ ?_ _ (cover0_3 _ _)).trans (columns_apply x0 x1 x2 r n)
  intro pc hpc x
  obtain rfl := List.mem_singleton.mp hpc
  exact congrArg (k0_pay1 x0 x1 x2) (funext fun k => Fin.ext (by
    fin_cases k <;> exact ((Nat.zero_add _).trans (Nat.one_mul _)).symm))

end

section

variable (m : (ℓ : Loc nD τ sig) → Buf (Elt Ideal) ℓ) (c : Dev nD)

/-- The specification's arrays, of the call's arguments. -/
abbrev X : SCond.Idx → EReal := m ((c : Thread nD τ).loc main_arg0)
abbrev W : SMatrices.Idx → EReal := m ((c : Thread nD τ).loc main_arg1)
abbrev B : SBiases.Idx → EReal := m ((c : Thread nD τ).loc main_arg2)

/-- The biases enter the call with an axis of one between. -/
theorem entry_biases : (V m c main_v0 : FVec Ideal S4x1x6144 .f32)
    = shapeCast S4x1x6144 (m ((c : Thread nD τ).loc main_arg2) : FVec Ideal S4x6144 .f32) shapeCasts_S4x6144_S4x1x6144 := by
  entry_read
  rfl

theorem biases_apply (b : FVec Ideal S4x6144 .f32) (i : Fin 4) (n : Fin 6144) :
    shapeCast S4x1x6144 b shapeCasts_S4x6144_S4x1x6144 (ix3 i (0 : Fin 1) n) = b (ix2 i n) := by
  pointwise

/-- The blocks' indices at a grid point. -/
theorem idx : ∀ t : Fin cfg0.N,
    win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

variable (t : Fin cfg0.N)

/-- The layer and a column of a grid point. -/
def layer : Fin 4 := ⟨t.val / 4, by have : t.val < 16 := t.2; omega⟩
def column (n : Fin 1536) : Fin 6144 := ⟨1536 * (t.val % 4) + n, by omega⟩

theorem block0 (r : Fin 8) (k : Fin 1024) : (iblk m c 0 t : FVec Ideal S8x1024 .f32) (ix2 r k) = X m c (ix2 r k) := by
  blk_ext! [iblk, V, idx t]

theorem block1 (k : Fin 1024) (n : Fin 1536) : (iblk m c 1 t : FVec Ideal S1x1024x1536 .f32) (ix3 (0 : Fin 1) k n)
    = W m c (ix3 (layer t) k (column t n)) := by
  blk_ext! [iblk, V, idx t, layer, column]

theorem block2 (n : Fin 1536) : (iblk m c 2 t : FVec Ideal S1x1x1536 .f32) (ix3 (0 : Fin 1) (0 : Fin 1) n)
    = B m c (ix2 (layer t) (column t n)) := by
  refine Eq.trans ?_ (biases_apply (m ((c : Thread nD τ).loc main_arg2)) (layer t) (column t n))
  blk_simp [iblk, idx t]
  rw [entry_biases]
  generalize shapeCast S4x1x6144 (m ((c : Thread nD τ).loc main_arg2) : FVec Ideal S4x6144 .f32) shapeCasts_S4x6144_S4x1x6144 = T
  blk_ext! [idx t, layer, column]

/-- The block that the grid point stores. -/
theorem out_block (r : Fin 8) (n : Fin 1536) :
    out0_3 (F := Ideal) (iblk m c 0 t) (iblk m c 1 t) (iblk m c 2 t) (ix3 (0 : Fin 1) r n)
      = vectors (X m c) (W m c) (B m c) (ix3 (layer t) r (column t n)) := by
  refine (out_apply _ _ _ r n).trans ?_
  refine congrArg₂ (· + ·) (Finset.sum_congr rfl fun k _ => ?_) (block2 m c t n)
  rw [block0, block1]
  rfl

end

/-- The array that the call leaves. -/
theorem final (m : (ℓ : Loc nD τ sig) → Buf (Elt Ideal) ℓ) (c : Dev nD) : (dats m 0 c).arrAt 3 cfg0.N
    = vectors (X m c) (W m c) (B m c) := by
  refine (dats m 0 c).arrAt_eq_of_covers 3 _ (by decide +kernel) fun t _ y => ?_
  blk_simp
  rw [after0_3]
  obtain ⟨a, r, n, rfl⟩ : ∃ (a : Fin 1) (r : Fin 8) (n : Fin 1536), (y : S1x8x1536.Idx) = ix3 a r n := ⟨y 0, y 1, y 2, eq_ix3 y⟩
  obtain rfl : a = 0 := Subsingleton.elim _ _
  have he : ((win0_3.blk t).view.emb (ix3 (0 : Fin 1) r n : S1x8x1536.Idx) : S4x8x6144.Idx) = ix3 (layer t) r (column t n) := by
    blk_ext! [idx t, layer, column]
  exact (out_block m c t r n).trans (congrArg _ he).symm

end Modulation

end
-- ==== Proof.Modulation.Reference.lean ====
module

public import proofs.«01_k».proof.Proof.Gen.ModulationReferenceIdeal.Run
public import proofs.«01_k».proof.Proof.Modulation.Spec
public import Idealize.ShloMosaic.Lib.Pipeline.ValueKit

/-! The modulation's reference read at an index. -/

@[expose] public section

set_option maxRecDepth 16384

noncomputable section

namespace Modulation.Ref

open Idealize.ShloMosaic Idealize.ShloMosaic.TcCoe Idealize.SL.Sem
open Cert.ModulationReferenceIdeal Cert.ModulationReferenceIdeal.Gen

/-- The activation of the conditions. -/
def active (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- The activations through the layers' matrices. -/
def product (s : FVec Ideal S8x1024 .f32) (w : FVec Ideal S4x1024x6144 .f32) : FVec Ideal S4x8x6144 .f32 :=
  transpose S4x8x6144 [0, 2, 1] (Host.dotGeneral dot_S4x1024x6144_S8x1024_S4x6144x8_1_1_02_0_n_n none w s)
    transposes_S4x6144x8_S4x8x6144_0_2_1

/-- The biases, for every condition. -/
def everywhere (b : FVec Ideal S4x6144 .f32) : FVec Ideal S4x8x6144 .f32 :=
  broadcastInDim S4x8x6144 ![0, 1, 2] bcast_S4x1x6144_S4x8x6144_0_1_2
    (broadcastInDim S4x1x6144 ![0, 2] bcast_S4x6144_S4x1x6144_0_2 b)

theorem active_apply (x : FVec Ideal S8x1024 .f32) (r : Fin 8) (k : Fin 1024) : active x (ix2 r k) = silu (x (ix2 r k)) := by
  pointwise [active]
  rfl

theorem product_apply (s : FVec Ideal S8x1024 .f32) (w : FVec Ideal S4x1024x6144 .f32) (i : Fin 4) (r : Fin 8) (n : Fin 6144) :
    product s w (ix3 i r n) = ∑ k : Fin 1024, w (ix3 i k n) * s (ix2 r k) := by
  pointwise [product]

theorem everywhere_apply (b : FVec Ideal S4x6144 .f32) (i : Fin 4) (r : Fin 8) (n : Fin 6144) :
    everywhere b (ix3 i r n) = b (ix2 i n) := by
  pointwise [everywhere]

/-- The reference's value is the specification. -/
theorem vectors_spec (x : FVec Ideal S8x1024 .f32) (w : FVec Ideal S4x1024x6144 .f32) (b : FVec Ideal S4x6144 .f32) :
    addf (product (active x) w) (everywhere b) = vectors x w b := by
  refine funext fun y => ?_
  obtain ⟨i, r, n, rfl⟩ : ∃ (i : Fin 4) (r : Fin 8) (n : Fin 6144), y = ix3 i r n := ⟨y 0, y 1, y 2, eq_ix3 y⟩
  refine congrArg₂ (· + ·) ((product_apply _ w i r n).trans (Finset.sum_congr rfl fun k _ => ?_)) (everywhere_apply b i r n)
  rw [active_apply, mul_comm]
  rfl

end Modulation.Ref

end
-- ==== Proof.Context.Spec.lean ====
module

public import Idealize.ShloMosaic.Lib.Pointwise

/-! The context's keys and values: each of its 256 rows, scaled and shifted by its sequence's modulation, through the keys' and
the values' columns of the projections' matrix. The rows have no place on the tokens' grid, so nothing is turned. -/

@[expose] public section

set_option maxRecDepth 16384

noncomputable section

namespace Context

open Idealize.ShloMosaic

/-- The shapes of the arrays. -/
abbrev SRows : Shape := ⟨3, ![4, 256, 1024]⟩
abbrev SMod : Shape := ⟨3, ![4, 1, 1024]⟩
abbrev SMatrix : Shape := ⟨2, ![1024, 3072]⟩
abbrev SKeys : Shape := ⟨3, ![4, 1024, 256]⟩

section

variable (x : SRows.Idx → EReal) (sc sh : SMod.Idx → EReal) (w : SMatrix.Idx → EReal)

/-- A modulated row through the matrix, at a column. -/
def through (b : Fin 4) (l : Fin 256) (n : Fin 3072) : EReal :=
  ∑ k : Fin 1024, (x (ix3 b l k) * (1 + sc (ix3 b (0 : Fin 1) k)) + sh (ix3 b (0 : Fin 1) k)) * w (ix2 k n)

/-- The keys, the lanes before the rows. -/
def keys : SKeys.Idx → EReal := fun i =>
  through x sc sh w (i 0 : Fin 4) (i 2 : Fin 256) ⟨1024 + (i 1 : Fin 1024), by have : (i 1 : ℕ) < 1024 := (i 1).isLt; omega⟩

/-- The values. -/
def values : SRows.Idx → EReal := fun i =>
  through x sc sh w (i 0 : Fin 4) (i 1 : Fin 256) ⟨2048 + (i 2 : Fin 1024), by have : (i 2 : ℕ) < 1024 := (i 2).isLt; omega⟩

end

end Context

end
-- ==== Proof.Context.Payload.lean ====
module

public import proofs.«01_k».proof.Proof.Gen.ContextIdeal.Value
public import proofs.«01_k».proof.Proof.Context.Spec
public import Idealize.ShloMosaic.Lib.Pipeline.ValueKit

/-! The pieces of keys and of values that a grid point of the context's call stores, read at an index. -/

@[expose] public section

set_option maxRecDepth 16384

noncomputable section

namespace Context

open Idealize.ShloMosaic Idealize.ShloMosaic.TcCoe Idealize.SL.Sem
open Cert.ContextIdeal Cert.ContextIdeal.Gen

section shape

variable {F : FTy → Type} [FloatOps F]

/-- The modulated rows through 256 columns of the matrix. -/
def columns (h : FVec F S256x1024 .bf16) (w : Vec F S1024x256 .bf16) : FVec F S256x256 .f32 :=
  matmul dot_S256x1024_S1024x256_S256x256_1_0_0_1_n_n none h (shapeCast S1024x256 w shapeCasts_S1024x256_S1024x256)
    (constant S256x256 .f32 0x00000000#32)

/-- What is stored of them, as keys and as values. -/
def keyPiece (z : FVec F S256x256 .f32) : FVec F S1x256x256 .bf16 :=
  shapeCast S1x256x256 (truncf .bf16 (transpose S256x256 [1, 0] z transposes_S256x256_p1_0_S256x256) bitsLt_bf16_f32)
    shapeCasts_S256x256_S1x256x256
def valuePiece (z : FVec F S256x256 .f32) : FVec F S1x256x256 .bf16 :=
  shapeCast S1x256x256 (truncf .bf16 z bitsLt_bf16_f32) shapeCasts_S256x256_S1x256x256

variable (x0 : Vec F S1x256x1024 .f32) (x1 x2 : Vec F S1x1x1024 .f32) (x3 : Vec F S1024x3072 .bf16)

/-- The block of keys is its four pieces. -/
theorem out4_eq : out0_4 x0 x1 x2 x3 = View.canon
    [⟨r0_9, keyPiece (columns (k0_pay12 x0 x1 x2 x3) (View.ld x3 r0_8))⟩,
     ⟨r0_7, keyPiece (columns (k0_pay12 x0 x1 x2 x3) (View.ld x3 r0_6))⟩,
     ⟨r0_5, keyPiece (columns (k0_pay12 x0 x1 x2 x3) (View.ld x3 r0_4))⟩,
     ⟨r0_3, keyPiece (columns (k0_pay12 x0 x1 x2 x3) (View.ld x3 r0_2))⟩] := rfl

/-- The block of values is its four pieces. -/
theorem out5_eq : out0_5 x0 x1 x2 x3 = View.canon
    [⟨r0_17, valuePiece (columns (k0_pay12 x0 x1 x2 x3) (View.ld x3 r0_16))⟩,
     ⟨r0_15, valuePiece (columns (k0_pay12 x0 x1 x2 x3) (View.ld x3 r0_14))⟩,
     ⟨r0_13, valuePiece (columns (k0_pay12 x0 x1 x2 x3) (View.ld x3 r0_12))⟩,
     ⟨r0_11, valuePiece (columns (k0_pay12 x0 x1 x2 x3) (View.ld x3 r0_10))⟩] := rfl

end shape

/-- A modulated row of the block. -/
theorem rows_apply (x0 : Vec Ideal S1x256x1024 .f32) (x1 x2 : Vec Ideal S1x1x1024 .f32) (x3 : Vec Ideal S1024x3072 .bf16)
    (p : Fin 256) (k : Fin 1024) : k0_pay12 x0 x1 x2 x3 (ix2 p k)
      = x0 (ix3 (0 : Fin 1) p k) * (1 + x1 (ix3 (0 : Fin 1) (0 : Fin 1) k)) + x2 (ix3 (0 : Fin 1) (0 : Fin 1) k) := by
  pointwise [k0_pay12, k0_pay3]

theorem columns_apply (h : FVec Ideal S256x1024 .bf16) (w : Vec Ideal S1024x256 .bf16) (p n : Fin 256) :
    columns h w (ix2 p n) = ∑ k : Fin 1024, h (ix2 p k) * w (ix2 k n) := by
  pointwise [columns]

theorem keyPiece_apply (z : FVec Ideal S256x256 .f32) (i r : Fin 256) : keyPiece z (ix3 (0 : Fin 1) i r) = z (ix2 r i) := by
  pointwise [keyPiece]

theorem valuePiece_apply (z : FVec Ideal S256x256 .f32) (r i : Fin 256) : valuePiece z (ix3 (0 : Fin 1) r i) = z (ix2 r i) := by
  pointwise [valuePiece]

/-- A range of columns of the matrix, loaded. -/
theorem ld_columns (w : Vec Ideal S1024x3072 .bf16) (o : ℕ) (ho : o + 256 ≤ 3072) (inb) (k : Fin 1024) (n : Fin 256) :
    View.ld w (Rect.unit (s := S1024x3072) ![0, o] S1024x256.size inb) (ix2 k n) = w (ix2 k (⟨o + n, by omega⟩ : Fin 3072)) := by
  refine View.ld_unit_apply_of w _ _ _ _ _ fun a => ?_
  fin_cases a <;> simp [ix2]

end Context

end
-- ==== Proof.Context.Array.lean ====
module

public import proofs.«01_k».proof.Proof.Context.Payload

/-! The arrays of keys and of values that the context's call leaves, from the blocks its grid points write. A grid point is one
sequence. -/

@[expose] public section

set_option maxRecDepth 16384

noncomputable section

namespace Context

open Idealize.ShloMosaic Idealize.ShloMosaic.TcCoe Idealize.SL.Sem
open Cert.ContextIdeal Cert.ContextIdeal.Gen

section

variable (m : (ℓ : Loc nD τ sig) → Buf (Elt Ideal) ℓ) (c : Dev nD)

/-- The specification's arrays, of the call's arguments. -/
abbrev X : SRows.Idx → EReal := m ((c : Thread nD τ).loc main_arg0)
abbrev Sc : SMod.Idx → EReal := m ((c : Thread nD τ).loc main_arg1)
abbrev Sh : SMod.Idx → EReal := m ((c : Thread nD τ).loc main_arg2)
abbrev W : SMatrix.Idx → EReal := m ((c : Thread nD τ).loc main_arg3)

/-- The matrix enters the call as it was given. -/
theorem entry_matrix : (V m c main_v0 : FVec Ideal S1024x3072 .bf16) = m ((c : Thread nD τ).loc main_arg3) := by
  entry_read
  rfl

/-- The blocks' indices at a grid point. -/
theorem idx : ∀ t : Fin cfg0.N,
    win0_0.index t = ![t.val, 0, 0] ∧ win0_1.index t = ![t.val, 0, 0] ∧ win0_2.index t = ![t.val, 0, 0]
    ∧ win0_3.index t = ![0, 0] ∧ win0_4.index t = ![t.val, 0, 0] ∧ win0_5.index t = ![t.val, 0, 0] :=
  (by decide +kernel : ∀ t : Fin grid0.N, _)

variable (t : Fin cfg0.N)

/-- The grid point's sequence. -/
def seq : Fin 4 := ⟨t.val, t.2⟩

theorem block0 (p : Fin 256) (k : Fin 1024) : (iblk m c 0 t : FVec Ideal S1x256x1024 .f32) (ix3 (0 : Fin 1) p k)
    = X m c (ix3 (seq t) p k) := by
  blk_ext! [iblk, V, idx t, seq]

theorem block1 (k : Fin 1024) : (iblk m c 1 t : FVec Ideal S1x1x1024 .f32) (ix3 (0 : Fin 1) (0 : Fin 1) k)
    = Sc m c (ix3 (seq t) (0 : Fin 1) k) := by
  blk_ext! [iblk, V, idx t, seq]

theorem block2 (k : Fin 1024) : (iblk m c 2 t : FVec Ideal S1x1x1024 .f32) (ix3 (0 : Fin 1) (0 : Fin 1) k)
    = Sh m c (ix3 (seq t) (0 : Fin 1) k) := by
  blk_ext! [iblk, V, idx t, seq]

theorem block3 (k : Fin 1024) (n : Fin 3072) : (iblk m c 3 t : FVec Ideal S1024x3072 .bf16) (ix2 k n) = W m c (ix2 k n) := by
  blk_simp [iblk, idx t]
  rw [entry_matrix]
  blk_ext! [idx t]

/-- The grid point's modulated rows. -/
abbrev rows : FVec Ideal S256x1024 .bf16 := k0_pay12 (F := Ideal) (iblk m c 0 t) (iblk m c 1 t) (iblk m c 2 t) (iblk m c 3 t)

/-- Columns read from the matrix at column `o` give the specification's product at those columns. -/
theorem product_apply (w : Vec Ideal S1024x256 .bf16) (o : ℕ) (ho : o + 256 ≤ 3072)
    (hw : ∀ (k : Fin 1024) (n : Fin 256), w (ix2 k n) = (iblk m c 3 t : FVec Ideal S1024x3072 .bf16) (ix2 k (⟨o + n, by omega⟩ : Fin 3072)))
    (p n : Fin 256) : columns (rows m c t) w (ix2 p n)
      = through (X m c) (Sc m c) (Sh m c) (W m c) (seq t) p (⟨o + n, by omega⟩ : Fin 3072) := by
  refine (columns_apply _ _ _ _).trans (Finset.sum_congr rfl fun k _ => ?_)
  refine congrArg₂ (· * ·) ((rows_apply _ _ _ _ _ _).trans ?_) ((hw k n).trans (block3 m c t _ _))
  rw [block0, block1, block2]

/-- A piece of keys and a piece of values, from lane `o` on. -/
theorem key_tile (w : Vec Ideal S1024x256 .bf16) (o : ℕ) (hl : o + 256 ≤ 1024)
    (hw : ∀ (k : Fin 1024) (n : Fin 256), w (ix2 k n)
      = (iblk m c 3 t : FVec Ideal S1024x3072 .bf16) (ix2 k (⟨1024 + o + n, by omega⟩ : Fin 3072)))
    (p : Fin 256) (n : Fin 1024) :
    View.TileAt (Val := Elt Ideal) (S := S1x1024x256) (e := .bf16) (ix3 (0 : Fin 1) n p) ![0, o, 0] S1x256x256.size
      (keyPiece (columns (rows m c t) w)) (keys (X m c) (Sc m c) (Sh m c) (W m c) (ix3 (seq t) n p)) := by
  intro x hx
  obtain ⟨a, i, q, rfl⟩ : ∃ (a : Fin 1) (i q : Fin 256), x = ix3 a i q := ⟨x 0, x 1, x 2, eq_ix3 x⟩
  obtain rfl : a = 0 := Subsingleton.elim _ _
  obtain rfl : p = q := Fin.ext ((hx 2).trans (Nat.zero_add _))
  obtain rfl : n = ⟨o + i, by omega⟩ := Fin.ext (hx 1)
  exact (keyPiece_apply _ _ _).trans ((product_apply m c t w (1024 + o) (by omega) hw p i).trans
    (congrArg (through (X m c) (Sc m c) (Sh m c) (W m c) (seq t) p) (Fin.ext (Nat.add_assoc _ _ _))))

theorem value_tile (w : Vec Ideal S1024x256 .bf16) (o : ℕ) (hl : o + 256 ≤ 1024)
    (hw : ∀ (k : Fin 1024) (n : Fin 256), w (ix2 k n)
      = (iblk m c 3 t : FVec Ideal S1024x3072 .bf16) (ix2 k (⟨2048 + o + n, by omega⟩ : Fin 3072)))
    (p : Fin 256) (n : Fin 1024) :
    View.TileAt (Val := Elt Ideal) (S := S1x256x1024) (e := .bf16) (ix3 (0 : Fin 1) p n) ![0, 0, o] S1x256x256.size
      (valuePiece (columns (rows m c t) w)) (values (X m c) (Sc m c) (Sh m c) (W m c) (ix3 (seq t) p n)) := by
  intro x hx
  obtain ⟨a, q, i, rfl⟩ : ∃ (a : Fin 1) (q i : Fin 256), x = ix3 a q i := ⟨x 0, x 1, x 2, eq_ix3 x⟩
  obtain rfl : a = 0 := Subsingleton.elim _ _
  obtain rfl : p = q := Fin.ext ((hx 1).trans (Nat.zero_add _))
  obtain rfl : n = ⟨o + i, by omega⟩ := Fin.ext (hx 2)
  exact (valuePiece_apply _ _ _).trans ((product_apply m c t w (2048 + o) (by omega) hw p i).trans
    (congrArg (through (X m c) (Sc m c) (Sh m c) (W m c) (seq t) p) (Fin.ext (Nat.add_assoc _ _ _))))

/-- The two blocks that a grid point leaves. -/
theorem keys_block (n : Fin 1024) (p : Fin 256) :
    out0_4 (F := Ideal) (iblk m c 0 t) (iblk m c 1 t) (iblk m c 2 t) (iblk m c 3 t) (ix3 (0 : Fin 1) n p)
      = keys (X m c) (Sc m c) (Sh m c) (W m c) (ix3 (seq t) n p) := by
  rw [out4_eq]
  exact View.canon_eq_of_allAt _ _ _ (cover0_4 _ _ _ _ _)
    (View.allAt_cons_unit _ _ _ _ _ (key_tile m c t _ 768 (by omega) (ld_columns _ 1792 (by omega) _) p n)
    (View.allAt_cons_unit _ _ _ _ _ (key_tile m c t _ 512 (by omega) (ld_columns _ 1536 (by omega) _) p n)
    (View.allAt_cons_unit _ _ _ _ _ (key_tile m c t _ 256 (by omega) (ld_columns _ 1280 (by omega) _) p n)
    (View.allAt_cons_unit _ _ _ _ _ (key_tile m c t _ 0 (by omega) (ld_columns _ 1024 (by omega) _) p n)
    (View.allAt_nil _ _)))))

theorem values_block (p : Fin 256) (n : Fin 1024) :
    out0_5 (F := Ideal) (iblk m c 0 t) (iblk m c 1 t) (iblk m c 2 t) (iblk m c 3 t) (ix3 (0 : Fin 1) p n)
      = values (X m c) (Sc m c) (Sh m c) (W m c) (ix3 (seq t) p n) := by
  rw [out5_eq]
  exact View.canon_eq_of_allAt _ _ _ (cover0_5 _ _ _ _ _)
    (View.allAt_cons_unit _ _ _ _ _ (value_tile m c t _ 768 (by omega) (ld_columns _ 2816 (by omega) _) p n)
    (View.allAt_cons_unit _ _ _ _ _ (value_tile m c t _ 512 (by omega) (ld_columns _ 2560 (by omega) _) p n)
    (View.allAt_cons_unit _ _ _ _ _ (value_tile m c t _ 256 (by omega) (ld_columns _ 2304 (by omega) _) p n)
    (View.allAt_cons_unit _ _ _ _ _ (value_tile m c t _ 0 (by omega) (ld_columns _ 2048 (by omega) _) p n)
    (View.allAt_nil _ _)))))

end

section

variable (m : (ℓ : Loc nD τ sig) → Buf (Elt Ideal) ℓ) (c : Dev nD)

/-- The two arrays that the call leaves. -/
theorem keys_final : (dats m 0 c).arrAt 4 cfg0.N = keys (X m c) (Sc m c) (Sh m c) (W m c) := by
  refine (dats m 0 c).arrAt_eq_of_covers 4 _ (by decide +kernel) fun t _ y => ?_
  blk_simp
  rw [after0_4]
  obtain ⟨a, n, p, rfl⟩ : ∃ (a : Fin 1) (n : Fin 1024) (p : Fin 256), (y : S1x1024x256.Idx) = ix3 a n p := ⟨y 0, y 1, y 2, eq_ix3 y⟩
  obtain rfl : a = 0 := Subsingleton.elim _ _
  have he : ((win0_4.blk t).view.emb (ix3 (0 : Fin 1) n p : S1x1024x256.Idx) : S4x1024x256.Idx) = ix3 (seq t) n p := by
    blk_ext! [idx t, seq]
  exact (keys_block m c t n p).trans (congrArg _ he).symm

theorem values_final : (dats m 0 c).arrAt 5 cfg0.N = values (X m c) (Sc m c) (Sh m c) (W m c) := by
  refine (dats m 0 c).arrAt_eq_of_covers 5 _ (by decide +kernel) fun t _ y => ?_
  blk_simp
  rw [after0_5]
  obtain ⟨a, p, n, rfl⟩ : ∃ (a : Fin 1) (p : Fin 256) (n : Fin 1024), (y : S1x256x1024.Idx) = ix3 a p n := ⟨y 0, y 1, y 2, eq_ix3 y⟩
  obtain rfl : a = 0 := Subsingleton.elim _ _
  have he : ((win0_5.blk t).view.emb (ix3 (0 : Fin 1) p n : S1x256x1024.Idx) : S4x256x1024.Idx) = ix3 (seq t) p n := by
    blk_ext! [idx t, seq]
  exact (values_block m c t p n).trans (congrArg _ he).symm

end

end Context

end
-- ==== Proof.Context.Reference.lean ====
module

public import proofs.«01_k».proof.Proof.Gen.ContextReferenceIdeal.Run
public import proofs.«01_k».proof.Proof.Context.Spec
public import Idealize.ShloMosaic.Lib.Pipeline.ValueKit

/-! The reference of the context's keys and values read at an index. -/

@[expose] public section

set_option maxRecDepth 16384

noncomputable section

namespace Context.Ref

open Idealize.ShloMosaic Idealize.ShloMosaic.TcCoe Idealize.SL.Sem
open Cert.ContextReferenceIdeal Cert.ContextReferenceIdeal.Gen

/-- The modulated rows through the matrix. -/
def product (x : FVec Ideal S4x256x1024 .f32) (sc sh : FVec Ideal S4x1x1024 .f32) (w : FVec Ideal S1024x3072 .f32) :
    FVec Ideal S4x256x3072 .f32 :=
  Host.dotGeneral dot_S4x256x1024_S1024x3072_S4x256x3072_2_0_01_1_n_n none
    (addf (mulf x (broadcastInDim S4x256x1024 ![0, 1, 2] bcast_S4x1x1024_S4x256x1024_0_1_2
        (addf (broadcastInDim S4x1x1024 ![] bcast_S_S4x1x1024 (constant S_ .f32 0x3F800000#32)) sc)))
      (broadcastInDim S4x256x1024 ![0, 1, 2] bcast_S4x1x1024_S4x256x1024_0_1_2 sh)) w

/-- The two results, of the product. -/
def keys (z : FVec Ideal S4x256x3072 .f32) : FVec Ideal S4x1024x256 .bf16 :=
  truncf .bf16 (transpose S4x1024x256 [0, 2, 1] (shapeCast S4x256x1024 (shapeCast S4x256x8x2x64
      (extractStridedSlice S4x256x1024 ![0, 0, 1024] z slices_S4x256x3072_S4x256x1024_0_0_1024) shapeCasts_S4x256x1024_S4x256x8x2x64)
    shapeCasts_S4x256x8x2x64_S4x256x1024) transposes_S4x256x1024_S4x1024x256_0_2_1) bitsLt_bf16_f32
def values (z : FVec Ideal S4x256x3072 .f32) : FVec Ideal S4x256x1024 .bf16 :=
  truncf .bf16 (shapeCast S4x256x1024 (shapeCast S4x256x8x128
      (extractStridedSlice S4x256x1024 ![0, 0, 2048] z slices_S4x256x3072_S4x256x1024_0_0_2048) shapeCasts_S4x256x1024_S4x256x8x128)
    shapeCasts_S4x256x8x128_S4x256x1024) bitsLt_bf16_f32

theorem product_apply (x : FVec Ideal S4x256x1024 .f32) (sc sh : FVec Ideal S4x1x1024 .f32) (w : FVec Ideal S1024x3072 .f32)
    (b : Fin 4) (l : Fin 256) (n : Fin 3072) : product x sc sh w (ix3 b l n) = through x sc sh w b l n := by
  pointwise [product, through]

theorem keys_apply (z : FVec Ideal S4x256x3072 .f32) (b : Fin 4) (n : Fin 1024) (l : Fin 256) :
    keys z (ix3 b n l) = z (ix3 b l (⟨1024 + n, by omega⟩ : Fin 3072)) := by
  pointwise [keys]

theorem values_apply (z : FVec Ideal S4x256x3072 .f32) (b : Fin 4) (l : Fin 256) (n : Fin 1024) :
    values z (ix3 b l n) = z (ix3 b l (⟨2048 + n, by omega⟩ : Fin 3072)) := by
  pointwise [values]

section

variable (x : FVec Ideal S4x256x1024 .f32) (sc sh : FVec Ideal S4x1x1024 .f32) (w : FVec Ideal S1024x3072 .f32)

/-- The two results are the specification's. -/
theorem keys_spec : keys (product x sc sh w) = Context.keys x sc sh w := by
  refine funext fun i => ?_
  obtain ⟨b, n, l, rfl⟩ : ∃ (b : Fin 4) (n : Fin 1024) (l : Fin 256), i = ix3 b n l := ⟨i 0, i 1, i 2, eq_ix3 i⟩
  exact (keys_apply _ b n l).trans (product_apply x sc sh w b l _)

theorem values_spec : values (product x sc sh w) = Context.values x sc sh w := by
  refine funext fun i => ?_
  obtain ⟨b, l, n, rfl⟩ : ∃ (b : Fin 4) (l : Fin 256) (n : Fin 1024), i = ix3 b l n := ⟨i 0, i 1, i 2, eq_ix3 i⟩
  exact (values_apply _ b l n).trans (product_apply x sc sh w b l _)

end

end Context.Ref

end
-- ==== Proof.Pool.State.lean ====
module

public import proofs.«01_k».proof.Proof.Gen.PoolIdeal.Value
public import Idealize.ShloMosaic.Lib.Pipeline.ValueKit
public import Idealize.ShloMosaic.Lib.Pipeline.ReadBack
public import Idealize.ShloMosaic.Lib.Pointwise

/-! What one grid point of the pooling's call computes from its blocks, in the steps of its body.

The blocks are `x0` (512 tokens), `x1` and `x2` (sixteen tokens before and after them), `x3` and `x4` (the sequence's scale
and shift). The body stores the 544 modulated tokens and reads them back at the rows of each window, 256 columns at a time. -/

@[expose] public section

set_option maxRecDepth 16384

noncomputable section

namespace Pool

open Idealize.ShloMosaic Idealize.ShloMosaic.TcCoe Idealize.SL.Sem
open Cert.PoolIdeal Cert.PoolIdeal.Gen

variable {F : FTy → Type} [FloatOps F]

/-- 512 rows from row `j` on, 256 columns from column `o` on. -/
def rows (z : Vec F S544x1024 .f32) (o j : ℕ) : Vec F S512x256 .f32 := fun i =>
  z (ix2 (⟨(j + (i 0 : Fin 512).1) % 544, Nat.mod_lt _ (by decide)⟩ : Fin 544)
    (⟨(o + (i 1 : Fin 256).1) % 1024, Nat.mod_lt _ (by decide)⟩ : Fin 1024))

/-- The 544 modulated tokens: sixteen before, the block's own, sixteen after; zero off the sequence. -/
def tokens (i : grid0.Coords) (x0 : Vec F S1x512x1024 .f32) (x1 x2 : Vec F S1x16x1024 .f32) (x3 x4 : Vec F S1x1x1024 .f32) :
    FVec F S544x1024 .f32 := View.canon (Val := Elt F) (s := S544x1024) (e := .f32)
  [⟨Rect.unit (s := S544x1024) ![528, 0] S16x1024.size inb_S544x1024_S16x1024_528_0,
      k0_pay8 (Scalar.cmpi .slt (BitVec.ofNat 32 (i 1).val) 15#32) (k0_pay6 x3 x2) (k0_pay7 x4)⟩,
   ⟨Rect.unit (s := S544x1024) ![0, 0] S16x1024.size inb_S544x1024_S16x1024_0_0, k0_pay5 i x3 x4 x1⟩,
   ⟨Rect.unit (s := S544x1024) ![16, 0] S512x1024.size inb_S544x1024_S512x1024_16_0, k0_pay4 x3 x4 x0⟩]

section pieces

variable (a : BitVec 32) (z : Vec F S544x1024 .f32)

/-- The four pieces stored, one for each quarter of the columns. -/
def piece2 : FVec F S1x512x256 .bf16 := k0_pay10 a (rows z 0 15) (rows z 0 16) (rows z 0 16)
def piece4 : FVec F S1x512x256 .bf16 :=
  k0_pay12 (k0_pay9 a) (k0_pay11 (rows z 256 14) (rows z 256 15)) (rows z 256 16) (rows z 256 17) (rows z 256 16)
def piece8 : FVec F S1x512x256 .bf16 :=
  k0_pay14 (k0_pay9 a) (k0_pay13 (rows z 512 12) (rows z 512 13) (rows z 512 14) (rows z 512 15) (rows z 512 16) (rows z 512 17))
    (rows z 512 18) (rows z 512 19) (rows z 512 16)
def piece16 : FVec F S1x512x256 .bf16 :=
  k0_pay1 (k0_pay16 (k0_pay9 a) (k0_pay15 (rows z 768 8) (rows z 768 9) (rows z 768 10) (rows z 768 11) (rows z 768 12))
    (rows z 768 13) (rows z 768 14) (rows z 768 15) (rows z 768 16) (rows z 768 17) (rows z 768 18) (rows z 768 19)
    (rows z 768 20) (rows z 768 21) (rows z 768 22) (rows z 768 23)) (rows z 768 16)

/-- The block the grid point writes. -/
def block : FVec F S1x512x1024 .bf16 := View.canon (Val := Elt F) (s := S1x512x1024) (e := .bf16)
  [⟨Rect.unit (s := S1x512x1024) ![0, 0, 768] S1x512x256.size inb_S1x512x1024_S1x512x256_0_0_768, piece16 a z⟩,
   ⟨Rect.unit (s := S1x512x1024) ![0, 0, 512] S1x512x256.size inb_S1x512x1024_S1x512x256_0_0_512, piece8 a z⟩,
   ⟨Rect.unit (s := S1x512x1024) ![0, 0, 256] S1x512x256.size inb_S1x512x1024_S1x512x256_0_0_256, piece4 a z⟩,
   ⟨Rect.unit (s := S1x512x1024) ![0, 0, 0] S1x512x256.size inb_S1x512x1024_S1x512x256_0_0_0, piece2 a z⟩]

end pieces

/-- A load of a whole buffer reads its contents. -/
theorem load_all {A B C : ℕ} {e : EltTy} {a : Memref sig .tc .vmem ⟨3, ![A, B, C]⟩ e} (h : a.IsWhole)
    (X : (⟨3, ![A, B, C]⟩ : Shape).Idx → Elt F e)
    (inb : ∀ k, (![0, 0, 0] : Fin 3 → ℕ) k + (⟨3, ![A, B, C]⟩ : Shape).size k ≤ (⟨3, ![A, B, C]⟩ : Shape).size k) :
    View.readAt (Elt F) a.view (Rect.unit ![0, 0, 0] (⟨3, ![A, B, C]⟩ : Shape).size inb).toLoadRect (h.unread X) = X := by
  rw [View.readAt_eq_ld, h.read_unread]
  exact View.ld_unit_lit inb X fun k => by fin_cases k <;> rfl

/-- A load of rows and columns of the stored tokens. -/
theorem read_rows {sg : RefSig} {κ : Kind} {sp : Space} (v : View sg κ sp S544x1024 .f32)
    (L : List (View.Piece (Elt F) S544x1024 .f32)) (j o : ℕ) (inb) :
    v.readCov L (Rect.unit (s := S544x1024) ![j, o] S512x256.size inb).toLoadRect = rows (View.canon L) o j := by
  refine (View.readCov_eq_canon' v L _).trans (funext fun i => ?_)
  have hj : j + 512 ≤ 544 := inb 0
  have ho : o + 256 ≤ 1024 := inb 1
  have h0 : (i 0 : ℕ) < 512 := (i 0).isLt
  have h1 : (i 1 : ℕ) < 256 := (i 1).isLt
  refine View.ld_unit_apply_of (View.canon L) _ _ inb i _ fun k => ?_
  fin_cases k
  · show (j + (i 0 : ℕ)) % 544 = j + (i 0 : ℕ)
    omega
  · show (o + (i 1 : ℕ)) % 1024 = o + (i 1 : ℕ)
    omega

end Pool

end
-- ==== Proof.Pool.Spec.lean ====
module

public import Idealize.ShloMosaic.Lib.Pointwise

/-! What the pooling's call computes, on extended reals: each token's features, scaled and shifted by its sequence's
    modulation; for each quarter of the columns a window of tokens around each token (1, 2, 4 or 8 of them before it, and as
    many from it on), cut at the ends of the sequence; the mean of the window, less the token. -/

@[expose] public section

set_option maxRecDepth 16384

noncomputable section

namespace Pool

open Idealize.ShloMosaic

/-- The shapes of the arrays. -/
abbrev STokens : Shape := ⟨3, ![4, 8192, 1024]⟩
abbrev SMod : Shape := ⟨3, ![4, 1, 1024]⟩

section

variable (x : STokens.Idx → EReal) (sc sh : SMod.Idx → EReal)

/-- A modulated token, at a column. -/
def token (b : Fin 4) (s : Fin 8192) (n : Fin 1024) : EReal :=
  x (ix3 b s n) * (1 + sc (ix3 b (0 : Fin 1) n)) + sh (ix3 b (0 : Fin 1) n)

/-- Half the window of a column. -/
def half (n : ℕ) : ℕ := if n < 256 then 1 else if n < 512 then 2 else if n < 768 then 4 else 8

/-- How many tokens the window of token `l` holds. -/
def count (h l : ℕ) : ℕ := min (l + h) 8192 - (l - h)

/-- The sum over the window of token `l`. -/
def windowSum (h : ℕ) (b : Fin 4) (l : Fin 8192) (n : Fin 1024) : EReal :=
  ∑ s : Fin 8192, if (l : ℕ) ≤ s + h ∧ (s : ℕ) < l + h then token x sc sh b s n else 0

/-- The window's mean, less the token. -/
def pooledAt (h : ℕ) (b : Fin 4) (l : Fin 8192) (n : Fin 1024) : EReal :=
  Ideal.div (windowSum x sc sh h b l n) (((count h l : ℕ) : ℝ) : EReal) - token x sc sh b l n

/-- The result. -/
def pooled : STokens.Idx → EReal := fun i =>
  pooledAt x sc sh (half (i 2 : Fin 1024)) (i 0 : Fin 4) (i 1 : Fin 8192) (i 2 : Fin 1024)

/-- The sequence with sixteen zeros before it and zeros after it: place `s` is token `s - 16`. -/
def continued (b : Fin 4) (s : ℕ) (n : Fin 1024) : EReal :=
  if h : 16 ≤ s ∧ s < 8208 then token x sc sh b ⟨s - 16, by omega⟩ n else 0

/-- The sum over a window is the sum over its places, those off the sequence being zero. -/
theorem windowSum_eq (h : ℕ) (hh : h ≤ 16) (b : Fin 4) (l : Fin 8192) (n : Fin 1024) :
    windowSum x sc sh h b l n = ∑ j ∈ Finset.range (2 * h), continued x sc sh b (16 - h + j + l) n := by
  have hl := l.isLt
  rw [windowSum, ← Finset.sum_filter]
  have hc : ∀ j ∈ Finset.range (2 * h), continued x sc sh b (16 - h + j + l) n
      = if 16 ≤ 16 - h + j + (l : ℕ) ∧ 16 - h + j + (l : ℕ) < 8208 then continued x sc sh b (16 - h + j + l) n else 0 := by
    intro j _
    by_cases hp : 16 ≤ 16 - h + j + (l : ℕ) ∧ 16 - h + j + (l : ℕ) < 8208
    · rw [if_pos hp]
    · rw [if_neg hp, continued, dif_neg hp]
  rw [Finset.sum_congr rfl hc, ← Finset.sum_filter]
  refine Finset.sum_bij (fun s _ => (s : ℕ) + h - l) ?_ ?_ ?_ ?_
  · intro s hs
    have hs' := (Finset.mem_filter.1 hs).2
    have := s.isLt
    refine Finset.mem_filter.2 ⟨Finset.mem_range.2 ?_, ?_⟩ <;> omega
  · intro s hs s' hs' e
    have h1 := (Finset.mem_filter.1 hs).2
    have h2 := (Finset.mem_filter.1 hs').2
    refine Fin.ext ?_
    omega
  · intro j hj
    obtain ⟨h1, h2⟩ := Finset.mem_filter.1 hj
    have h1' := Finset.mem_range.1 h1
    refine ⟨⟨j + l - h, by omega⟩, Finset.mem_filter.2 ⟨Finset.mem_univ _, ?_⟩, ?_⟩ <;> dsimp only <;> omega
  · intro s hs
    have hs' := (Finset.mem_filter.1 hs).2
    have := s.isLt
    rw [continued, dif_pos (by omega)]
    exact congrArg (fun s => token x sc sh b s n) (Fin.ext (by dsimp only; omega))

end

end Pool

end
-- ==== Proof.Pool.Words.lean ====
module

public import proofs.«01_k».proof.Proof.Pool.Spec
public import Idealize.ShloMosaic.Lib.Pipeline.ValueKit

/-! The windows' ends in the words that the call and its reference compute them in. -/

@[expose] public section

set_option maxRecDepth 16384

noncomputable section

namespace Pool

open Idealize.ShloMosaic Idealize.ShloMosaic.TcCoe

/-- The window's first token, and the one after its last. -/
abbrev low (h l : BitVec 32) : BitVec 32 := IntOp.maxsi (IntOp.subi l h) 0#32
abbrev high (h w l : BitVec 32) : BitVec 32 := IntOp.minsi (IntOp.addi (IntOp.subi l h) w) 8192#32

theorem low_eq : ∀ (e : Fin 4) (l : Fin 8192), low (BitVec.ofNat 32 (2 ^ e.val)) (BitVec.ofNat 32 l.val)
    = BitVec.ofNat 32 (l.val - 2 ^ e.val) := by decide +kernel

theorem high_eq : ∀ (e : Fin 4) (l : Fin 8192),
    high (BitVec.ofNat 32 (2 ^ e.val)) (BitVec.ofNat 32 (2 * 2 ^ e.val)) (BitVec.ofNat 32 l.val)
      = BitVec.ofNat 32 (min (l.val + 2 ^ e.val) 8192) := by decide +kernel

theorem length_eq : ∀ (e : Fin 4) (l : Fin 8192),
    (IntOp.subi (high (BitVec.ofNat 32 (2 ^ e.val)) (BitVec.ofNat 32 (2 * 2 ^ e.val)) (BitVec.ofNat 32 l.val))
      (low (BitVec.ofNat 32 (2 ^ e.val)) (BitVec.ofNat 32 l.val))).toInt = (count (2 ^ e.val) l.val : ℤ) := by decide +kernel

/-- A token's place, from its grid point and its row. -/
theorem place_eq : ∀ (i : Fin 16) (q : Fin 512),
    IntOp.addi (Scalar.muli (BitVec.ofNat 32 i.val) 512#32) (BitVec.ofNat 32 q.val) = BitVec.ofNat 32 (512 * i.val + q.val) := by
  decide +kernel

/-- The window's length as a number. -/
theorem length_real (e : Fin 4) (l : Fin 8192) :
    (FloatOps.sitofp (F := Ideal) FTy.f32
      (IntOp.subi (high (BitVec.ofNat 32 (2 ^ e.val)) (BitVec.ofNat 32 (2 * 2 ^ e.val)) (BitVec.ofNat 32 l.val))
        (low (BitVec.ofNat 32 (2 ^ e.val)) (BitVec.ofNat 32 l.val))) : EReal) = (((count (2 ^ e.val) l.val : ℕ) : ℝ) : EReal) := by
  refine Eq.trans (b := ((((IntOp.subi (high (BitVec.ofNat 32 (2 ^ e.val)) (BitVec.ofNat 32 (2 * 2 ^ e.val)) (BitVec.ofNat 32 l.val))
        (low (BitVec.ofNat 32 (2 ^ e.val)) (BitVec.ofNat 32 l.val))).toInt : ℤ) : ℝ) : EReal)) rfl ?_
  rw [length_eq e l, Int.cast_natCast]

end Pool

end
-- ==== Proof.Pool.Payload.lean ====
module

public import proofs.«01_k».proof.Proof.Pool.State
public import proofs.«01_k».proof.Proof.Pool.Words
public import Idealize.ShloMosaic.Lib.Pipeline.ValueKit

/-! The steps of the body read at an index. -/

@[expose] public section

set_option maxRecDepth 16384

noncomputable section

namespace Pool

open Idealize.ShloMosaic Idealize.ShloMosaic.TcCoe Idealize.SL.Sem
open Cert.PoolIdeal Cert.PoolIdeal.Gen

section rows

variable (z : Vec Ideal S544x1024 .f32)

theorem rows_apply (o j : ℕ) (hj : j + 512 ≤ 544) (ho : o + 256 ≤ 1024) (q : Fin 512) (n : Fin 256) :
    rows z o j (ix2 q n) = z (ix2 (⟨j + q, by omega⟩ : Fin 544) (⟨o + n, by omega⟩ : Fin 1024)) :=
  congrArg₂ (fun (r : Fin 544) (k : Fin 1024) => z (ix2 r k)) (Fin.ext (Nat.mod_eq_of_lt (by
    have := q.isLt
    show j + (q : ℕ) < 544
    omega))) (Fin.ext (Nat.mod_eq_of_lt (by
    have := n.isLt
    show o + (n : ℕ) < 1024
    omega)))

variable (i : Fin 16) (q : Fin 512) (n : Fin 256)

theorem piece2_apply : piece2 (BitVec.ofNat 32 i.val) z (ix3 (0 : Fin 1) q n)
    = Ideal.div (∑ j ∈ Finset.range (2 * 1), rows z 0 (16 - 1 + j) (ix2 q n)) (((count 1 (512 * i + q) : ℕ) : ℝ) : EReal)
      - rows z 0 16 (ix2 q n) := by
  refine Eq.trans ?_ (congrArg (fun d => Ideal.div _ d - _) (length_real (0 : Fin 4) (⟨512 * i + q, by omega⟩ : Fin 8192)))
  pointwise [piece2, k0_pay10, k0_pay9]
  rw [place_eq i q]
  simp only [Finset.sum_range_succ, Finset.sum_range_zero, zero_add]
  rfl

theorem piece4_apply : piece4 (BitVec.ofNat 32 i.val) z (ix3 (0 : Fin 1) q n)
    = Ideal.div (∑ j ∈ Finset.range (2 * 2), rows z 256 (16 - 2 + j) (ix2 q n)) (((count 2 (512 * i + q) : ℕ) : ℝ) : EReal)
      - rows z 256 16 (ix2 q n) := by
  refine Eq.trans ?_ (congrArg (fun d => Ideal.div _ d - _) (length_real (1 : Fin 4) (⟨512 * i + q, by omega⟩ : Fin 8192)))
  pointwise [piece4, k0_pay12, k0_pay11, k0_pay9]
  rw [place_eq i q]
  simp only [Finset.sum_range_succ, Finset.sum_range_zero, zero_add]
  rfl

theorem piece8_apply : piece8 (BitVec.ofNat 32 i.val) z (ix3 (0 : Fin 1) q n)
    = Ideal.div (∑ j ∈ Finset.range (2 * 4), rows z 512 (16 - 4 + j) (ix2 q n)) (((count 4 (512 * i + q) : ℕ) : ℝ) : EReal)
      - rows z 512 16 (ix2 q n) := by
  refine Eq.trans ?_ (congrArg (fun d => Ideal.div _ d - _) (length_real (2 : Fin 4) (⟨512 * i + q, by omega⟩ : Fin 8192)))
  pointwise [piece8, k0_pay14, k0_pay13, k0_pay9]
  rw [place_eq i q]
  simp only [Finset.sum_range_succ, Finset.sum_range_zero, zero_add]
  rfl

theorem piece16_apply : piece16 (BitVec.ofNat 32 i.val) z (ix3 (0 : Fin 1) q n)
    = Ideal.div (∑ j ∈ Finset.range (2 * 8), rows z 768 (16 - 8 + j) (ix2 q n)) (((count 8 (512 * i + q) : ℕ) : ℝ) : EReal)
      - rows z 768 16 (ix2 q n) := by
  refine Eq.trans ?_ (congrArg (fun d => Ideal.div _ d - _) (length_real (3 : Fin 4) (⟨512 * i + q, by omega⟩ : Fin 8192)))
  pointwise [piece16, k0_pay1, k0_pay16, k0_pay15, k0_pay9]
  rw [place_eq i q]
  simp only [Finset.sum_range_succ, Finset.sum_range_zero, zero_add]
  rfl

end rows

section tokens

variable (i : grid0.Coords) (x0 : Vec Ideal S1x512x1024 .f32) (x1 x2 : Vec Ideal S1x16x1024 .f32) (x3 x4 : Vec Ideal S1x1x1024 .f32)

/-- A token's features before the modulation: sixteen tokens before the block, the block, sixteen after. -/
def raw (r : Fin 544) (k : Fin 1024) : EReal :=
  if h : (r : ℕ) < 16 then x1 (ix3 (0 : Fin 1) (⟨r, h⟩ : Fin 16) k)
  else if h' : (r : ℕ) < 528 then x0 (ix3 (0 : Fin 1) (⟨r - 16, by omega⟩ : Fin 512) k)
  else x2 (ix3 (0 : Fin 1) (⟨r - 528, by omega⟩ : Fin 16) k)

/-- Its modulation. -/
def modulated (v : EReal) (k : Fin 1024) : EReal :=
  v * (1 + x3 (ix3 (0 : Fin 1) (0 : Fin 1) k)) + x4 (ix3 (0 : Fin 1) (0 : Fin 1) k)

/-- Whether a grid point is past the first of its sequence, and before the last. -/
theorem inner : ∀ i : Fin 16, Scalar.cmpi .sgt (BitVec.ofNat 32 i.val) 0#32 = (if 0 < i.val then 1#1 else 0#1)
    ∧ Scalar.cmpi .slt (BitVec.ofNat 32 i.val) 15#32 = (if i.val < 15 then 1#1 else 0#1) := by decide +kernel

theorem own_apply (p : Fin 512) (k : Fin 1024) :
    k0_pay4 x3 x4 x0 (ix2 p k) = modulated x3 x4 (x0 (ix3 (0 : Fin 1) p k)) k := by
  pointwise [k0_pay4, k0_pay2, k0_pay3, modulated]

theorem before_apply (p : Fin 16) (k : Fin 1024) :
    k0_pay5 i x3 x4 x1 (ix2 p k) = if 0 < (i 1).val then modulated x3 x4 (x1 (ix3 (0 : Fin 1) p k)) k else 0 := by
  dsimp only [k0_pay5]
  rw [(inner (i 1)).1]
  by_cases h : 0 < (i 1).val
  · rw [if_pos h, if_pos h]
    pointwise [k0_pay2, k0_pay3, modulated]
  · rw [if_neg h, if_neg h]
    pointwise [k0_pay2, k0_pay3, modulated]

theorem after_apply (p : Fin 16) (k : Fin 1024) :
    k0_pay8 (Scalar.cmpi .slt (BitVec.ofNat 32 (i 1).val) 15#32) (k0_pay6 x3 x2) (k0_pay7 x4) (ix2 p k)
      = if (i 1).val < 15 then modulated x3 x4 (x2 (ix3 (0 : Fin 1) p k)) k else 0 := by
  rw [(inner (i 1)).2]
  by_cases h : (i 1).val < 15
  · rw [if_pos h, if_pos h]
    pointwise [k0_pay8, k0_pay7, k0_pay6, k0_pay2, k0_pay3, modulated]
  · rw [if_neg h, if_neg h]
    pointwise [k0_pay8, k0_pay7, k0_pay6, k0_pay2, k0_pay3, modulated]

theorem tokens_apply (r : Fin 544) (k : Fin 1024) :
    tokens i x0 x1 x2 x3 x4 (ix2 r k)
      = if ((r : ℕ) < 16 → 0 < (i 1).val) ∧ (528 ≤ (r : ℕ) → (i 1).val < 15) then modulated x3 x4 (raw x0 x1 x2 r k) k else 0 := by
  have hr : (r : ℕ) < 544 := r.isLt
  have hk : (k : ℕ) < 1024 := k.isLt
  unfold tokens
  refine View.canon_eq_of_allAt _ _ _ ?_ (View.allAt_cons_unit _ _ _ _ _ ?_ (View.allAt_cons_unit _ _ _ _ _ ?_
    (View.allAt_cons_unit _ _ _ _ _ ?_ (View.allAt_nil _ _))))
  · by_cases h : (r : ℕ) < 16
    · refine ⟨⟨Rect.unit (s := S544x1024) ![0, 0] S16x1024.size inb_S544x1024_S16x1024_0_0, k0_pay5 i x3 x4 x1⟩,
        List.mem_cons_of_mem _ List.mem_cons_self, ?_⟩
      rw [Rect.mem_set_unit]
      intro d
      fin_cases d
      · show 0 ≤ (r : ℕ) ∧ (r : ℕ) < 0 + 16
        omega
      · show 0 ≤ (k : ℕ) ∧ (k : ℕ) < 0 + 1024
        omega
    · by_cases h' : (r : ℕ) < 528
      · refine ⟨_, List.mem_cons_of_mem _ (List.mem_cons_of_mem _ List.mem_cons_self), ?_⟩
        rw [Rect.mem_set_unit]
        intro d
        fin_cases d
        · show 16 ≤ (r : ℕ) ∧ (r : ℕ) < 16 + 512
          omega
        · show 0 ≤ (k : ℕ) ∧ (k : ℕ) < 0 + 1024
          omega
      · refine ⟨_, List.mem_cons_self, ?_⟩
        rw [Rect.mem_set_unit]
        intro d
        fin_cases d
        · show 528 ≤ (r : ℕ) ∧ (r : ℕ) < 528 + 16
          omega
        · show 0 ≤ (k : ℕ) ∧ (k : ℕ) < 0 + 1024
          omega
  · intro x hx
    obtain ⟨p, q, rfl⟩ : ∃ (p : Fin 16) (q : Fin 1024), x = ix2 p q := ⟨x 0, x 1, eq_ix2 x⟩
    have h0 : (r : ℕ) = 528 + p := hx 0
    obtain rfl : k = q := Fin.ext ((hx 1).trans (Nat.zero_add _))
    refine (after_apply _ _ _ _ _ _).trans (if_congr ⟨fun h => ⟨by omega, fun _ => h⟩, fun h => h.2 (by omega)⟩
      (congrArg (modulated x3 x4 · k) ?_) rfl)
    rw [raw, dif_neg (by omega), dif_neg (by omega)]
    exact congrArg (fun p : Fin 16 => x2 (ix3 (0 : Fin 1) p k)) (Fin.ext (by dsimp only; omega))
  · intro x hx
    obtain ⟨p, q, rfl⟩ : ∃ (p : Fin 16) (q : Fin 1024), x = ix2 p q := ⟨x 0, x 1, eq_ix2 x⟩
    have h0 : (r : ℕ) = 0 + p := hx 0
    obtain rfl : k = q := Fin.ext ((hx 1).trans (Nat.zero_add _))
    refine (before_apply _ _ _ _ _ _).trans (if_congr ⟨fun h => ⟨fun _ => h, by omega⟩, fun h => h.1 (by omega)⟩
      (congrArg (modulated x3 x4 · k) ?_) rfl)
    rw [raw, dif_pos (by omega)]
    exact congrArg (fun p : Fin 16 => x1 (ix3 (0 : Fin 1) p k)) (Fin.ext (by dsimp only; omega))
  · intro x hx
    obtain ⟨p, q, rfl⟩ : ∃ (p : Fin 512) (q : Fin 1024), x = ix2 p q := ⟨x 0, x 1, eq_ix2 x⟩
    have h0 : (r : ℕ) = 16 + p := hx 0
    obtain rfl : k = q := Fin.ext ((hx 1).trans (Nat.zero_add _))
    rw [if_pos ⟨by omega, by omega⟩]
    refine (own_apply _ _ _ _ _).trans (congrArg (modulated x3 x4 · k) ?_)
    rw [raw, dif_neg (by omega), dif_pos (by omega)]
    exact congrArg (fun p : Fin 512 => x0 (ix3 (0 : Fin 1) p k)) (Fin.ext (by dsimp only; omega))

end tokens

end Pool

end
-- ==== Proof.Pool.Chain.lean ====
module

public import proofs.«01_k».proof.Proof.Pool.State

/-! What the body's loads from its scratch buffer read, and what its stores leave in the output block. -/

@[expose] public section

set_option maxRecDepth 16384

noncomputable section

namespace Pool

open Idealize.ShloMosaic Idealize.ShloMosaic.TcCoe Idealize.SL.Sem
open Cert.PoolIdeal Cert.PoolIdeal.Gen Cert.PoolIdeal.Gen.kernelRun0_A.sl

variable {F : FTy → Type} [FloatOps F] (c : Dev nD) (i : grid0.Coords)
  (arg2 : Memref sig .tc .vmem S1x512x1024 .f32) (harg2 : arg2.IsWhole)
  (arg3 : Memref sig .tc .vmem S1x16x1024 .f32) (harg3 : arg3.IsWhole)
  (arg4 : Memref sig .tc .vmem S1x16x1024 .f32) (harg4 : arg4.IsWhole)
  (arg5 : Memref sig .tc .vmem S1x1x1024 .f32) (harg5 : arg5.IsWhole)
  (arg6 : Memref sig .tc .vmem S1x1x1024 .f32) (harg6 : arg6.IsWhole)
  (arg7 : Memref sig .tc .vmem S1x512x1024 .bf16) (harg7 : arg7.IsWhole)
  (arg8 : Memref sig .tc .vmem S544x1024 .f32) (harg8 : arg8.IsWhole)
  (x0 : Vec F S1x512x1024 .f32) (x1 : Vec F S1x16x1024 .f32) (x2 : Vec F S1x16x1024 .f32) (x3 : Vec F S1x1x1024 .f32) (x4 : Vec F S1x1x1024 .f32)

/-- What the stores left in the scratch buffer. -/
theorem stored_eq : (View.canon (HS0_3 c i arg2 harg2 arg3 harg3 arg4 harg4 arg5 harg5 arg6 harg6 x0 x1 x2 x3 x4) : FVec F S544x1024 .f32)
    = tokens i x0 x1 x2 x3 x4 := by
  unfold HS0_3 r r_1
  simp only [load_all harg2, load_all harg3, load_all harg4, load_all harg5, load_all harg6]
  rfl

/-! The loads, window by window. -/

theorem v43_eq : v43 c i arg2 harg2 arg3 harg3 arg4 harg4 arg5 harg5 arg6 harg6 arg8 x0 x1 x2 x3 x4
    = rows (tokens i x0 x1 x2 x3 x4) 0 15 := by
  unfold v43
  exact (read_rows _ _ 15 0 _).trans (congrArg (rows · 0 15) (stored_eq ..))

theorem v44_eq : v44 c i arg2 harg2 arg3 harg3 arg4 harg4 arg5 harg5 arg6 harg6 arg8 x0 x1 x2 x3 x4
    = rows (tokens i x0 x1 x2 x3 x4) 0 16 := by
  unfold v44
  exact (read_rows _ _ 16 0 _).trans (congrArg (rows · 0 16) (stored_eq ..))

theorem v65_eq : v65 c i arg2 harg2 arg3 harg3 arg4 harg4 arg5 harg5 arg6 harg6 arg8 x0 x1 x2 x3 x4
    = rows (tokens i x0 x1 x2 x3 x4) 256 14 := by
  unfold v65
  exact (read_rows _ _ 14 256 _).trans (congrArg (rows · 256 14) (stored_eq ..))

theorem v66_eq : v66 c i arg2 harg2 arg3 harg3 arg4 harg4 arg5 harg5 arg6 harg6 arg8 x0 x1 x2 x3 x4
    = rows (tokens i x0 x1 x2 x3 x4) 256 15 := by
  unfold v66
  exact (read_rows _ _ 15 256 _).trans (congrArg (rows · 256 15) (stored_eq ..))

theorem v68_eq : v68 c i arg2 harg2 arg3 harg3 arg4 harg4 arg5 harg5 arg6 harg6 arg8 x0 x1 x2 x3 x4
    = rows (tokens i x0 x1 x2 x3 x4) 256 16 := by
  unfold v68
  exact (read_rows _ _ 16 256 _).trans (congrArg (rows · 256 16) (stored_eq ..))

theorem v70_eq : v70 c i arg2 harg2 arg3 harg3 arg4 harg4 arg5 harg5 arg6 harg6 arg8 x0 x1 x2 x3 x4
    = rows (tokens i x0 x1 x2 x3 x4) 256 17 := by
  unfold v70
  exact (read_rows _ _ 17 256 _).trans (congrArg (rows · 256 17) (stored_eq ..))

theorem v91_eq : v91 c i arg2 harg2 arg3 harg3 arg4 harg4 arg5 harg5 arg6 harg6 arg8 x0 x1 x2 x3 x4
    = rows (tokens i x0 x1 x2 x3 x4) 512 12 := by
  unfold v91
  exact (read_rows _ _ 12 512 _).trans (congrArg (rows · 512 12) (stored_eq ..))

theorem v92_eq : v92 c i arg2 harg2 arg3 harg3 arg4 harg4 arg5 harg5 arg6 harg6 arg8 x0 x1 x2 x3 x4
    = rows (tokens i x0 x1 x2 x3 x4) 512 13 := by
  unfold v92
  exact (read_rows _ _ 13 512 _).trans (congrArg (rows · 512 13) (stored_eq ..))

theorem v94_eq : v94 c i arg2 harg2 arg3 harg3 arg4 harg4 arg5 harg5 arg6 harg6 arg8 x0 x1 x2 x3 x4
    = rows (tokens i x0 x1 x2 x3 x4) 512 14 := by
  unfold v94
  exact (read_rows _ _ 14 512 _).trans (congrArg (rows · 512 14) (stored_eq ..))

theorem v96_eq : v96 c i arg2 harg2 arg3 harg3 arg4 harg4 arg5 harg5 arg6 harg6 arg8 x0 x1 x2 x3 x4
    = rows (tokens i x0 x1 x2 x3 x4) 512 15 := by
  unfold v96
  exact (read_rows _ _ 15 512 _).trans (congrArg (rows · 512 15) (stored_eq ..))

theorem v98_eq : v98 c i arg2 harg2 arg3 harg3 arg4 harg4 arg5 harg5 arg6 harg6 arg8 x0 x1 x2 x3 x4
    = rows (tokens i x0 x1 x2 x3 x4) 512 16 := by
  unfold v98
  exact (read_rows _ _ 16 512 _).trans (congrArg (rows · 512 16) (stored_eq ..))

theorem v100_eq : v100 c i arg2 harg2 arg3 harg3 arg4 harg4 arg5 harg5 arg6 harg6 arg8 x0 x1 x2 x3 x4
    = rows (tokens i x0 x1 x2 x3 x4) 512 17 := by
  unfold v100
  exact (read_rows _ _ 17 512 _).trans (congrArg (rows · 512 17) (stored_eq ..))

theorem v102_eq : v102 c i arg2 harg2 arg3 harg3 arg4 harg4 arg5 harg5 arg6 harg6 arg8 x0 x1 x2 x3 x4
    = rows (tokens i x0 x1 x2 x3 x4) 512 18 := by
  unfold v102
  exact (read_rows _ _ 18 512 _).trans (congrArg (rows · 512 18) (stored_eq ..))

theorem v104_eq : v104 c i arg2 harg2 arg3 harg3 arg4 harg4 arg5 harg5 arg6 harg6 arg8 x0 x1 x2 x3 x4
    = rows (tokens i x0 x1 x2 x3 x4) 512 19 := by
  unfold v104
  exact (read_rows _ _ 19 512 _).trans (congrArg (rows · 512 19) (stored_eq ..))

theorem v125_eq : v125 c i arg2 harg2 arg3 harg3 arg4 harg4 arg5 harg5 arg6 harg6 arg8 x0 x1 x2 x3 x4
    = rows (tokens i x0 x1 x2 x3 x4) 768 8 := by
  unfold v125
  exact (read_rows _ _ 8 768 _).trans (congrArg (rows · 768 8) (stored_eq ..))

theorem v126_eq : v126 c i arg2 harg2 arg3 harg3 arg4 harg4 arg5 harg5 arg6 harg6 arg8 x0 x1 x2 x3 x4
    = rows (tokens i x0 x1 x2 x3 x4) 768 9 := by
  unfold v126
  exact (read_rows _ _ 9 768 _).trans (congrArg (rows · 768 9) (stored_eq ..))

theorem v128_eq : v128 c i arg2 harg2 arg3 harg3 arg4 harg4 arg5 harg5 arg6 harg6 arg8 x0 x1 x2 x3 x4
    = rows (tokens i x0 x1 x2 x3 x4) 768 10 := by
  unfold v128
  exact (read_rows _ _ 10 768 _).trans (congrArg (rows · 768 10) (stored_eq ..))

theorem v130_eq : v130 c i arg2 harg2 arg3 harg3 arg4 harg4 arg5 harg5 arg6 harg6 arg8 x0 x1 x2 x3 x4
    = rows (tokens i x0 x1 x2 x3 x4) 768 11 := by
  unfold v130
  exact (read_rows _ _ 11 768 _).trans (congrArg (rows · 768 11) (stored_eq ..))

theorem v132_eq : v132 c i arg2 harg2 arg3 harg3 arg4 harg4 arg5 harg5 arg6 harg6 arg8 x0 x1 x2 x3 x4
    = rows (tokens i x0 x1 x2 x3 x4) 768 12 := by
  unfold v132
  exact (read_rows _ _ 12 768 _).trans (congrArg (rows · 768 12) (stored_eq ..))

theorem v134_eq : v134 c i arg2 harg2 arg3 harg3 arg4 harg4 arg5 harg5 arg6 harg6 arg8 x0 x1 x2 x3 x4
    = rows (tokens i x0 x1 x2 x3 x4) 768 13 := by
  unfold v134
  exact (read_rows _ _ 13 768 _).trans (congrArg (rows · 768 13) (stored_eq ..))

theorem v136_eq : v136 c i arg2 harg2 arg3 harg3 arg4 harg4 arg5 harg5 arg6 harg6 arg8 x0 x1 x2 x3 x4
    = rows (tokens i x0 x1 x2 x3 x4) 768 14 := by
  unfold v136
  exact (read_rows _ _ 14 768 _).trans (congrArg (rows · 768 14) (stored_eq ..))

theorem v138_eq : v138 c i arg2 harg2 arg3 harg3 arg4 harg4 arg5 harg5 arg6 harg6 arg8 x0 x1 x2 x3 x4
    = rows (tokens i x0 x1 x2 x3 x4) 768 15 := by
  unfold v138
  exact (read_rows _ _ 15 768 _).trans (congrArg (rows · 768 15) (stored_eq ..))

theorem v140_eq : v140 c i arg2 harg2 arg3 harg3 arg4 harg4 arg5 harg5 arg6 harg6 arg8 x0 x1 x2 x3 x4
    = rows (tokens i x0 x1 x2 x3 x4) 768 16 := by
  unfold v140
  exact (read_rows _ _ 16 768 _).trans (congrArg (rows · 768 16) (stored_eq ..))

theorem v142_eq : v142 c i arg2 harg2 arg3 harg3 arg4 harg4 arg5 harg5 arg6 harg6 arg8 x0 x1 x2 x3 x4
    = rows (tokens i x0 x1 x2 x3 x4) 768 17 := by
  unfold v142
  exact (read_rows _ _ 17 768 _).trans (congrArg (rows · 768 17) (stored_eq ..))

theorem v144_eq : v144 c i arg2 harg2 arg3 harg3 arg4 harg4 arg5 harg5 arg6 harg6 arg8 x0 x1 x2 x3 x4
    = rows (tokens i x0 x1 x2 x3 x4) 768 18 := by
  unfold v144
  exact (read_rows _ _ 18 768 _).trans (congrArg (rows · 768 18) (stored_eq ..))

theorem v146_eq : v146 c i arg2 harg2 arg3 harg3 arg4 harg4 arg5 harg5 arg6 harg6 arg8 x0 x1 x2 x3 x4
    = rows (tokens i x0 x1 x2 x3 x4) 768 19 := by
  unfold v146
  exact (read_rows _ _ 19 768 _).trans (congrArg (rows · 768 19) (stored_eq ..))

theorem v148_eq : v148 c i arg2 harg2 arg3 harg3 arg4 harg4 arg5 harg5 arg6 harg6 arg8 x0 x1 x2 x3 x4
    = rows (tokens i x0 x1 x2 x3 x4) 768 20 := by
  unfold v148
  exact (read_rows _ _ 20 768 _).trans (congrArg (rows · 768 20) (stored_eq ..))

theorem v150_eq : v150 c i arg2 harg2 arg3 harg3 arg4 harg4 arg5 harg5 arg6 harg6 arg8 x0 x1 x2 x3 x4
    = rows (tokens i x0 x1 x2 x3 x4) 768 21 := by
  unfold v150
  exact (read_rows _ _ 21 768 _).trans (congrArg (rows · 768 21) (stored_eq ..))

theorem v152_eq : v152 c i arg2 harg2 arg3 harg3 arg4 harg4 arg5 harg5 arg6 harg6 arg8 x0 x1 x2 x3 x4
    = rows (tokens i x0 x1 x2 x3 x4) 768 22 := by
  unfold v152
  exact (read_rows _ _ 22 768 _).trans (congrArg (rows · 768 22) (stored_eq ..))

theorem v154_eq : v154 c i arg2 harg2 arg3 harg3 arg4 harg4 arg5 harg5 arg6 harg6 arg8 x0 x1 x2 x3 x4
    = rows (tokens i x0 x1 x2 x3 x4) 768 23 := by
  unfold v154
  exact (read_rows _ _ 23 768 _).trans (congrArg (rows · 768 23) (stored_eq ..))

theorem v169_eq : v169 c i arg2 harg2 arg3 harg3 arg4 harg4 arg5 harg5 arg6 harg6 arg8 x0 x1 x2 x3 x4
    = rows (tokens i x0 x1 x2 x3 x4) 768 16 := by
  unfold v169
  exact (read_rows _ _ 16 768 _).trans (congrArg (rows · 768 16) (stored_eq ..))

/-- The output block. -/
theorem out_eq : out0_A_5 c i arg2 harg2 arg3 harg3 arg4 harg4 arg5 harg5 arg6 harg6 arg7 harg7 arg8 harg8 x0 x1 x2 x3 x4
    = block (BitVec.ofNat 32 (i 1).val) (tokens i x0 x1 x2 x3 x4) := by
  unfold out0_A_5
  rw [View.read_writes_junk_eq_canon]
  dsimp only [kernelRun0_A]
  simp only [r_2, r_3, r_4, r_5, r_6, v43_eq, v44_eq, v65_eq, v66_eq, v68_eq, v70_eq, v91_eq, v92_eq, v94_eq, v96_eq, v98_eq, v100_eq, v102_eq, v104_eq, v125_eq, v126_eq, v128_eq, v130_eq, v132_eq, v134_eq, v136_eq, v138_eq, v140_eq, v142_eq, v144_eq, v146_eq, v148_eq, v150_eq, v152_eq, v154_eq, v169_eq]
  rfl

end Pool

end
-- ==== Proof.Pool.Array.lean ====
module

public import proofs.«01_k».proof.Proof.Pool.Payload
public import proofs.«01_k».proof.Proof.Pool.Chain
public import Idealize.ShloMosaic.Lib.StableHlo.RunRead

/-! The result array of the pooling's call, from the blocks its grid points write. -/

@[expose] public section

set_option maxRecDepth 16384

noncomputable section

namespace Pool

open Idealize.ShloMosaic Idealize.ShloMosaic.TcCoe Idealize.SL.Sem
open Cert.PoolIdeal Cert.PoolIdeal.Gen

section

variable (m : (ℓ : Loc nD τ sig) → Buf (Elt Ideal) ℓ) (c : Dev nD)

/-- The specification's arrays, of the call's arguments. -/
abbrev X : STokens.Idx → EReal := m ((c : Thread nD τ).loc main_arg0)
abbrev Sc : SMod.Idx → EReal := m ((c : Thread nD τ).loc main_arg1)
abbrev Sh : SMod.Idx → EReal := m ((c : Thread nD τ).loc main_arg2)

variable (t : Fin cfg0.N)

/-- The blocks' indices at a grid point. -/
theorem idx : ∀ t : Fin cfg0.N,
    win0_0.index t = ![t.val / 16, t.val % 16, 0] ∧ win0_1.index t = ![t.val / 16, 32 * (t.val % 16) - 1, 0]
    ∧ win0_2.index t = ![t.val / 16, min (32 * (t.val % 16) + 32) 511, 0] ∧ win0_3.index t = ![t.val / 16, 0, 0]
    ∧ win0_4.index t = ![t.val / 16, 0, 0] ∧ win0_5.index t = ![t.val / 16, t.val % 16, 0] :=
  (by decide +kernel : ∀ t : Fin grid0.N, _)

/-- The grid point's second coordinate. -/
theorem second : ∀ t : Fin cfg0.N, (grid0.coords t 1).val = t.val % 16 := (by decide +kernel : ∀ t : Fin grid0.N, _)

/-- The sequence, the place in it and a token of a grid point. -/
def seq : Fin 4 := ⟨t.val / 16, by have : t.val < 64 := t.2; omega⟩
def place : Fin 16 := ⟨t.val % 16, by omega⟩
def own (p : Fin 512) : Fin 8192 := ⟨512 * (t.val % 16) + p, by omega⟩

theorem block0 (p : Fin 512) (k : Fin 1024) : (iblk m c 0 t : FVec Ideal S1x512x1024 .f32) (ix3 (0 : Fin 1) p k)
    = X m c (ix3 (seq t) (own t p) k) := by
  blk_ext! [iblk, V, idx t, seq, own]

theorem block1 (p : Fin 16) (k : Fin 1024) : (iblk m c 1 t : FVec Ideal S1x16x1024 .f32) (ix3 (0 : Fin 1) p k)
    = X m c (ix3 (seq t) (⟨16 * (32 * (t.val % 16) - 1) + p, by omega⟩ : Fin 8192) k) := by
  blk_ext! [iblk, V, idx t, seq]

theorem block2 (p : Fin 16) (k : Fin 1024) : (iblk m c 2 t : FVec Ideal S1x16x1024 .f32) (ix3 (0 : Fin 1) p k)
    = X m c (ix3 (seq t) (⟨16 * min (32 * (t.val % 16) + 32) 511 + p, by omega⟩ : Fin 8192) k) := by
  blk_ext! [iblk, V, idx t, seq]

theorem block3 (k : Fin 1024) : (iblk m c 3 t : FVec Ideal S1x1x1024 .f32) (ix3 (0 : Fin 1) (0 : Fin 1) k)
    = Sc m c (ix3 (seq t) (0 : Fin 1) k) := by
  blk_ext! [iblk, V, idx t, seq]

theorem block4 (k : Fin 1024) : (iblk m c 4 t : FVec Ideal S1x1x1024 .f32) (ix3 (0 : Fin 1) (0 : Fin 1) k)
    = Sh m c (ix3 (seq t) (0 : Fin 1) k) := by
  blk_ext! [iblk, V, idx t, seq]

/-- Row `r` of the 544 is token `512 i + r - 16`, where that is a token. -/
theorem raw_block (r : Fin 544) (h : 16 ≤ 512 * (t.val % 16) + r.val ∧ 512 * (t.val % 16) + r.val < 8208) (k : Fin 1024) :
    raw (iblk m c 0 t) (iblk m c 1 t) (iblk m c 2 t) r k
      = X m c (ix3 (seq t) (⟨512 * (t.val % 16) + r - 16, by omega⟩ : Fin 8192) k) := by
  have hx : ∀ l l' : Fin 8192, (l : ℕ) = l' → X m c (ix3 (seq t) l k) = X m c (ix3 (seq t) l' k) :=
    fun l l' e => congrArg (fun l => X m c (ix3 (seq t) l k)) (Fin.ext e)
  have hr := r.isLt
  rw [raw]
  by_cases h0 : (r : ℕ) < 16
  · rw [dif_pos h0]
    refine (block1 m c t _ _).trans (hx _ _ ?_)
    dsimp only
    omega
  · rw [dif_neg h0]
    by_cases h1 : (r : ℕ) < 528
    · rw [dif_pos h1]
      refine (block0 m c t _ _).trans (hx _ _ ?_)
      dsimp only [own]
      omega
    · rw [dif_neg h1]
      refine (block2 m c t _ _).trans (hx _ _ ?_)
      dsimp only
      omega

/-- The tokens that the grid point stores. -/
abbrev stored : FVec Ideal S544x1024 .f32 :=
  tokens (grid0.coords t) (iblk m c 0 t) (iblk m c 1 t) (iblk m c 2 t) (iblk m c 3 t) (iblk m c 4 t)

/-- They are the continued sequence from place `512 i` on. -/
theorem stored_apply (r : Fin 544) (k : Fin 1024) :
    stored m c t (ix2 r k) = continued (X m c) (Sc m c) (Sh m c) (seq t) (512 * (t.val % 16) + r) k := by
  have hr := r.isLt
  refine (tokens_apply _ _ _ _ _ _ r k).trans ?_
  rw [continued, second t]
  by_cases h : 16 ≤ 512 * (t.val % 16) + (r : ℕ) ∧ 512 * (t.val % 16) + (r : ℕ) < 8208
  · rw [if_pos (by omega), dif_pos h, modulated, raw_block m c t r h, block3, block4, token]
  · rw [if_neg (by omega), dif_neg h]

/-- A window's rows are its places. -/
theorem rows_block (o : ℕ) (ho : o + 256 ≤ 1024) (j : ℕ) (hj : j ≤ 32) (q : Fin 512) (n : Fin 256) :
    rows (F := Ideal) (stored m c t) o j (ix2 q n)
      = continued (X m c) (Sc m c) (Sh m c) (seq t) (j + own t q) (⟨o + n, by omega⟩ : Fin 1024) := by
  refine (rows_apply _ o j (by omega) ho q n).trans ((stored_apply m c t _ _).trans ?_)
  refine congrArg (fun s => continued (X m c) (Sc m c) (Sh m c) (seq t) s _) ?_
  dsimp only [own]
  omega

/-- So the sum over the rows is the window's. -/
theorem sum_block (h : ℕ) (hh : h ≤ 8) (o : ℕ) (ho : o + 256 ≤ 1024) (q : Fin 512) (n : Fin 256) :
    (∑ j ∈ Finset.range (2 * h), rows (F := Ideal) (stored m c t) o (16 - h + j) (ix2 q n))
      = windowSum (X m c) (Sc m c) (Sh m c) h (seq t) (own t q) (⟨o + n, by omega⟩ : Fin 1024) := by
  rw [windowSum_eq _ _ _ h (by omega)]
  refine Finset.sum_congr rfl fun j hj => ?_
  have := Finset.mem_range.1 hj
  exact rows_block m c t o ho _ (by omega) q n

/-- And the middle row is the token. -/
theorem middle_block (o : ℕ) (ho : o + 256 ≤ 1024) (q : Fin 512) (n : Fin 256) :
    rows (F := Ideal) (stored m c t) o 16 (ix2 q n) = token (X m c) (Sc m c) (Sh m c) (seq t) (own t q) (⟨o + n, by omega⟩ : Fin 1024) := by
  have hq := (own t q).isLt
  refine (rows_block m c t o ho 16 (by omega) q n).trans ?_
  rw [continued, dif_pos (by omega)]
  exact congrArg (fun s => token (X m c) (Sc m c) (Sh m c) (seq t) s _) (Fin.ext (by dsimp only; omega))

/-- What the four pieces share: a sum over rows divided by a count, less the middle row. -/
theorem piece_block (h : ℕ) (hh : h ≤ 8) (o : ℕ) (ho : o + 256 ≤ 1024) (q : Fin 512) (n : Fin 256) :
    Ideal.div (∑ j ∈ Finset.range (2 * h), rows (F := Ideal) (stored m c t) o (16 - h + j) (ix2 q n))
        (((count h (512 * (place t : ℕ) + q) : ℕ) : ℝ) : EReal) - rows (F := Ideal) (stored m c t) o 16 (ix2 q n)
      = pooledAt (X m c) (Sc m c) (Sh m c) h (seq t) (own t q) (⟨o + n, by omega⟩ : Fin 1024) := by
  rw [sum_block m c t h hh o ho, middle_block m c t o ho]
  rfl

/-- The pieces stored at the four lanes. -/
theorem tile (o h : ℕ) (hl : o + 256 ≤ 1024) (hh : ∀ n : ℕ, n < 256 → half (o + n) = h) (v : FVec Ideal S1x512x256 .bf16)
    (hv : ∀ (q : Fin 512) (n : Fin 256), v (ix3 (0 : Fin 1) q n)
      = pooledAt (X m c) (Sc m c) (Sh m c) h (seq t) (own t q) (⟨o + n, by omega⟩ : Fin 1024)) (p : Fin 512) (n : Fin 1024) :
    View.TileAt (Val := Elt Ideal) (S := S1x512x1024) (e := .bf16) (ix3 (0 : Fin 1) p n) ![0, 0, o] S1x512x256.size v
      (pooled (X m c) (Sc m c) (Sh m c) (ix3 (seq t) (own t p) n)) := by
  intro x hx
  obtain ⟨a, q, i, rfl⟩ : ∃ (a : Fin 1) (q : Fin 512) (i : Fin 256), x = ix3 a q i := ⟨x 0, x 1, x 2, eq_ix3 x⟩
  obtain rfl : a = 0 := Subsingleton.elim _ _
  obtain rfl : p = q := Fin.ext ((hx 1).trans (Nat.zero_add _))
  obtain rfl : n = ⟨o + i, by omega⟩ := Fin.ext (hx 2)
  refine (hv p i).trans ?_
  show _ = pooledAt (X m c) (Sc m c) (Sh m c) (half (o + (i : ℕ))) (seq t) (own t p) (⟨o + i, by omega⟩ : Fin 1024)
  rw [hh i i.isLt]

/-- The block that a grid point leaves. -/
theorem block_apply (p : Fin 512) (n : Fin 1024) :
    block (F := Ideal) (BitVec.ofNat 32 (place t).val) (stored m c t) (ix3 (0 : Fin 1) p n)
      = pooled (X m c) (Sc m c) (Sh m c) (ix3 (seq t) (own t p) n) := by
  unfold block
  refine View.canon_eq_of_allAt _ _ _ ?_
    (View.allAt_cons_unit _ _ _ _ _ (tile m c t 768 8 (by omega) (fun n hn => by unfold half; split_ifs <;> omega) _
      (fun q n => (piece16_apply _ (place t) q n).trans (piece_block m c t 8 (by omega) 768 (by omega) q n)) p n)
    (View.allAt_cons_unit _ _ _ _ _ (tile m c t 512 4 (by omega) (fun n hn => by unfold half; split_ifs <;> omega) _
      (fun q n => (piece8_apply _ (place t) q n).trans (piece_block m c t 4 (by omega) 512 (by omega) q n)) p n)
    (View.allAt_cons_unit _ _ _ _ _ (tile m c t 256 2 (by omega) (fun n hn => by unfold half; split_ifs <;> omega) _
      (fun q n => (piece4_apply _ (place t) q n).trans (piece_block m c t 2 (by omega) 256 (by omega) q n)) p n)
    (View.allAt_cons_unit _ _ _ _ _ (tile m c t 0 1 (by omega) (fun n hn => by unfold half; split_ifs <;> omega) _
      (fun q n => (piece2_apply _ (place t) q n).trans (piece_block m c t 1 (by omega) 0 (by omega) q n)) p n)
    (View.allAt_nil _ _)))))
  exact View.cover_of_tiledL (s := S1x512x1024) _ S1x512x256.size (by sl_kernel_rfl) _

end

section

variable (m : (ℓ : Loc nD τ sig) → Buf (Elt Ideal) ℓ) (c : Dev nD)

/-- The array that the call leaves. -/
theorem final : (dats m 0 c).arrAt 5 cfg0.N = pooled (X m c) (Sc m c) (Sh m c) := by
  refine (dats m 0 c).arrAt_eq_of_covers 5 _ (by decide +kernel) fun t _ y => ?_
  blk_simp
  rw [after0_5]
  obtain ⟨a, p, n, rfl⟩ : ∃ (a : Fin 1) (p : Fin 512) (n : Fin 1024), (y : S1x512x1024.Idx) = ix3 a p n := ⟨y 0, y 1, y 2, eq_ix3 y⟩
  obtain rfl : a = 0 := Subsingleton.elim _ _
  have he : ((win0_5.blk t).view.emb (ix3 (0 : Fin 1) p n : S1x512x1024.Idx) : S4x8192x1024.Idx) = ix3 (seq t) (own t p) n := by
    blk_ext! [idx t, seq, own]
  dsimp only [outsAt0]
  rw [out_eq, second t]
  exact (block_apply m c t p n).trans (congrArg _ he).symm

end

end Pool

end
-- ==== Proof.Pool.Steps.lean ====
module

public import proofs.«01_k».proof.Proof.Gen.PoolReferenceIdeal.Run
public import Idealize.ShloMosaic.Lib.Pipeline.ValueKit
public import Idealize.ShloMosaic.Lib.KernelVsHost

/-! The pooling's reference, in steps. -/

@[expose] public section

set_option maxRecDepth 16384

noncomputable section

namespace Pool.Ref

open Idealize.ShloMosaic Idealize.ShloMosaic.TcCoe Idealize.SL.Sem
open Cert.PoolReferenceIdeal Cert.PoolReferenceIdeal.Gen

/-- The modulated tokens. -/
def modulate (x : FVec Ideal S4x8192x1024 .f32) (sc sh : FVec Ideal S4x1x1024 .f32) : FVec Ideal S4x8192x1024 .f32 :=
  addf (mulf x (broadcastInDim S4x8192x1024 ![0, 1, 2] bcast_S4x1x1024_S4x8192x1024_0_1_2
      (addf (broadcastInDim S4x1x1024 ![] bcast_S_S4x1x1024 (constant S_ .f32 0x3F800000#32)) sc)))
    (broadcastInDim S4x8192x1024 ![0, 1, 2] bcast_S4x1x1024_S4x8192x1024_0_1_2 sh)

/-- A word, at every token. -/
def always (h : BitVec 32) : IVec S8192 32 := broadcastInDim S8192 ![] bcast_S_S8192 (constantI S_ 32 h)

/-- Each token's window: its first token and the one after its last. -/
def first (h : BitVec 32) : IVec S8192 32 := maxsi (subi (iotaInDim S8192 32 0) (always h)) (always 0#32)
def past (h w : BitVec 32) : IVec S8192 32 := minsi (addi (subi (iotaInDim S8192 32 0) (always h)) (always w)) (always 8192#32)

/-- One number for each token, down a matrix's rows or along its columns. -/
def down (v : IVec S8192 32) : IVec S8192x8192 32 :=
  broadcastInDim S8192x8192 ![0, 1] bcast_S8192x1_S8192x8192_0_1 (broadcastInDim S8192x1 ![0] bcast_S8192_S8192x1_0 v)
def along (v : IVec S8192 32) : IVec S8192x8192 32 :=
  broadcastInDim S8192x8192 ![0, 1] bcast_S1x8192_S8192x8192_0_1 (broadcastInDim S1x8192 ![1] bcast_S8192_S1x8192_1 v)

/-- One where the column's token is in the row's window, zero elsewhere. -/
def within (h w : BitVec 32) : FVec Ideal S8192x8192 .f32 :=
  uitofp .f32 (andi (cmpi .sle (down (first h)) (along (iotaInDim S8192 32 0))) (cmpi .slt (along (iotaInDim S8192 32 0)) (down (past h w))))

/-- A quarter of the columns: the windows' means less the tokens. -/
def quarter (h w : BitVec 32) (y : FVec Ideal S4x8192x256 .f32) : FVec Ideal S4x8192x256 .f32 :=
  subf (Host.divf (transpose S4x8192x256 [0, 2, 1]
      (Host.dotGeneral dot_S4x8192x256_S8192x8192_S4x256x8192_1_1_02_0_n_n none y (within h w)) transposes_S4x256x8192_S4x8192x256_0_2_1)
    (broadcastInDim S4x8192x256 ![0, 1, 2] bcast_S1x8192x1_S4x8192x256_0_1_2
      (broadcastInDim S1x8192x1 ![1, 2] bcast_S8192x1_S1x8192x1_1_2 (broadcastInDim S8192x1 ![0] bcast_S8192_S8192x1_0
        (sitofp .f32 (subi (past h w) (first h))))))) y

/-- The four quarters side by side. -/
def aside (y : FVec Ideal S4x8192x256 .f32) : FVec Ideal S4x8192x1x256 .f32 :=
  broadcastInDim S4x8192x1x256 ![0, 1, 3] bcast_S4x8192x256_S4x8192x1x256_0_1_3 y
def stacked (y0 y1 y2 y3 : FVec Ideal S4x8192x256 .f32) : FVec Ideal S4x8192x4x256 .f32 :=
  concatenate S4x8192x4x256 2 [⟨S4x8192x1x256, aside y0⟩, ⟨S4x8192x1x256, aside y1⟩, ⟨S4x8192x1x256, aside y2⟩,
      ⟨S4x8192x1x256, aside y3⟩]
    concatenates_S4x8192x1x256_S4x8192x1x256_S4x8192x1x256_S4x8192x1x256_S4x8192x4x256_d2
def joined (z : FVec Ideal S4x8192x4x256 .f32) : FVec Ideal S4x8192x1024 .bf16 :=
  truncf .bf16 (shapeCast S4x8192x1024 z shapeCasts_S4x8192x4x256_S4x8192x1024) bitsLt_bf16_f32

/-- The result, of the modulated tokens. -/
def pool (z : FVec Ideal S4x8192x1024 .f32) : FVec Ideal S4x8192x1024 .bf16 :=
  joined (stacked (quarter 1#32 2#32 (extractStridedSlice S4x8192x256 ![0, 0, 0] z slices_S4x8192x1024_S4x8192x256_0_0_0))
    (quarter 2#32 4#32 (extractStridedSlice S4x8192x256 ![0, 0, 256] z slices_S4x8192x1024_S4x8192x256_0_0_256))
    (quarter 4#32 8#32 (extractStridedSlice S4x8192x256 ![0, 0, 512] z slices_S4x8192x1024_S4x8192x256_0_0_512))
    (quarter 8#32 16#32 (extractStridedSlice S4x8192x256 ![0, 0, 768] z slices_S4x8192x1024_S4x8192x256_0_0_768)))

/-- The result, as the steps above. -/
theorem result_eq (m : (ℓ : Loc nD τ sig) → Buf (Elt Ideal) ℓ) (c : Dev nD) : Cert.PoolReferenceIdeal.Value.res_out0 m c
    = pool (modulate (m ((c.tc : Thread nD τ).loc main_arg0)) (m ((c.tc : Thread nD τ).loc main_arg1))
        (m ((c.tc : Thread nD τ).loc main_arg2))) := rfl

end Pool.Ref

end
-- ==== Proof.Pool.Compare.lean ====
module

public import Idealize.ShloMosaic.Lib.Pipeline.ValueKit

/-! Two small words compared. -/

@[expose] public section

set_option maxRecDepth 16384

noncomputable section

namespace Pool

open Idealize.ShloMosaic Idealize.ShloMosaic.TcCoe

theorem toInt_small (a : ℕ) (h : a < 2 ^ 31) : (BitVec.ofNat 32 a).toInt = a := by
  rw [BitVec.toInt_eq_toNat_of_lt (by rw [BitVec.toNat_ofNat]; omega), BitVec.toNat_ofNat]
  omega

theorem le_eq (a b : ℕ) (ha : a < 2 ^ 31) (hb : b < 2 ^ 31) :
    IntOp.cmpi CmpIPredicate.sle (BitVec.ofNat 32 a) (BitVec.ofNat 32 b) = if a ≤ b then 1#1 else 0#1 := by
  simp [IntOp.cmpi, BitVec.sle, toInt_small a ha, toInt_small b hb]
  split_ifs with h <;> simp [h]

theorem lt_eq (a b : ℕ) (ha : a < 2 ^ 31) (hb : b < 2 ^ 31) :
    IntOp.cmpi CmpIPredicate.slt (BitVec.ofNat 32 a) (BitVec.ofNat 32 b) = if a < b then 1#1 else 0#1 := by
  simp [IntOp.cmpi, BitVec.slt, toInt_small a ha, toInt_small b hb]
  split_ifs with h <;> simp [h]

end Pool

end
-- ==== Proof.Pool.Quarter.lean ====
module

public import proofs.«01_k».proof.Proof.Pool.Steps
public import proofs.«01_k».proof.Proof.Pool.Words
public import proofs.«01_k».proof.Proof.Pool.Compare

/-! A quarter of the columns of the pooling's reference, read at an index. -/

@[expose] public section

set_option maxRecDepth 16384

noncomputable section

namespace Pool.Ref

open Idealize.ShloMosaic Idealize.ShloMosaic.TcCoe Idealize.SL.Sem
open Cert.PoolReferenceIdeal Cert.PoolReferenceIdeal.Gen

theorem modulate_apply (x : FVec Ideal S4x8192x1024 .f32) (sc sh : FVec Ideal S4x1x1024 .f32) (b : Fin 4) (l : Fin 8192)
    (n : Fin 1024) : modulate x sc sh (ix3 b l n) = token x sc sh b l n := by
  pointwise [modulate, token]

/-- Whether a token is in the window of another. -/
theorem within_apply (e : Fin 4) (l s : Fin 8192) :
    within (BitVec.ofNat 32 (2 ^ e.val)) (BitVec.ofNat 32 (2 * 2 ^ e.val)) (ix2 l s)
      = if (l : ℕ) ≤ s + 2 ^ e.val ∧ (s : ℕ) < l + 2 ^ e.val then 1 else 0 := by
  have hl := l.isLt
  have hs := s.isLt
  have hm : min (l.val + 2 ^ e.val) 8192 < 2 ^ 31 := lt_of_le_of_lt (min_le_right _ _) (by norm_num)
  have hw := low_eq e l
  have hh := high_eq e l
  unfold low at hw
  unfold high at hh
  pointwise [within, first, past, down, along, always]
  rw [hw, hh, le_eq _ _ (lt_of_le_of_lt (Nat.sub_le _ _) (by omega)) (by omega), lt_eq _ _ (by omega) hm]
  have h1 : ((l : ℕ) - 2 ^ e.val ≤ s) ↔ (l : ℕ) ≤ s + 2 ^ e.val := Nat.sub_le_iff_le_add
  have h2 : ((s : ℕ) < min (l.val + 2 ^ e.val) 8192) ↔ (s : ℕ) < l + 2 ^ e.val := by omega
  simp only [h1, h2]
  have one : FloatOps.uitofp (F := Ideal) FTy.f32 (1#1 : BitVec 1) = (1 : EReal) := by
    show ((((1#1 : BitVec 1).toNat : ℕ) : ℝ) : EReal) = 1
    simp
  have zero : FloatOps.uitofp (F := Ideal) FTy.f32 (0#1 : BitVec 1) = (0 : EReal) := by
    show ((((0#1 : BitVec 1).toNat : ℕ) : ℝ) : EReal) = 0
    simp
  by_cases ha : (l : ℕ) ≤ s + 2 ^ e.val
  · by_cases hb : (s : ℕ) < l + 2 ^ e.val
    · rw [if_pos ha, if_pos hb, if_pos (And.intro ha hb)]
      exact one
    · rw [if_pos ha, if_neg hb, if_neg (fun h : (l : ℕ) ≤ s + 2 ^ e.val ∧ (s : ℕ) < l + 2 ^ e.val => hb h.2)]
      exact zero
  · rw [if_neg ha, if_neg (fun h : (l : ℕ) ≤ s + 2 ^ e.val ∧ (s : ℕ) < l + 2 ^ e.val => ha h.1)]
    by_cases hb : (s : ℕ) < l + 2 ^ e.val
    · rw [if_pos hb]
      exact zero
    · rw [if_neg hb]
      exact zero

theorem quarter_apply (e : Fin 4) (y : FVec Ideal S4x8192x256 .f32) (b : Fin 4) (l : Fin 8192) (n : Fin 256) :
    quarter (BitVec.ofNat 32 (2 ^ e.val)) (BitVec.ofNat 32 (2 * 2 ^ e.val)) y (ix3 b l n)
      = Ideal.div (∑ s : Fin 8192, if (l : ℕ) ≤ s + 2 ^ e.val ∧ (s : ℕ) < l + 2 ^ e.val then y (ix3 b s n) else 0)
          (((count (2 ^ e.val) l : ℕ) : ℝ) : EReal) - y (ix3 b l n) := by
  rw [← length_real e l]
  pointwise [quarter, first, past, always]
  refine congrArg (fun v => Ideal.div v _ - _) (Finset.sum_congr rfl fun s _ => ?_)
  rw [within_apply e l s]
  by_cases h : (l : ℕ) ≤ s + 2 ^ e.val ∧ (s : ℕ) < l + 2 ^ e.val
  · rw [if_pos h, if_pos h]
    exact mul_one _
  · rw [if_neg h, if_neg h]
    exact mul_zero _

end Pool.Ref

end
-- ==== Proof.Pool.Joined.lean ====
module

public import proofs.«01_k».proof.Proof.Pool.Steps

/-! The four quarters of the pooling's reference side by side, read at an index. -/

@[expose] public section

set_option maxRecDepth 16384

noncomputable section

namespace Pool.Ref

open Idealize.ShloMosaic Idealize.ShloMosaic.TcCoe Idealize.SL.Sem
open Cert.PoolReferenceIdeal Cert.PoolReferenceIdeal.Gen

/-- The quarters, one after another. -/
theorem stacked_apply (y0 y1 y2 y3 : FVec Ideal S4x8192x256 .f32) (b : Fin 4) (l : Fin 8192) (g : Fin 4) (r : Fin 256) :
    stacked y0 y1 y2 y3 (ix4 b l g r) = if (g : ℕ) < 1 then y0 (ix3 b l r) else if (g : ℕ) < 2 then y1 (ix3 b l r)
      else if (g : ℕ) < 3 then y2 (ix3 b l r) else y3 (ix3 b l r) := by
  pointwise [stacked, aside]
  fin_cases g <;> simp

/-- A column is a column of a quarter. -/
theorem joined_apply (z : FVec Ideal S4x8192x4x256 .f32) (b : Fin 4) (l : Fin 8192) (n : Fin 1024) :
    joined z (ix3 b l n) = z (ix4 b l (⟨n / 256, by omega⟩ : Fin 4) (⟨n % 256, by omega⟩ : Fin 256)) := by
  pointwise [joined]

end Pool.Ref

end
-- ==== Proof.Pool.Reference.lean ====
module

public import proofs.«01_k».proof.Proof.Pool.Quarter
public import proofs.«01_k».proof.Proof.Pool.Joined

/-! The pooling's reference has the specification's array. -/

@[expose] public section

set_option maxRecDepth 16384

noncomputable section

namespace Pool.Ref

open Idealize.ShloMosaic Idealize.ShloMosaic.TcCoe Idealize.SL.Sem
open Cert.PoolReferenceIdeal Cert.PoolReferenceIdeal.Gen

variable (x : FVec Ideal S4x8192x1024 .f32) (sc sh : FVec Ideal S4x1x1024 .f32) (b : Fin 4) (l : Fin 8192)

/-- A quarter of the modulated tokens gives a quarter of the specification's columns. -/
theorem quarter_spec (e : Fin 4) (y : FVec Ideal S4x8192x256 .f32) (o : ℕ) (ho : o + 256 ≤ 1024)
    (hy : ∀ (s : Fin 8192) (r : Fin 256), y (ix3 b s r) = token x sc sh b s (⟨o + r, by omega⟩ : Fin 1024)) (r : Fin 256) :
    quarter (BitVec.ofNat 32 (2 ^ e.val)) (BitVec.ofNat 32 (2 * 2 ^ e.val)) y (ix3 b l r)
      = pooledAt x sc sh (2 ^ e.val) b l (⟨o + r, by omega⟩ : Fin 1024) := by
  rw [quarter_apply e y b l r, pooledAt, windowSum, hy l r]
  simp only [hy]

theorem part0 (z : FVec Ideal S4x8192x1024 .f32) (s : Fin 8192) (r : Fin 256) :
    extractStridedSlice S4x8192x256 ![0, 0, 0] z slices_S4x8192x1024_S4x8192x256_0_0_0 (ix3 b s r)
      = z (ix3 b s (⟨0 + r, by omega⟩ : Fin 1024)) := by
  pointwise

theorem part1 (z : FVec Ideal S4x8192x1024 .f32) (s : Fin 8192) (r : Fin 256) :
    extractStridedSlice S4x8192x256 ![0, 0, 256] z slices_S4x8192x1024_S4x8192x256_0_0_256 (ix3 b s r)
      = z (ix3 b s (⟨256 + r, by omega⟩ : Fin 1024)) := by
  pointwise

theorem part2 (z : FVec Ideal S4x8192x1024 .f32) (s : Fin 8192) (r : Fin 256) :
    extractStridedSlice S4x8192x256 ![0, 0, 512] z slices_S4x8192x1024_S4x8192x256_0_0_512 (ix3 b s r)
      = z (ix3 b s (⟨512 + r, by omega⟩ : Fin 1024)) := by
  pointwise

theorem part3 (z : FVec Ideal S4x8192x1024 .f32) (s : Fin 8192) (r : Fin 256) :
    extractStridedSlice S4x8192x256 ![0, 0, 768] z slices_S4x8192x1024_S4x8192x256_0_0_768 (ix3 b s r)
      = z (ix3 b s (⟨768 + r, by omega⟩ : Fin 1024)) := by
  pointwise

/-- A column of a quarter, as a column. -/
theorem column (h o : ℕ) (n : Fin 1024) (r : Fin 256) (ho : o + 256 ≤ 1024) (hn : o + (r : ℕ) = n) (hh : half n = h) :
    pooledAt x sc sh h b l (⟨o + r, by omega⟩ : Fin 1024) = pooled x sc sh (ix3 b l n) := by
  subst hh
  exact congrArg (pooledAt x sc sh (half n) b l) (Fin.ext hn)

theorem pool_spec : pool (modulate x sc sh) = pooled x sc sh := by
  refine funext fun i => ?_
  obtain ⟨b, l, n, rfl⟩ : ∃ (b : Fin 4) (l : Fin 8192) (n : Fin 1024), i = ix3 b l n := ⟨i 0, i 1, i 2, eq_ix3 i⟩
  have hn := n.isLt
  refine (joined_apply _ b l n).trans ((stacked_apply _ _ _ _ b l _ _).trans ?_)
  dsimp only
  by_cases h0 : (n : ℕ) / 256 < 1
  · rw [if_pos h0]
    refine (quarter_spec x sc sh b l 0 _ 0 (by omega) (fun s r => (part0 b _ s r).trans (modulate_apply ..)) _).trans ?_
    exact column x sc sh b l _ 0 n _ (by omega) (by dsimp only; omega) (by unfold half; rw [if_pos (by omega)]; rfl)
  · rw [if_neg h0]
    by_cases h1 : (n : ℕ) / 256 < 2
    · rw [if_pos h1]
      refine (quarter_spec x sc sh b l 1 _ 256 (by omega) (fun s r => (part1 b _ s r).trans (modulate_apply ..)) _).trans ?_
      exact column x sc sh b l _ 256 n _ (by omega) (by dsimp only; omega)
        (by unfold half; rw [if_neg (by omega), if_pos (by omega)]; rfl)
    · rw [if_neg h1]
      by_cases h2 : (n : ℕ) / 256 < 3
      · rw [if_pos h2]
        refine (quarter_spec x sc sh b l 2 _ 512 (by omega) (fun s r => (part2 b _ s r).trans (modulate_apply ..)) _).trans ?_
        exact column x sc sh b l _ 512 n _ (by omega) (by dsimp only; omega)
          (by unfold half; rw [if_neg (by omega), if_neg (by omega), if_pos (by omega)]; rfl)
      · rw [if_neg h2]
        refine (quarter_spec x sc sh b l 3 _ 768 (by omega) (fun s r => (part3 b _ s r).trans (modulate_apply ..)) _).trans ?_
        exact column x sc sh b l _ 768 n _ (by omega) (by dsimp only; omega)
          (by unfold half; rw [if_neg (by omega), if_neg (by omega), if_neg (by omega)]; rfl)

end Pool.Ref

end
-- ==== Proof.Attn.State.lean ====
module

public import proofs.«01_k».proof.Proof.Gen.KernelIdeal.Value
public import Idealize.ShloMosaic.Lib.Pipeline.ValueKit
public import Idealize.ShloMosaic.Lib.Pointwise

/-! The state of one grid point's loop over the key chunks, written as a recursion over the chunks.

The blocks are `x0` (queries), `x1` (keys, transposed), `x2` (values), `x3` and `x4` (context keys and values),
`x5` (the four lambda vectors), `x6` (the scale of the norm). The 512 stacked rows are the 256 queries of the first
branch above the 256 queries of the second one. -/

@[expose] public section

set_option maxRecDepth 16384

noncomputable section

namespace Attn

open Idealize.ShloMosaic Idealize.ShloMosaic.TcCoe Idealize.SL.Sem
open Cert.KernelIdeal Cert.KernelIdeal.Gen

variable {F : FTy → Type} [FloatOps F]

/-- The `j`-th chunk of 512 keys. -/
def keys (x1 : Vec F S1x128x8192 .bf16) (j : ℕ) : Vec F S1x128x512 .bf16 := fun i =>
  x1 (ix3 (0 : Fin 1) (i 1 : Fin 128) (⟨(512 * j + (i 2 : Fin 512).1) % 8192, Nat.mod_lt _ (by decide)⟩ : Fin 8192))

/-- The `j`-th chunk of 512 values. -/
def values (x2 : Vec F S1x8192x128 .bf16) (j : ℕ) : Vec F S1x512x128 .bf16 := fun i =>
  x2 (ix3 (0 : Fin 1) (⟨(512 * j + (i 1 : Fin 512).1) % 8192, Nat.mod_lt _ (by decide)⟩ : Fin 8192) (i 2 : Fin 128))

section state

variable (x0 : Vec F S1x256x128 .bf16) (x1 : Vec F S1x128x8192 .bf16) (x2 : Vec F S1x8192x128 .bf16)
  (x3 : Vec F S1x128x256 .bf16) (x4 : Vec F S1x256x128 .bf16) (x5 : Vec F S4x64 .f32) (x6 : Vec F S1x128 .f32)

/-- The scores of chunk `j`. -/
def score (j : ℕ) : FVec F S1x512x512 .f32 := k0_pay4 x0 (keys x1 j)

/-- The running row maximum before chunk `j`, the same on every lane. -/
def rmax : ℕ → FVec F S512x128 .f32
  | 0 => k0_pay2
  | j + 1 => k0_pay9 (score x0 x1 j) (rmax j)

/-- The weights of chunk `j`, relative to the maximum after it. -/
def weight (j : ℕ) : FVec F S1x512x512 .bf16 := k0_pay10 (score x0 x1 j) (rmax x0 x1 j)

/-- The factor that carries a sum relative to the maximum before chunk `j` to the maximum after it. -/
def factor (j : ℕ) : FVec F S1x512x128 .f32 := k0_pay11 (score x0 x1 j) (rmax x0 x1 j)

/-- The accumulator before chunk `j`: 128 columns of weighted values, then the column of the weights' sum. -/
def acc : ℕ → FVec F S512x256 .f32
  | 0 => k0_pay3
  | j + 1 => k0_pay15 (k0_pay13 (weight x0 x1 j)) (k0_pay14 (factor x0 x1 j)) (values x2 j) (acc j)

/-- The accumulator after the context's keys too. -/
def accAll : FVec F S512x256 .f32 :=
  k0_pay167 (k0_pay154 (k0_pay1 x0) x3) (rmax x0 x1 16) x4 (acc x0 x1 x2 16)

/-- The block the grid point writes. -/
def block : FVec F S1x256x128 .bf16 := k0_pay168 x5 (accAll x0 x1 x2 x3 x4) x6

end state

/-! The loads of the input blocks. -/

/-- A load of a whole rank-3 buffer reads its contents. -/
theorem load_whole {A B C : ℕ} {e : EltTy} {a : Memref sig .tc .vmem ⟨3, ![A, B, C]⟩ e} (h : a.IsWhole)
    (X : (⟨3, ![A, B, C]⟩ : Shape).Idx → Elt F e)
    (inb : ∀ k, (![0, 0, 0] : Fin 3 → ℕ) k + (⟨3, ![A, B, C]⟩ : Shape).size k ≤ (⟨3, ![A, B, C]⟩ : Shape).size k) :
    View.readAt (Elt F) a.view (Rect.unit ![0, 0, 0] (⟨3, ![A, B, C]⟩ : Shape).size inb).toLoadRect (h.unread X) = X := by
  rw [View.readAt_eq_ld, h.read_unread]
  exact View.ld_unit_lit inb X fun k => by fin_cases k <;> rfl

/-- A load of a whole rank-2 buffer reads its contents. -/
theorem load_whole2 {A B : ℕ} {e : EltTy} {a : Memref sig .tc .vmem ⟨2, ![A, B]⟩ e} (h : a.IsWhole)
    (X : (⟨2, ![A, B]⟩ : Shape).Idx → Elt F e)
    (inb : ∀ k, (![0, 0] : Fin 2 → ℕ) k + (⟨2, ![A, B]⟩ : Shape).size k ≤ (⟨2, ![A, B]⟩ : Shape).size k) :
    View.readAt (Elt F) a.view (Rect.unit ![0, 0] (⟨2, ![A, B]⟩ : Shape).size inb).toLoadRect (h.unread X) = X := by
  rw [View.readAt_eq_ld, h.read_unread]
  exact View.ld_unit_lit inb X fun k => by fin_cases k <;> rfl

/-- The load of a chunk of keys. -/
theorem load_keys {a : Memref sig .tc .vmem S1x128x8192 .bf16} (h : a.IsWhole) (x1 : Vec F S1x128x8192 .bf16) (j : ℕ)
    (off : Fin 3 → ℕ) (hoff : off = ![0, 0, 512 * j]) (inb : ∀ k, off k + S1x128x512.size k ≤ S1x128x8192.size k) :
    View.readAt (Elt F) a.view (Rect.unit (s := S1x128x8192) off S1x128x512.size inb).toLoadRect (h.unread x1) = keys x1 j := by
  subst hoff
  rw [View.readAt_eq_ld, h.read_unread]
  funext i
  have hj : 512 * j + 512 ≤ 8192 := inb 2
  have h0 : (i 0 : ℕ) < 1 := (i 0).isLt
  have h2 : (i 2 : ℕ) < 512 := (i 2).isLt
  refine View.ld_unit_apply_of x1 _ _ inb i _ fun k => ?_
  fin_cases k
  · show 0 = 0 + (i 0 : ℕ)
    omega
  · show (i 1 : ℕ) = 0 + (i 1 : ℕ)
    omega
  · show (512 * j + (i 2 : ℕ)) % 8192 = 512 * j + (i 2 : ℕ)
    omega

/-- The load of a chunk of values. -/
theorem load_values {a : Memref sig .tc .vmem S1x8192x128 .bf16} (h : a.IsWhole) (x2 : Vec F S1x8192x128 .bf16) (j : ℕ)
    (off : Fin 3 → ℕ) (hoff : off = ![0, 512 * j, 0]) (inb : ∀ k, off k + S1x512x128.size k ≤ S1x8192x128.size k) :
    View.readAt (Elt F) a.view (Rect.unit (s := S1x8192x128) off S1x512x128.size inb).toLoadRect (h.unread x2) = values x2 j := by
  subst hoff
  rw [View.readAt_eq_ld, h.read_unread]
  funext i
  have hj : 512 * j + 512 ≤ 8192 := inb 1
  have h0 : (i 0 : ℕ) < 1 := (i 0).isLt
  have h1 : (i 1 : ℕ) < 512 := (i 1).isLt
  refine View.ld_unit_apply_of x2 _ _ inb i _ fun k => ?_
  fin_cases k
  · show 0 = 0 + (i 0 : ℕ)
    omega
  · show (512 * j + (i 1 : ℕ)) % 8192 = 512 * j + (i 1 : ℕ)
    omega
  · show (i 2 : ℕ) = 0 + (i 2 : ℕ)
    omega

end Attn
-- ==== Proof.Attn.Chain.lean ====
module

public import proofs.«01_k».proof.Proof.Attn.State
public import Idealize.ShloMosaic.Lib.Pipeline.ReadBack

/-! What the body's loads from its five scratch buffers read, one load after the other: the scores, the running
maximum, the weights, the rescaling factor and the accumulator of the state of `Attn.State`. A load reads what the
last store into the same slot left, so each lemma below opens one load and uses the lemmas of the loads before it. -/

@[expose] public section

set_option maxRecDepth 16384

noncomputable section

namespace Attn

open Idealize.ShloMosaic Idealize.ShloMosaic.TcCoe Idealize.SL.Sem
open Cert.KernelIdeal Cert.KernelIdeal.Gen Cert.KernelIdeal.Gen.kernelRun0_A.sl

/-- The last chunk's weights and factor are used without passing through their buffers. -/
theorem last_chunk {F : FTy → Type} [FloatOps F] (s : Vec F S1x512x512 .f32) (m : Vec F S512x128 .f32)
    (v : Vec F S1x512x128 .bf16) (a : Vec F S512x256 .f32) :
    k0_pay164 (k0_pay162 s m a) (k0_pay163 s m v) = k0_pay15 (k0_pay13 (k0_pay10 s m)) (k0_pay14 (k0_pay11 s m)) v a := by
  unfold k0_pay13 k0_pay14 k0_pay10 k0_pay11
  rw [shapeCast_shapeCast, shapeCast_shapeCast]
  rfl

variable {F : FTy → Type} [FloatOps F] (c : Dev nD)
  (arg3 : Memref sig .tc .vmem S1x256x128 .bf16) (harg3 : arg3.IsWhole)
  (arg4 : Memref sig .tc .vmem S1x128x8192 .bf16) (harg4 : arg4.IsWhole)
  (arg5 : Memref sig .tc .vmem S1x8192x128 .bf16) (harg5 : arg5.IsWhole)
  (arg6 : Memref sig .tc .vmem S1x128x256 .bf16) (harg6 : arg6.IsWhole)
  (arg7 : Memref sig .tc .vmem S1x256x128 .bf16) (harg7 : arg7.IsWhole)
  (arg8 : Memref sig .tc .vmem S4x64 .f32) (harg8 : arg8.IsWhole)
  (arg9 : Memref sig .tc .vmem S1x128 .f32) (harg9 : arg9.IsWhole)
  (arg10 : Memref sig .tc .vmem S1x256x128 .bf16) (harg10 : arg10.IsWhole)
  (arg11 : Memref sig .tc .vmem S512x128 .f32) (harg11 : arg11.IsWhole)
  (arg12 : Memref sig .tc .vmem S512x256 .f32) (harg12 : arg12.IsWhole)
  (arg13 : Memref sig .tc .vmem S2x512x512 .f32) (harg13 : arg13.IsWhole)
  (arg14 : Memref sig .tc .vmem S2x512x512 .bf16) (harg14 : arg14.IsWhole)
  (arg15 : Memref sig .tc .vmem S2x512x128 .f32) (harg15 : arg15.IsWhole)
  (x0 : Vec F S1x256x128 .bf16) (x1 : Vec F S1x128x8192 .bf16) (x2 : Vec F S1x8192x128 .bf16)
  (x3 : Vec F S1x128x256 .bf16) (x4 : Vec F S1x256x128 .bf16) (x5 : Vec F S4x64 .f32)

theorem v31_eq : v31 c arg3 harg3 arg4 harg4 arg13 x0 x1 = score x0 x1 0 := by
  unfold v31 HS2_2
  rw [View.readCov_skip _ _ _ _ _ (by decide), View.readCov_cons_toLoadRect]
  simp only [load_whole harg3, load_keys harg4 x1 0 ![0, 0, 0] rfl]
  rfl

theorem v33_eq : v33 c arg11 = rmax x0 x1 0 := by
  unfold v33 HS0_1
  rw [View.readCov_cons_toLoadRect]
  rfl

theorem v56_eq : v56 c arg3 harg3 arg4 harg4 arg11 arg13 arg14 x0 x1 = weight x0 x1 0 := by
  unfold v56 HS3_1
  rw [View.readCov_cons_toLoadRect]
  simp only [v31_eq, v33_eq c arg11 x0 x1]
  rfl

theorem v58_eq : v58 c arg3 harg3 arg4 harg4 arg11 arg13 arg15 x0 x1 = factor x0 x1 0 := by
  unfold v58 HS4_1
  rw [View.readCov_cons_toLoadRect]
  simp only [v31_eq, v33_eq c arg11 x0 x1]
  rfl

theorem v71_eq : v71 c arg12 = acc x0 x1 x2 0 := by
  unfold v71 HS1_1
  rw [View.readCov_cons_toLoadRect]
  rfl

theorem v78_eq : v78 c arg3 harg3 arg4 harg4 arg13 x0 x1 = score x0 x1 1 := by
  unfold v78 HS2_2
  rw [View.readCov_cons_toLoadRect]
  simp only [r_1, load_whole harg3, load_keys harg4 x1 0 ![0, 0, 0] rfl, load_keys harg4 x1 1 ![0, 0, 512] rfl]
  rfl

theorem v80_eq : v80 c arg3 harg3 arg4 harg4 arg11 arg13 x0 x1 = rmax x0 x1 1 := by
  unfold v80 HS0_2
  rw [View.readCov_cons_toLoadRect]
  simp only [v31_eq, v33_eq c arg11 x0 x1]
  rfl

theorem v106_eq : v106 c arg3 harg3 arg4 harg4 arg11 arg13 arg14 x0 x1 = weight x0 x1 1 := by
  unfold v106 HS3_2
  rw [View.readCov_cons_toLoadRect]
  simp only [r_5, v78_eq, v80_eq]
  rfl

theorem v108_eq : v108 c arg3 harg3 arg4 harg4 arg11 arg13 arg15 x0 x1 = factor x0 x1 1 := by
  unfold v108 HS4_2
  rw [View.readCov_cons_toLoadRect]
  simp only [r_6, v78_eq, v80_eq]
  rfl

theorem v121_eq : v121 c arg3 harg3 arg4 harg4 arg5 harg5 arg11 arg12 arg13 arg14 arg15 x0 x1 x2 = acc x0 x1 x2 1 := by
  unfold v121 HS1_2
  rw [View.readCov_cons_toLoadRect]
  simp only [r_3, r_4, v56_eq, v58_eq, v71_eq c arg12 x0 x1 x2, load_values harg5 x2 0 ![0, 0, 0] rfl]
  rfl

theorem v128_eq : v128 c arg3 harg3 arg4 harg4 arg13 x0 x1 = score x0 x1 2 := by
  unfold v128 HS2_3
  rw [View.readCov_cons_toLoadRect]
  simp only [r_2, r, load_whole harg3, load_keys harg4 x1 2 ![0, 0, 1024] rfl]
  rfl

theorem v130_eq : v130 c arg3 harg3 arg4 harg4 arg11 arg13 x0 x1 = rmax x0 x1 2 := by
  unfold v130 HS0_3
  rw [View.readCov_cons_toLoadRect]
  simp only [v78_eq, v80_eq]
  rfl

theorem v156_eq : v156 c arg3 harg3 arg4 harg4 arg11 arg13 arg14 x0 x1 = weight x0 x1 2 := by
  unfold v156 HS3_3
  rw [View.readCov_cons_toLoadRect]
  simp only [v128_eq, v130_eq]
  rfl

theorem v158_eq : v158 c arg3 harg3 arg4 harg4 arg11 arg13 arg15 x0 x1 = factor x0 x1 2 := by
  unfold v158 HS4_3
  rw [View.readCov_cons_toLoadRect]
  simp only [v128_eq, v130_eq]
  rfl

theorem v171_eq : v171 c arg3 harg3 arg4 harg4 arg5 harg5 arg11 arg12 arg13 arg14 arg15 x0 x1 x2 = acc x0 x1 x2 2 := by
  unfold v171 HS1_3
  rw [View.readCov_cons_toLoadRect]
  simp only [r_8, v106_eq, v108_eq, v121_eq, load_values harg5 x2 1 ![0, 512, 0] rfl]
  rfl

theorem v178_eq : v178 c arg3 harg3 arg4 harg4 arg13 x0 x1 = score x0 x1 3 := by
  unfold v178 HS2_4
  rw [View.readCov_cons_toLoadRect]
  simp only [r_7, r, load_whole harg3, load_keys harg4 x1 3 ![0, 0, 1536] rfl]
  rfl

theorem v180_eq : v180 c arg3 harg3 arg4 harg4 arg11 arg13 x0 x1 = rmax x0 x1 3 := by
  unfold v180 HS0_4
  rw [View.readCov_cons_toLoadRect]
  simp only [v128_eq, v130_eq]
  rfl

theorem v206_eq : v206 c arg3 harg3 arg4 harg4 arg11 arg13 arg14 x0 x1 = weight x0 x1 3 := by
  unfold v206 HS3_4
  rw [View.readCov_cons_toLoadRect]
  simp only [r_10, v178_eq, v180_eq]
  rfl

theorem v208_eq : v208 c arg3 harg3 arg4 harg4 arg11 arg13 arg15 x0 x1 = factor x0 x1 3 := by
  unfold v208 HS4_4
  rw [View.readCov_cons_toLoadRect]
  simp only [r_11, v178_eq, v180_eq]
  rfl

theorem v221_eq : v221 c arg3 harg3 arg4 harg4 arg5 harg5 arg11 arg12 arg13 arg14 arg15 x0 x1 x2 = acc x0 x1 x2 3 := by
  unfold v221 HS1_4
  rw [View.readCov_cons_toLoadRect]
  simp only [v156_eq, v158_eq, v171_eq, load_values harg5 x2 2 ![0, 1024, 0] rfl]
  rfl

theorem v228_eq : v228 c arg3 harg3 arg4 harg4 arg13 x0 x1 = score x0 x1 4 := by
  unfold v228 HS2_5
  rw [View.readCov_cons_toLoadRect]
  simp only [r_9, r, load_whole harg3, load_keys harg4 x1 4 ![0, 0, 2048] rfl]
  rfl

theorem v230_eq : v230 c arg3 harg3 arg4 harg4 arg11 arg13 x0 x1 = rmax x0 x1 4 := by
  unfold v230 HS0_5
  rw [View.readCov_cons_toLoadRect]
  simp only [v178_eq, v180_eq]
  rfl

theorem v256_eq : v256 c arg3 harg3 arg4 harg4 arg11 arg13 arg14 x0 x1 = weight x0 x1 4 := by
  unfold v256 HS3_5
  rw [View.readCov_cons_toLoadRect]
  simp only [v228_eq, v230_eq]
  rfl

theorem v258_eq : v258 c arg3 harg3 arg4 harg4 arg11 arg13 arg15 x0 x1 = factor x0 x1 4 := by
  unfold v258 HS4_5
  rw [View.readCov_cons_toLoadRect]
  simp only [v228_eq, v230_eq]
  rfl

theorem v271_eq : v271 c arg3 harg3 arg4 harg4 arg5 harg5 arg11 arg12 arg13 arg14 arg15 x0 x1 x2 = acc x0 x1 x2 4 := by
  unfold v271 HS1_5
  rw [View.readCov_cons_toLoadRect]
  simp only [r_13, r_14, r_15, v206_eq, v208_eq, v221_eq, load_values harg5 x2 3 ![0, 1536, 0] rfl]
  rfl

theorem v278_eq : v278 c arg3 harg3 arg4 harg4 arg13 x0 x1 = score x0 x1 5 := by
  unfold v278 HS2_6
  rw [View.readCov_cons_toLoadRect]
  simp only [r_12, r, load_whole harg3, load_keys harg4 x1 5 ![0, 0, 2560] rfl]
  rfl

theorem v280_eq : v280 c arg3 harg3 arg4 harg4 arg11 arg13 x0 x1 = rmax x0 x1 5 := by
  unfold v280 HS0_6
  rw [View.readCov_cons_toLoadRect]
  simp only [v228_eq, v230_eq]
  rfl

theorem v306_eq : v306 c arg3 harg3 arg4 harg4 arg11 arg13 arg14 x0 x1 = weight x0 x1 5 := by
  unfold v306 HS3_6
  rw [View.readCov_cons_toLoadRect]
  simp only [r_18, r_19, v278_eq, v280_eq]
  rfl

theorem v308_eq : v308 c arg3 harg3 arg4 harg4 arg11 arg13 arg15 x0 x1 = factor x0 x1 5 := by
  unfold v308 HS4_6
  rw [View.readCov_cons_toLoadRect]
  simp only [r_19, v280_eq, v278_eq]
  rfl

theorem v321_eq : v321 c arg3 harg3 arg4 harg4 arg5 harg5 arg11 arg12 arg13 arg14 arg15 x0 x1 x2 = acc x0 x1 x2 5 := by
  unfold v321 HS1_6
  rw [View.readCov_cons_toLoadRect]
  simp only [v256_eq, v258_eq, v271_eq, load_values harg5 x2 4 ![0, 2048, 0] rfl]
  rfl

theorem v328_eq : v328 c arg3 harg3 arg4 harg4 arg13 x0 x1 = score x0 x1 6 := by
  unfold v328 HS2_7
  rw [View.readCov_cons_toLoadRect]
  simp only [r_17, r, r_16, load_whole harg3, load_keys harg4 x1 6 ![0, 0, 3072] rfl]
  rfl

theorem v330_eq : v330 c arg3 harg3 arg4 harg4 arg11 arg13 x0 x1 = rmax x0 x1 6 := by
  unfold v330 HS0_7
  rw [View.readCov_cons_toLoadRect]
  simp only [r_20, v278_eq, v280_eq]
  rfl

theorem v356_eq : v356 c arg3 harg3 arg4 harg4 arg11 arg13 arg14 x0 x1 = weight x0 x1 6 := by
  unfold v356 HS3_7
  rw [View.readCov_cons_toLoadRect]
  simp only [v328_eq, v330_eq]
  rfl

theorem v358_eq : v358 c arg3 harg3 arg4 harg4 arg11 arg13 arg15 x0 x1 = factor x0 x1 6 := by
  unfold v358 HS4_7
  rw [View.readCov_cons_toLoadRect]
  simp only [r_25, v328_eq, v330_eq]
  rfl

theorem v371_eq : v371 c arg3 harg3 arg4 harg4 arg5 harg5 arg11 arg12 arg13 arg14 arg15 x0 x1 x2 = acc x0 x1 x2 6 := by
  unfold v371 HS1_7
  rw [View.readCov_cons_toLoadRect]
  simp only [r_22, r_23, r_24, v306_eq, v308_eq, v321_eq, load_values harg5 x2 5 ![0, 2560, 0] rfl]
  rfl

theorem v378_eq : v378 c arg3 harg3 arg4 harg4 arg13 x0 x1 = score x0 x1 7 := by
  unfold v378 HS2_8
  rw [View.readCov_cons_toLoadRect]
  simp only [r_21, r, load_whole harg3, load_keys harg4 x1 7 ![0, 0, 3584] rfl]
  rfl

theorem v380_eq : v380 c arg3 harg3 arg4 harg4 arg11 arg13 x0 x1 = rmax x0 x1 7 := by
  unfold v380 HS0_8
  rw [View.readCov_cons_toLoadRect]
  simp only [v328_eq, v330_eq]
  rfl

theorem v406_eq : v406 c arg3 harg3 arg4 harg4 arg11 arg13 arg14 x0 x1 = weight x0 x1 7 := by
  unfold v406 HS3_8
  rw [View.readCov_cons_toLoadRect]
  simp only [r_27, r_28, v378_eq, v380_eq]
  rfl

theorem v408_eq : v408 c arg3 harg3 arg4 harg4 arg11 arg13 arg15 x0 x1 = factor x0 x1 7 := by
  unfold v408 HS4_8
  rw [View.readCov_cons_toLoadRect]
  simp only [r_28, v380_eq, v378_eq]
  rfl

theorem v421_eq : v421 c arg3 harg3 arg4 harg4 arg5 harg5 arg11 arg12 arg13 arg14 arg15 x0 x1 x2 = acc x0 x1 x2 7 := by
  unfold v421 HS1_8
  rw [View.readCov_cons_toLoadRect]
  simp only [v356_eq, v358_eq, v371_eq, load_values harg5 x2 6 ![0, 3072, 0] rfl]
  rfl

theorem v428_eq : v428 c arg3 harg3 arg4 harg4 arg13 x0 x1 = score x0 x1 8 := by
  unfold v428 HS2_9
  rw [View.readCov_cons_toLoadRect]
  simp only [r_26, r, load_whole harg3, load_keys harg4 x1 8 ![0, 0, 4096] rfl]
  rfl

theorem v430_eq : v430 c arg3 harg3 arg4 harg4 arg11 arg13 x0 x1 = rmax x0 x1 8 := by
  unfold v430 HS0_9
  rw [View.readCov_cons_toLoadRect]
  simp only [r_28, v380_eq, v378_eq]
  rfl

theorem v456_eq : v456 c arg3 harg3 arg4 harg4 arg11 arg13 arg14 x0 x1 = weight x0 x1 8 := by
  unfold v456 HS3_9
  rw [View.readCov_cons_toLoadRect]
  simp only [v428_eq, v430_eq]
  rfl

theorem v458_eq : v458 c arg3 harg3 arg4 harg4 arg11 arg13 arg15 x0 x1 = factor x0 x1 8 := by
  unfold v458 HS4_9
  rw [View.readCov_cons_toLoadRect]
  simp only [r_33, v428_eq, v430_eq]
  rfl

theorem v471_eq : v471 c arg3 harg3 arg4 harg4 arg5 harg5 arg11 arg12 arg13 arg14 arg15 x0 x1 x2 = acc x0 x1 x2 8 := by
  unfold v471 HS1_9
  rw [View.readCov_cons_toLoadRect]
  simp only [r_30, r_31, r_32, v406_eq, v408_eq, v421_eq, load_values harg5 x2 7 ![0, 3584, 0] rfl]
  rfl

theorem v478_eq : v478 c arg3 harg3 arg4 harg4 arg13 x0 x1 = score x0 x1 9 := by
  unfold v478 HS2_10
  rw [View.readCov_cons_toLoadRect]
  simp only [r_29, r, load_whole harg3, load_keys harg4 x1 9 ![0, 0, 4608] rfl]
  rfl

theorem v480_eq : v480 c arg3 harg3 arg4 harg4 arg11 arg13 x0 x1 = rmax x0 x1 9 := by
  unfold v480 HS0_10
  rw [View.readCov_cons_toLoadRect]
  simp only [v428_eq, v430_eq]
  rfl

theorem v506_eq : v506 c arg3 harg3 arg4 harg4 arg11 arg13 arg14 x0 x1 = weight x0 x1 9 := by
  unfold v506 HS3_10
  rw [View.readCov_cons_toLoadRect]
  simp only [r_35, v478_eq, v480_eq]
  rfl

theorem v508_eq : v508 c arg3 harg3 arg4 harg4 arg11 arg13 arg15 x0 x1 = factor x0 x1 9 := by
  unfold v508 HS4_10
  rw [View.readCov_cons_toLoadRect]
  simp only [r_35, v478_eq, v480_eq]
  rfl

theorem v521_eq : v521 c arg3 harg3 arg4 harg4 arg5 harg5 arg11 arg12 arg13 arg14 arg15 x0 x1 x2 = acc x0 x1 x2 9 := by
  unfold v521 HS1_10
  rw [View.readCov_cons_toLoadRect]
  simp only [v456_eq, v458_eq, v471_eq, load_values harg5 x2 8 ![0, 4096, 0] rfl]
  rfl

theorem v528_eq : v528 c arg3 harg3 arg4 harg4 arg13 x0 x1 = score x0 x1 10 := by
  unfold v528 HS2_11
  rw [View.readCov_cons_toLoadRect]
  simp only [r_34, r, load_whole harg3, load_keys harg4 x1 10 ![0, 0, 5120] rfl]
  rfl

theorem v530_eq : v530 c arg3 harg3 arg4 harg4 arg11 arg13 x0 x1 = rmax x0 x1 10 := by
  unfold v530 HS0_11
  rw [View.readCov_cons_toLoadRect]
  simp only [r_35, v478_eq, v480_eq]
  rfl

theorem v556_eq : v556 c arg3 harg3 arg4 harg4 arg11 arg13 arg14 x0 x1 = weight x0 x1 10 := by
  unfold v556 HS3_11
  rw [View.readCov_cons_toLoadRect]
  simp only [r_39, v528_eq, v530_eq]
  rfl

theorem v558_eq : v558 c arg3 harg3 arg4 harg4 arg11 arg13 arg15 x0 x1 = factor x0 x1 10 := by
  unfold v558 HS4_11
  rw [View.readCov_cons_toLoadRect]
  simp only [r_40, v528_eq, v530_eq]
  rfl

theorem v571_eq : v571 c arg3 harg3 arg4 harg4 arg5 harg5 arg11 arg12 arg13 arg14 arg15 x0 x1 x2 = acc x0 x1 x2 10 := by
  unfold v571 HS1_11
  rw [View.readCov_cons_toLoadRect]
  simp only [r_37, r_38, v506_eq, v508_eq, v521_eq, load_values harg5 x2 9 ![0, 4608, 0] rfl]
  rfl

theorem v578_eq : v578 c arg3 harg3 arg4 harg4 arg13 x0 x1 = score x0 x1 11 := by
  unfold v578 HS2_12
  rw [View.readCov_cons_toLoadRect]
  simp only [r_36, r, load_whole harg3, load_keys harg4 x1 11 ![0, 0, 5632] rfl]
  rfl

theorem v580_eq : v580 c arg3 harg3 arg4 harg4 arg11 arg13 x0 x1 = rmax x0 x1 11 := by
  unfold v580 HS0_12
  rw [View.readCov_cons_toLoadRect]
  simp only [v528_eq, v530_eq]
  rfl

theorem v606_eq : v606 c arg3 harg3 arg4 harg4 arg11 arg13 arg14 x0 x1 = weight x0 x1 11 := by
  unfold v606 HS3_12
  rw [View.readCov_cons_toLoadRect]
  simp only [v578_eq, v580_eq]
  rfl

theorem v608_eq : v608 c arg3 harg3 arg4 harg4 arg11 arg13 arg15 x0 x1 = factor x0 x1 11 := by
  unfold v608 HS4_12
  rw [View.readCov_cons_toLoadRect]
  simp only [v578_eq, v580_eq]
  rfl

theorem v621_eq : v621 c arg3 harg3 arg4 harg4 arg5 harg5 arg11 arg12 arg13 arg14 arg15 x0 x1 x2 = acc x0 x1 x2 11 := by
  unfold v621 HS1_12
  rw [View.readCov_cons_toLoadRect]
  simp only [v556_eq, v558_eq, v571_eq, load_values harg5 x2 10 ![0, 5120, 0] rfl]
  rfl

theorem v628_eq : v628 c arg3 harg3 arg4 harg4 arg13 x0 x1 = score x0 x1 12 := by
  unfold v628 HS2_13
  rw [View.readCov_cons_toLoadRect]
  simp only [r_41, r, load_whole harg3, load_keys harg4 x1 12 ![0, 0, 6144] rfl]
  rfl

theorem v630_eq : v630 c arg3 harg3 arg4 harg4 arg11 arg13 x0 x1 = rmax x0 x1 12 := by
  unfold v630 HS0_13
  rw [View.readCov_cons_toLoadRect]
  simp only [v578_eq, v580_eq]
  rfl

theorem v656_eq : v656 c arg3 harg3 arg4 harg4 arg11 arg13 arg14 x0 x1 = weight x0 x1 12 := by
  unfold v656 HS3_13
  rw [View.readCov_cons_toLoadRect]
  simp only [r_44, v628_eq, v630_eq]
  rfl

theorem v658_eq : v658 c arg3 harg3 arg4 harg4 arg11 arg13 arg15 x0 x1 = factor x0 x1 12 := by
  unfold v658 HS4_13
  rw [View.readCov_cons_toLoadRect]
  simp only [r_45, v628_eq, v630_eq]
  rfl

theorem v671_eq : v671 c arg3 harg3 arg4 harg4 arg5 harg5 arg11 arg12 arg13 arg14 arg15 x0 x1 x2 = acc x0 x1 x2 12 := by
  unfold v671 HS1_13
  rw [View.readCov_cons_toLoadRect]
  simp only [r_43, v606_eq, v608_eq, v621_eq, load_values harg5 x2 11 ![0, 5632, 0] rfl]
  rfl

theorem v678_eq : v678 c arg3 harg3 arg4 harg4 arg13 x0 x1 = score x0 x1 13 := by
  unfold v678 HS2_14
  rw [View.readCov_cons_toLoadRect]
  simp only [r_42, r, load_whole harg3, load_keys harg4 x1 13 ![0, 0, 6656] rfl]
  rfl

theorem v680_eq : v680 c arg3 harg3 arg4 harg4 arg11 arg13 x0 x1 = rmax x0 x1 13 := by
  unfold v680 HS0_14
  rw [View.readCov_cons_toLoadRect]
  simp only [v628_eq, v630_eq]
  rfl

theorem v706_eq : v706 c arg3 harg3 arg4 harg4 arg11 arg13 arg14 x0 x1 = weight x0 x1 13 := by
  unfold v706 HS3_14
  rw [View.readCov_cons_toLoadRect]
  simp only [v678_eq, v680_eq]
  rfl

theorem v708_eq : v708 c arg3 harg3 arg4 harg4 arg11 arg13 arg15 x0 x1 = factor x0 x1 13 := by
  unfold v708 HS4_14
  rw [View.readCov_cons_toLoadRect]
  simp only [v678_eq, v680_eq]
  rfl

theorem v721_eq : v721 c arg3 harg3 arg4 harg4 arg5 harg5 arg11 arg12 arg13 arg14 arg15 x0 x1 x2 = acc x0 x1 x2 13 := by
  unfold v721 HS1_14
  rw [View.readCov_cons_toLoadRect]
  simp only [r_47, v656_eq, v658_eq, v671_eq, load_values harg5 x2 12 ![0, 6144, 0] rfl]
  rfl

theorem v728_eq : v728 c arg3 harg3 arg4 harg4 arg13 x0 x1 = score x0 x1 14 := by
  unfold v728 HS2_15
  rw [View.readCov_cons_toLoadRect]
  simp only [r_46, r, load_whole harg3, load_keys harg4 x1 14 ![0, 0, 7168] rfl]
  rfl

theorem v730_eq : v730 c arg3 harg3 arg4 harg4 arg11 arg13 x0 x1 = rmax x0 x1 14 := by
  unfold v730 HS0_15
  rw [View.readCov_cons_toLoadRect]
  simp only [v678_eq, v680_eq]
  rfl

theorem v756_eq : v756 c arg3 harg3 arg4 harg4 arg11 arg13 arg14 x0 x1 = weight x0 x1 14 := by
  unfold v756 HS3_15
  rw [View.readCov_cons_toLoadRect]
  simp only [r_50, v728_eq, v730_eq]
  rfl

theorem v758_eq : v758 c arg3 harg3 arg4 harg4 arg11 arg13 arg15 x0 x1 = factor x0 x1 14 := by
  unfold v758 HS4_15
  rw [View.readCov_cons_toLoadRect]
  simp only [r_49, v730_eq, v728_eq]
  rfl

theorem v771_eq : v771 c arg3 harg3 arg4 harg4 arg5 harg5 arg11 arg12 arg13 arg14 arg15 x0 x1 x2 = acc x0 x1 x2 14 := by
  unfold v771 HS1_15
  rw [View.readCov_cons_toLoadRect]
  simp only [v706_eq, v708_eq, v721_eq, load_values harg5 x2 13 ![0, 6656, 0] rfl]
  rfl

theorem v778_eq : v778 c arg3 harg3 arg4 harg4 arg13 x0 x1 = score x0 x1 15 := by
  unfold v778 HS2_16
  rw [View.readCov_cons_toLoadRect]
  simp only [r_48, r, load_whole harg3, load_keys harg4 x1 15 ![0, 0, 7680] rfl]
  rfl

theorem v780_eq : v780 c arg3 harg3 arg4 harg4 arg11 arg13 x0 x1 = rmax x0 x1 15 := by
  unfold v780 HS0_16
  rw [View.readCov_cons_toLoadRect]
  simp only [v728_eq, v730_eq]
  rfl

theorem v805_eq : v805 c arg3 harg3 arg4 harg4 arg5 harg5 arg11 arg12 arg13 arg14 arg15 x0 x1 x2 = acc x0 x1 x2 15 := by
  unfold v805 HS1_16
  rw [View.readCov_cons_toLoadRect]
  simp only [r_52, r_53, r_54, v756_eq, v758_eq, v771_eq, load_values harg5 x2 14 ![0, 7168, 0] rfl]
  rfl

theorem v812_eq : v812 c arg3 harg3 arg4 harg4 arg11 arg13 x0 x1 = rmax x0 x1 16 := by
  unfold v812 HS0_17
  rw [View.readCov_cons_toLoadRect]
  simp only [v778_eq, v780_eq]
  rfl

theorem v837_eq : v837 c arg3 harg3 arg4 harg4 arg5 harg5 arg11 arg12 arg13 arg14 arg15 x0 x1 x2 = acc x0 x1 x2 16 := by
  unfold v837 HS1_17
  rw [View.readCov_cons_toLoadRect]
  simp only [r_55, r_56, v778_eq, v780_eq, v805_eq, load_values harg5 x2 15 ![0, 7680, 0] rfl]
  exact last_chunk _ _ _ _

theorem v860_eq : v860 c arg3 harg3 arg4 harg4 arg5 harg5 arg6 harg6 arg7 harg7 arg11 arg12 arg13 arg14 arg15 x0 x1 x2 x3 x4 = accAll x0 x1 x2 x3 x4 := by
  unfold v860 HS1_18
  rw [View.readCov_cons_toLoadRect]
  simp only [r_51, r, v812_eq, v837_eq, load_whole harg3, load_whole harg6, load_whole harg7]
  rfl

end Attn
-- ==== Proof.Attn.Block.lean ====
module

public import proofs.«01_k».proof.Proof.Attn.Chain

/-! What one grid point writes: the last store's payload, on the blocks of the inputs. -/

@[expose] public section

set_option maxRecDepth 16384

noncomputable section

namespace Attn

open Idealize.ShloMosaic Idealize.ShloMosaic.TcCoe Idealize.SL.Sem
open Cert.KernelIdeal Cert.KernelIdeal.Gen Cert.KernelIdeal.Gen.kernelRun0_A.sl

variable {F : FTy → Type} [FloatOps F] (c : Dev nD) (i : grid0.Coords)
  (arg3 : Memref sig .tc .vmem S1x256x128 .bf16) (harg3 : arg3.IsWhole)
  (arg4 : Memref sig .tc .vmem S1x128x8192 .bf16) (harg4 : arg4.IsWhole)
  (arg5 : Memref sig .tc .vmem S1x8192x128 .bf16) (harg5 : arg5.IsWhole)
  (arg6 : Memref sig .tc .vmem S1x128x256 .bf16) (harg6 : arg6.IsWhole)
  (arg7 : Memref sig .tc .vmem S1x256x128 .bf16) (harg7 : arg7.IsWhole)
  (arg8 : Memref sig .tc .vmem S4x64 .f32) (harg8 : arg8.IsWhole)
  (arg9 : Memref sig .tc .vmem S1x128 .f32) (harg9 : arg9.IsWhole)
  (arg10 : Memref sig .tc .vmem S1x256x128 .bf16) (harg10 : arg10.IsWhole)
  (arg11 : Memref sig .tc .vmem S512x128 .f32) (harg11 : arg11.IsWhole)
  (arg12 : Memref sig .tc .vmem S512x256 .f32) (harg12 : arg12.IsWhole)
  (arg13 : Memref sig .tc .vmem S2x512x512 .f32) (harg13 : arg13.IsWhole)
  (arg14 : Memref sig .tc .vmem S2x512x512 .bf16) (harg14 : arg14.IsWhole)
  (arg15 : Memref sig .tc .vmem S2x512x128 .f32) (harg15 : arg15.IsWhole)
  (x0 : Vec F S1x256x128 .bf16) (x1 : Vec F S1x128x8192 .bf16) (x2 : Vec F S1x8192x128 .bf16)
  (x3 : Vec F S1x128x256 .bf16) (x4 : Vec F S1x256x128 .bf16) (x5 : Vec F S4x64 .f32) (x6 : Vec F S1x128 .f32)

theorem out_eq : out0_A_7 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 = block x0 x1 x2 x3 x4 x5 x6 := by
  unfold out0_A_7
  rw [View.read_writes_junk_eq_canon]
  refine (View.canon_cons_unit_lit _ _ _ (by decide)).trans ?_
  rw [v860_eq]
  unfold r_57
  rw [load_whole2 harg8, load_whole2 harg9]
  rfl

end Attn
-- ==== Proof.Attn.Payload.lean ====
module

public import proofs.«01_k».proof.Proof.Attn.State

/-! The steps of the loop read at an index, on extended reals. -/

@[expose] public section

set_option maxRecDepth 16384

noncomputable section

namespace Attn

open Idealize.ShloMosaic Idealize.ShloMosaic.TcCoe Idealize.SL.Sem
open Cert.KernelIdeal Cert.KernelIdeal.Gen

/-! Words of lane numbers compared with a constant. -/

theorem lane_slt (d : Fin 128) : IntOp.cmpi .slt (BitVec.ofNat 32 (d : ℕ)) 64#32 = 1 ↔ (d : ℕ) < 64 := by
  revert d; decide

theorem lane_sge (d : Fin 128) : IntOp.cmpi .sge (BitVec.ofNat 32 (d : ℕ)) 64#32 = 1 ↔ 64 ≤ (d : ℕ) := by
  revert d; decide

theorem lane_eq (d : Fin 128) : IntOp.cmpi .eq (BitVec.ofNat 32 (d : ℕ)) 0#32 = 1 ↔ (d : ℕ) = 0 := by
  revert d; decide

theorem neg_inf : Ideal.ofBits .f32 0xFF800000#32 = ⊥ := by simp [Ideal.ofBits, Ideal.ieee]

/-- The stacked queries: the first branch's rows keep lanes below 64, the second branch's rows the others. -/
theorem stacked_apply (x0 : FVec Ideal S1x256x128 .bf16) (r : Fin 512) (d : Fin 128) :
    k0_pay1 x0 (ix2 r d) = if h : (r : ℕ) < 256 then
      (if (d : ℕ) < 64 then x0 (ix3 (0 : Fin 1) (⟨r, h⟩ : Fin 256) d) else 0)
      else (if 64 ≤ (d : ℕ) then x0 (ix3 (0 : Fin 1) (⟨r - 256, by omega⟩ : Fin 256) d) else 0) := by
  pointwise [k0_pay1]
  simp only [Scalar.select, lane_slt, lane_sge]

/-- A chunk's scores. -/
theorem score_apply (x0 : FVec Ideal S1x256x128 .bf16) (k : FVec Ideal S1x128x512 .bf16) (r i : Fin 512) :
    k0_pay4 (F := Ideal) x0 k (ix3 (0 : Fin 1) r i) = ∑ d : Fin 128, k0_pay1 (F := Ideal) x0 (ix2 r d) * k (ix3 (0 : Fin 1) d i) := by
  pointwise [k0_pay4]

/-- The context's scores. -/
theorem context_score_apply (l : FVec Ideal S512x128 .bf16) (k : FVec Ideal S1x128x256 .bf16) (r : Fin 512) (i : Fin 256) :
    k0_pay154 (F := Ideal) l k (ix2 r i) = ∑ d : Fin 128, l (ix2 r d) * k (ix3 (0 : Fin 1) d i) := by
  pointwise [k0_pay154]

/-- The new maximum. -/
theorem max_apply (s : FVec Ideal S1x512x512 .f32) (m : FVec Ideal S512x128 .f32) (r : Fin 512) (l : Fin 128) :
    k0_pay8 (F := Ideal) s m (ix2 r l) = max (m (ix2 r l)) (Finset.univ.fold max ⊥ fun i : Fin 512 => s (ix3 (0 : Fin 1) r i)) := by
  pointwise [k0_pay8, k0_pay7]
  rw [neg_inf]

theorem stored_max (s : FVec Ideal S1x512x512 .f32) (m : FVec Ideal S512x128 .f32) :
    k0_pay9 (F := Ideal) s m = k0_pay8 (F := Ideal) s m := shapeCast_self _ _

/-- A chunk's weights, relative to the new maximum of the row. -/
theorem weight_apply (s : FVec Ideal S1x512x512 .f32) (m : FVec Ideal S512x128 .f32) (r : Fin 512) (i : Fin 512) (M : EReal)
    (h : ∀ l : Fin 128, k0_pay8 (F := Ideal) s m (ix2 r l) = M) :
    k0_pay13 (F := Ideal) (k0_pay10 (F := Ideal) s m) (ix2 r i) = Ideal.exp2 (s (ix3 (0 : Fin 1) r i) - M) := by
  pointwise [k0_pay10, k0_pay13, k0_pay7]
  simp only [h, dite_eq_ite, ite_self]
  rfl

/-- The factor from the old maximum of the row to the new one. -/
theorem factor_apply (s : FVec Ideal S1x512x512 .f32) (m : FVec Ideal S512x128 .f32) (r : Fin 512) (l : Fin 128) :
    k0_pay14 (F := Ideal) (k0_pay11 (F := Ideal) s m) (ix2 r l)
      = Ideal.exp2 (m (ix2 r l) - k0_pay8 (F := Ideal) s m (ix2 r l)) := by
  pointwise [k0_pay11, k0_pay14]
  rfl

/-- A row of values with the column of ones after it. -/
def ext {n : ℕ} (v : Fin n → Fin 128 → EReal) (i : Fin n) (e : Fin 256) : EReal :=
  if h : (e : ℕ) < 128 then v i ⟨e, h⟩ else if (e : ℕ) - 128 = 0 then 1 else 0

/-- The accumulator's step. -/
theorem acc_apply (p : FVec Ideal S512x512 .bf16) (a : FVec Ideal S512x128 .f32) (v : FVec Ideal S1x512x128 .bf16)
    (c : FVec Ideal S512x256 .f32) (r : Fin 512) (e : Fin 256) (A : EReal) (h : ∀ l : Fin 128, a (ix2 r l) = A) :
    k0_pay15 (F := Ideal) p a v c (ix2 r e)
      = A * c (ix2 r e) + ∑ i : Fin 512, p (ix2 r i) * ext (fun i d => v (ix3 (0 : Fin 1) i d)) i e := by
  pointwise [k0_pay15]
  simp only [h, dite_eq_ite, ite_self, Scalar.select, ext]
  have he : ∀ h : ¬ (e : ℕ) < 128,
      (IntOp.cmpi .eq (BitVec.ofNat 32 ((e : ℕ) - 128)) 0#32 = 1) = ((e : ℕ) - 128 = 0) := fun h =>
    propext (lane_eq ⟨e - 128, by omega⟩)
  by_cases hc : (e : ℕ) < 128
  · simp only [dif_pos hc]
  · simp only [dif_neg hc, he hc]

/-- The new maximum after the context's keys. -/
theorem context_max_apply (s : FVec Ideal S512x256 .f32) (m : FVec Ideal S512x128 .f32) (r : Fin 512) (l : Fin 128) :
    k0_pay165 (F := Ideal) s m (ix2 r l) = max (m (ix2 r l)) (Finset.univ.fold max ⊥ fun i : Fin 256 => s (ix2 r i)) := by
  pointwise [k0_pay165]
  rw [neg_inf]

/-- The accumulator's step over the context's keys. -/
theorem context_acc_apply (s : FVec Ideal S512x256 .f32) (m : FVec Ideal S512x128 .f32) (v : FVec Ideal S1x256x128 .bf16)
    (c : FVec Ideal S512x256 .f32) (r : Fin 512) (e : Fin 256) (μ M : EReal) (hμ : ∀ l : Fin 128, m (ix2 r l) = μ)
    (h : ∀ l : Fin 128, k0_pay165 (F := Ideal) s m (ix2 r l) = M) :
    k0_pay167 (F := Ideal) s m v c (ix2 r e) = Ideal.exp2 (μ - M) * c (ix2 r e)
      + ∑ i : Fin 256, Ideal.exp2 (s (ix2 r i) - M) * ext (fun i d => v (ix3 (0 : Fin 1) i d)) i e := by
  pointwise [k0_pay167]
  simp only [h, hμ, dite_eq_ite, ite_self, Scalar.select, ext]
  have he : ∀ h : ¬ (e : ℕ) < 128,
      (IntOp.cmpi .eq (BitVec.ofNat 32 ((e : ℕ) - 128)) 0#32 = 1) = ((e : ℕ) - 128 = 0) := fun h =>
    propext (lane_eq ⟨e - 128, by omega⟩)
  by_cases hc : (e : ℕ) < 128
  · simp only [dif_pos hc]
    exact congrArg _ (Fin.sum_univ_add (a := 128) (b := 128) fun x : Fin 256 =>
      Ideal.exp2 (s (ix2 r x) - M) * v (ix3 0 x ⟨e, hc⟩)).symm
  · simp only [dif_neg hc, he hc]
    exact congrArg _ (Fin.sum_univ_add (a := 128) (b := 128) fun x : Fin 256 =>
      Ideal.exp2 (s (ix2 r x) - M) * if (e : ℕ) - 128 = 0 then (1 : EReal) else 0).symm

/-- The weight of the second branch. -/
def lamFull (lam : Fin 4 → Fin 64 → EReal) : EReal :=
  Ideal.exp (∑ x, lam 0 x * lam 1 x) - Ideal.exp (∑ x, lam 2 x * lam 3 x) + Ideal.ofBits .f32 0x3E4CCCCD#32

/-- The root-mean-square norm of a row, scaled. -/
def normed (o g : Fin 128 → EReal) (e : Fin 128) : EReal :=
  o e * Ideal.rsqrt (Ideal.div (∑ x, o x * o x) (Ideal.ofBits .f32 0x43000000#32) + Ideal.ofBits .f32 0x3727C5AC#32)
    * (g e * Ideal.ofBits .f32 0x3F4CCCCD#32)

/-- The block from the accumulator. -/
theorem block_apply (lam : FVec Ideal S4x64 .f32) (c : FVec Ideal S512x256 .f32) (g : FVec Ideal S1x128 .f32) (i : Fin 256)
    (e : Fin 128) :
    k0_pay168 (F := Ideal) lam c g (ix3 (0 : Fin 1) i e) = normed (fun x =>
      Ideal.div (c (ix2 (⟨i, by omega⟩ : Fin 512) (⟨x, by omega⟩ : Fin 256))) (c (ix2 (⟨i, by omega⟩ : Fin 512) (128 : Fin 256)))
        - lamFull (fun a x => lam (ix2 a x)) *
          Ideal.div (c (ix2 (⟨256 + i, by omega⟩ : Fin 512) (⟨x, by omega⟩ : Fin 256)))
            (c (ix2 (⟨256 + i, by omega⟩ : Fin 512) (128 : Fin 256)))) (fun x => g (ix2 (0 : Fin 1) x)) e := by
  pointwise [k0_pay168, normed, lamFull]

end Attn
-- ==== Proof.Attn.Softmax.lean ====
module

public import proofs.«01_k».proof.Proof.Attn.State

/-! Base-2 softmax sums, on extended reals whose entries are real.

A sum carried relative to a running maximum is `2 ^ (-max)` times the plain sum `∑ 2 ^ s * v`, so its quotient by the
sum of the weights does not depend on the maximum. -/

@[expose] public section

noncomputable section

namespace Attn

open Idealize.ShloMosaic

/-- A finite sum of reals, as an extended real. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem exp2_sub (a b : ℝ) : Ideal.exp2 ((a : EReal) - (b : EReal)) = (((2 : ℝ) ^ (-b) * (2 : ℝ) ^ a : ℝ) : EReal) := by
  rw [← EReal.coe_sub, Ideal.exp2_coe, Real.rpow_eq_pow, sub_eq_neg_add, Real.rpow_add two_pos]

theorem exp2_sub_bot (b : ℝ) : Ideal.exp2 ((⊥ : EReal) - (b : EReal)) = 0 := by
  rw [EReal.bot_sub, Ideal.exp2_bot]

/-- The maximum of finitely many reals, at least one, is real. -/
theorem fold_max_real {ι : Type*} (t : Finset ι) (s : ι → ℝ) :
    (t = ∅ ∧ t.fold max ⊥ (fun i => (s i : EReal)) = ⊥) ∨ ∃ M : ℝ, t.fold max ⊥ (fun i => (s i : EReal)) = M := by
  classical
  induction t using Finset.induction_on with
  | empty => exact .inl ⟨rfl, by simp⟩
  | insert a t ha ih =>
    refine .inr ?_
    rw [Finset.fold_insert ha]
    rcases ih with ⟨_, h⟩ | ⟨M, h⟩
    · exact ⟨s a, by rw [h]; exact max_eq_left bot_le⟩
    · exact ⟨max (s a) M, by rw [h]; exact (EReal.coe_strictMono.monotone.map_max).symm⟩

theorem fold_max_real' {n : ℕ} [NeZero n] (s : Fin n → ℝ) :
    ∃ M : ℝ, Finset.univ.fold max ⊥ (fun i => (s i : EReal)) = M := by
  rcases fold_max_real Finset.univ s with ⟨h, _⟩ | h
  · exact absurd (Finset.mem_univ (0 : Fin n)) (by rw [h]; simp)
  · exact h

/-- `A`, carried relative to the maximum `m`, stands for the plain sum `N`. -/
def Carries (m A : EReal) (N : ℝ) : Prop :=
  (m = ⊥ ∧ A = 0 ∧ N = 0) ∨ ∃ μ : ℝ, m = μ ∧ A = (((2 : ℝ) ^ (-μ) * N : ℝ) : EReal)

/-- The maximum a sum is carried relative to is `⊥` or real, so its maximum with a real is real. -/
theorem Carries.max_real {m A : EReal} {N : ℝ} (h : Carries m A N) {n : ℕ} [NeZero n] (s : Fin n → ℝ) :
    ∃ M : ℝ, max m (Finset.univ.fold max ⊥ fun i => (s i : EReal)) = M := by
  obtain ⟨M, hM⟩ := fold_max_real' s
  rw [hM]
  rcases h with ⟨rfl, _, _⟩ | ⟨μ, rfl, _⟩
  · exact ⟨M, max_eq_right bot_le⟩
  · exact ⟨max μ M, (EReal.coe_strictMono.monotone.map_max).symm⟩

/-- One chunk of weighted values, added to what is carried. -/
theorem Carries.step {m A : EReal} {N : ℝ} (h : Carries m A N) {n : ℕ} (s v : Fin n → ℝ) (M : ℝ) :
    Carries M (Ideal.exp2 (m - M) * A + ∑ i, Ideal.exp2 ((s i : EReal) - M) * (v i : EReal))
      (N + ∑ i, (2 : ℝ) ^ s i * v i) := by
  have hs : ∑ i, Ideal.exp2 ((s i : EReal) - M) * (v i : EReal)
      = (((2 : ℝ) ^ (-M) * ∑ i, (2 : ℝ) ^ s i * v i : ℝ) : EReal) := by
    rw [Finset.mul_sum, coe_sum]
    refine Finset.sum_congr rfl fun i _ => ?_
    rw [exp2_sub, ← EReal.coe_mul, mul_assoc]
  refine .inr ⟨M, rfl, ?_⟩
  rw [hs]
  rcases h with ⟨rfl, rfl, rfl⟩ | ⟨μ, rfl, rfl⟩
  · rw [mul_zero, zero_add, zero_add]
  · rw [exp2_sub, ← EReal.coe_mul, ← EReal.coe_add, mul_add]
    congr 2
    rw [mul_assoc, ← mul_assoc ((2 : ℝ) ^ μ), ← Real.rpow_add two_pos, add_neg_cancel, Real.rpow_zero, one_mul]

/-- Division of reals. -/
theorem div_real {x y : ℝ} (h : y ≠ 0) : Ideal.div (x : EReal) (y : EReal) = ((x / y : ℝ) : EReal) := by
  rw [Ideal.div_coe h, ← EReal.coe_mul, mul_one_div]

/-- The quotient of two sums carried relative to the same real maximum. -/
theorem Carries.div {m A B : EReal} {N D : ℝ} (hA : Carries m A N) (hB : Carries m B D) (hD : D ≠ 0) :
    Ideal.div A B = ((N / D : ℝ) : EReal) := by
  rcases hB with ⟨_, _, h⟩ | ⟨μ, rfl, rfl⟩
  · exact absurd h hD
  rcases hA with ⟨h, _, _⟩ | ⟨μ', h, rfl⟩
  · exact absurd h (EReal.coe_ne_bot μ)
  have hp : (2 : ℝ) ^ (-μ) ≠ 0 := (Real.rpow_pos_of_pos two_pos _).ne'
  rw [← EReal.coe_eq_coe_iff.1 h, div_real (mul_ne_zero hp hD), mul_div_mul_left _ _ hp]

/-- The softmax weights relative to any real `M`, summed. -/
theorem softmax_sum {ι : Type*} [Fintype ι] (s : ι → ℝ) (M : ℝ) :
    ∑ k, Ideal.pow (2 : ℝ) ((s k : EReal) - M) = (((2 : ℝ) ^ (-M) * ∑ k, (2 : ℝ) ^ s k : ℝ) : EReal) := by
  rw [Finset.mul_sum, coe_sum]
  refine Finset.sum_congr rfl fun k _ => ?_
  exact exp2_sub _ _

/-- A softmax weight relative to any real `M`. -/
theorem softmax_weight {ι : Type*} [Fintype ι] [Nonempty ι] (s : ι → ℝ) (M : ℝ) (k : ι) :
    Ideal.div (Ideal.pow (2 : ℝ) ((s k : EReal) - M)) (∑ k, Ideal.pow (2 : ℝ) ((s k : EReal) - M))
      = (((2 : ℝ) ^ s k / ∑ k, (2 : ℝ) ^ s k : ℝ) : EReal) := by
  have hp : (2 : ℝ) ^ (-M) ≠ 0 := (Real.rpow_pos_of_pos two_pos _).ne'
  have hD : ∑ k, (2 : ℝ) ^ s k ≠ 0 :=
    (Finset.sum_pos (fun i _ => Real.rpow_pos_of_pos two_pos _) Finset.univ_nonempty).ne'
  rw [softmax_sum, show Ideal.pow (2 : ℝ) ((s k : EReal) - M) = (((2 : ℝ) ^ (-M) * (2 : ℝ) ^ s k : ℝ) : EReal) from
    exp2_sub _ _, div_real (mul_ne_zero hp hD), mul_div_mul_left _ _ hp]

/-- The difference of two softmax averages is the average with the difference of the weights. -/
theorem softmax_diff {ι : Type*} [Fintype ι] (p q v : ι → ℝ) (P Q l : ℝ) :
    ∑ k, ((p k / P : ℝ) - (l : EReal) * ((q k / Q : ℝ) : EReal)) * (v k : EReal)
      = (((∑ k, p k * v k) / P - l * ((∑ k, q k * v k) / Q) : ℝ) : EReal) := by
  rw [Finset.sum_div, Finset.sum_div, Finset.mul_sum, ← Finset.sum_sub_distrib, coe_sum]
  refine Finset.sum_congr rfl fun k _ => ?_
  rw [← EReal.coe_mul, ← EReal.coe_sub, ← EReal.coe_mul]
  congr 1
  ring

end Attn
-- ==== Proof.Attn.Row.lean ====
module

public import proofs.«01_k».proof.Proof.Attn.Payload
public import proofs.«01_k».proof.Proof.Attn.Softmax

/-! The block one grid point writes, when queries, keys and values are real: the norm of the difference of the two
branches' softmax averages. -/

@[expose] public section

set_option maxRecDepth 16384

noncomputable section

namespace Attn

open Idealize.ShloMosaic Idealize.ShloMosaic.TcCoe Idealize.SL.Sem
open Cert.KernelIdeal Cert.KernelIdeal.Gen

/-- The softmax average of the values `v` and `vc` by the scores `s` and `sc`, in base 2. -/
def avg {n n' : ℕ} (s : Fin n → ℝ) (sc : Fin n' → ℝ) (v : Fin n → ℝ) (vc : Fin n' → ℝ) : ℝ :=
  (∑ k, (2 : ℝ) ^ s k * v k + ∑ k, (2 : ℝ) ^ sc k * vc k) / (∑ k, (2 : ℝ) ^ s k + ∑ k, (2 : ℝ) ^ sc k)

/-- The stacked queries, real. -/
def stack (q : Fin 256 → Fin 128 → ℝ) (r : Fin 512) (d : Fin 128) : ℝ :=
  if h : (r : ℕ) < 256 then (if (d : ℕ) < 64 then q ⟨r, h⟩ d else 0)
  else (if 64 ≤ (d : ℕ) then q ⟨r - 256, by omega⟩ d else 0)

/-- A stacked row's score against a key. -/
def dot (q : Fin 256 → Fin 128 → ℝ) (r : Fin 512) (k : Fin 128 → ℝ) : ℝ := ∑ d, stack q r d * k d

/-- A row of values with the column of ones after it, real. -/
def extR {n : ℕ} (v : Fin n → Fin 128 → ℝ) (i : Fin n) (e : Fin 256) : ℝ :=
  if h : (e : ℕ) < 128 then v i ⟨e, h⟩ else if (e : ℕ) - 128 = 0 then 1 else 0

/-- Key `i` of chunk `t`. -/
def key (t : ℕ) (i : Fin 512) : Fin 8192 := ⟨(512 * t + i) % 8192, Nat.mod_lt _ (by decide)⟩

theorem ext_coe {n : ℕ} (v : Fin n → Fin 128 → ℝ) (i : Fin n) (e : Fin 256) :
    ext (fun i d => (v i d : EReal)) i e = (extR v i e : EReal) := by
  unfold ext extR
  split_ifs <;> simp

section

variable (x0 : FVec Ideal S1x256x128 .bf16) (x1 : FVec Ideal S1x128x8192 .bf16) (x2 : FVec Ideal S1x8192x128 .bf16)
  (x3 : FVec Ideal S1x128x256 .bf16) (x4 : FVec Ideal S1x256x128 .bf16) (x5 : FVec Ideal S4x64 .f32)
  (x6 : FVec Ideal S1x128 .f32)
  (q : Fin 256 → Fin 128 → ℝ) (k v : Fin 8192 → Fin 128 → ℝ) (kc vc : Fin 256 → Fin 128 → ℝ)
  (h0 : ∀ i d, x0 (ix3 (0 : Fin 1) i d) = (q i d : EReal))
  (h1 : ∀ d i, x1 (ix3 (0 : Fin 1) d i) = (k i d : EReal))
  (h2 : ∀ i d, x2 (ix3 (0 : Fin 1) i d) = (v i d : EReal))
  (h3 : ∀ d i, x3 (ix3 (0 : Fin 1) d i) = (kc i d : EReal))
  (h4 : ∀ i d, x4 (ix3 (0 : Fin 1) i d) = (vc i d : EReal))

include h0 in
theorem stacked_real (r : Fin 512) (d : Fin 128) : k0_pay1 (F := Ideal) x0 (ix2 r d) = (stack q r d : EReal) := by
  rw [stacked_apply]
  unfold stack
  simp only [h0]
  split_ifs <;> simp

include h0 h1 in
theorem score_real (j : ℕ) (r i : Fin 512) :
    score (F := Ideal) x0 x1 j (ix3 (0 : Fin 1) r i) = (dot q r (k (key j i)) : EReal) := by
  unfold score dot
  rw [score_apply, coe_sum]
  refine Finset.sum_congr rfl fun d _ => ?_
  rw [stacked_real x0 q h0, EReal.coe_mul]
  exact congrArg _ (h1 d (key j i))

include h0 h3 in
theorem context_score_real (r : Fin 512) (i : Fin 256) :
    k0_pay154 (F := Ideal) (k0_pay1 (F := Ideal) x0) x3 (ix2 r i) = (dot q r (kc i) : EReal) := by
  unfold dot
  rw [context_score_apply, coe_sum]
  refine Finset.sum_congr rfl fun d _ => ?_
  rw [stacked_real x0 q h0, EReal.coe_mul, h3]

/-- The plain sum over the chunks before `j`. -/
def plain (j : ℕ) (r : Fin 512) (e : Fin 256) : ℝ :=
  ∑ t ∈ Finset.range j, ∑ i : Fin 512, (2 : ℝ) ^ dot q r (k (key t i)) * extR v (key t i) e

include h0 h1 h2 in
/-- Before every chunk the row's maximum is the same on every lane, and the accumulator carries the plain sums. -/
theorem carries (r : Fin 512) (j : ℕ) :
    (∀ l : Fin 128, rmax (F := Ideal) x0 x1 j (ix2 r l) = rmax (F := Ideal) x0 x1 j (ix2 r (0 : Fin 128)))
      ∧ ∀ e : Fin 256, Carries (rmax (F := Ideal) x0 x1 j (ix2 r (0 : Fin 128))) (acc (F := Ideal) x0 x1 x2 j (ix2 r e))
          (plain q k v j r e) := by
  induction j with
  | zero =>
    have hm : ∀ l : Fin 128, rmax (F := Ideal) x0 x1 0 (ix2 r l) = ⊥ := fun l => by
      show k0_pay2 (F := Ideal) (ix2 r l) = ⊥
      pointwise [k0_pay2]
      exact neg_inf
    refine ⟨fun l => (hm l).trans (hm 0).symm, fun e => .inl ⟨hm 0, ?_, ?_⟩⟩
    · show k0_pay3 (F := Ideal) (ix2 r e) = 0
      pointwise [k0_pay3]
    · simp [plain]
  | succ j ih =>
    obtain ⟨hl, hc⟩ := ih
    obtain ⟨M, hM⟩ := (hc 0).max_real fun i => dot q r (k (key j i))
    have hs := score_real x0 x1 q k h0 h1 j r
    have hmax : ∀ l : Fin 128, k0_pay8 (F := Ideal) (score (F := Ideal) x0 x1 j) (rmax (F := Ideal) x0 x1 j) (ix2 r l) = M :=
      fun l => by rw [max_apply, hl l]; simp only [hs]; exact hM
    have hnew : ∀ l : Fin 128, rmax (F := Ideal) x0 x1 (j + 1) (ix2 r l) = M := fun l => by
      show k0_pay9 (F := Ideal) _ _ _ = _
      rw [stored_max]; exact hmax l
    refine ⟨fun l => (hnew l).trans (hnew 0).symm, fun e => ?_⟩
    have hA : acc (F := Ideal) x0 x1 x2 (j + 1) (ix2 r e)
        = Ideal.exp2 (rmax (F := Ideal) x0 x1 j (ix2 r (0 : Fin 128)) - M) * acc (F := Ideal) x0 x1 x2 j (ix2 r e)
          + ∑ i : Fin 512, Ideal.exp2 ((dot q r (k (key j i)) : EReal) - M) * (extR v (key j i) e : EReal) := by
      show k0_pay15 (F := Ideal) _ _ _ _ _ = _
      rw [acc_apply _ _ _ _ r e (Ideal.exp2 (rmax (F := Ideal) x0 x1 j (ix2 r (0 : Fin 128)) - M))]
      · refine congrArg _ (Finset.sum_congr rfl fun i _ => ?_)
        refine congrArg₂ (· * ·) ?_ ?_
        · exact (weight_apply _ _ r i M hmax).trans (by rw [hs])
        · have : (fun (i : Fin 512) d => values (F := Ideal) x2 j (ix3 (0 : Fin 1) i d))
              = fun i d => ((v (key j i) d : ℝ) : EReal) := funext fun i => funext fun d => h2 (key j i) d
          rw [this]
          exact ext_coe (fun i d => v (key j i) d) i e
      · exact fun l => (factor_apply _ _ r l).trans (by rw [hmax l, hl l])
    rw [hnew 0, hA, plain, Finset.sum_range_succ]
    exact (hc e).step _ _ M

include h0 h1 h2 h3 h4 in
/-- The accumulator after the context's keys carries the sums over all keys. -/
theorem carries_all (r : Fin 512) : ∃ M : ℝ, ∀ e : Fin 256, Carries M (accAll (F := Ideal) x0 x1 x2 x3 x4 (ix2 r e))
    (plain q k v 16 r e + ∑ i : Fin 256, (2 : ℝ) ^ dot q r (kc i) * extR vc i e) := by
  obtain ⟨hl, hc⟩ := carries x0 x1 x2 q k v h0 h1 h2 r 16
  obtain ⟨M, hM⟩ := (hc 0).max_real fun i => dot q r (kc i)
  have hs := context_score_real x0 x3 q kc h0 h3 r
  refine ⟨M, fun e => ?_⟩
  have hA : accAll (F := Ideal) x0 x1 x2 x3 x4 (ix2 r e)
      = Ideal.exp2 (rmax (F := Ideal) x0 x1 16 (ix2 r (0 : Fin 128)) - M) * acc (F := Ideal) x0 x1 x2 16 (ix2 r e)
        + ∑ i : Fin 256, Ideal.exp2 ((dot q r (kc i) : EReal) - M) * (extR vc i e : EReal) := by
    unfold accAll
    rw [context_acc_apply _ _ _ _ r e _ M hl fun l => by rw [context_max_apply, hl l]; simp only [hs]; exact hM]
    refine congrArg _ (Finset.sum_congr rfl fun i _ => ?_)
    rw [hs]
    refine congrArg _ ?_
    have : (fun (i : Fin 256) d => x4 (ix3 (0 : Fin 1) i d)) = fun i d => ((vc i d : ℝ) : EReal) :=
      funext fun i => funext fun d => h4 i d
    rw [this]
    exact ext_coe vc i e
  rw [hA]
  exact (hc e).step _ _ M

/-- The chunks' keys, one after the other, are all the keys. -/
theorem sum_chunks (f : Fin 8192 → ℝ) : ∑ t ∈ Finset.range 16, ∑ i : Fin 512, f (key t i) = ∑ k, f k := by
  rw [Finset.sum_range, Fin.sum_univ_tiles 16 512 rfl f]
  refine Finset.sum_congr rfl fun t _ => Finset.sum_congr rfl fun i _ => congrArg f (Fin.ext ?_)
  show (512 * (t : ℕ) + i) % 8192 = (t : ℕ) * 512 + i
  omega

include h0 h1 h2 h3 h4 in
/-- A stacked row's quotient is its softmax average. -/
theorem quotient (r : Fin 512) (e : Fin 128) :
    Ideal.div (accAll (F := Ideal) x0 x1 x2 x3 x4 (ix2 r (⟨e, by omega⟩ : Fin 256)))
        (accAll (F := Ideal) x0 x1 x2 x3 x4 (ix2 r (128 : Fin 256)))
      = (avg (fun i => dot q r (k i)) (fun i => dot q r (kc i)) (fun i => v i e) (fun i => vc i e) : EReal) := by
  obtain ⟨M, hM⟩ := carries_all x0 x1 x2 x3 x4 q k v kc vc h0 h1 h2 h3 h4 r
  have hv : ∀ {n : ℕ} (w : Fin n → Fin 128 → ℝ) i, extR w i (⟨e, by omega⟩ : Fin 256) = w i e := fun w i => dif_pos e.2
  have ho : ∀ {n : ℕ} (w : Fin n → Fin 128 → ℝ) i, extR w i (128 : Fin 256) = 1 := fun w i => rfl
  have hN := hM ⟨e, by omega⟩
  have hD := hM 128
  simp only [plain, hv] at hN
  simp only [plain, ho, mul_one] at hD
  rw [sum_chunks fun i => (2 : ℝ) ^ dot q r (k i) * v i e] at hN
  rw [sum_chunks fun i => (2 : ℝ) ^ dot q r (k i)] at hD
  exact hN.div hD (add_pos (Finset.sum_pos (fun i _ => Real.rpow_pos_of_pos two_pos _) Finset.univ_nonempty)
    (Finset.sum_pos (fun i _ => Real.rpow_pos_of_pos two_pos _) Finset.univ_nonempty)).ne'

include h0 h1 h2 h3 h4 in
/-- The block of a grid point. -/
theorem block_real (i : Fin 256) (e : Fin 128) :
    block (F := Ideal) x0 x1 x2 x3 x4 x5 x6 (ix3 (0 : Fin 1) i e) = normed (fun x =>
      (avg (fun j => dot q ⟨i, by omega⟩ (k j)) (fun j => dot q ⟨i, by omega⟩ (kc j)) (fun j => v j x) (fun j => vc j x) : EReal)
        - lamFull (fun a x => x5 (ix2 a x)) *
          (avg (fun j => dot q ⟨256 + i, by omega⟩ (k j)) (fun j => dot q ⟨256 + i, by omega⟩ (kc j)) (fun j => v j x)
            (fun j => vc j x) : EReal)) (fun x => x6 (ix2 (0 : Fin 1) x)) e := by
  unfold block
  rw [block_apply]
  refine congrArg (fun o => normed o (fun x => x6 (ix2 (0 : Fin 1) x)) e) (funext fun x => ?_)
  rw [quotient x0 x1 x2 x3 x4 q k v kc vc h0 h1 h2 h3 h4, quotient x0 x1 x2 x3 x4 q k v kc vc h0 h1 h2 h3 h4]

end

/-- The score of branch `n`: the product over its 64 lanes. -/
def branch (q k : Fin 128 → ℝ) (n : Fin 2) : ℝ := ∑ d : Fin 64, q ⟨64 * n + d, by omega⟩ * k ⟨64 * n + d, by omega⟩

theorem dot_first (q : Fin 256 → Fin 128 → ℝ) (i : Fin 256) (k : Fin 128 → ℝ) :
    dot q ⟨i, by omega⟩ k = branch (q i) k 0 := by
  unfold dot branch
  refine (Fin.sum_univ_add (a := 64) (b := 64) fun d : Fin 128 => stack q ⟨i, by omega⟩ d * k d).trans ?_
  rw [add_eq_left.2]
  · refine Finset.sum_congr rfl fun d _ => ?_
    unfold stack
    rw [dif_pos i.2, if_pos (show ((Fin.castAdd 64 d : Fin 128) : ℕ) < 64 from d.2)]
    have : (Fin.castAdd 64 d : Fin 128) = ⟨64 * (0 : Fin 2) + d, by omega⟩ := Fin.ext (by simp)
    rw [this]
  · refine Finset.sum_eq_zero fun d _ => ?_
    unfold stack
    rw [dif_pos i.2, if_neg (by simp), zero_mul]

theorem dot_second (q : Fin 256 → Fin 128 → ℝ) (i : Fin 256) (k : Fin 128 → ℝ) :
    dot q ⟨256 + i, by omega⟩ k = branch (q i) k 1 := by
  unfold dot branch
  refine (Fin.sum_univ_add (a := 64) (b := 64) fun d : Fin 128 => stack q ⟨256 + i, by omega⟩ d * k d).trans ?_
  rw [add_eq_right.2]
  · refine Finset.sum_congr rfl fun d _ => ?_
    unfold stack
    rw [dif_neg (by simp), if_pos (by simp)]
    have : (Fin.natAdd 64 d : Fin 128) = ⟨64 * (1 : Fin 2) + d, by omega⟩ := Fin.ext (by simp [add_comm])
    have hi : (⟨256 + (i : ℕ) - 256, by omega⟩ : Fin 256) = i := Fin.ext (by simp)
    rw [this, hi]
  · refine Finset.sum_eq_zero fun d _ => ?_
    unfold stack
    rw [dif_neg (by simp), if_neg (by simp), zero_mul]

end Attn
-- ==== Proof.Attn.Bridge.lean ====
module

public import proofs.«01_k».proof.Proof.Attn.Block
public import proofs.«01_k».proof.Proof.Attn.Row

/-! The result array of the kernel, from the blocks its grid points write. -/

@[expose] public section

set_option maxRecDepth 16384

noncomputable section

namespace Attn

open Idealize.ShloMosaic Idealize.ShloMosaic.TcCoe Idealize.SL.Sem
open Cert.KernelIdeal Cert.KernelIdeal.Gen

/-- Lane `d` of head `h`. -/
def lane (h : Fin 8) (d : Fin 128) : Fin 1024 := ⟨128 * h + d, by omega⟩

section spec

variable (Q : S4x8192x1024.Idx → ℝ) (K : S4x1024x8192.Idx → ℝ) (V' : S4x8192x1024.Idx → ℝ) (Kc : S4x1024x256.Idx → ℝ)
  (Vc : S4x256x1024.Idx → ℝ)

/-- The softmax average of branch `n` of head `h`, for query `l` of sequence `b`, at lane `x`. -/
def att (n : Fin 2) (b : Fin 4) (h : Fin 8) (l : Fin 8192) (x : Fin 128) : ℝ :=
  avg (fun j : Fin 8192 => branch (fun d => Q (ix3 b l (lane h d))) (fun d => K (ix3 b (lane h d) j)) n)
    (fun j : Fin 256 => branch (fun d => Q (ix3 b l (lane h d))) (fun d => Kc (ix3 b (lane h d) j)) n)
    (fun j : Fin 8192 => V' (ix3 b j (lane h x))) (fun j : Fin 256 => Vc (ix3 b j (lane h x)))

/-- The layer's differential attention at an entry of the result. -/
def entry (L : S4x64.Idx → EReal) (g : S128.Idx → EReal) (b : Fin 4) (h : Fin 8) (l : Fin 8192) (e : Fin 128) : EReal :=
  normed (fun x => (att Q K V' Kc Vc 0 b h l x : EReal) - lamFull (fun a x => L (ix2 a x)) * (att Q K V' Kc Vc 1 b h l x : EReal))
    (fun x => g (ix1 x)) e

/-- The layer's differential attention, as an array. -/
def spec (L : S4x64.Idx → EReal) (g : S128.Idx → EReal) (i : S4x8192x1024.Idx) : EReal :=
  entry Q K V' Kc Vc L g (i 0 : Fin 4) (⟨(i 2 : Fin 1024).1 / 128, Nat.div_lt_of_lt_mul (i 2 : Fin 1024).2⟩ : Fin 8) (i 1 : Fin 8192)
    (⟨(i 2 : Fin 1024).1 % 128, Nat.mod_lt _ (by decide)⟩ : Fin 128)

theorem spec_apply (L : S4x64.Idx → EReal) (g : S128.Idx → EReal) (b : Fin 4) (h : Fin 8) (l : Fin 8192) (e : Fin 128) :
    spec Q K V' Kc Vc L g (ix3 b l (lane h e)) = entry Q K V' Kc Vc L g b h l e := by
  have hh : (⟨(lane h e).1 / 128, Nat.div_lt_of_lt_mul (lane h e).2⟩ : Fin 8) = h := Fin.ext (by
    show (128 * (h : ℕ) + e) / 128 = h
    omega)
  have he : (⟨(lane h e).1 % 128, Nat.mod_lt _ (by decide)⟩ : Fin 128) = e := Fin.ext (by
    show (128 * (h : ℕ) + e) % 128 = e
    omega)
  show entry Q K V' Kc Vc L g b _ l _ = _
  exact congrArg₂ (fun h e => entry Q K V' Kc Vc L g b h l e) hh he

end spec

/-- The blocks' indices at a grid point. -/
theorem idx : ∀ t : Fin cfg0.N,
    win0_0.index t = ![t.val / 256, t.val % 32, t.val / 32 % 8] ∧ win0_1.index t = ![t.val / 256, t.val / 32 % 8, 0]
    ∧ win0_2.index t = ![t.val / 256, 0, t.val / 32 % 8] ∧ win0_3.index t = ![t.val / 256, t.val / 32 % 8, 0]
    ∧ win0_4.index t = ![t.val / 256, 0, t.val / 32 % 8] ∧ win0_5.index t = ![0, 0] ∧ win0_6.index t = ![0, 0]
    ∧ win0_7.index t = ![t.val / 256, t.val % 32, t.val / 32 % 8] :=
  (by decide +kernel : ∀ t : Fin grid0.N, _)

section

variable (m : (ℓ : Loc nD τ sig) → Buf (Elt Ideal) ℓ) (c : Dev nD) (t : Fin cfg0.N)

/-- The sequence, the head and the block of queries of a grid point. -/
def seq : Fin 4 := ⟨t.val / 256, by have : t.val < 1024 := t.2; omega⟩
def head : Fin 8 := ⟨t.val / 32 % 8, by omega⟩
def row (i : Fin 256) : Fin 8192 := ⟨256 * (t.val % 32) + i, by omega⟩

theorem block0 (i : Fin 256) (d : Fin 128) : (iblk m c 0 t : FVec Ideal S1x256x128 .bf16) (ix3 (0 : Fin 1) i d)
    = (m ((c : Thread nD τ).loc main_arg0) : FVec Ideal S4x8192x1024 .bf16) (ix3 (seq t) (row t i) (lane (head t) d)) := by
  blk_ext! [iblk, V, idx t, seq, head, row, lane]

theorem block1 (d : Fin 128) (i : Fin 8192) : (iblk m c 1 t : FVec Ideal S1x128x8192 .bf16) (ix3 (0 : Fin 1) d i)
    = (m ((c : Thread nD τ).loc main_arg1) : FVec Ideal S4x1024x8192 .bf16) (ix3 (seq t) (lane (head t) d) i) := by
  blk_ext! [iblk, V, idx t, seq, head, row, lane]

theorem block2 (i : Fin 8192) (d : Fin 128) : (iblk m c 2 t : FVec Ideal S1x8192x128 .bf16) (ix3 (0 : Fin 1) i d)
    = (m ((c : Thread nD τ).loc main_arg2) : FVec Ideal S4x8192x1024 .bf16) (ix3 (seq t) i (lane (head t) d)) := by
  blk_ext! [iblk, V, idx t, seq, head, row, lane]

theorem block3 (d : Fin 128) (i : Fin 256) : (iblk m c 3 t : FVec Ideal S1x128x256 .bf16) (ix3 (0 : Fin 1) d i)
    = (m ((c : Thread nD τ).loc main_arg3) : FVec Ideal S4x1024x256 .bf16) (ix3 (seq t) (lane (head t) d) i) := by
  blk_ext! [iblk, V, idx t, seq, head, row, lane]

theorem block4 (i : Fin 256) (d : Fin 128) : (iblk m c 4 t : FVec Ideal S1x256x128 .bf16) (ix3 (0 : Fin 1) i d)
    = (m ((c : Thread nD τ).loc main_arg4) : FVec Ideal S4x256x1024 .bf16) (ix3 (seq t) i (lane (head t) d)) := by
  blk_ext! [iblk, V, idx t, seq, head, row, lane]

theorem block5 (a : Fin 4) (d : Fin 64) : (iblk m c 5 t : FVec Ideal S4x64 .f32) (ix2 a d)
    = (m ((c : Thread nD τ).loc main_arg5) : FVec Ideal S4x64 .f32) (ix2 a d) := by
  blk_ext! [iblk, V, idx t]

theorem block6 (d : Fin 128) : (iblk m c 6 t : FVec Ideal S1x128 .f32) (ix2 (0 : Fin 1) d)
    = (m ((c : Thread nD τ).loc main_arg6) : FVec Ideal S128 .f32) (ix1 d) := by
  blk_simp [iblk, idx t]
  entry_read
  pointwise
  blk_ext! [idx t]

end

/-- A grid point's block, at its entries of the result. -/
theorem point (m : (ℓ : Loc nD τ sig) → Buf (Elt Ideal) ℓ) (c : Dev nD) (t : Fin cfg0.N)
    (Q : S4x8192x1024.Idx → ℝ) (K : S4x1024x8192.Idx → ℝ) (V' : S4x8192x1024.Idx → ℝ) (Kc : S4x1024x256.Idx → ℝ)
    (Vc : S4x256x1024.Idx → ℝ)
    (h0 : (m ((c : Thread nD τ).loc main_arg0) : FVec Ideal S4x8192x1024 .bf16) = fun i => (Q i : EReal))
    (h1 : (m ((c : Thread nD τ).loc main_arg1) : FVec Ideal S4x1024x8192 .bf16) = fun i => (K i : EReal))
    (h2 : (m ((c : Thread nD τ).loc main_arg2) : FVec Ideal S4x8192x1024 .bf16) = fun i => (V' i : EReal))
    (h3 : (m ((c : Thread nD τ).loc main_arg3) : FVec Ideal S4x1024x256 .bf16) = fun i => (Kc i : EReal))
    (h4 : (m ((c : Thread nD τ).loc main_arg4) : FVec Ideal S4x256x1024 .bf16) = fun i => (Vc i : EReal))
    (i : Fin 256) (e : Fin 128) :
    block (F := Ideal) (iblk m c 0 t) (iblk m c 1 t) (iblk m c 2 t) (iblk m c 3 t) (iblk m c 4 t) (iblk m c 5 t) (iblk m c 6 t)
        (ix3 (0 : Fin 1) i e)
      = spec Q K V' Kc Vc (m ((c : Thread nD τ).loc main_arg5)) (m ((c : Thread nD τ).loc main_arg6))
          (ix3 (seq t) (row t i) (lane (head t) e)) := by
  rw [spec_apply, block_real _ _ _ _ _ _ _ (fun i d => Q (ix3 (seq t) (row t i) (lane (head t) d)))
    (fun j d => K (ix3 (seq t) (lane (head t) d) j)) (fun j d => V' (ix3 (seq t) j (lane (head t) d)))
    (fun j d => Kc (ix3 (seq t) (lane (head t) d) j)) (fun j d => Vc (ix3 (seq t) j (lane (head t) d)))
    (fun i d => (block0 m c t i d).trans (congrFun h0 _)) (fun d j => (block1 m c t d j).trans (congrFun h1 _))
    (fun j d => (block2 m c t j d).trans (congrFun h2 _)) (fun d j => (block3 m c t d j).trans (congrFun h3 _))
    (fun j d => (block4 m c t j d).trans (congrFun h4 _))]
  unfold entry att
  simp only [dot_first, dot_second]
  rw [show (fun (a : Fin 4) (x : Fin 64) => (iblk m c 5 t : FVec Ideal S4x64 .f32) (ix2 a x)) = fun a x =>
      (m ((c : Thread nD τ).loc main_arg5) : FVec Ideal S4x64 .f32) (ix2 a x) from
        funext fun a => funext fun x => block5 m c t a x,
    show (fun (x : Fin 128) => (iblk m c 6 t : FVec Ideal S1x128 .f32) (ix2 (0 : Fin 1) x)) = fun x =>
      (m ((c : Thread nD τ).loc main_arg6) : FVec Ideal S128 .f32) (ix1 x) from funext fun x => block6 m c t x]

/-- The kernel's result array. -/
theorem final (m : (ℓ : Loc nD τ sig) → Buf (Elt Ideal) ℓ) (c : Dev nD)
    (Q : S4x8192x1024.Idx → ℝ) (K : S4x1024x8192.Idx → ℝ) (V' : S4x8192x1024.Idx → ℝ) (Kc : S4x1024x256.Idx → ℝ)
    (Vc : S4x256x1024.Idx → ℝ)
    (h0 : (m ((c : Thread nD τ).loc main_arg0) : FVec Ideal S4x8192x1024 .bf16) = fun i => (Q i : EReal))
    (h1 : (m ((c : Thread nD τ).loc main_arg1) : FVec Ideal S4x1024x8192 .bf16) = fun i => (K i : EReal))
    (h2 : (m ((c : Thread nD τ).loc main_arg2) : FVec Ideal S4x8192x1024 .bf16) = fun i => (V' i : EReal))
    (h3 : (m ((c : Thread nD τ).loc main_arg3) : FVec Ideal S4x1024x256 .bf16) = fun i => (Kc i : EReal))
    (h4 : (m ((c : Thread nD τ).loc main_arg4) : FVec Ideal S4x256x1024 .bf16) = fun i => (Vc i : EReal)) :
    (dats m 0 c).arrAt 7 cfg0.N = spec Q K V' Kc Vc (m ((c : Thread nD τ).loc main_arg5)) (m ((c : Thread nD τ).loc main_arg6)) := by
  refine (dats m 0 c).arrAt_eq_of_covers 7 _ (by decide +kernel) fun t _ y => ?_
  blk_simp
  rw [after0_7]
  unfold outsAt0
  rw [out_eq]
  have hy : (y : S1x256x128.Idx) = ix3 (0 : Fin 1) (y 1 : Fin 256) (y 2 : Fin 128) := by
    refine (eq_ix3 (y : S1x256x128.Idx)).trans ?_
    exact congrArg (fun a : Fin 1 => ix3 a (y 1 : Fin 256) (y 2 : Fin 128)) (Subsingleton.elim _ _)
  have he : ((win0_7.blk t).view.emb y : S4x8192x1024.Idx)
      = ix3 (seq t) (row t (y 1 : Fin 256)) (lane (head t) (y 2 : Fin 128)) := by
    blk_ext! [idx t, seq, head, row, lane]
  refine (congrArg _ hy).trans ((point m c t Q K V' Kc Vc h0 h1 h2 h3 h4 (y 1 : Fin 256) (y 2 : Fin 128)).trans ?_)
  exact (congrArg _ he).symm

end Attn
-- ==== Proof.Attn.Reference.lean ====
module

public import proofs.«01_k».proof.Proof.Gen.ReferenceIdeal.Run
public import Idealize.ShloMosaic.Lib.Pipeline.ValueKit
public import Idealize.ShloMosaic.Lib.Pointwise

/-! The reference's result, in steps, each read at an index. -/

@[expose] public section

set_option maxRecDepth 16384

noncomputable section

namespace Attn.Ref

open Idealize.ShloMosaic Idealize.ShloMosaic.TcCoe Idealize.SL.Sem
open Cert.ReferenceIdeal Cert.ReferenceIdeal.Gen

/-- The scores of both branches. -/
def scores (q : FVec Ideal S4x8192x1024 .bf16) (k : FVec Ideal S4x1024x8192 .bf16) (kc : FVec Ideal S4x1024x256 .bf16) :
    FVec Ideal S2x4x8x8192x8448 .f32 :=
  Host.dotGeneral dot_S4x8192x8x2x64_S4x8448x8x2x64_S2x4x8x8192x8448_4_4_1_1_302_302 none
    (shapeCast _ (extf .f32 q bitsLt_bf16_f32) shapeCasts_S4x8192x1024_S4x8192x8x2x64)
    (concatenate S4x8448x8x2x64 1 [⟨S4x8192x8x2x64, (shapeCast _ (transpose S4x8192x1024 [0, 2, 1] (extf .f32 k bitsLt_bf16_f32)
        transposes_S4x1024x8192_S4x8192x1024_0_2_1) shapeCasts_S4x8192x1024_S4x8192x8x2x64)⟩,
      ⟨S4x256x8x2x64, (shapeCast _ (transpose S4x256x1024 [0, 2, 1] (extf .f32 kc bitsLt_bf16_f32)
        transposes_S4x1024x256_S4x256x1024_0_2_1) shapeCasts_S4x256x1024_S4x256x8x2x64)⟩]
      concatenates_S4x8192x8x2x64_S4x256x8x2x64_S4x8448x8x2x64_d1)

/-- The powers of two, relative to each row's maximum. -/
def powers (s : FVec Ideal S2x4x8x8192x8448 .f32) : FVec Ideal S2x4x8x8192x8448 .f32 :=
  Host.powf (broadcastInDim S2x4x8x8192x8448 ![] bcast_S_S2x4x8x8192x8448 (constant S_ .f32 0x40000000#32))
    (subf s (broadcastInDim S2x4x8x8192x8448 ![0, 1, 2, 3, 4] bcast_S2x4x8x8192x1_S2x4x8x8192x8448_0_1_2_3_4
      (broadcastInDim S2x4x8x8192x1 ![0, 1, 2, 3] bcast_S2x4x8x8192_S2x4x8x8192x1_0_1_2_3
        (Host.reduce FloatOps.maximumf s (constant S_ .f32 0xFF800000#32) reducesTo_S2x4x8x8192x8448_S2x4x8x8192_d4 h_S_))))

/-- The softmax weights. -/
def weights (w : FVec Ideal S2x4x8x8192x8448 .f32) : FVec Ideal S2x4x8x8192x8448 .f32 :=
  Host.divf w (broadcastInDim S2x4x8x8192x8448 ![0, 1, 2, 3, 4] bcast_S2x4x8x8192x1_S2x4x8x8192x8448_0_1_2_3_4
    (broadcastInDim S2x4x8x8192x1 ![0, 1, 2, 3] bcast_S2x4x8x8192_S2x4x8x8192x1_0_1_2_3
      (Host.reduceAdd w (constant S_ .f32 0x00000000#32) reducesTo_S2x4x8x8192x8448_S2x4x8x8192_d4 h_S_)))

/-- The values. -/
def vals (v : FVec Ideal S4x8192x1024 .bf16) (vc : FVec Ideal S4x256x1024 .bf16) : FVec Ideal S4x8448x8x128 .f32 :=
  concatenate S4x8448x8x128 1 [⟨S4x8192x8x128, (shapeCast _ (extf .f32 v bitsLt_bf16_f32) shapeCasts_S4x8192x1024_S4x8192x8x128)⟩,
    ⟨S4x256x8x128, (shapeCast _ (extf .f32 vc bitsLt_bf16_f32) shapeCasts_S4x256x1024_S4x256x8x128)⟩]
    concatenates_S4x8192x8x128_S4x256x8x128_S4x8448x8x128_d1

/-- The second branch's weight. -/
def lam (l : FVec Ideal S4x64 .f32) : FVec Ideal S_ .f32 :=
  addf (subf
    (Host.exp (Host.reduceAdd (mulf (shapeCast _ (extractStridedSlice S1x64 ![0, 0] l slices_S4x64_S1x64_0_0) shapeCasts_S1x64_S64)
      (shapeCast _ (extractStridedSlice S1x64 ![1, 0] l slices_S4x64_S1x64_1_0) shapeCasts_S1x64_S64))
      (constant S_ .f32 0x00000000#32) reducesTo_S64_S_d0 h_S_))
    (Host.exp (Host.reduceAdd (mulf (shapeCast _ (extractStridedSlice S1x64 ![2, 0] l slices_S4x64_S1x64_2_0) shapeCasts_S1x64_S64)
      (shapeCast _ (extractStridedSlice S1x64 ![3, 0] l slices_S4x64_S1x64_3_0) shapeCasts_S1x64_S64))
      (constant S_ .f32 0x00000000#32) reducesTo_S64_S_d0 h_S_)))
    (constant S_ .f32 0x3E4CCCCD#32)

/-- The attention before its norm. -/
def mixed (p : FVec Ideal S2x4x8x8192x8448 .f32) (l : FVec Ideal S_ .f32) (v : FVec Ideal S4x8448x8x128 .f32) :
    FVec Ideal S4x8192x8x128 .f32 :=
  transpose S4x8192x8x128 [0, 3, 1, 2] (Host.dotGeneral dot_S4x8448x8x128_S4x8x8192x8448_S4x8x128x8192_1_3_3_2_02_01 none v
    (subf (shapeCast _ (extractStridedSlice S1x4x8x8192x8448 ![0, 0, 0, 0, 0] p slices_S2x4x8x8192x8448_S1x4x8x8192x8448_0_0_0_0_0)
        shapeCasts_S1x4x8x8192x8448_S4x8x8192x8448)
      (mulf (broadcastInDim S4x8x8192x8448 ![] bcast_S_S4x8x8192x8448 l)
        (shapeCast _ (extractStridedSlice S1x4x8x8192x8448 ![1, 0, 0, 0, 0] p slices_S2x4x8x8192x8448_S1x4x8x8192x8448_1_0_0_0_0)
          shapeCasts_S1x4x8x8192x8448_S4x8x8192x8448)))) transposes_S4x8x128x8192_S4x8192x8x128_0_3_1_2

/-- The norm and the layout of the result. -/
def result (o : FVec Ideal S4x8192x8x128 .f32) (g : FVec Ideal S128 .f32) : FVec Ideal S4x8192x1024 .bf16 :=
  truncf .bf16 (shapeCast _ (mulf (mulf (mulf o (broadcastInDim S4x8192x8x128 ![0, 1, 2, 3] bcast_S4x8192x8x1_S4x8192x8x128_0_1_2_3
    (Host.rsqrt (addf (Host.divf (broadcastInDim S4x8192x8x1 ![0, 1, 2] bcast_S4x8192x8_S4x8192x8x1_0_1_2
        (Host.reduceAdd (mulf o o) (constant S_ .f32 0x00000000#32) reducesTo_S4x8192x8x128_S4x8192x8_d3 h_S_))
      (broadcastInDim S4x8192x8x1 ![] bcast_S_S4x8192x8x1 (constant S_ .f32 0x43000000#32)))
      (broadcastInDim S4x8192x8x1 ![] bcast_S_S4x8192x8x1 (constant S_ .f32 0x3727C5AC#32))))))
    (broadcastInDim S4x8192x8x128 ![0, 1, 2, 3] bcast_S1x1x1x128_S4x8192x8x128_0_1_2_3
      (broadcastInDim S1x1x1x128 ![3] bcast_S128_S1x1x1x128_3 g)))
    (broadcastInDim S4x8192x8x128 ![] bcast_S_S4x8192x8x128 (constant S_ .f32 0x3F4CCCCD#32)))
    shapeCasts_S4x8192x8x128_S4x8192x1024) bitsLt_bf16_f32

/-- The reference's result is these steps. -/
theorem res_eq (m : (ℓ : Loc nD τ sig) → Buf (Elt Ideal) ℓ) (c : Dev nD) :
    Cert.ReferenceIdeal.Value.res_main_v66 m c
      = result (mixed (weights (powers (scores (m ((c.tc : Thread nD τ).loc main_arg0)) (m ((c.tc : Thread nD τ).loc main_arg1))
            (m ((c.tc : Thread nD τ).loc main_arg3)))))
          (lam (m ((c.tc : Thread nD τ).loc main_arg5)))
          (vals (m ((c.tc : Thread nD τ).loc main_arg2)) (m ((c.tc : Thread nD τ).loc main_arg4))))
        (m ((c.tc : Thread nD τ).loc main_arg6)) := rfl

/-- A score: the product over the branch's 64 lanes with the key, of the sequence or of the context. -/
theorem scores_apply (q : FVec Ideal S4x8192x1024 .bf16) (k : FVec Ideal S4x1024x8192 .bf16) (kc : FVec Ideal S4x1024x256 .bf16)
    (n : Fin 2) (b : Fin 4) (h : Fin 8) (l : Fin 8192) (j : Fin 8448) :
    scores q k kc (ix5 n b h l j) = ∑ x : Fin 64, q (ix3 b l (⟨(h : ℕ) * 128 + n * 64 + x, by omega⟩ : Fin 1024)) *
      if hj : (j : ℕ) < 8192 then k (ix3 b (⟨(h : ℕ) * 128 + n * 64 + x, by omega⟩ : Fin 1024) (⟨j, hj⟩ : Fin 8192))
      else kc (ix3 b (⟨(h : ℕ) * 128 + n * 64 + x, by omega⟩ : Fin 1024) (⟨j - 8192, by omega⟩ : Fin 256)) := by
  pointwise [scores]

/-- A power of two, relative to its row's maximum. -/
theorem powers_apply (s : FVec Ideal S2x4x8x8192x8448 .f32)
    (n : Fin 2) (b : Fin 4) (h : Fin 8) (l : Fin 8192) (j : Fin 8448) :
    powers s (ix5 n b h l j) = Ideal.pow (Ideal.ofBits .f32 0x40000000#32)
      (s (ix5 n b h l j) - Finset.univ.fold max (Ideal.ofBits .f32 0xFF800000#32) (fun x : Fin 8448 => s (ix5 n b h l x))) := by
  pointwise [powers]

/-- A weight: the power over its row's sum. -/
theorem weights_apply (w : FVec Ideal S2x4x8x8192x8448 .f32)
    (n : Fin 2) (b : Fin 4) (h : Fin 8) (l : Fin 8192) (j : Fin 8448) :
    weights w (ix5 n b h l j) = Ideal.div (w (ix5 n b h l j)) (∑ x : Fin 8448, w (ix5 n b h l x)) := by
  pointwise [weights]

/-- A value, of the sequence or of the context. -/
theorem vals_apply (v : FVec Ideal S4x8192x1024 .bf16) (vc : FVec Ideal S4x256x1024 .bf16)
    (b : Fin 4) (j : Fin 8448) (h : Fin 8) (x : Fin 128) :
    vals v vc (ix4 b j h x) = if hj : (j : ℕ) < 8192 then v (ix3 b (⟨j, hj⟩ : Fin 8192) (⟨(h : ℕ) * 128 + x, by omega⟩ : Fin 1024))
      else vc (ix3 b (⟨j - 8192, by omega⟩ : Fin 256) (⟨(h : ℕ) * 128 + x, by omega⟩ : Fin 1024)) := by
  pointwise [vals]

/-- The second branch's weight, from the four vectors. -/
theorem lam_apply (l : FVec Ideal S4x64 .f32) (j : S_.Idx) :
    lam l j = Ideal.exp (∑ x : Fin 64, l (ix2 (0 : Fin 4) x) * l (ix2 (1 : Fin 4) x))
      - Ideal.exp (∑ x : Fin 64, l (ix2 (2 : Fin 4) x) * l (ix2 (3 : Fin 4) x)) + Ideal.ofBits .f32 0x3E4CCCCD#32 := by
  pointwise [lam]

/-- The average of the values by the difference of the weights. -/
theorem mixed_apply (p : FVec Ideal S2x4x8x8192x8448 .f32) (l : FVec Ideal S_ .f32) (v : FVec Ideal S4x8448x8x128 .f32)
    (b : Fin 4) (q : Fin 8192) (h : Fin 8) (x : Fin 128) :
    mixed p l v (ix4 b q h x) = ∑ j : Fin 8448, v (ix4 b j h x) *
      (p (ix5 (0 : Fin 2) b h q j) - l ix0 * p (ix5 (1 : Fin 2) b h q j)) := by
  pointwise [mixed]

/-- An entry of the result. -/
theorem result_apply (o : FVec Ideal S4x8192x8x128 .f32) (g : FVec Ideal S128 .f32) (b : Fin 4) (q : Fin 8192) (c : Fin 1024) :
    result o g (ix3 b q c)
      = o (ix4 b q (⟨(c : ℕ) / 128, by omega⟩ : Fin 8) (⟨(c : ℕ) % 128, by omega⟩ : Fin 128))
        * Ideal.rsqrt (Ideal.div (∑ x : Fin 128, o (ix4 b q (⟨(c : ℕ) / 128, by omega⟩ : Fin 8) x)
            * o (ix4 b q (⟨(c : ℕ) / 128, by omega⟩ : Fin 8) x)) (Ideal.ofBits .f32 0x43000000#32) + Ideal.ofBits .f32 0x3727C5AC#32)
        * g (ix1 (⟨(c : ℕ) % 128, by omega⟩ : Fin 128)) * Ideal.ofBits .f32 0x3F4CCCCD#32 := by
  pointwise [result]

end Attn.Ref
-- ==== Proof.Attn.Compare.lean ====
module

public import proofs.«01_k».proof.Proof.Attn.Bridge
public import proofs.«01_k».proof.Proof.Attn.Reference

/-! The reference's result, when queries, keys, values and the four vectors are real: its softmax over all keys,
written as the averages of `spec`. -/

@[expose] public section

set_option maxRecDepth 16384

noncomputable section

namespace Attn

open Idealize.ShloMosaic Idealize.ShloMosaic.TcCoe Idealize.SL.Sem
open Cert.ReferenceIdeal

theorem two_eq : Ideal.ofBits .f32 0x40000000#32 = ((2 : ℝ) : EReal) := by
  simp [Ideal.ofBits, Ideal.ieee, -EReal.coe_mul]
  norm_num

theorem lam_init_real : ∃ r : ℝ, Ideal.ofBits .f32 0x3E4CCCCD#32 = (r : EReal) := by
  simp [Ideal.ofBits, Ideal.ieee, -EReal.coe_mul]

/-- The second branch's weight is real. -/
theorem lamFull_real (L : Fin 4 → Fin 64 → ℝ) : ∃ r : ℝ, lamFull (fun a x => (L a x : EReal)) = r := by
  obtain ⟨r, hr⟩ := lam_init_real
  refine ⟨Real.exp (∑ x, L 0 x * L 1 x) - Real.exp (∑ x, L 2 x * L 3 x) + r, ?_⟩
  unfold lamFull
  simp only [← EReal.coe_mul, ← coe_sum, hr]
  rfl

section

variable (Q : S4x8192x1024.Idx → ℝ) (K : S4x1024x8192.Idx → ℝ) (V' : S4x8192x1024.Idx → ℝ) (Kc : S4x1024x256.Idx → ℝ)
  (Vc : S4x256x1024.Idx → ℝ)

/-- A score against a key of the sequence, or of the context after it. -/
def fullScore (n : Fin 2) (b : Fin 4) (h : Fin 8) (l : Fin 8192) (j : Fin 8448) : ℝ :=
  if hj : (j : ℕ) < 8192 then branch (fun d => Q (ix3 b l (lane h d))) (fun d => K (ix3 b (lane h d) (⟨j, hj⟩ : Fin 8192))) n
  else branch (fun d => Q (ix3 b l (lane h d))) (fun d => Kc (ix3 b (lane h d) (⟨j - 8192, by omega⟩ : Fin 256))) n

/-- A value of the sequence, or of the context after it. -/
def fullVal (b : Fin 4) (h : Fin 8) (x : Fin 128) (j : Fin 8448) : ℝ :=
  if hj : (j : ℕ) < 8192 then V' (ix3 b (⟨j, hj⟩ : Fin 8192) (lane h x)) else Vc (ix3 b (⟨j - 8192, by omega⟩ : Fin 256) (lane h x))

theorem scores_real (n : Fin 2) (b : Fin 4) (h : Fin 8) (l : Fin 8192) (j : Fin 8448) :
    Ref.scores (fun i => (Q i : EReal)) (fun i => (K i : EReal)) (fun i => (Kc i : EReal)) (ix5 n b h l j)
      = (fullScore Q K Kc n b h l j : EReal) := by
  have hl : ∀ x : Fin 64, (⟨(h : ℕ) * 128 + n * 64 + x, by omega⟩ : Fin 1024) = lane h ⟨64 * n + x, by omega⟩ := fun x =>
    Fin.ext (by show (h : ℕ) * 128 + n * 64 + x = 128 * h + (64 * n + x); omega)
  rw [Ref.scores_apply]
  unfold fullScore branch
  simp only [hl]
  split_ifs with hj <;> rw [coe_sum] <;> exact Finset.sum_congr rfl fun x _ => (EReal.coe_mul _ _).symm

theorem vals_real (b : Fin 4) (h : Fin 8) (x : Fin 128) (j : Fin 8448) :
    Ref.vals (fun i => (V' i : EReal)) (fun i => (Vc i : EReal)) (ix4 b j h x) = (fullVal V' Vc b h x j : EReal) := by
  have hl : (⟨(h : ℕ) * 128 + x, by omega⟩ : Fin 1024) = lane h x :=
    Fin.ext (by show (h : ℕ) * 128 + x = 128 * h + x; omega)
  rw [Ref.vals_apply, hl]
  unfold fullVal
  split_ifs <;> rfl

/-- A softmax weight of real scores. -/
theorem weights_real (s : FVec Ideal S2x4x8x8192x8448 .f32) (n : Fin 2) (b : Fin 4) (h : Fin 8) (l : Fin 8192)
    (r : Fin 8448 → ℝ) (hs : ∀ j, s (ix5 n b h l j) = (r j : EReal)) (j : Fin 8448) :
    Ref.weights (Ref.powers s) (ix5 n b h l j) = (((2 : ℝ) ^ r j / ∑ k, (2 : ℝ) ^ r k : ℝ) : EReal) := by
  obtain ⟨M, hM⟩ := fold_max_real' r
  have hp : ∀ j, Ref.powers s (ix5 n b h l j) = Ideal.pow (2 : ℝ) ((r j : EReal) - M) := fun j => by
    rw [Ref.powers_apply, two_eq, neg_inf]
    simp only [hs]
    rw [hM]
  rw [Ref.weights_apply]
  simp only [hp]
  exact softmax_weight r M j

/-- A sum over all keys, of the sequence and of the context. -/
theorem sum_full (f : Fin 8192 → ℝ) (g : Fin 256 → ℝ) :
    ∑ j : Fin 8448, (if hj : (j : ℕ) < 8192 then f ⟨j, hj⟩ else g ⟨j - 8192, by omega⟩) = ∑ k, f k + ∑ k, g k := by
  refine (Fin.sum_univ_add (a := 8192) (b := 256) _).trans (congrArg₂ (· + ·) ?_ ?_)
  · exact Finset.sum_congr rfl fun k _ => dif_pos k.2
  · refine Finset.sum_congr rfl fun k _ => ?_
    rw [dif_neg (by simp)]
    exact congrArg g (Fin.ext (by simp))

/-- The softmax average over all keys. -/
theorem full_avg (n : Fin 2) (b : Fin 4) (h : Fin 8) (l : Fin 8192) (x : Fin 128) :
    (∑ j, (2 : ℝ) ^ fullScore Q K Kc n b h l j * fullVal V' Vc b h x j) / ∑ j, (2 : ℝ) ^ fullScore Q K Kc n b h l j
      = att Q K V' Kc Vc n b h l x := by
  unfold att avg
  refine congrArg₂ (· / ·) ?_ ?_
  · refine Eq.trans ?_ (sum_full _ _)
    refine Finset.sum_congr rfl fun j _ => ?_
    unfold fullScore fullVal
    split_ifs <;> rfl
  · refine Eq.trans ?_ (sum_full _ _)
    refine Finset.sum_congr rfl fun j _ => ?_
    unfold fullScore
    split_ifs <;> rfl

/-- The attention before its norm. -/
theorem mixed_real (L : FVec Ideal S4x64 .f32) (lr : ℝ) (hL : lamFull (fun a x => L (ix2 a x)) = lr)
    (b : Fin 4) (h : Fin 8) (l : Fin 8192) (x : Fin 128) :
    Ref.mixed (Ref.weights (Ref.powers (Ref.scores (fun i => (Q i : EReal)) (fun i => (K i : EReal)) (fun i => (Kc i : EReal)))))
        (Ref.lam L) (Ref.vals (fun i => (V' i : EReal)) (fun i => (Vc i : EReal))) (ix4 b l h x)
      = (att Q K V' Kc Vc 0 b h l x : EReal) - lamFull (fun a x => L (ix2 a x)) * (att Q K V' Kc Vc 1 b h l x : EReal) := by
  have hlam : Ref.lam L ix0 = (lr : EReal) := (Ref.lam_apply L _).trans hL
  rw [Ref.mixed_apply, hlam, hL]
  have hw := fun n => weights_real _ n b h l _ (scores_real Q K Kc n b h l)
  simp only [hw, vals_real]
  simp only [mul_comm ((fullVal V' Vc b h x _ : ℝ) : EReal)]
  rw [softmax_diff, full_avg, full_avg, EReal.coe_sub, EReal.coe_mul]

/-- The reference's result. -/
theorem reference_eq (L : S4x64.Idx → ℝ) (g : FVec Ideal S128 .f32) :
    Ref.result (Ref.mixed (Ref.weights (Ref.powers (Ref.scores (fun i => (Q i : EReal)) (fun i => (K i : EReal))
        (fun i => (Kc i : EReal))))) (Ref.lam (fun i => (L i : EReal)))
        (Ref.vals (fun i => (V' i : EReal)) (fun i => (Vc i : EReal)))) g
      = spec Q K V' Kc Vc (fun i => (L i : EReal)) g := by
  obtain ⟨lr, hL⟩ := lamFull_real fun a x => L (ix2 a x)
  have key : ∀ (b : Fin 4) (l : Fin 8192) (c : Fin 1024),
      Ref.result (Ref.mixed (Ref.weights (Ref.powers (Ref.scores (fun i => (Q i : EReal)) (fun i => (K i : EReal))
          (fun i => (Kc i : EReal))))) (Ref.lam (fun i => (L i : EReal)))
          (Ref.vals (fun i => (V' i : EReal)) (fun i => (Vc i : EReal)))) g (ix3 b l c)
        = spec Q K V' Kc Vc (fun i => (L i : EReal)) g (ix3 b l c) := fun b l c => by
    rw [Ref.result_apply]
    simp only [mixed_real Q K V' Kc Vc (fun i => (L i : EReal)) lr hL]
    rw [mul_assoc (_ * _) (g _) _]
    rfl
  funext i
  have hi : (i : S4x8192x1024.Idx) = ix3 (i 0 : Fin 4) (i 1 : Fin 8192) (i 2 : Fin 1024) := by
    funext a
    fin_cases a <;> rfl
  exact (congrArg _ hi).trans ((key _ _ _).trans (congrArg _ hi.symm))

end

end Attn
-- ==== Proof.Attn.Finite.lean ====
module

public import proofs.«01_k».proof.Proof.Gen.Pre_finite
public import Idealize.ShloMosaic.Lib.ReduceAll
public import Idealize.ShloMosaic.Lib.Pipeline.ValueKit
public import Idealize.ShloMosaic.Lib.Pointwise

/-! What the precondition says: the entries of the arrays it names are real. -/

@[expose] public section

set_option maxRecDepth 16384

noncomputable section

namespace Attn

open Idealize.ShloMosaic Idealize.ShloMosaic.TcCoe Idealize.SL.Sem
open Cert.Pre_finite

theorem top_eq : Ideal.ofBits .f32 0x7F800000#32 = ⊤ := by simp [Ideal.ofBits, Ideal.ieee]

/-- An extended real whose absolute value is below `⊤` is real. -/
theorem real_of_abs (x : EReal) (h : max x (-x) < ⊤) : ∃ r : ℝ, x = r := by
  induction x using EReal.rec with
  | bot => simp at h
  | top => simp at h
  | coe r => exact ⟨r, rfl⟩

/-- An array passing the test has real entries only. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) : ∃ f : s.Idx → ℝ, x = fun i => (f i : EReal) := by
  haveI : Subsingleton S_.Idx := ⟨fun a b => funext fun i => i.elim0⟩
  have h' : ∀ i, ∃ r : ℝ, x i = r := fun i => by
    have := Host.reduce_andi_all _ _ hr hu _ h i
    pointwise at this
    rw [top_eq] at this
    have lt : max (x i : EReal) (-x i) < ⊤ := by
      by_contra hn
      have : BitVec.ofBool (decide (max (x i : EReal) (-x i) < ⊤)) = 1#1 := this
      rw [decide_eq_false hn] at this
      exact absurd this (by decide)
    exact real_of_abs (x i) lt
  choose f hf using h'
  exact ⟨f, funext hf⟩

/-- The arrays the precondition names are real. -/
theorem real_of_pre (x0 : FVec Ideal S4x8192x1024 .bf16) (x1 : FVec Ideal S4x1024x8192 .bf16)
    (x2 : FVec Ideal S4x8192x1024 .bf16) (x3 : FVec Ideal S4x1024x256 .bf16) (x4 : FVec Ideal S4x256x1024 .bf16)
    (x5 : FVec Ideal S4x64 .f32) (x6 : FVec Ideal S128 .f32) (h : fn (F := Ideal) x0 x1 x2 x3 x4 x5 x6 = fun _ => 1#1) :
    (∃ f : S4x8192x1024.Idx → ℝ, x0 = fun i => (f i : EReal)) ∧ (∃ f : S4x1024x8192.Idx → ℝ, x1 = fun i => (f i : EReal))
      ∧ (∃ f : S4x8192x1024.Idx → ℝ, x2 = fun i => (f i : EReal)) ∧ (∃ f : S4x1024x256.Idx → ℝ, x3 = fun i => (f i : EReal))
      ∧ (∃ f : S4x256x1024.Idx → ℝ, x4 = fun i => (f i : EReal)) ∧ ∃ f : S4x64.Idx → ℝ, x5 = fun i => (f i : EReal) := by
  have and2 : ∀ a b : BitVec 1, a &&& b = 1#1 → a = 1#1 ∧ b = 1#1 := by decide
  obtain ⟨h, h5⟩ := and2 _ _ (congrFun h ix0)
  obtain ⟨h, h4⟩ := and2 _ _ h
  obtain ⟨h, h3⟩ := and2 _ _ h
  obtain ⟨h, h2⟩ := and2 _ _ h
  obtain ⟨h0, h1⟩ := and2 _ _ h
  exact ⟨real_of_all x0 _ _ _ h0, real_of_all x1 _ _ _ h1, real_of_all x2 _ _ _ h2, real_of_all x3 _ _ _ h3,
    real_of_all x4 _ _ _ h4, real_of_all x5 _ _ _ h5⟩

end Attn
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel.Frame
public import proofs.«01_k».proof.Proof.Gen.KernelIdeal.Frame
public import proofs.«01_k».proof.Proof.Gen.Pre_finite
public import proofs.«01_k».proof.Proof.Gen.Pre_routed
public import proofs.«01_k».proof.Proof.Moe.Bits.Tables
public import proofs.«01_k».proof.Proof.Moe.Ideal.Array
public import proofs.«01_k».proof.Proof.Moe.Reference
public import proofs.«01_k».proof.Proof.Moe.Routed
public import proofs.«01_k».proof.Proof.Gen.Project
public import proofs.«01_k».proof.Proof.Gen.Project.Frame
public import proofs.«01_k».proof.Proof.Gen.ProjectIdeal
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.Update
public import proofs.«01_k».proof.Proof.Gen.Update.Frame
public import proofs.«01_k».proof.Proof.Gen.UpdateIdeal
public import proofs.«01_k».proof.Proof.Gen.UpdateIdeal.Value
public import proofs.«01_k».proof.Proof.Gen.UpdateReferenceIdeal
public import proofs.«01_k».proof.Proof.Gen.UpdateReferenceIdeal.Run
public import proofs.«01_k».proof.Proof.Gen.UpdateWide
public import proofs.«01_k».proof.Proof.Gen.UpdateWide.Frame
public import proofs.«01_k».proof.Proof.Gen.UpdateWideIdeal
public import proofs.«01_k».proof.Proof.Gen.UpdateWideIdeal.Value
public import proofs.«01_k».proof.Proof.Gen.UpdateWideReferenceIdeal
public import proofs.«01_k».proof.Proof.Gen.UpdateWideReferenceIdeal.Run
public import proofs.«01_k».proof.Proof.Gen.Combine
public import proofs.«01_k».proof.Proof.Gen.Combine.Frame
public import proofs.«01_k».proof.Proof.Gen.CombineIdeal
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.Modulation
public import proofs.«01_k».proof.Proof.Gen.Modulation.Frame
public import proofs.«01_k».proof.Proof.Gen.ModulationIdeal
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.Context
public import proofs.«01_k».proof.Proof.Gen.Context.Frame
public import proofs.«01_k».proof.Proof.Gen.ContextIdeal
public import proofs.«01_k».proof.Proof.Gen.ContextIdeal.Value
public import proofs.«01_k».proof.Proof.Gen.ContextReferenceIdeal
public import proofs.«01_k».proof.Proof.Gen.ContextReferenceIdeal.Run
public import proofs.«01_k».proof.Proof.Gen.Pool
public import proofs.«01_k».proof.Proof.Gen.Pool.Frame
public import proofs.«01_k».proof.Proof.Gen.PoolIdeal
public import proofs.«01_k».proof.Proof.Gen.PoolIdeal.Value
public import proofs.«01_k».proof.Proof.Gen.PoolReferenceIdeal
public import proofs.«01_k».proof.Proof.Gen.PoolReferenceIdeal.Run
public import proofs.«01_k».proof.Proof.Proj.Array
public import proofs.«01_k».proof.Proof.Proj.Reference
public import proofs.«01_k».proof.Proof.Hyena.Array
public import proofs.«01_k».proof.Proof.Hyena.Reference
public import proofs.«01_k».proof.Proof.Update.Array
public import proofs.«01_k».proof.Proof.Update.Reference
public import proofs.«01_k».proof.Proof.UpdateWide.Array
public import proofs.«01_k».proof.Proof.UpdateWide.Reference
public import proofs.«01_k».proof.Proof.Combine.Array
public import proofs.«01_k».proof.Proof.Combine.Reference
public import proofs.«01_k».proof.Proof.Modulation.Array
public import proofs.«01_k».proof.Proof.Modulation.Reference
public import proofs.«01_k».proof.Proof.Context.Array
public import proofs.«01_k».proof.Proof.Context.Reference
public import proofs.«01_k».proof.Proof.Pool.Array
public import proofs.«01_k».proof.Proof.Pool.Reference
public import proofs.«01_k».proof.Proof.Attn.Compare
public import proofs.«01_k».proof.Proof.Attn.Finite
public import Idealize.ShloMosaic.Adequacy
public import Idealize.ShloMosaic.Init

@[expose] public section

noncomputable section

namespace Cert.Proof

open Idealize.ShloMosaic Idealize.SL.Sem

/-- The reference leaves its arguments and returns. -/
theorem reference_frame : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result and the reference's are the same array when the precondition holds. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v66 m' c = (Cert.KernelIdeal.Gen.dats m 0 c).arrAt 7 Cert.KernelIdeal.cfg0.N := by
  obtain ⟨⟨Q, h0⟩, ⟨K, h1⟩, ⟨V', h2⟩, ⟨Kc, h3⟩, ⟨Vc, h4⟩, ⟨L, h5⟩⟩ := Attn.real_of_pre _ _ _ _ _ _ _ (hp c)
  refine Eq.trans ?_ (Attn.final m c Q K V' Kc Vc h0 h1 h2 h3 h4).symm
  rw [Attn.Ref.res_eq, e0.trans h0, e1.trans h1, e2.trans h2, e3.trans h3, e4.trans h4, e5.trans h5, e6]
  refine (Attn.reference_eq Q K V' Kc Vc L _).trans ?_
  exact congrArg (fun l => Attn.spec Q K V' Kc Vc l _) h5.symm

/-! The experts. -/

theorem experts_frame : quiescent_Experts := fun m g hp => by
  obtain ⟨ha, hb, hn⟩ := Moe.facts_of_routed _ _ _ _ _ _ _ (hp 0)
  exact (θ_run Cert.Experts.defs _ _).mono (fun _ h => h.2) (Moe.Bits.run_all g (Moe.Bits.inRange_of m ha hb hn))

theorem experts_ideal_frame : quiescent_ExpertsIdeal := fun m g hp => by
  obtain ⟨ha, hb, hn⟩ := Moe.facts_of_routed _ _ _ _ _ _ _ (hp 0)
  exact (θ_run Cert.ExpertsIdeal.defs _ _).mono (fun _ h => h.2) (Moe.Ideal.run_all g (Moe.Ideal.inRange_of m ha hb hn))

theorem experts_reference_frame : quiescent_ExpertsReferenceIdeal := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

/-- The experts' call and its reference end with the same array. -/
theorem experts_agree : algebraic_ExpertsIdeal_ExpertsReferenceIdeal := fun m g m' g' hp e => by
  obtain ⟨ha, hb, hn⟩ := Moe.facts_of_routed _ _ _ _ _ _ _ (hp 0)
  have hO := Moe.Ideal.inRange_of m ha hb hn
  refine ⟨fun c => (Moe.Ideal.data hO 0 c).arrAt 7 (Moe.Ideal.pipe hO).N,
    (θ_run _ _ _).mono (fun _ h c => ⟨h.1 c, h.2.1 c⟩) (Moe.Ideal.run_all g hO),
    (θ_run _ _ _).mono (fun _ h c => ⟨(h c).1.trans ?_, (h c).2⟩) (Cert.ExpertsReferenceIdeal.Value.run (F := Ideal) m' g')⟩
  obtain ⟨e0, e1, e2, e3, e4, e5, e6⟩ := e c
  obtain rfl : c = 0 := Subsingleton.elim _ _
  refine Eq.trans ?_ (Moe.Ideal.final hO 0 ha hb hn).symm
  rw [Moe.Ref.res_eq, e0, e1, e2, e3, e4, e5, e6]
  exact Moe.Ref.whole_eq _ _ _ _ _ _ _ ha hb

/-! The projections. -/

theorem project_reference_frame : quiescent_ProjectReferenceIdeal := fun m g _ =>
  (θ_run Cert.ProjectReferenceIdeal.defs _ _).mono (fun r h => ⟨fun c => (h c).2.2.2, sem_eq_zero_of_no_sems (by decide) r.2⟩)
    (Cert.ProjectReferenceIdeal.Value.run (F := Ideal) m g)

/-- The projections' call and its reference end with the same queries, keys and values. -/
theorem project_agree : algebraic_ProjectIdeal_ProjectReferenceIdeal := fun m g m' g' _ e => by
  refine ⟨fun c => (Cert.ProjectIdeal.Gen.dats m 0 c).arrAt 5 Cert.ProjectIdeal.cfg0.N,
    fun c => (Cert.ProjectIdeal.Gen.dats m 0 c).arrAt 6 Cert.ProjectIdeal.cfg0.N,
    fun c => (Cert.ProjectIdeal.Gen.dats m 0 c).arrAt 7 Cert.ProjectIdeal.cfg0.N,
    Cert.ProjectIdeal.Value.run_blocks (F := Ideal) m g,
    (θ_run _ _ _).mono (fun _ h c => ⟨(h c).1.trans ?_, (h c).2.1.trans ?_, (h c).2.2.1.trans ?_, (h c).2.2.2⟩)
      (Cert.ProjectReferenceIdeal.Value.run (F := Ideal) m' g')⟩ <;> obtain ⟨e0, e1, e2, e3⟩ := e c
  · refine Eq.trans ?_ (Proj.queries_final m c).symm
    refine (Proj.Ref.queries_eq m' c).trans ?_
    rw [e0, e1, e2, e3]
    exact Proj.Ref.queries_spec _ _ _ _
  · refine Eq.trans ?_ (Proj.keys_final m c).symm
    refine (Proj.Ref.keys_eq m' c).trans ?_
    rw [e0, e1, e2, e3]
    exact Proj.Ref.keys_spec _ _ _ _
  · refine Eq.trans ?_ (Proj.values_final m c).symm
    rw [e0, e1, e2, e3]
    exact Proj.Ref.values_spec _ _ _ _

/-! The gates. -/

theorem gates_reference_frame : quiescent_GatesReferenceIdeal := fun m g _ =>
  (θ_run Cert.GatesReferenceIdeal.defs _ _).mono (fun r h => ⟨fun c => (h c).2.2, sem_eq_zero_of_no_sems (by decide) r.2⟩)
    (Cert.GatesReferenceIdeal.Value.run (F := Ideal) m g)

/-- The gates' call and its reference end with the same gated values and the same gates. -/
theorem gates_agree : algebraic_GatesIdeal_GatesReferenceIdeal := fun m g m' g' _ e => by
  refine ⟨fun c => (Cert.GatesIdeal.Gen.dats m 0 c).arrAt 9 Cert.GatesIdeal.cfg0.N,
    fun c => (Cert.GatesIdeal.Gen.dats m 0 c).arrAt 10 Cert.GatesIdeal.cfg0.N,
    Cert.GatesIdeal.Value.run_blocks (F := Ideal) m g,
    (θ_run _ _ _).mono (fun _ h c => ⟨(h c).1.trans ?_, (h c).2.1.trans ?_, (h c).2.2⟩)
      (Cert.GatesReferenceIdeal.Value.run (F := Ideal) m' g')⟩ <;> obtain ⟨e0, e1, e2, e3, e4, e5, e6⟩ := e c
  · refine Eq.trans ?_ (Hyena.values_final m c).symm
    refine (Hyena.Ref.values_eq m' c).trans ?_
    rw [e0, e1, e2, e3, e4, e5, e6]
    exact Hyena.Ref.last_spec _ _ _ _ _ _ _
  · refine Eq.trans ?_ (Hyena.gates_final m c).symm
    rw [e0, e1, e2, e3, e4, e5, e6]
    exact Hyena.Ref.first_spec _ _ _ _ _ _ _

/-! The output projection and the norm after it. -/

theorem update_reference_frame : quiescent_UpdateReferenceIdeal := fun m g _ =>
  (θ_run Cert.UpdateReferenceIdeal.defs _ _).mono (fun r h => ⟨fun c => (h c).2, sem_eq_zero_of_no_sems (by decide) r.2⟩)
    (Cert.UpdateReferenceIdeal.Value.run (F := Ideal) m g)

/-- The output projection's call and its reference end with the same stream. -/
theorem update_agree : algebraic_UpdateIdeal_UpdateReferenceIdeal := fun m g m' g' _ e => by
  refine ⟨fun c => (Cert.UpdateIdeal.Gen.dats m 0 c).arrAt 13 Cert.UpdateIdeal.cfg0.N,
    (θ_run _ _ _).mono (fun _ h c => ⟨(h c).1, (h c).2.2.2.2⟩) (Cert.UpdateIdeal.Value.run_blocks (F := Ideal) m g),
    (θ_run _ _ _).mono (fun _ h c => ⟨(h c).1.trans ?_, (h c).2⟩) (Cert.UpdateReferenceIdeal.Value.run (F := Ideal) m' g')⟩
  obtain ⟨e0, e1, e2, e3, e4, e5, e6, e7, -⟩ := e c
  refine Eq.trans ?_ (Update.final m c).symm
  refine (Update.Ref.result_eq m' c).trans ?_
  rw [e0, e1, e2, e3, e4, e5, e6, e7]
  exact Update.Ref.norm_spec _ _ _ _ _ _ _ _

theorem wide_reference_frame : quiescent_UpdateWideReferenceIdeal := fun m g _ =>
  (θ_run Cert.UpdateWideReferenceIdeal.defs _ _).mono (fun r h => ⟨fun c => (h c).2, sem_eq_zero_of_no_sems (by decide) r.2⟩)
    (Cert.UpdateWideReferenceIdeal.Value.run (F := Ideal) m g)

/-- Of a mixer's result of 32 bits too, the output projection's call and its reference end with the same stream. -/
theorem wide_agree : algebraic_UpdateWideIdeal_UpdateWideReferenceIdeal := fun m g m' g' _ e => by
  refine ⟨fun c => (Cert.UpdateWideIdeal.Gen.dats m 0 c).arrAt 13 Cert.UpdateWideIdeal.cfg0.N,
    (θ_run _ _ _).mono (fun _ h c => ⟨(h c).1, (h c).2.2.2.2⟩) (Cert.UpdateWideIdeal.Value.run_blocks (F := Ideal) m g),
    (θ_run _ _ _).mono (fun _ h c => ⟨(h c).1.trans ?_, (h c).2⟩) (Cert.UpdateWideReferenceIdeal.Value.run (F := Ideal) m' g')⟩
  obtain ⟨e0, e1, e2, e3, e4, e5, e6, e7, -⟩ := e c
  refine Eq.trans ?_ (UpdateWide.final m c).symm
  refine (UpdateWide.Ref.result_eq m' c).trans ?_
  rw [e0, e1, e2, e3, e4, e5, e6, e7]
  exact UpdateWide.Ref.norm_spec _ _ _ _ _ _ _ _

/-! The norm after the experts. -/

theorem combine_reference_frame : quiescent_CombineReferenceIdeal := fun m g _ =>
  (θ_run Cert.CombineReferenceIdeal.defs _ _).mono (fun r h => ⟨fun c => (h c).2, sem_eq_zero_of_no_sems (by decide) r.2⟩)
    (Cert.CombineReferenceIdeal.Value.run (F := Ideal) m g)

/-- The layer's last call and its reference end with the same stream. -/
theorem combine_agree : algebraic_CombineIdeal_CombineReferenceIdeal := fun m g m' g' _ e => by
  refine ⟨fun c => (Cert.CombineIdeal.Gen.dats m 0 c).arrAt 5 Cert.CombineIdeal.cfg0.N,
    Cert.CombineIdeal.Value.run_blocks (F := Ideal) m g,
    (θ_run _ _ _).mono (fun _ h c => ⟨(h c).1.trans ?_, (h c).2⟩) (Cert.CombineReferenceIdeal.Value.run (F := Ideal) m' g')⟩
  obtain ⟨e0, e1, e2, e3, e4⟩ := e c
  refine Eq.trans ?_ (Combine.final m c).symm
  refine (Combine.Ref.result_eq m' c).trans ?_
  rw [e0, e1, e2, e3, e4]
  exact Combine.Ref.norm_spec _ _ _ _ _

/-! The modulation's vectors. -/

theorem modulation_reference_frame : quiescent_ModulationReferenceIdeal := fun m g _ =>
  (θ_run Cert.ModulationReferenceIdeal.defs _ _).mono (fun r h => ⟨fun c => (h c).2, sem_eq_zero_of_no_sems (by decide) r.2⟩)
    (Cert.ModulationReferenceIdeal.Value.run (F := Ideal) m g)

/-- The modulation's call and its reference end with the same vectors. -/
theorem modulation_agree : algebraic_ModulationIdeal_ModulationReferenceIdeal := fun m g m' g' _ e => by
  refine ⟨fun c => (Cert.ModulationIdeal.Gen.dats m 0 c).arrAt 3 Cert.ModulationIdeal.cfg0.N,
    Cert.ModulationIdeal.Value.run_blocks (F := Ideal) m g,
    (θ_run _ _ _).mono (fun _ h c => ⟨(h c).1.trans ?_, (h c).2⟩) (Cert.ModulationReferenceIdeal.Value.run (F := Ideal) m' g')⟩
  obtain ⟨e0, e1, e2⟩ := e c
  refine Eq.trans ?_ (Modulation.final m c).symm
  rw [e0, e1, e2]
  exact Modulation.Ref.vectors_spec _ _ _

/-! The context's keys and values. -/

theorem context_reference_frame : quiescent_ContextReferenceIdeal := fun m g _ =>
  (θ_run Cert.ContextReferenceIdeal.defs _ _).mono (fun r h => ⟨fun c => (h c).2.2, sem_eq_zero_of_no_sems (by decide) r.2⟩)
    (Cert.ContextReferenceIdeal.Value.run (F := Ideal) m g)

/-- The context's call and its reference end with the same keys and values. -/
theorem context_agree : algebraic_ContextIdeal_ContextReferenceIdeal := fun m g m' g' _ e => by
  refine ⟨fun c => (Cert.ContextIdeal.Gen.dats m 0 c).arrAt 4 Cert.ContextIdeal.cfg0.N,
    fun c => (Cert.ContextIdeal.Gen.dats m 0 c).arrAt 5 Cert.ContextIdeal.cfg0.N,
    Cert.ContextIdeal.Value.run_blocks (F := Ideal) m g,
    (θ_run _ _ _).mono (fun _ h c => ⟨(h c).1.trans ?_, (h c).2.1.trans ?_, (h c).2.2⟩)
      (Cert.ContextReferenceIdeal.Value.run (F := Ideal) m' g')⟩ <;> obtain ⟨e0, e1, e2, e3⟩ := e c
  · refine Eq.trans ?_ (Context.keys_final m c).symm
    rw [e0, e1, e2, e3]
    exact Context.Ref.keys_spec _ _ _ _
  · refine Eq.trans ?_ (Context.values_final m c).symm
    rw [e0, e1, e2, e3]
    exact Context.Ref.values_spec _ _ _ _

/-! The pooling. -/

theorem pool_reference_frame : quiescent_PoolReferenceIdeal := fun m g _ =>
  (θ_run Cert.PoolReferenceIdeal.defs _ _).mono (fun r h => ⟨fun c => (h c).2, sem_eq_zero_of_no_sems (by decide) r.2⟩)
    (Cert.PoolReferenceIdeal.Value.run (F := Ideal) m g)

/-- The pooling's call and its reference end with the same array. -/
theorem pool_agree : algebraic_PoolIdeal_PoolReferenceIdeal := fun m g m' g' _ e => by
  refine ⟨fun c => (Cert.PoolIdeal.Gen.dats m 0 c).arrAt 5 Cert.PoolIdeal.cfg0.N,
    Cert.PoolIdeal.Value.run_blocks (F := Ideal) m g,
    (θ_run _ _ _).mono (fun _ h c => ⟨(h c).1.trans ?_, (h c).2⟩) (Cert.PoolReferenceIdeal.Value.run (F := Ideal) m' g')⟩
  obtain ⟨e0, e1, e2⟩ := e c
  refine Eq.trans ?_ (Pool.final m c).symm
  refine (Pool.Ref.result_eq m' c).trans ?_
  rw [e0, e1, e2]
  exact Pool.Ref.pool_spec _ _ _

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts,
    Cert.Project.Gen.facts, Cert.ProjectIdeal.Gen.facts, Cert.ProjectReferenceIdeal.Gen.facts,
    Cert.Gates.Gen.facts, Cert.GatesIdeal.Gen.facts, Cert.GatesReferenceIdeal.Gen.facts,
    Cert.Update.Gen.facts, Cert.UpdateIdeal.Gen.facts, Cert.UpdateReferenceIdeal.Gen.facts,
    Cert.UpdateWide.Gen.facts, Cert.UpdateWideIdeal.Gen.facts, Cert.UpdateWideReferenceIdeal.Gen.facts,
    Cert.Combine.Gen.facts, Cert.CombineIdeal.Gen.facts, Cert.CombineReferenceIdeal.Gen.facts,
    Cert.Modulation.Gen.facts, Cert.ModulationIdeal.Gen.facts, Cert.ModulationReferenceIdeal.Gen.facts,
    Cert.Context.Gen.facts, Cert.ContextIdeal.Gen.facts, Cert.ContextReferenceIdeal.Gen.facts,
    Cert.Pool.Gen.facts, Cert.PoolIdeal.Gen.facts, Cert.PoolReferenceIdeal.Gen.facts,
    Cert.Pre_finite.Gen.facts, Cert.Pre_routed.Gen.facts,
    fun m g _ => Cert.Kernel.Gen.frame m g, fun m g _ => Cert.KernelIdeal.Gen.frame m g,
    fun m g _ => Cert.KernelIdeal.Gen.frame m g, reference_frame, fun m g _ => reference_frame m g trivial,
    experts_frame, experts_ideal_frame, experts_reference_frame, fun m g _ => experts_reference_frame m g trivial,
    fun m g _ => Cert.Project.Gen.frame m g, fun m g _ => Cert.ProjectIdeal.Gen.frame m g, project_reference_frame,
    fun m g _ => Cert.Gates.Gen.frame m g, fun m g _ => Cert.GatesIdeal.Gen.frame m g, gates_reference_frame,
    fun m g _ => Cert.Update.Gen.frame m g, fun m g _ => Cert.UpdateIdeal.Gen.frame m g, update_reference_frame,
    fun m g _ => Cert.UpdateWide.Gen.frame m g, fun m g _ => Cert.UpdateWideIdeal.Gen.frame m g, wide_reference_frame,
    fun m g _ => Cert.Combine.Gen.frame m g, fun m g _ => Cert.CombineIdeal.Gen.frame m g, combine_reference_frame,
    fun m g _ => Cert.Modulation.Gen.frame m g, fun m g _ => Cert.ModulationIdeal.Gen.frame m g, modulation_reference_frame,
    fun m g _ => Cert.Context.Gen.frame m g, fun m g _ => Cert.ContextIdeal.Gen.frame m g, context_reference_frame,
    fun m g _ => Cert.Pool.Gen.frame m g, fun m g _ => Cert.PoolIdeal.Gen.frame m g, pool_reference_frame, trivial,
    fun m g m' g' hp e => ⟨fun c => (Cert.KernelIdeal.Gen.dats m 0 c).arrAt 7 Cert.KernelIdeal.cfg0.N,
      Cert.KernelIdeal.Value.run_blocks (F := Ideal) m g,
      (θ_run _ _ _).mono (fun _ h c => ⟨(h c).1.trans (by
        obtain ⟨e0, e1, e2, e3, e4, e5, e6⟩ := e c
        exact same m m' hp c e0 e1 e2 e3 e4 e5 e6), (h c).2⟩) (Cert.ReferenceIdeal.Value.run (F := Ideal) m' g')⟩,
    trivial, experts_agree, trivial, project_agree, trivial, gates_agree, trivial, update_agree,
    trivial, wide_agree, trivial, combine_agree, trivial, modulation_agree,
    trivial, context_agree, trivial, pool_agree⟩

end Cert.Proof

end
